-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v17_0)) (v1 : (c : Dev Cert.Kernel7Ideal.nD) → Buf (Elt Ideal) ((c.tc : Thread Cert.Kernel7Ideal.nD Cert.Kernel7Ideal.τ).loc Cert.Kernel7Ideal.main_v17_1)) (v2 : (c : Dev Cert.Kernel7Ideal.nD) → Buf (Elt Ideal) ((c.tc : Thread Cert.Kernel7Ideal.nD Cert.Kernel7Ideal.τ).loc Cert.Kernel7Ideal.main_v17_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17_0) = v0 c
          ∧ r.2.mem ((c.tc : Thread Cert.Kernel7Ideal.nD Cert.Kernel7Ideal.τ).loc Cert.Kernel7Ideal.main_v17_1) = v1 c
          ∧ r.2.mem ((c.tc : Thread Cert.Kernel7Ideal.nD Cert.Kernel7Ideal.τ).loc Cert.Kernel7Ideal.main_v17_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_v46) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)) →
    ∃ (v0 : (c : Dev Cert.Kernel8Ideal.nD) → Buf (Elt Ideal) ((c.tc : Thread Cert.Kernel8Ideal.nD Cert.Kernel8Ideal.τ).loc Cert.Kernel8Ideal.main_v136_0)) (v1 : (c : Dev Cert.Kernel8Ideal.nD) → Buf (Elt Ideal) ((c.tc : Thread Cert.Kernel8Ideal.nD Cert.Kernel8Ideal.τ).loc Cert.Kernel8Ideal.main_v136_1)) (v2 : (c : Dev Cert.Kernel8Ideal.nD) → Buf (Elt Ideal) ((c.tc : Thread Cert.Kernel8Ideal.nD Cert.Kernel8Ideal.τ).loc Cert.Kernel8Ideal.main_v136_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v136_0) = v0 c
          ∧ r.2.mem ((c.tc : Thread Cert.Kernel8Ideal.nD Cert.Kernel8Ideal.τ).loc Cert.Kernel8Ideal.main_v136_1) = v1 c
          ∧ r.2.mem ((c.tc : Thread Cert.Kernel8Ideal.nD Cert.Kernel8Ideal.τ).loc Cert.Kernel8Ideal.main_v136_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_v81) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)) →
    ∃ (v0 : (c : Dev Cert.Kernel9Ideal.nD) → Buf (Elt Ideal) ((c.tc : Thread Cert.Kernel9Ideal.nD Cert.Kernel9Ideal.τ).loc Cert.Kernel9Ideal.main_v146_0)) (v1 : (c : Dev Cert.Kernel9Ideal.nD) → Buf (Elt Ideal) ((c.tc : Thread Cert.Kernel9Ideal.nD Cert.Kernel9Ideal.τ).loc Cert.Kernel9Ideal.main_v146_1)) (v2 : (c : Dev Cert.Kernel9Ideal.nD) → Buf (Elt Ideal) ((c.tc : Thread Cert.Kernel9Ideal.nD Cert.Kernel9Ideal.τ).loc Cert.Kernel9Ideal.main_v146_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v146_0) = v0 c
          ∧ r.2.mem ((c.tc : Thread Cert.Kernel9Ideal.nD Cert.Kernel9Ideal.τ).loc Cert.Kernel9Ideal.main_v146_1) = v1 c
          ∧ r.2.mem ((c.tc : Thread Cert.Kernel9Ideal.nD Cert.Kernel9Ideal.τ).loc Cert.Kernel9Ideal.main_v146_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v82) = v0 c
          ∧ r.2.mem ((c.tc : Thread Cert.Reference9Ideal.nD Cert.Reference9Ideal.τ).loc Cert.Reference9Ideal.main_v83) = v1 c
          ∧ r.2.mem ((c.tc : Thread Cert.Reference9Ideal.nD Cert.Reference9Ideal.τ).loc Cert.Reference9Ideal.main_v84) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8x2048x8x128 : Shape := ⟨4, ![8, 2048, 8, 128]⟩
abbrev S8x2048x8 : Shape := ⟨3, ![8, 2048, 8]⟩
abbrev S_ : Shape := ⟨0, ![]⟩
abbrev S8x2048x8x1 : Shape := ⟨4, ![8, 2048, 8, 1]⟩

class Facts : Prop where
  bcast_S_S8x2048x8x128 : S_.BroadcastsInDim S8x2048x8x128 (![] : Fin 0 → Fin S8x2048x8x128.rank)
  bcast_S8x2048x8_S8x2048x8x1_0_1_2 : S8x2048x8.BroadcastsInDim S8x2048x8x1 (![0, 1, 2] : Fin 3 → Fin S8x2048x8x1.rank)
  bcast_S_S8x2048x8x1 : S_.BroadcastsInDim S8x2048x8x1 (![] : Fin 0 → Fin S8x2048x8x1.rank)
  bcast_S8x2048x8x1_S8x2048x8x128_0_1_2_3 : S8x2048x8x1.BroadcastsInDim S8x2048x8x128 (![0, 1, 2, 3] : Fin 4 → Fin S8x2048x8x128.rank)

variable [Facts]

def fn {F : FTy → Type} [FloatOps F] (main_arg0 : FVec F S8x2048x8x128 .f32) (main_arg1 : FVec F S8x2048x8x128 .f32) (main_arg2 : FVec F S8x2048x8x128 .f32) (main_arg3 : FVec F S8x2048x8 .f32) : IVec S8x2048x8x128 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_v3 : FVec F S8x2048x8x128 .f32 := Host.absf main_arg1
  let main_cst_0 : FVec F S_ .f32 := constant S_ .f32 0x7F800000#32
  let main_v4 : FVec F S8x2048x8x128 .f32 := broadcastInDim S8x2048x8x128 ![] bcast_S_S8x2048x8x128 main_cst_0
  let main_v5 : IVec S8x2048x8x128 1 := cmpf .olt main_v3 main_v4
  let main_v6 : IVec S8x2048x8x128 1 := andi main_v2 main_v5
  let main_v7 : FVec F S8x2048x8 .f32 := Host.absf main_arg3
  let main_v8 : FVec F S8x2048x8x1 .f32 := broadcastInDim S8x2048x8x1 ![0, 1, 2] bcast_S8x2048x8_S8x2048x8x1_0_1_2 main_v7
  let main_cst_1 : FVec F S_ .f32 := constant S_ .f32 0x7F800000#32
  let main_v9 : FVec F S8x2048x8x1 .f32 := broadcastInDim S8x2048x8x1 ![] bcast_S_S8x2048x8x1 main_cst_1
  let main_v10 : IVec S8x2048x8x1 1 := cmpf .olt main_v8 main_v9
  let main_v11 : IVec S8x2048x8x128 1 := broadcastInDim S8x2048x8x128 ![0, 1, 2, 3] bcast_S8x2048x8x1_S8x2048x8x128_0_1_2_3 main_v10
  let main_v12 : IVec S8x2048x8x128 1 := andi main_v6 main_v11
  main_v12
-- ==== Kernel.lean ====
abbrev S8x2048x8x128 : Shape := ⟨4, ![8, 2048, 8, 128]⟩
abbrev S8x2048x8 : Shape := ⟨3, ![8, 2048, 8]⟩
abbrev S8x2048x1024 : Shape := ⟨3, ![8, 2048, 1024]⟩
abbrev S_ : Shape := ⟨0, ![]⟩
abbrev S8x2048x120 : Shape := ⟨3, ![8, 2048, 120]⟩
abbrev S8x2048x128 : Shape := ⟨3, ![8, 2048, 128]⟩
abbrev S8x8x2048 : Shape := ⟨3, ![8, 8, 2048]⟩
abbrev S8x8x4x1x512 : Shape := ⟨5, ![8, 8, 4, 1, 512]⟩
abbrev S1x1024x256 : Shape := ⟨3, ![1, 1024, 256]⟩
abbrev S1x2048x256 : Shape := ⟨3, ![1, 2048, 256]⟩
abbrev S1x1024x128 : Shape := ⟨3, ![1, 1024, 128]⟩
abbrev S1x2x4x1x512 : Shape := ⟨5, ![1, 2, 4, 1, 512]⟩
abbrev S2x1024x128 : Shape := ⟨3, ![2, 1024, 128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1024x512 : Shape := ⟨2, ![1024, 512]⟩
abbrev S1x512x128 : Shape := ⟨3, ![1, 512, 128]⟩
abbrev S512x128 : Shape := ⟨2, ![512, 128]⟩
abbrev S1x1x1x1x512 : Shape := ⟨5, ![1, 1, 1, 1, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩

abbrev nBuf : Space → Nat
  | .hbm => 16
  | .vmem => 15
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x128, .f32⟩
  | .hbm, ⟨2, _⟩ => ⟨S8x2048x8x128, .f32⟩
  | .hbm, ⟨3, _⟩ => ⟨S8x2048x8, .f32⟩
  | .hbm, ⟨4, _⟩ => ⟨S8x2048x1024, .f32⟩
  | .hbm, ⟨5, _⟩ => ⟨S8x2048x1024, .f32⟩
  | .hbm, ⟨6, _⟩ => ⟨S8x2048x1024, .bf16⟩
  | .hbm, ⟨7, _⟩ => ⟨S8x2048x1024, .f32⟩
  | .hbm, ⟨8, _⟩ => ⟨S8x2048x1024, .bf16⟩
  | .hbm, ⟨9, _⟩ => ⟨S_, .f32⟩
  | .hbm, ⟨10, _⟩ => ⟨S8x2048x120, .f32⟩
  | .hbm, ⟨11, _⟩ => ⟨S8x2048x128, .f32⟩
  | .hbm, ⟨12, _⟩ => ⟨S8x2048x8, .f32⟩
  | .hbm, ⟨13, _⟩ => ⟨S8x8x2048, .f32⟩
  | .hbm, ⟨14, _⟩ => ⟨S8x8x4x1x512, .f32⟩
  | .hbm, ⟨15, _⟩ => ⟨S8x2048x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1024x128, .f32⟩
  | .local _ .vmem, ⟨7, _⟩ => ⟨S1x1024x128, .f32⟩
  | .local _ .vmem, ⟨8, _⟩ => ⟨S1x2x4x1x512, .f32⟩
  | .local _ .vmem, ⟨9, _⟩ => ⟨S1x2x4x1x512, .f32⟩
  | .local _ .vmem, ⟨10, _⟩ => ⟨S1x1024x256, .bf16⟩
  | .local _ .vmem, ⟨11, _⟩ => ⟨S1x1024x256, .bf16⟩
  | .local _ .vmem, ⟨12, _⟩ => ⟨S2x1024x128, .f32⟩
  | .local _ .vmem, ⟨13, _⟩ => ⟨S2x1024x128, .f32⟩
  | .local _ .vmem, ⟨14, _⟩ => ⟨S2x1024x128, .f32⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_mult1 (i : grid0.Coords) : BitVec 32 :=
  let arg2 : BitVec 32 := BitVec.ofNat 32 (i 2).val
  let c2_i32_14 : BitVec 32 := 2#32
  let v39 : BitVec 32 := Scalar.muli arg2 c2_i32_14
  let c0_i32_15 : BitVec 32 := 0#32
  let v40 : BitVec 32 := Scalar.addi v39 c0_i32_15
  let c512_i32 : BitVec 32 := 512#32
  let v41 : BitVec 32 := Scalar.muli v40 c512_i32
  v41
def k0_off1 (i : grid0.Coords) (c0_i32_15 : BitVec 32) : Fin 3 → Nat :=
  let c0_16 : Index := 0#32
  let arg2 : BitVec 32 := BitVec.ofNat 32 (i 2).val
  let c2_i32_14 : BitVec 32 := 2#32
  let v39 : BitVec 32 := Scalar.muli arg2 c2_i32_14
  let v40 : BitVec 32 := Scalar.addi v39 c0_i32_15
  let c512_i32 : BitVec 32 := 512#32
  let v41 : BitVec 32 := Scalar.muli v40 c512_i32
  let v42 : BitVec 32 := v41
  let v43 : Index := Scalar.indexCast v42
  let c0_17 : Index := 0#32
  ![0, v43.toNat, 0]
def k0_off2 (i : grid0.Coords) (c0_i32_15 : BitVec 32) : Fin 5 → Nat :=
  let c0_19 : Index := 0#32
  let c0_20 : Index := 0#32
  let arg2 : BitVec 32 := BitVec.ofNat 32 (i 2).val
  let c2_i32_14 : BitVec 32 := 2#32
  let v39 : BitVec 32 := Scalar.muli arg2 c2_i32_14
  let v40 : BitVec 32 := Scalar.addi v39 c0_i32_15
  let v48 : Index := Scalar.indexCast v40
  let c0_21 : Index := 0#32
  let c0_22 : Index := 0#32
  ![0, 0, v48.toNat, 0, 0]
def k0_mult2 (i : grid0.Coords) : BitVec 32 :=
  let arg2 : BitVec 32 := BitVec.ofNat 32 (i 2).val
  let c2_i32_25 : BitVec 32 := 2#32
  let v60 : BitVec 32 := Scalar.muli arg2 c2_i32_25
  let c1_i32_26 : BitVec 32 := 1#32
  let v61 : BitVec 32 := Scalar.addi v60 c1_i32_26
  let c512_i32_27 : BitVec 32 := 512#32
  let v63 : BitVec 32 := Scalar.muli v61 c512_i32_27
  v63
def k0_mult3 (i : grid0.Coords) : BitVec 32 :=
  let arg2 : BitVec 32 := BitVec.ofNat 32 (i 2).val
  let c2_i32_37 : BitVec 32 := 2#32
  let v83 : BitVec 32 := Scalar.muli arg2 c2_i32_37
  let c0_i32_38 : BitVec 32 := 0#32
  let v84 : BitVec 32 := Scalar.addi v83 c0_i32_38
  let c512_i32_39 : BitVec 32 := 512#32
  let v85 : BitVec 32 := Scalar.muli v84 c512_i32_39
  v85
def k0_off3 (i : grid0.Coords) (c0_i32_38 : BitVec 32) : Fin 3 → Nat :=
  let c0_40 : Index := 0#32
  let arg2 : BitVec 32 := BitVec.ofNat 32 (i 2).val
  let c2_i32_37 : BitVec 32 := 2#32
  let v83 : BitVec 32 := Scalar.muli arg2 c2_i32_37
  let v84 : BitVec 32 := Scalar.addi v83 c0_i32_38
  let c512_i32_39 : BitVec 32 := 512#32
  let v85 : BitVec 32 := Scalar.muli v84 c512_i32_39
  let v86 : BitVec 32 := v85
  let v87 : Index := Scalar.indexCast v86
  let c128_41 : Index := 128#32
  ![0, v87.toNat, 128]
def k0_off4 (i : grid0.Coords) (c0_i32_38 : BitVec 32) : Fin 5 → Nat :=
  let c0_43 : Index := 0#32
  let c1 : Index := 1#32
  let arg2 : BitVec 32 := BitVec.ofNat 32 (i 2).val
  let c2_i32_37 : BitVec 32 := 2#32
  let v83 : BitVec 32 := Scalar.muli arg2 c2_i32_37
  let v84 : BitVec 32 := Scalar.addi v83 c0_i32_38
  let v92 : Index := Scalar.indexCast v84
  let c0_44 : Index := 0#32
  let c0_45 : Index := 0#32
  ![0, 1, v92.toNat, 0, 0]
def k0_mult4 (i : grid0.Coords) : BitVec 32 :=
  let arg2 : BitVec 32 := BitVec.ofNat 32 (i 2).val
  let c2_i32_48 : BitVec 32 := 2#32
  let v104 : BitVec 32 := Scalar.muli arg2 c2_i32_48
  let c1_i32_49 : BitVec 32 := 1#32
  let v105 : BitVec 32 := Scalar.addi v104 c1_i32_49
  let c512_i32_50 : BitVec 32 := 512#32
  let v107 : BitVec 32 := Scalar.muli v105 c512_i32_50
  v107
@[reducible] def k0_t1_loop (i : grid0.Coords) : Scf.Loop 32 :=
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_70 : BitVec 32 := 1#32
  ⟨c0_i32_68, v174, c1_i32_70⟩
def k0_mult5 (i : grid0.Coords) (k0_t1 : Fin (k0_t1_loop i).trips) : BitVec 32 :=
  let c0_i32_68 : BitVec 32 := 0#32
  let c1_i32_70 : BitVec 32 := 1#32
  let arg12 : BitVec 32 := Scf.iv c0_i32_68 c1_i32_70 k0_t1
  let c512_i32_144 : BitVec 32 := 512#32
  let v326 : BitVec 32 := Scalar.muli arg12 c512_i32_144
  v326
def k0_off5 (i : grid0.Coords) (k0_t1 : Fin (k0_t1_loop i).trips) : Fin 3 → Nat :=
  let c0_145 : Index := 0#32
  let c0_i32_68 : BitVec 32 := 0#32
  let c1_i32_70 : BitVec 32 := 1#32
  let arg12 : BitVec 32 := Scf.iv c0_i32_68 c1_i32_70 k0_t1
  let c512_i32_144 : BitVec 32 := 512#32
  let v326 : BitVec 32 := Scalar.muli arg12 c512_i32_144
  let v327 : BitVec 32 := v326
  let v328 : Index := Scalar.indexCast v327
  let c0_146 : Index := 0#32
  ![0, v328.toNat, 0]
def k0_off6 (i : grid0.Coords) (k0_t1 : Fin (k0_t1_loop i).trips) : Fin 5 → Nat :=
  let c0_148 : Index := 0#32
  let c0_149 : Index := 0#32
  let c0_i32_68 : BitVec 32 := 0#32
  let c1_i32_70 : BitVec 32 := 1#32
  let arg12 : BitVec 32 := Scf.iv c0_i32_68 c1_i32_70 k0_t1
  let v333 : Index := Scalar.indexCast arg12
  let c0_150 : Index := 0#32
  let c0_151 : Index := 0#32
  ![0, 0, v333.toNat, 0, 0]
def k0_mult6 (i : grid0.Coords) (k0_t1 : Fin (k0_t1_loop i).trips) : BitVec 32 :=
  let c0_i32_68 : BitVec 32 := 0#32
  let c1_i32_70 : BitVec 32 := 1#32
  let arg12 : BitVec 32 := Scf.iv c0_i32_68 c1_i32_70 k0_t1
  let c512_i32_159 : BitVec 32 := 512#32
  let v353 : BitVec 32 := Scalar.muli arg12 c512_i32_159
  v353
def k0_off7 (i : grid0.Coords) (k0_t1 : Fin (k0_t1_loop i).trips) : Fin 3 → Nat :=
  let c0_160 : Index := 0#32
  let c0_i32_68 : BitVec 32 := 0#32
  let c1_i32_70 : BitVec 32 := 1#32
  let arg12 : BitVec 32 := Scf.iv c0_i32_68 c1_i32_70 k0_t1
  let c512_i32_159 : BitVec 32 := 512#32
  let v353 : BitVec 32 := Scalar.muli arg12 c512_i32_159
  let v354 : BitVec 32 := v353
  let v355 : Index := Scalar.indexCast v354
  let c128_161 : Index := 128#32
  ![0, v355.toNat, 128]
def k0_off8 (i : grid0.Coords) (k0_t1 : Fin (k0_t1_loop i).trips) : Fin 5 → Nat :=
  let c0_163 : Index := 0#32
  let c1_164 : Index := 1#32
  let c0_i32_68 : BitVec 32 := 0#32
  let c1_i32_70 : BitVec 32 := 1#32
  let arg12 : BitVec 32 := Scf.iv c0_i32_68 c1_i32_70 k0_t1
  let v360 : Index := Scalar.indexCast arg12
  let c0_165 : Index := 0#32
  let c0_166 : Index := 0#32
  ![0, 1, v360.toNat, 0, 0]
@[reducible] def k0_t2_loop (i : grid0.Coords) : Scf.Loop 32 :=
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let v171 : BitVec 32 := Scalar.addi c0_i32_68 v170
  let c1_i32_71 : BitVec 32 := 1#32
  ⟨v174, v171, c1_i32_71⟩
def k0_mult7 (i : grid0.Coords) (k0_t2 : Fin (k0_t2_loop i).trips) : BitVec 32 :=
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_71 : BitVec 32 := 1#32
  let arg12 : BitVec 32 := Scf.iv v174 c1_i32_71 k0_t2
  let c512_i32_144 : BitVec 32 := 512#32
  let v326 : BitVec 32 := Scalar.muli arg12 c512_i32_144
  v326
def k0_off9 (i : grid0.Coords) (k0_t2 : Fin (k0_t2_loop i).trips) : Fin 3 → Nat :=
  let c0_145 : Index := 0#32
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_71 : BitVec 32 := 1#32
  let arg12 : BitVec 32 := Scf.iv v174 c1_i32_71 k0_t2
  let c512_i32_144 : BitVec 32 := 512#32
  let v326 : BitVec 32 := Scalar.muli arg12 c512_i32_144
  let v327 : BitVec 32 := v326
  let v328 : Index := Scalar.indexCast v327
  let c0_146 : Index := 0#32
  ![0, v328.toNat, 0]
def k0_off10 (i : grid0.Coords) (k0_t2 : Fin (k0_t2_loop i).trips) : Fin 5 → Nat :=
  let c0_148 : Index := 0#32
  let c0_149 : Index := 0#32
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_71 : BitVec 32 := 1#32
  let arg12 : BitVec 32 := Scf.iv v174 c1_i32_71 k0_t2
  let v333 : Index := Scalar.indexCast arg12
  let c0_150 : Index := 0#32
  let c0_151 : Index := 0#32
  ![0, 0, v333.toNat, 0, 0]
def k0_mult8 (i : grid0.Coords) (k0_t2 : Fin (k0_t2_loop i).trips) : BitVec 32 :=
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_71 : BitVec 32 := 1#32
  let arg12 : BitVec 32 := Scf.iv v174 c1_i32_71 k0_t2
  let c512_i32_159 : BitVec 32 := 512#32
  let v353 : BitVec 32 := Scalar.muli arg12 c512_i32_159
  v353
def k0_off11 (i : grid0.Coords) (k0_t2 : Fin (k0_t2_loop i).trips) : Fin 3 → Nat :=
  let c0_160 : Index := 0#32
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_71 : BitVec 32 := 1#32
  let arg12 : BitVec 32 := Scf.iv v174 c1_i32_71 k0_t2
  let c512_i32_159 : BitVec 32 := 512#32
  let v353 : BitVec 32 := Scalar.muli arg12 c512_i32_159
  let v354 : BitVec 32 := v353
  let v355 : Index := Scalar.indexCast v354
  let c128_161 : Index := 128#32
  ![0, v355.toNat, 128]
def k0_off12 (i : grid0.Coords) (k0_t2 : Fin (k0_t2_loop i).trips) : Fin 5 → Nat :=
  let c0_163 : Index := 0#32
  let c1_164 : Index := 1#32
  let c0_i32_68 : BitVec 32 := 0#32
  let arg2 : BitVec 32 := BitVec.ofNat 32 (i 2).val
  let c2_i32_66 : BitVec 32 := 2#32
  let v169 : BitVec 32 := Scalar.muli arg2 c2_i32_66
  let v170 : BitVec 32 := Scalar.subi v169 c0_i32_68
  let c1_i32_69 : BitVec 32 := 1#32
  let v172 : BitVec 32 := Scalar.divsi v170 c1_i32_69
  let v173 : BitVec 32 := Scalar.muli v172 c1_i32_69
  let v174 : BitVec 32 := Scalar.addi c0_i32_68 v173
  let c1_i32_71 : BitVec 32 := 1#32
  let arg12 : BitVec 32 := Scf.iv v174 c1_i32_71 k0_t2
  let v360 : Index := Scalar.indexCast arg12
  let c0_165 : Index := 0#32
  let c0_166 : Index := 0#32
  ![0, 1, v360.toNat, 0, 0]
def k0_mult9 (i : grid0.Coords) : BitVec 32 :=
  let arg2 : BitVec 32 := BitVec.ofNat 32 (i 2).val
  let c2_i32_76 : BitVec 32 := 2#32
  let v183 : BitVec 32 := Scalar.muli arg2 c2_i32_76
  let c0_i32_77 : BitVec 32 := 0#32
  let v184 : BitVec 32 := Scalar.addi v183 c0_i32_77
  let c512_i32_78 : BitVec 32 := 512#32
  let v185 : BitVec 32 := Scalar.muli v184 c512_i32_78
  v185
def k0_mult10 (i : grid0.Coords) : BitVec 32 :=
  let arg2 : BitVec 32 := BitVec.ofNat 32 (i 2).val
  let c2_i32_83 : BitVec 32 := 2#32
  let v205 : BitVec 32 := Scalar.muli arg2 c2_i32_83
  let c1_i32_84 : BitVec 32 := 1#32
  let v206 : BitVec 32 := Scalar.addi v205 c1_i32_84
  let c512_i32_85 : BitVec 32 := 512#32
  let v207 : BitVec 32 := Scalar.muli v206 c512_i32_85
  v207
def k0_mult11 (i : grid0.Coords) : BitVec 32 :=
  let arg2 : BitVec 32 := BitVec.ofNat 32 (i 2).val
  let c2_i32_99 : BitVec 32 := 2#32
  let v244 : BitVec 32 := Scalar.muli arg2 c2_i32_99
  let c0_i32_100 : BitVec 32 := 0#32
  let v245 : BitVec 32 := Scalar.addi v244 c0_i32_100
  let c512_i32_101 : BitVec 32 := 512#32
  let v246 : BitVec 32 := Scalar.muli v245 c512_i32_101
  v246
def k0_mult12 (i : grid0.Coords) : BitVec 32 :=
  let arg2 : BitVec 32 := BitVec.ofNat 32 (i 2).val
  let c2_i32_106 : BitVec 32 := 2#32
  let v266 : BitVec 32 := Scalar.muli arg2 c2_i32_106
  let c1_i32_107 : BitVec 32 := 1#32
  let v267 : BitVec 32 := Scalar.addi v266 c1_i32_107
  let c512_i32_108 : BitVec 32 := 512#32
  let v268 : BitVec 32 := Scalar.muli v267 c512_i32_108
  v268
@[reducible] def k0_t3_loop (i : grid0.Coords) : Scf.Loop 32 :=
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_122 : BitVec 32 := 1#32
  ⟨c0_i32_120, v302, c1_i32_122⟩
def k0_mult13 (i : grid0.Coords) (k0_t3 : Fin (k0_t3_loop i).trips) : BitVec 32 :=
  let c0_i32_120 : BitVec 32 := 0#32
  let c1_i32_122 : BitVec 32 := 1#32
  let arg12 : BitVec 32 := Scf.iv c0_i32_120 c1_i32_122 k0_t3
  let c512_i32_141 : BitVec 32 := 512#32
  let v324 : BitVec 32 := Scalar.muli arg12 c512_i32_141
  v324
def k0_off13 (i : grid0.Coords) (k0_t3 : Fin (k0_t3_loop i).trips) : Fin 3 → Nat :=
  let c0_142 : Index := 0#32
  let c0_i32_120 : BitVec 32 := 0#32
  let c1_i32_122 : BitVec 32 := 1#32
  let arg12 : BitVec 32 := Scf.iv c0_i32_120 c1_i32_122 k0_t3
  let c512_i32_141 : BitVec 32 := 512#32
  let v324 : BitVec 32 := Scalar.muli arg12 c512_i32_141
  let v325 : BitVec 32 := v324
  let v326 : Index := Scalar.indexCast v325
  let c0_143 : Index := 0#32
  ![0, v326.toNat, 0]
def k0_off14 (i : grid0.Coords) (k0_t3 : Fin (k0_t3_loop i).trips) : Fin 5 → Nat :=
  let c0_145 : Index := 0#32
  let c0_146 : Index := 0#32
  let c0_i32_120 : BitVec 32 := 0#32
  let c1_i32_122 : BitVec 32 := 1#32
  let arg12 : BitVec 32 := Scf.iv c0_i32_120 c1_i32_122 k0_t3
  let v331 : Index := Scalar.indexCast arg12
  let c0_147 : Index := 0#32
  let c0_148 : Index := 0#32
  ![0, 0, v331.toNat, 0, 0]
def k0_mult14 (i : grid0.Coords) (k0_t3 : Fin (k0_t3_loop i).trips) : BitVec 32 :=
  let c0_i32_120 : BitVec 32 := 0#32
  let c1_i32_122 : BitVec 32 := 1#32
  let arg12 : BitVec 32 := Scf.iv c0_i32_120 c1_i32_122 k0_t3
  let c512_i32_153 : BitVec 32 := 512#32
  let v342 : BitVec 32 := Scalar.muli arg12 c512_i32_153
  v342
def k0_mult15 (i : grid0.Coords) (k0_t3 : Fin (k0_t3_loop i).trips) : BitVec 32 :=
  let c0_i32_120 : BitVec 32 := 0#32
  let c1_i32_122 : BitVec 32 := 1#32
  let arg12 : BitVec 32 := Scf.iv c0_i32_120 c1_i32_122 k0_t3
  let c512_i32_166 : BitVec 32 := 512#32
  let v365 : BitVec 32 := Scalar.muli arg12 c512_i32_166
  v365
def k0_off15 (i : grid0.Coords) (k0_t3 : Fin (k0_t3_loop i).trips) : Fin 3 → Nat :=
  let c0_167 : Index := 0#32
  let c0_i32_120 : BitVec 32 := 0#32
  let c1_i32_122 : BitVec 32 := 1#32
  let arg12 : BitVec 32 := Scf.iv c0_i32_120 c1_i32_122 k0_t3
  let c512_i32_166 : BitVec 32 := 512#32
  let v365 : BitVec 32 := Scalar.muli arg12 c512_i32_166
  let v366 : BitVec 32 := v365
  let v367 : Index := Scalar.indexCast v366
  let c128_168 : Index := 128#32
  ![0, v367.toNat, 128]
def k0_off16 (i : grid0.Coords) (k0_t3 : Fin (k0_t3_loop i).trips) : Fin 5 → Nat :=
  let c0_170 : Index := 0#32
  let c1_171 : Index := 1#32
  let c0_i32_120 : BitVec 32 := 0#32
  let c1_i32_122 : BitVec 32 := 1#32
  let arg12 : BitVec 32 := Scf.iv c0_i32_120 c1_i32_122 k0_t3
  let v372 : Index := Scalar.indexCast arg12
  let c0_172 : Index := 0#32
  let c0_173 : Index := 0#32
  ![0, 1, v372.toNat, 0, 0]
def k0_mult16 (i : grid0.Coords) (k0_t3 : Fin (k0_t3_loop i).trips) : BitVec 32 :=
  let c0_i32_120 : BitVec 32 := 0#32
  let c1_i32_122 : BitVec 32 := 1#32
  let arg12 : BitVec 32 := Scf.iv c0_i32_120 c1_i32_122 k0_t3
  let c512_i32_178 : BitVec 32 := 512#32
  let v383 : BitVec 32 := Scalar.muli arg12 c512_i32_178
  v383
@[reducible] def k0_t4_loop (i : grid0.Coords) : Scf.Loop 32 :=
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let v299 : BitVec 32 := Scalar.addi c0_i32_120 v298
  let c1_i32_123 : BitVec 32 := 1#32
  ⟨v302, v299, c1_i32_123⟩
def k0_mult17 (i : grid0.Coords) (k0_t4 : Fin (k0_t4_loop i).trips) : BitVec 32 :=
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let c512_i32_141 : BitVec 32 := 512#32
  let v324 : BitVec 32 := Scalar.muli arg12 c512_i32_141
  v324
def k0_off17 (i : grid0.Coords) (k0_t4 : Fin (k0_t4_loop i).trips) : Fin 3 → Nat :=
  let c0_142 : Index := 0#32
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let c512_i32_141 : BitVec 32 := 512#32
  let v324 : BitVec 32 := Scalar.muli arg12 c512_i32_141
  let v325 : BitVec 32 := v324
  let v326 : Index := Scalar.indexCast v325
  let c0_143 : Index := 0#32
  ![0, v326.toNat, 0]
def k0_off18 (i : grid0.Coords) (k0_t4 : Fin (k0_t4_loop i).trips) : Fin 5 → Nat :=
  let c0_145 : Index := 0#32
  let c0_146 : Index := 0#32
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let v331 : Index := Scalar.indexCast arg12
  let c0_147 : Index := 0#32
  let c0_148 : Index := 0#32
  ![0, 0, v331.toNat, 0, 0]
def k0_mult18 (i : grid0.Coords) (k0_t4 : Fin (k0_t4_loop i).trips) : BitVec 32 :=
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let c512_i32_153 : BitVec 32 := 512#32
  let v342 : BitVec 32 := Scalar.muli arg12 c512_i32_153
  v342
def k0_mult19 (i : grid0.Coords) (k0_t4 : Fin (k0_t4_loop i).trips) : BitVec 32 :=
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let c512_i32_166 : BitVec 32 := 512#32
  let v365 : BitVec 32 := Scalar.muli arg12 c512_i32_166
  v365
def k0_off19 (i : grid0.Coords) (k0_t4 : Fin (k0_t4_loop i).trips) : Fin 3 → Nat :=
  let c0_167 : Index := 0#32
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let c512_i32_166 : BitVec 32 := 512#32
  let v365 : BitVec 32 := Scalar.muli arg12 c512_i32_166
  let v366 : BitVec 32 := v365
  let v367 : Index := Scalar.indexCast v366
  let c128_168 : Index := 128#32
  ![0, v367.toNat, 128]
def k0_off20 (i : grid0.Coords) (k0_t4 : Fin (k0_t4_loop i).trips) : Fin 5 → Nat :=
  let c0_170 : Index := 0#32
  let c1_171 : Index := 1#32
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let v372 : Index := Scalar.indexCast arg12
  let c0_172 : Index := 0#32
  let c0_173 : Index := 0#32
  ![0, 1, v372.toNat, 0, 0]
def k0_mult20 (i : grid0.Coords) (k0_t4 : Fin (k0_t4_loop i).trips) : BitVec 32 :=
  let c0_i32_120 : BitVec 32 := 0#32
  let arg2 : BitVec 32 := BitVec.ofNat 32 (i 2).val
  let c2_i32_118 : BitVec 32 := 2#32
  let v297 : BitVec 32 := Scalar.muli arg2 c2_i32_118
  let v298 : BitVec 32 := Scalar.subi v297 c0_i32_120
  let c1_i32_121 : BitVec 32 := 1#32
  let v300 : BitVec 32 := Scalar.divsi v298 c1_i32_121
  let v301 : BitVec 32 := Scalar.muli v300 c1_i32_121
  let v302 : BitVec 32 := Scalar.addi c0_i32_120 v301
  let c1_i32_123 : BitVec 32 := 1#32
  let arg12 : BitVec 32 := Scf.iv v302 c1_i32_123 k0_t4
  let c512_i32_178 : BitVec 32 := 512#32
  let v383 : BitVec 32 := Scalar.muli arg12 c512_i32_178
  v383
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.sqrt 128)⁻¹ * (Real.log 2)⁻¹ : ℝ) : EReal)
  | _ => none
-- ==== ReferenceIdeal.lean ====
abbrev S8x2048x8x128 : Shape := ⟨4, ![8, 2048, 8, 128]⟩
abbrev S8x2048x8 : Shape := ⟨3, ![8, 2048, 8]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩
abbrev S8x2048x1024 : Shape := ⟨3, ![8, 2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x128, .f32⟩
  | .hbm, ⟨2, _⟩ => ⟨S8x2048x8x128, .f32⟩
  | .hbm, ⟨3, _⟩ => ⟨S8x2048x8, .f32⟩
  | .hbm, ⟨4, _⟩ => ⟨S8x8x2048x2048, .f32⟩
  | .hbm, ⟨5, _⟩ => ⟨S_, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S8x8x2048, .f32⟩
  | .hbm, ⟨10, _⟩ => ⟨S8x8x2048x1, .f32⟩
  | .hbm, ⟨11, _⟩ => ⟨S8x8x2048x2048, .f32⟩
  | .hbm, ⟨12, _⟩ => ⟨S8x8x2048x2048, .f32⟩
  | .hbm, ⟨13, _⟩ => ⟨S8x8x1x2048, .f32⟩
  | .hbm, ⟨14, _⟩ => ⟨S8x8x2048x2048, .f32⟩
  | .hbm, ⟨15, _⟩ => ⟨S8x8x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x128x2048, .f32⟩
  | .hbm, ⟨42, _⟩ => ⟨S8x2048x8x128, .f32⟩
  | .hbm, ⟨43, _⟩ => ⟨S8x2048x1024, .f32⟩
  | .hbm, ⟨44, _⟩ => ⟨S8x2048x1024, .bf16⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x3x1024 : Shape := ⟨3, ![8, 3, 1024]⟩
abbrev S8x1024 : Shape := ⟨2, ![8, 1024]⟩
abbrev S1024x1024 : Shape := ⟨2, ![1024, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S8x3x1x1024 : Shape := ⟨4, ![8, 3, 1, 1024]⟩
abbrev S8x1x1024 : Shape := ⟨3, ![8, 1, 1024]⟩
abbrev S8x1x1x1024 : Shape := ⟨4, ![8, 1, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 23
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S8x1024, .f32⟩
  | .hbm, ⟨3, _⟩ => ⟨S8x2048x1024, .bf16⟩
  | .hbm, ⟨4, _⟩ => ⟨S1024x1024, .f32⟩
  | .hbm, ⟨5, _⟩ => ⟨S1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S8x3x1x1024, .f32⟩
  | .hbm, ⟨10, _⟩ => ⟨S8x1x1024, .f32⟩
  | .hbm, ⟨11, _⟩ => ⟨S1024x1024, .bf16⟩
  | .hbm, ⟨12, _⟩ => ⟨S8x1x1x1024, .f32⟩
  | .hbm, ⟨13, _⟩ => ⟨S8x1x1024, .f32⟩
  | .hbm, ⟨14, _⟩ => ⟨S8x1x1x1024, .f32⟩
  | .hbm, ⟨15, _⟩ => ⟨S8x1x1024, .f32⟩
  | .hbm, ⟨16, _⟩ => ⟨S8x1x1x1024, .f32⟩
  | .hbm, ⟨17, _⟩ => ⟨S8x1x1024, .f32⟩
  | .hbm, ⟨18, _⟩ => ⟨S2x2x1024x2816, .bf16⟩
  | .hbm, ⟨19, _⟩ => ⟨S2x2x1024x2816, .bf16⟩
  | .hbm, ⟨20, _⟩ => ⟨S2x2x2816x1024, .bf16⟩
  | .hbm, ⟨21, _⟩ => ⟨S1x1024, .f32⟩
  | .hbm, ⟨22, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1024x1024, .bf16⟩
  | .local _ .vmem, ⟨17, _⟩ => ⟨S1x1024x1024, .f32⟩
  | .local _ .vmem, ⟨18, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x2048x1024 : Shape := ⟨3, ![8, 2048, 1024]⟩
abbrev S8x3x1024 : Shape := ⟨3, ![8, 3, 1024]⟩
abbrev S8x1024 : Shape := ⟨2, ![8, 1024]⟩
abbrev S1024x1024 : Shape := ⟨2, ![1024, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S8x2048x2816 : Shape := ⟨3, ![8, 2048, 2816]⟩
abbrev S1x1x2816x1024 : Shape := ⟨4, ![1, 1, 2816, 1024]⟩
abbrev S2816x1024 : Shape := ⟨2, ![2816, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S8x1024, .f32⟩
  | .hbm, ⟨3, _⟩ => ⟨S8x2048x1024, .bf16⟩
  | .hbm, ⟨4, _⟩ => ⟨S1024x1024, .f32⟩
  | .hbm, ⟨5, _⟩ => ⟨S1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S8x1x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S8x1x1024, .f32⟩
  | .hbm, ⟨45, _⟩ => ⟨S8x1024, .f32⟩
  | .hbm, ⟨46, _⟩ => ⟨S8x1x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S1x1x1024x2816, .f32⟩
  | .hbm, ⟨51, _⟩ => ⟨S1024x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S_, .f32⟩
  | .hbm, ⟨56, _⟩ => ⟨S8x2048x2816, .f32⟩
  | .hbm, ⟨57, _⟩ => ⟨S8x2048x2816, .f32⟩
  | .hbm, ⟨58, _⟩ => ⟨S_, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S1x1x1024x2816, .f32⟩
  | .hbm, ⟨63, _⟩ => ⟨S1024x2816, .f32⟩
  | .hbm, ⟨64, _⟩ => ⟨S8x2048x2816, .f32⟩
  | .hbm, ⟨65, _⟩ => ⟨S8x2048x2816, .f32⟩
  | .hbm, ⟨66, _⟩ => ⟨S1x1x2816x1024, .f32⟩
  | .hbm, ⟨67, _⟩ => ⟨S2816x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel3.lean ====
abbrev S32x8x1024 : Shape := ⟨3, ![32, 8, 1024]⟩
abbrev S32x3x1024 : Shape := ⟨3, ![32, 3, 1024]⟩
abbrev S32x1024 : Shape := ⟨2, ![32, 1024]⟩
abbrev S1024x1024 : Shape := ⟨2, ![1024, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S32x8x3x1024 : Shape := ⟨4, ![32, 8, 3, 1024]⟩
abbrev S256x3x1024 : Shape := ⟨3, ![256, 3, 1024]⟩
abbrev S1x256x3x1024 : Shape := ⟨4, ![1, 256, 3, 1024]⟩
abbrev S256x1024 : Shape := ⟨2, ![256, 1024]⟩
abbrev S1x256x1024 : Shape := ⟨3, ![1, 256, 1024]⟩
abbrev S1x256x1x1024 : Shape := ⟨4, ![1, 256, 1, 1024]⟩
abbrev S1x1024 : Shape := ⟨2, ![1, 1024]⟩
abbrev S1x1x1024x2816 : Shape := ⟨4, ![1, 1, 1024, 2816]⟩
abbrev S1x1x2816x1024 : Shape := ⟨4, ![1, 1, 2816, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S1x1x256x1024 : Shape := ⟨4, ![1, 1, 256, 1024]⟩

abbrev nBuf : Space → Nat
  | .hbm => 29
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S32x3x1024, .f32⟩
  | .hbm, ⟨2, _⟩ => ⟨S32x1024, .f32⟩
  | .hbm, ⟨3, _⟩ => ⟨S32x8x1024, .f32⟩
  | .hbm, ⟨4, _⟩ => ⟨S1024x1024, .f32⟩
  | .hbm, ⟨5, _⟩ => ⟨S1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S32x8x3x1024, .f32⟩
  | .hbm, ⟨10, _⟩ => ⟨S256x3x1024, .f32⟩
  | .hbm, ⟨11, _⟩ => ⟨S1x256x3x1024, .f32⟩
  | .hbm, ⟨12, _⟩ => ⟨S32x8x1024, .f32⟩
  | .hbm, ⟨13, _⟩ => ⟨S256x1024, .f32⟩
  | .hbm, ⟨14, _⟩ => ⟨S1x256x1024, .f32⟩
  | .hbm, ⟨15, _⟩ => ⟨S1x256x1024, .f32⟩
  | .hbm, ⟨16, _⟩ => ⟨S1024x1024, .bf16⟩
  | .hbm, ⟨17, _⟩ => ⟨S1x256x1024, .f32⟩
  | .hbm, ⟨18, _⟩ => ⟨S1x256x1x1024, .f32⟩
  | .hbm, ⟨19, _⟩ => ⟨S1x256x1024, .f32⟩
  | .hbm, ⟨20, _⟩ => ⟨S1x256x1x1024, .f32⟩
  | .hbm, ⟨21, _⟩ => ⟨S1x256x1024, .f32⟩
  | .hbm, ⟨22, _⟩ => ⟨S1x256x1x1024, .f32⟩
  | .hbm, ⟨23, _⟩ => ⟨S1x256x1024, .f32⟩
  | .hbm, ⟨24, _⟩ => ⟨S2x2x1024x2816, .bf16⟩
  | .hbm, ⟨25, _⟩ => ⟨S2x2x1024x2816, .bf16⟩
  | .hbm, ⟨26, _⟩ => ⟨S2x2x2816x1024, .bf16⟩
  | .hbm, ⟨27, _⟩ => ⟨S1x1024, .f32⟩
  | .hbm, ⟨28, _⟩ => ⟨S1x256x1024, .f32⟩
  | .local _ .vmem, ⟨0, _⟩ => ⟨S1x256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1x256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference3Ideal.lean ====
abbrev S32x8x1024 : Shape := ⟨3, ![32, 8, 1024]⟩
abbrev S32x3x1024 : Shape := ⟨3, ![32, 3, 1024]⟩
abbrev S32x1024 : Shape := ⟨2, ![32, 1024]⟩
abbrev S1024x1024 : Shape := ⟨2, ![1024, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S32x1x1024 : Shape := ⟨3, ![32, 1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S32x8x2816 : Shape := ⟨3, ![32, 8, 2816]⟩
abbrev S1x1x2816x1024 : Shape := ⟨4, ![1, 1, 2816, 1024]⟩
abbrev S2816x1024 : Shape := ⟨2, ![2816, 1024]⟩
abbrev S1x256x1024 : Shape := ⟨3, ![1, 256, 1024]⟩

abbrev nBuf : Space → Nat
  | .hbm => 72
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x3x1024, .f32⟩
  | .hbm, ⟨2, _⟩ => ⟨S32x1024, .f32⟩
  | .hbm, ⟨3, _⟩ => ⟨S32x8x1024, .f32⟩
  | .hbm, ⟨4, _⟩ => ⟨S1024x1024, .f32⟩
  | .hbm, ⟨5, _⟩ => ⟨S1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S32x1x1024, .f32⟩
  | .hbm, ⟨10, _⟩ => ⟨S32x8x1024, .f32⟩
  | .hbm, ⟨11, _⟩ => ⟨S32x8x1024, .f32⟩
  | .hbm, ⟨12, _⟩ => ⟨S32x8x1024, .f32⟩
  | .hbm, ⟨13, _⟩ => ⟨S32x8x1024, .f32⟩
  | .hbm, ⟨14, _⟩ => ⟨S32x8x1024, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S32x8x1, .f32⟩
  | .hbm, ⟨25, _⟩ => ⟨S32x8x1024, .f32⟩
  | .hbm, ⟨26, _⟩ => ⟨S32x8x1024, .f32⟩
  | .hbm, ⟨27, _⟩ => ⟨S1x1x1024, .f32⟩
  | .hbm, ⟨28, _⟩ => ⟨S32x8x1024, .f32⟩
  | .hbm, ⟨29, _⟩ => ⟨S32x8x1024, .f32⟩
  | .hbm, ⟨30, _⟩ => ⟨S32x1x1024, .f32⟩
  | .hbm, ⟨31, _⟩ => ⟨S32x1024, .f32⟩
  | .hbm, ⟨32, _⟩ => ⟨S32x1x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x8x1024, .f32⟩
  | .hbm, ⟨37, _⟩ => ⟨S32x8x1024, .f32⟩
  | .hbm, ⟨38, _⟩ => ⟨S32x1x1024, .f32⟩
  | .hbm, ⟨39, _⟩ => ⟨S32x1024, .f32⟩
  | .hbm, ⟨40, _⟩ => ⟨S32x1x1024, .f32⟩
  | .hbm, ⟨41, _⟩ => ⟨S32x8x1024, .f32⟩
  | .hbm, ⟨42, _⟩ => ⟨S32x8x1024, .f32⟩
  | .hbm, ⟨43, _⟩ => ⟨S32x1x1024, .f32⟩
  | .hbm, ⟨44, _⟩ => ⟨S32x1024, .f32⟩
  | .hbm, ⟨45, _⟩ => ⟨S32x1x1024, .f32⟩
  | .hbm, ⟨46, _⟩ => ⟨S_, .f32⟩
  | .hbm, ⟨47, _⟩ => ⟨S32x1x1024, .f32⟩
  | .hbm, ⟨48, _⟩ => ⟨S32x1x1024, .f32⟩
  | .hbm, ⟨49, _⟩ => ⟨S1x1x1024x2816, .f32⟩
  | .hbm, ⟨50, _⟩ => ⟨S1024x2816, .f32⟩
  | .hbm, ⟨51, _⟩ => ⟨S32x8x2816, .f32⟩
  | .hbm, ⟨52, _⟩ => ⟨S32x8x2816, .f32⟩
  | .hbm, ⟨53, _⟩ => ⟨S32x8x2816, .f32⟩
  | .hbm, ⟨54, _⟩ => ⟨S_, .f32⟩
  | .hbm, ⟨55, _⟩ => ⟨S32x8x2816, .f32⟩
  | .hbm, ⟨56, _⟩ => ⟨S32x8x2816, .f32⟩
  | .hbm, ⟨57, _⟩ => ⟨S_, .f32⟩
  | .hbm, ⟨58, _⟩ => ⟨S32x8x2816, .f32⟩
  | .hbm, ⟨59, _⟩ => ⟨S32x8x2816, .f32⟩
  | .hbm, ⟨60, _⟩ => ⟨S32x8x2816, .f32⟩
  | .hbm, ⟨61, _⟩ => ⟨S1x1x1024x2816, .f32⟩
  | .hbm, ⟨62, _⟩ => ⟨S1024x2816, .f32⟩
  | .hbm, ⟨63, _⟩ => ⟨S32x8x2816, .f32⟩
  | .hbm, ⟨64, _⟩ => ⟨S32x8x2816, .f32⟩
  | .hbm, ⟨65, _⟩ => ⟨S1x1x2816x1024, .f32⟩
  | .hbm, ⟨66, _⟩ => ⟨S2816x1024, .f32⟩
  | .hbm, ⟨67, _⟩ => ⟨S32x8x1024, .f32⟩
  | .hbm, ⟨68, _⟩ => ⟨S32x8x1024, .f32⟩
  | .hbm, ⟨69, _⟩ => ⟨S32x8x1024, .f32⟩
  | .hbm, ⟨70, _⟩ => ⟨S32x8x1024, .f32⟩
  | .hbm, ⟨71, _⟩ => ⟨S1x256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S8x3x1x1024 : Shape := ⟨4, ![8, 3, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S1024x1024 : Shape := ⟨2, ![1024, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 18
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x3x1x1024, .f32⟩
  | .hbm, ⟨7, _⟩ => ⟨S8x1x1x1024, .f32⟩
  | .hbm, ⟨8, _⟩ => ⟨S8x1x1024, .f32⟩
  | .hbm, ⟨9, _⟩ => ⟨S8x1x1x1024, .f32⟩
  | .hbm, ⟨10, _⟩ => ⟨S8x1x1024, .f32⟩
  | .hbm, ⟨11, _⟩ => ⟨S8x1x1x1024, .f32⟩
  | .hbm, ⟨12, _⟩ => ⟨S8x1x1024, .f32⟩
  | .hbm, ⟨13, _⟩ => ⟨S2x2x1024x2816, .bf16⟩
  | .hbm, ⟨14, _⟩ => ⟨S2x2x1024x2816, .bf16⟩
  | .hbm, ⟨15, _⟩ => ⟨S2x2x2816x1024, .bf16⟩
  | .hbm, ⟨16, _⟩ => ⟨S1x1024, .f32⟩
  | .hbm, ⟨17, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S1x1024x1024, .f32⟩
  | .local _ .vmem, ⟨13, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x2048x1024 : Shape := ⟨3, ![8, 2048, 1024]⟩
abbrev S8x3x1024 : Shape := ⟨3, ![8, 3, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S1x1x1024x2816 : Shape := ⟨4, ![1, 1, 1024, 2816]⟩
abbrev S1024x2816 : Shape := ⟨2, ![1024, 2816]⟩
abbrev S8x2048x2816 : Shape := ⟨3, ![8, 2048, 2816]⟩
abbrev S1x1x2816x1024 : Shape := ⟨4, ![1, 1, 2816, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x1x1024, .f32⟩
  | .hbm, ⟨36, _⟩ => ⟨S8x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S1x1x1024x2816, .f32⟩
  | .hbm, ⟨42, _⟩ => ⟨S1024x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S1x1x1024x2816, .f32⟩
  | .hbm, ⟨54, _⟩ => ⟨S1024x2816, .f32⟩
  | .hbm, ⟨55, _⟩ => ⟨S8x2048x2816, .f32⟩
  | .hbm, ⟨56, _⟩ => ⟨S8x2048x2816, .f32⟩
  | .hbm, ⟨57, _⟩ => ⟨S1x1x2816x1024, .f32⟩
  | .hbm, ⟨58, _⟩ => ⟨S2816x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x3x1024 : Shape := ⟨3, ![8, 3, 1024]⟩
abbrev S8x1024 : Shape := ⟨2, ![8, 1024]⟩
abbrev S8x2048x512 : Shape := ⟨3, ![8, 2048, 512]⟩
abbrev S2048x8x512 : Shape := ⟨3, ![2048, 8, 512]⟩
abbrev S1024x1024 : Shape := ⟨2, ![1024, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S8x3x1x1024 : Shape := ⟨4, ![8, 3, 1, 1024]⟩
abbrev S8x1x1024 : Shape := ⟨3, ![8, 1, 1024]⟩
abbrev S2048x4096 : Shape := ⟨2, ![2048, 4096]⟩
abbrev S512x1024 : Shape := ⟨2, ![512, 1024]⟩
abbrev S8x1x1x1024 : Shape := ⟨4, ![8, 1, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1x1x1024x2816 : Shape := ⟨4, ![1, 1, 1024, 2816]⟩
abbrev S1x1x2816x1024 : Shape := ⟨4, ![1, 1, 2816, 1024]⟩
abbrev S1x1024x512 : Shape := ⟨3, ![1, 1024, 512]⟩
abbrev S1024x512 : Shape := ⟨2, ![1024, 512]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 27
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S8x1024, .f32⟩
  | .hbm, ⟨3, _⟩ => ⟨S8x2048x512, .bf16⟩
  | .hbm, ⟨4, _⟩ => ⟨S2048x8x512, .f32⟩
  | .hbm, ⟨5, _⟩ => ⟨S1024x1024, .f32⟩
  | .hbm, ⟨6, _⟩ => ⟨S1024, .f32⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S8x3x1x1024, .f32⟩
  | .hbm, ⟨11, _⟩ => ⟨S1024x1024, .bf16⟩
  | .hbm, ⟨12, _⟩ => ⟨S8x1x1024, .f32⟩
  | .hbm, ⟨13, _⟩ => ⟨S2048x4096, .f32⟩
  | .hbm, ⟨14, _⟩ => ⟨S512x1024, .bf16⟩
  | .hbm, ⟨15, _⟩ => ⟨S512x1024, .bf16⟩
  | .hbm, ⟨16, _⟩ => ⟨S8x1x1x1024, .f32⟩
  | .hbm, ⟨17, _⟩ => ⟨S8x1x1024, .f32⟩
  | .hbm, ⟨18, _⟩ => ⟨S8x1x1x1024, .f32⟩
  | .hbm, ⟨19, _⟩ => ⟨S8x1x1024, .f32⟩
  | .hbm, ⟨20, _⟩ => ⟨S8x1x1x1024, .f32⟩
  | .hbm, ⟨21, _⟩ => ⟨S8x1x1024, .f32⟩
  | .hbm, ⟨22, _⟩ => ⟨S2x2x1024x2816, .bf16⟩
  | .hbm, ⟨23, _⟩ => ⟨S2x2x1024x2816, .bf16⟩
  | .hbm, ⟨24, _⟩ => ⟨S2x2x2816x1024, .bf16⟩
  | .hbm, ⟨25, _⟩ => ⟨S1x1024, .f32⟩
  | .hbm, ⟨26, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024x512, .bf16⟩
  | .local _ .vmem, ⟨15, _⟩ => ⟨S1x1024x512, .bf16⟩
  | .local _ .vmem, ⟨16, _⟩ => ⟨S1024x512, .f32⟩
  | .local _ .vmem, ⟨17, _⟩ => ⟨S1024x512, .f32⟩
  | .local _ .vmem, ⟨18, _⟩ => ⟨S512x1024, .bf16⟩
  | .local _ .vmem, ⟨19, _⟩ => ⟨S512x1024, .bf16⟩
  | .local _ .vmem, ⟨20, _⟩ => ⟨S1x1024x1024, .f32⟩
  | .local _ .vmem, ⟨21, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x2048x1024 : Shape := ⟨3, ![8, 2048, 1024]⟩
abbrev S8x3x1024 : Shape := ⟨3, ![8, 3, 1024]⟩
abbrev S8x1024 : Shape := ⟨2, ![8, 1024]⟩
abbrev S8x2048x512 : Shape := ⟨3, ![8, 2048, 512]⟩
abbrev S2048x8x512 : Shape := ⟨3, ![2048, 8, 512]⟩
abbrev S1024x1024 : Shape := ⟨2, ![1024, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S8x2048x2816 : Shape := ⟨3, ![8, 2048, 2816]⟩
abbrev S1x1x2816x1024 : Shape := ⟨4, ![1, 1, 2816, 1024]⟩
abbrev S2816x1024 : Shape := ⟨2, ![2816, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S8x1024, .f32⟩
  | .hbm, ⟨3, _⟩ => ⟨S8x2048x512, .bf16⟩
  | .hbm, ⟨4, _⟩ => ⟨S2048x8x512, .f32⟩
  | .hbm, ⟨5, _⟩ => ⟨S1024x1024, .f32⟩
  | .hbm, ⟨6, _⟩ => ⟨S1024, .f32⟩
  | .hbm, ⟨7, _⟩ => ⟨S2x2x1024x2816, .f32⟩
  | .hbm, ⟨8, _⟩ => ⟨S2x2x1024x2816, .f32⟩
  | .hbm, ⟨9, _⟩ => ⟨S2x2x2816x1024, .f32⟩
  | .hbm, ⟨10, _⟩ => ⟨S8x2048x512, .f32⟩
  | .hbm, ⟨11, _⟩ => ⟨S8x2048x512, .f32⟩
  | .hbm, ⟨12, _⟩ => ⟨S8x2048x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S8x1x1024, .f32⟩
  | .hbm, ⟨35, _⟩ => ⟨S8x1024, .f32⟩
  | .hbm, ⟨36, _⟩ => ⟨S8x1x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S8x1x1024, .f32⟩
  | .hbm, ⟨43, _⟩ => ⟨S8x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x1x1024, .f32⟩
  | .hbm, ⟨48, _⟩ => ⟨S8x1024, .f32⟩
  | .hbm, ⟨49, _⟩ => ⟨S8x1x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S1x1x1024x2816, .f32⟩
  | .hbm, ⟨54, _⟩ => ⟨S1024x2816, .f32⟩
  | .hbm, ⟨55, _⟩ => ⟨S8x2048x2816, .f32⟩
  | .hbm, ⟨56, _⟩ => ⟨S8x2048x2816, .f32⟩
  | .hbm, ⟨57, _⟩ => ⟨S8x2048x2816, .f32⟩
  | .hbm, ⟨58, _⟩ => ⟨S_, .f32⟩
  | .hbm, ⟨59, _⟩ => ⟨S8x2048x2816, .f32⟩
  | .hbm, ⟨60, _⟩ => ⟨S8x2048x2816, .f32⟩
  | .hbm, ⟨61, _⟩ => ⟨S_, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S1x1x1024x2816, .f32⟩
  | .hbm, ⟨66, _⟩ => ⟨S1024x2816, .f32⟩
  | .hbm, ⟨67, _⟩ => ⟨S8x2048x2816, .f32⟩
  | .hbm, ⟨68, _⟩ => ⟨S8x2048x2816, .f32⟩
  | .hbm, ⟨69, _⟩ => ⟨S1x1x2816x1024, .f32⟩
  | .hbm, ⟨70, _⟩ => ⟨S2816x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x1024 : Shape := ⟨2, ![8, 1024]⟩
abbrev S1024 : Shape := ⟨1, ![1024]⟩
abbrev S1024x3080 : Shape := ⟨2, ![1024, 3080]⟩
abbrev S8 : Shape := ⟨1, ![8]⟩
abbrev S128 : Shape := ⟨1, ![128]⟩
abbrev S3080x1024 : Shape := ⟨2, ![3080, 1024]⟩
abbrev S_ : Shape := ⟨0, ![]⟩
abbrev S120x1024 : Shape := ⟨2, ![120, 1024]⟩
abbrev S3200x1024 : Shape := ⟨2, ![3200, 1024]⟩
abbrev S120 : Shape := ⟨1, ![120]⟩
abbrev S1x128 : Shape := ⟨2, ![1, 128]⟩
abbrev S1x1024 : Shape := ⟨2, ![1, 1024]⟩
abbrev S8x1x1024 : Shape := ⟨3, ![8, 1, 1024]⟩
abbrev S8x2048x8 : Shape := ⟨3, ![8, 2048, 8]⟩
abbrev S8x2048x128 : Shape := ⟨3, ![8, 2048, 128]⟩
abbrev S1x512x1024 : Shape := ⟨3, ![1, 512, 1024]⟩
abbrev S1x1x1024 : Shape := ⟨3, ![1, 1, 1024]⟩
abbrev S1x512x8 : Shape := ⟨3, ![1, 512, 8]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x3200 : Shape := ⟨2, ![512, 3200]⟩
abbrev S512x128 : Shape := ⟨2, ![512, 128]⟩
abbrev S512x8 : Shape := ⟨2, ![512, 8]⟩
abbrev S128x128 : Shape := ⟨2, ![128, 128]⟩
abbrev S1x128x128 : Shape := ⟨3, ![1, 128, 128]⟩

abbrev nBuf : Space → Nat
  | .hbm => 29
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S128, .f32⟩
  | .hbm, ⟨7, _⟩ => ⟨S128, .f32⟩
  | .hbm, ⟨8, _⟩ => ⟨S3080x1024, .f32⟩
  | .hbm, ⟨9, _⟩ => ⟨S_, .f32⟩
  | .hbm, ⟨10, _⟩ => ⟨S120x1024, .f32⟩
  | .hbm, ⟨11, _⟩ => ⟨S3200x1024, .f32⟩
  | .hbm, ⟨12, _⟩ => ⟨S_, .f32⟩
  | .hbm, ⟨13, _⟩ => ⟨S120, .f32⟩
  | .hbm, ⟨14, _⟩ => ⟨S128, .f32⟩
  | .hbm, ⟨15, _⟩ => ⟨S1x128, .f32⟩
  | .hbm, ⟨16, _⟩ => ⟨S1x1024, .f32⟩
  | .hbm, ⟨17, _⟩ => ⟨S1x128, .f32⟩
  | .hbm, ⟨18, _⟩ => ⟨S1x128, .f32⟩
  | .hbm, ⟨19, _⟩ => ⟨S3200x1024, .bf16⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S8x2048x1024, .f32⟩
  | .hbm, ⟨24, _⟩ => ⟨S8x2048x8, .f32⟩
  | .hbm, ⟨25, _⟩ => ⟨S8x2048x1024, .bf16⟩
  | .hbm, ⟨26, _⟩ => ⟨S8x2048x1024, .bf16⟩
  | .hbm, ⟨27, _⟩ => ⟨S8x2048x1024, .bf16⟩
  | .hbm, ⟨28, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S3200x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x8, .f32⟩
  | .local _ .vmem, ⟨16, _⟩ => ⟨S1x512x8, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x128, .f32⟩
  | .local _ .vmem, ⟨24, _⟩ => ⟨S1x512x128, .f32⟩
  | .local _ .vmem, ⟨25, _⟩ => ⟨S1x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3200x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S8x2048x1024 : Shape := ⟨3, ![8, 2048, 1024]⟩
abbrev S8x1024 : Shape := ⟨2, ![8, 1024]⟩
abbrev S1024 : Shape := ⟨1, ![1024]⟩
abbrev S1024x3080 : Shape := ⟨2, ![1024, 3080]⟩
abbrev S8 : Shape := ⟨1, ![8]⟩
abbrev S128 : Shape := ⟨1, ![128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x3080 : Shape := ⟨3, ![8, 2048, 3080]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S1x1x8 : Shape := ⟨3, ![1, 1, 8]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S128, .f32⟩
  | .hbm, ⟨7, _⟩ => ⟨S128, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x3080, .f32⟩
  | .hbm, ⟨34, _⟩ => ⟨S8x2048x1024, .f32⟩
  | .hbm, ⟨35, _⟩ => ⟨S8x2048x8x128, .f32⟩
  | .hbm, ⟨36, _⟩ => ⟨S8x2048x8x128, .f32⟩
  | .hbm, ⟨37, _⟩ => ⟨S_, .f32⟩
  | .hbm, ⟨38, _⟩ => ⟨S8x2048x8, .f32⟩
  | .hbm, ⟨39, _⟩ => ⟨S8x2048x8x1, .f32⟩
  | .hbm, ⟨40, _⟩ => ⟨S_, .f32⟩
  | .hbm, ⟨41, _⟩ => ⟨S8x2048x8x1, .f32⟩
  | .hbm, ⟨42, _⟩ => ⟨S8x2048x8x1, .f32⟩
  | .hbm, ⟨43, _⟩ => ⟨S_, .f32⟩
  | .hbm, ⟨44, _⟩ => ⟨S8x2048x8x1, .f32⟩
  | .hbm, ⟨45, _⟩ => ⟨S8x2048x8x1, .f32⟩
  | .hbm, ⟨46, _⟩ => ⟨S8x2048x8x1, .f32⟩
  | .hbm, ⟨47, _⟩ => ⟨S8x2048x8x128, .f32⟩
  | .hbm, ⟨48, _⟩ => ⟨S8x2048x8x128, .f32⟩
  | .hbm, ⟨49, _⟩ => ⟨S1x1x1x128, .f32⟩
  | .hbm, ⟨50, _⟩ => ⟨S8x2048x8x128, .f32⟩
  | .hbm, ⟨51, _⟩ => ⟨S8x2048x8x128, .f32⟩
  | .hbm, ⟨52, _⟩ => ⟨S8x2048x1024, .f32⟩
  | .hbm, ⟨53, _⟩ => ⟨S8x2048x1024, .f32⟩
  | .hbm, ⟨54, _⟩ => ⟨S8x2048x8, .f32⟩
  | .hbm, ⟨55, _⟩ => ⟨S1x1x8, .f32⟩
  | .hbm, ⟨56, _⟩ => ⟨S8x2048x8, .f32⟩
  | .hbm, ⟨57, _⟩ => ⟨S8x2048x8, .f32⟩
  | .hbm, ⟨58, _⟩ => ⟨S8x2048x8, .f32⟩
  | .hbm, ⟨59, _⟩ => ⟨S_, .f32⟩
  | .hbm, ⟨60, _⟩ => ⟨S8x2048x8, .f32⟩
  | .hbm, ⟨61, _⟩ => ⟨S8x2048x8, .f32⟩
  | .hbm, ⟨62, _⟩ => ⟨S8x2048x8, .f32⟩
  | .hbm, ⟨63, _⟩ => ⟨S8x2048x8, .f32⟩
  | .hbm, ⟨64, _⟩ => ⟨S8x2048x8, .i1⟩
  | .hbm, ⟨65, _⟩ => ⟨S8x2048x8, .f32⟩
  | .hbm, ⟨66, _⟩ => ⟨S8x2048x8, .f32⟩
  | .hbm, ⟨67, _⟩ => ⟨S8x2048x8, .f32⟩
  | .hbm, ⟨68, _⟩ => ⟨S8x2048x8, .f32⟩
  | .hbm, ⟨69, _⟩ => ⟨S8x2048x8, .f32⟩
  | .hbm, ⟨70, _⟩ => ⟨S8x2048x8, .f32⟩
  | .hbm, ⟨71, _⟩ => ⟨S8x2048x8, .f32⟩
  | .hbm, ⟨72, _⟩ => ⟨S8x2048x8, .f32⟩
  | .hbm, ⟨73, _⟩ => ⟨S8x2048x8, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v43 : Ref sig .tc := ⟨.hbm, 73, rfl⟩

abbrev nD : Nat := 1
abbrev τ : Topo := Topo.v7x

variable {F : FTy → Type} [FloatOps F]
-- ==== Kernel7.lean ====
abbrev S32x8x1024 : Shape := ⟨3, ![32, 8, 1024]⟩
abbrev S32x1024 : Shape := ⟨2, ![32, 1024]⟩
abbrev S1024 : Shape := ⟨1, ![1024]⟩
abbrev S1024x3080 : Shape := ⟨2, ![1024, 3080]⟩
abbrev S8 : Shape := ⟨1, ![8]⟩
abbrev S128 : Shape := ⟨1, ![128]⟩
abbrev S3080x1024 : Shape := ⟨2, ![3080, 1024]⟩
abbrev S_ : Shape := ⟨0, ![]⟩
abbrev S120x1024 : Shape := ⟨2, ![120, 1024]⟩
abbrev S3200x1024 : Shape := ⟨2, ![3200, 1024]⟩
abbrev S120 : Shape := ⟨1, ![120]⟩
abbrev S1x128 : Shape := ⟨2, ![1, 128]⟩
abbrev S1x1024 : Shape := ⟨2, ![1, 1024]⟩
abbrev S256x1024 : Shape := ⟨2, ![256, 1024]⟩
abbrev S1x256x1024 : Shape := ⟨3, ![1, 256, 1024]⟩
abbrev S1x256x8 : Shape := ⟨3, ![1, 256, 8]⟩
abbrev S1x256x128 : Shape := ⟨3, ![1, 256, 128]⟩
abbrev S256 : Shape := ⟨1, ![256]⟩
abbrev S256x1 : Shape := ⟨2, ![256, 1]⟩
abbrev S256x3200 : Shape := ⟨2, ![256, 3200]⟩
abbrev S256x128 : Shape := ⟨2, ![256, 128]⟩
abbrev S256x8 : Shape := ⟨2, ![256, 8]⟩
abbrev S128x128 : Shape := ⟨2, ![128, 128]⟩
abbrev S1x128x128 : Shape := ⟨3, ![1, 128, 128]⟩

abbrev nBuf : Space → Nat
  | .hbm => 34
  | .vmem => 16
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S128, .f32⟩
  | .hbm, ⟨7, _⟩ => ⟨S128, .f32⟩
  | .hbm, ⟨8, _⟩ => ⟨S3080x1024, .f32⟩
  | .hbm, ⟨9, _⟩ => ⟨S_, .f32⟩
  | .hbm, ⟨10, _⟩ => ⟨S120x1024, .f32⟩
  | .hbm, ⟨11, _⟩ => ⟨S3200x1024, .f32⟩
  | .hbm, ⟨12, _⟩ => ⟨S_, .f32⟩
  | .hbm, ⟨13, _⟩ => ⟨S120, .f32⟩
  | .hbm, ⟨14, _⟩ => ⟨S128, .f32⟩
  | .hbm, ⟨15, _⟩ => ⟨S1x128, .f32⟩
  | .hbm, ⟨16, _⟩ => ⟨S1x1024, .f32⟩
  | .hbm, ⟨17, _⟩ => ⟨S1x128, .f32⟩
  | .hbm, ⟨18, _⟩ => ⟨S1x128, .f32⟩
  | .hbm, ⟨19, _⟩ => ⟨S3200x1024, .bf16⟩
  | .hbm, ⟨20, _⟩ => ⟨S32x8x1024, .f32⟩
  | .hbm, ⟨21, _⟩ => ⟨S256x1024, .f32⟩
  | .hbm, ⟨22, _⟩ => ⟨S1x256x1024, .f32⟩
  | .hbm, ⟨23, _⟩ => ⟨S32x8x1024, .f32⟩
  | .hbm, ⟨24, _⟩ => ⟨S256x1024, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S1x256x8, .f32⟩
  | .hbm, ⟨30, _⟩ => ⟨S1x256x1024, .bf16⟩
  | .hbm, ⟨31, _⟩ => ⟨S1x256x1024, .bf16⟩
  | .hbm, ⟨32, _⟩ => ⟨S1x256x1024, .bf16⟩
  | .hbm, ⟨33, _⟩ => ⟨S1x256x128, .f32⟩
  | .local _ .vmem, ⟨0, _⟩ => ⟨S1x256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S3200x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x8, .f32⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x128, .f32⟩
  | .local _ .vmem, ⟨15, _⟩ => ⟨S1x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3200x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x256x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== Reference7Ideal.lean ====
abbrev S32x8x1024 : Shape := ⟨3, ![32, 8, 1024]⟩
abbrev S32x1024 : Shape := ⟨2, ![32, 1024]⟩
abbrev S1024 : Shape := ⟨1, ![1024]⟩
abbrev S1024x3080 : Shape := ⟨2, ![1024, 3080]⟩
abbrev S8 : Shape := ⟨1, ![8]⟩
abbrev S128 : Shape := ⟨1, ![128]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x3080 : Shape := ⟨3, ![32, 8, 3080]⟩
abbrev S32x8x8x128 : Shape := ⟨4, ![32, 8, 8, 128]⟩
abbrev S32x8x8 : Shape := ⟨3, ![32, 8, 8]⟩
abbrev S32x8x8x1 : Shape := ⟨4, ![32, 8, 8, 1]⟩
abbrev S1x1x1x128 : Shape := ⟨4, ![1, 1, 1, 128]⟩
abbrev S1x1x8 : Shape := ⟨3, ![1, 1, 8]⟩
abbrev S1x256x1024 : Shape := ⟨3, ![1, 256, 1024]⟩
abbrev S1x256x8 : Shape := ⟨3, ![1, 256, 8]⟩

abbrev nBuf : Space → Nat
  | .hbm => 77
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S128, .f32⟩
  | .hbm, ⟨7, _⟩ => ⟨S128, .f32⟩
  | .hbm, ⟨8, _⟩ => ⟨S32x8x1024, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x1024, .f32⟩
  | .hbm, ⟨20, _⟩ => ⟨S32x8x1024, .f32⟩
  | .hbm, ⟨21, _⟩ => ⟨S1x1x1024, .f32⟩
  | .hbm, ⟨22, _⟩ => ⟨S32x8x1024, .f32⟩
  | .hbm, ⟨23, _⟩ => ⟨S32x8x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x8x1024, .f32⟩
  | .hbm, ⟨29, _⟩ => ⟨S32x8x1024, .f32⟩
  | .hbm, ⟨30, _⟩ => ⟨S32x1x1024, .f32⟩
  | .hbm, ⟨31, _⟩ => ⟨S32x8x1024, .f32⟩
  | .hbm, ⟨32, _⟩ => ⟨S32x8x1024, .f32⟩
  | .hbm, ⟨33, _⟩ => ⟨S32x8x3080, .f32⟩
  | .hbm, ⟨34, _⟩ => ⟨S32x8x1024, .f32⟩
  | .hbm, ⟨35, _⟩ => ⟨S32x8x8x128, .f32⟩
  | .hbm, ⟨36, _⟩ => ⟨S32x8x8x128, .f32⟩
  | .hbm, ⟨37, _⟩ => ⟨S_, .f32⟩
  | .hbm, ⟨38, _⟩ => ⟨S32x8x8, .f32⟩
  | .hbm, ⟨39, _⟩ => ⟨S32x8x8x1, .f32⟩
  | .hbm, ⟨40, _⟩ => ⟨S_, .f32⟩
  | .hbm, ⟨41, _⟩ => ⟨S32x8x8x1, .f32⟩
  | .hbm, ⟨42, _⟩ => ⟨S32x8x8x1, .f32⟩
  | .hbm, ⟨43, _⟩ => ⟨S_, .f32⟩
  | .hbm, ⟨44, _⟩ => ⟨S32x8x8x1, .f32⟩
  | .hbm, ⟨45, _⟩ => ⟨S32x8x8x1, .f32⟩
  | .hbm, ⟨46, _⟩ => ⟨S32x8x8x1, .f32⟩
  | .hbm, ⟨47, _⟩ => ⟨S32x8x8x128, .f32⟩
  | .hbm, ⟨48, _⟩ => ⟨S32x8x8x128, .f32⟩
  | .hbm, ⟨49, _⟩ => ⟨S1x1x1x128, .f32⟩
  | .hbm, ⟨50, _⟩ => ⟨S32x8x8x128, .f32⟩
  | .hbm, ⟨51, _⟩ => ⟨S32x8x8x128, .f32⟩
  | .hbm, ⟨52, _⟩ => ⟨S32x8x1024, .f32⟩
  | .hbm, ⟨53, _⟩ => ⟨S32x8x1024, .f32⟩
  | .hbm, ⟨54, _⟩ => ⟨S32x8x8, .f32⟩
  | .hbm, ⟨55, _⟩ => ⟨S1x1x8, .f32⟩
  | .hbm, ⟨56, _⟩ => ⟨S32x8x8, .f32⟩
  | .hbm, ⟨57, _⟩ => ⟨S32x8x8, .f32⟩
  | .hbm, ⟨58, _⟩ => ⟨S32x8x8, .f32⟩
  | .hbm, ⟨59, _⟩ => ⟨S_, .f32⟩
  | .hbm, ⟨60, _⟩ => ⟨S32x8x8, .f32⟩
  | .hbm, ⟨61, _⟩ => ⟨S32x8x8, .f32⟩
  | .hbm, ⟨62, _⟩ => ⟨S32x8x8, .f32⟩
  | .hbm, ⟨63, _⟩ => ⟨S32x8x8, .f32⟩
  | .hbm, ⟨64, _⟩ => ⟨S32x8x8, .i1⟩
  | .hbm, ⟨65, _⟩ => ⟨S32x8x8, .f32⟩
  | .hbm, ⟨66, _⟩ => ⟨S32x8x8, .f32⟩
  | .hbm, ⟨67, _⟩ => ⟨S32x8x8, .f32⟩
  | .hbm, ⟨68, _⟩ => ⟨S32x8x8, .f32⟩
  | .hbm, ⟨69, _⟩ => ⟨S32x8x8, .f32⟩
  | .hbm, ⟨70, _⟩ => ⟨S32x8x8, .f32⟩
  | .hbm, ⟨71, _⟩ => ⟨S32x8x8, .f32⟩
  | .hbm, ⟨72, _⟩ => ⟨S32x8x8, .f32⟩
  | .hbm, ⟨73, _⟩ => ⟨S32x8x8, .f32⟩
  | .hbm, ⟨74, _⟩ => ⟨S1x256x1024, .f32⟩
  | .hbm, ⟨75, _⟩ => ⟨S1x256x1024, .f32⟩
  | .hbm, ⟨76, _⟩ => ⟨S1x256x8, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]
-- ==== Kernel8.lean ====
abbrev S8x2048x1024 : Shape := ⟨3, ![8, 2048, 1024]⟩
abbrev S8x1024 : Shape := ⟨2, ![8, 1024]⟩
abbrev S1024 : Shape := ⟨1, ![1024]⟩
abbrev S1024x1184 : Shape := ⟨2, ![1024, 1184]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S_ : Shape := ⟨0, ![]⟩
abbrev S1024x32 : Shape := ⟨2, ![1024, 32]⟩
abbrev S1024x640 : Shape := ⟨2, ![1024, 640]⟩
abbrev S1024x512 : Shape := ⟨2, ![1024, 512]⟩
abbrev S1024x64 : Shape := ⟨2, ![1024, 64]⟩
abbrev S1024x128 : Shape := ⟨2, ![1024, 128]⟩
abbrev S32x1 : Shape := ⟨2, ![32, 1]⟩
abbrev S1024x1408 : Shape := ⟨2, ![1024, 1408]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x2048 : Shape := ⟨2, ![384, 2048]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S128 : Shape := ⟨1, ![128]⟩
abbrev S1x128 : Shape := ⟨2, ![1, 128]⟩
abbrev S1x1024 : Shape := ⟨2, ![1, 1024]⟩
abbrev S1x384 : Shape := ⟨2, ![1, 384]⟩
abbrev S1x256 : Shape := ⟨2, ![1, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x64 : Shape := ⟨2, ![1, 64]⟩
abbrev S1x32 : Shape := ⟨2, ![1, 32]⟩
abbrev S2048x128 : Shape := ⟨2, ![2048, 128]⟩
abbrev S8x1x1024 : Shape := ⟨3, ![8, 1, 1024]⟩
abbrev S8x2048x256 : Shape := ⟨3, ![8, 2048, 256]⟩
abbrev S8x2048x32 : Shape := ⟨3, ![8, 2048, 32]⟩
abbrev S2048x4096 : Shape := ⟨2, ![2048, 4096]⟩
abbrev S8x2048x512 : Shape := ⟨3, ![8, 2048, 512]⟩
abbrev S1x512x1024 : Shape := ⟨3, ![1, 512, 1024]⟩
abbrev S1x1x1024 : Shape := ⟨3, ![1, 1, 1024]⟩
abbrev S512x128 : Shape := ⟨2, ![512, 128]⟩
abbrev S1x512x256 : Shape := ⟨3, ![1, 512, 256]⟩
abbrev S1x512x32 : Shape := ⟨3, ![1, 512, 32]⟩
abbrev S512x512 : Shape := ⟨2, ![512, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x1408 : Shape := ⟨2, ![512, 1408]⟩
abbrev S512x384 : Shape := ⟨2, ![512, 384]⟩
abbrev S512x256 : Shape := ⟨2, ![512, 256]⟩
abbrev S512x32 : Shape := ⟨2, ![512, 32]⟩
abbrev S512x2048 : Shape := ⟨2, ![512, 2048]⟩
abbrev S512x1536 : Shape := ⟨2, ![512, 1536]⟩
abbrev S1x512x128 : Shape := ⟨3, ![1, 512, 128]⟩

abbrev nBuf : Space → Nat
  | .hbm => 194
  | .vmem => 33
  | .smem => 0
  | _ => 0

abbrev hbmTy0_0 (i : Nat) : BufTy := match i % 128 with
  | 0 => ⟨S8x2048x1024, .f32⟩
  | 1 => ⟨S8x1024, .f32⟩
  | 2 => ⟨S8x1024, .f32⟩
  | 3 => ⟨S1024, .f32⟩
  | 4 => ⟨S1024x1184, .f32⟩
  | 5 => ⟨S384, .f32⟩
  | 6 => ⟨S256, .f32⟩
  | 7 => ⟨S384x768, .f32⟩
  | 8 => ⟨S256x1024, .f32⟩
  | 9 => ⟨S64, .f32⟩
  | 10 => ⟨S32, .f32⟩
  | 11 => ⟨S64, .f32⟩
  | 12 => ⟨S32, .f32⟩
  | 13 => ⟨S32, .i32⟩
  | 14 => ⟨S_, .i32⟩
  | 15 => ⟨S32, .i32⟩
  | 16 => ⟨S32, .i1⟩
  | 17 => ⟨S_, .i32⟩
  | 18 => ⟨S32, .i32⟩
  | 19 => ⟨S32, .i32⟩
  | 20 => ⟨S_, .i32⟩
  | 21 => ⟨S32, .i32⟩
  | 22 => ⟨S32, .i32⟩
  | 23 => ⟨S32, .i32⟩
  | 24 => ⟨S_, .i32⟩
  | 25 => ⟨S32, .i32⟩
  | 26 => ⟨S32, .i1⟩
  | 27 => ⟨S_, .f32⟩
  | 28 => ⟨S_, .f32⟩
  | 29 => ⟨S32, .f32⟩
  | 30 => ⟨S32, .f32⟩
  | 31 => ⟨S32, .f32⟩
  | 32 => ⟨S32, .f32⟩
  | 33 => ⟨S1024x32, .f32⟩
  | 34 => ⟨S1024x640, .f32⟩
  | 35 => ⟨S1024x512, .f32⟩
  | 36 => ⟨S_, .f32⟩
  | 37 => ⟨S1024x64, .f32⟩
  | 38 => ⟨S_, .f32⟩
  | 39 => ⟨S1024x32, .f32⟩
  | 40 => ⟨S1024x128, .f32⟩
  | 41 => ⟨S_, .i32⟩
  | 42 => ⟨S32, .i32⟩
  | 43 => ⟨S32, .i1⟩
  | 44 => ⟨S_, .i32⟩
  | 45 => ⟨S32, .i32⟩
  | 46 => ⟨S32, .i32⟩
  | 47 => ⟨S32, .i32⟩
  | 48 => ⟨S32x1, .i32⟩
  | 49 => ⟨S1024x32, .f32⟩
  | 50 => ⟨S_, .f32⟩
  | 51 => ⟨S1024x64, .f32⟩
  | 52 => ⟨S_, .f32⟩
  | 53 => ⟨S1024x32, .f32⟩
  | 54 => ⟨S1024x128, .f32⟩
  | 55 => ⟨S1024x1408, .f32⟩
  | 56 => ⟨S1024x1408, .bf16⟩
  | 57 => ⟨S384x8x96, .f32⟩
  | 58 => ⟨S_, .f32⟩
  | 59 => ⟨S384x8x32, .f32⟩
  | 60 => ⟨S384x8x128, .f32⟩
  | 61 => ⟨S384x1024, .f32⟩
  | 62 => ⟨S384x8x32, .f32⟩
  | 63 => ⟨S_, .i32⟩
  | 64 => ⟨S32, .i32⟩
  | 65 => ⟨S32, .i1⟩
  | 66 => ⟨S_, .i32⟩
  | 67 => ⟨S32, .i32⟩
  | 68 => ⟨S32, .i32⟩
  | 69 => ⟨S32, .i32⟩
  | 70 => ⟨S32x1, .i32⟩
  | 71 => ⟨S384x8x32, .f32⟩
  | 72 => ⟨S_, .f32⟩
  | 73 => ⟨S384x8x64, .f32⟩
  | 74 => ⟨S_, .f32⟩
  | 75 => ⟨S384x8x32, .f32⟩
  | 76 => ⟨S384x8x128, .f32⟩
  | 77 => ⟨S384x1024, .f32⟩
  | 78 => ⟨S384x2048, .f32⟩
  | 79 => ⟨S384x2048, .bf16⟩
  | 80 => ⟨S256x8x128, .f32⟩
  | 81 => ⟨S256x8x64, .f32⟩
  | 82 => ⟨S_, .f32⟩
  | 83 => ⟨S256x8x64, .f32⟩
  | 84 => ⟨S256x8x128, .f32⟩
  | 85 => ⟨S256x8x64, .f32⟩
  | 86 => ⟨S256x1024, .f32⟩
  | 87 => ⟨S256x512, .f32⟩
  | 88 => ⟨S256x1536, .f32⟩
  | 89 => ⟨S256x1536, .bf16⟩
  | 90 => ⟨S_, .f32⟩
  | 91 => ⟨S64, .f32⟩
  | 92 => ⟨S128, .f32⟩
  | 93 => ⟨S1x128, .f32⟩
  | 94 => ⟨S1x1024, .f32⟩
  | 95 => ⟨S1x384, .f32⟩
  | 96 => ⟨S1x256, .f32⟩
  | 97 => ⟨S2048, .i32⟩
  | 98 => ⟨S32, .i32⟩
  | 99 => ⟨S_, .i32⟩
  | 100 => ⟨S32, .i32⟩
  | 101 => ⟨S32, .i1⟩
  | 102 => ⟨S_, .i32⟩
  | 103 => ⟨S32, .i32⟩
  | 104 => ⟨S32, .i32⟩
  | 105 => ⟨S_, .i32⟩
  | 106 => ⟨S32, .i32⟩
  | 107 => ⟨S32, .i32⟩
  | 108 => ⟨S32, .i32⟩
  | 109 => ⟨S_, .i32⟩
  | 110 => ⟨S32, .i32⟩
  | 111 => ⟨S32, .i1⟩
  | 112 => ⟨S_, .f32⟩
  | 113 => ⟨S_, .f32⟩
  | 114 => ⟨S32, .f32⟩
  | 115 => ⟨S32, .f32⟩
  | 116 => ⟨S32, .f32⟩
  | 117 => ⟨S32, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S2048, .f32⟩
  | 127 => ⟨S2048x1, .f32⟩
  | _ => ⟨S8x2048x1024, .f32⟩

abbrev hbmTy0_1 (i : Nat) : BufTy := match i % 128 with
  | 0 => ⟨S1x16, .f32⟩
  | 1 => ⟨S2048x16, .f32⟩
  | 2 => ⟨S2048x16, .f32⟩
  | 3 => ⟨S2048x16, .f32⟩
  | 4 => ⟨S2048x16, .f32⟩
  | 5 => ⟨S2048x16, .f32⟩
  | 6 => ⟨S2048x32, .f32⟩
  | 7 => ⟨S2048x16, .f32⟩
  | 8 => ⟨S2048x16, .f32⟩
  | 9 => ⟨S2048x32, .f32⟩
  | 10 => ⟨S_, .f32⟩
  | 11 => ⟨S2048x64, .f32⟩
  | 12 => ⟨S_, .f32⟩
  | 13 => ⟨S2048x32, .f32⟩
  | 14 => ⟨S1x64, .f32⟩
  | 15 => ⟨S2048x64, .f32⟩
  | 16 => ⟨S1x32, .f32⟩
  | 17 => ⟨S2048x32, .f32⟩
  | 18 => ⟨S2048x32, .f32⟩
  | 19 => ⟨S2048x128, .f32⟩
  | 20 => ⟨S_, .f32⟩
  | 21 => ⟨S2048x128, .f32⟩
  | 22 => ⟨S2048x128, .f32⟩
  | 23 => ⟨S_, .i32⟩
  | 24 => ⟨S32, .i32⟩
  | 25 => ⟨S32, .i1⟩
  | 26 => ⟨S_, .i32⟩
  | 27 => ⟨S32, .i32⟩
  | 28 => ⟨S32, .i32⟩
  | 29 => ⟨S32, .i32⟩
  | 30 => ⟨S32x1, .i32⟩
  | 31 => ⟨S32, .f32⟩
  | 32 => ⟨S32, .f32⟩
  | 33 => ⟨S1x32, .f32⟩
  | 34 => ⟨S2048x32, .f32⟩
  | 35 => ⟨S2048x32, .f32⟩
  | 36 => ⟨S2048x128, .f32⟩
  | 37 => ⟨S_, .f32⟩
  | 38 => ⟨S2048x128, .f32⟩
  | 39 => ⟨S2048x128, .f32⟩
  | 40 => ⟨S1x32, .f32⟩
  | 41 => ⟨S2048x32, .f32⟩
  | 42 => ⟨S2048x32, .f32⟩
  | 43 => ⟨S2048x128, .f32⟩
  | 44 => ⟨S_, .i32⟩
  | 45 => ⟨S32, .i32⟩
  | 46 => ⟨S32, .i1⟩
  | 47 => ⟨S_, .i32⟩
  | 48 => ⟨S32, .i32⟩
  | 49 => ⟨S32, .i32⟩
  | 50 => ⟨S32, .i32⟩
  | 51 => ⟨S32x1, .i32⟩
  | 52 => ⟨S32, .f32⟩
  | 53 => ⟨S32, .f32⟩
  | 54 => ⟨S1x32, .f32⟩
  | 55 => ⟨S2048x32, .f32⟩
  | 56 => ⟨S2048x32, .f32⟩
  | 57 => ⟨S2048x128, .f32⟩
  | 58 => ⟨S8x1x1024, .f32⟩
  | 59 => ⟨S8x1x1024, .f32⟩
  | 60 => ⟨S8x2048x256, .f32⟩
  | 61 => ⟨S8x2048x32, .f32⟩
  | 62 => ⟨S2048x4096, .f32⟩
  | 63 => ⟨S8x2048x1024, .bf16⟩
  | 64 => ⟨S8x2048x1024, .bf16⟩
  | 65 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x384, .f32⟩
  | .local _ .vmem, ⟨16, _⟩ => ⟨S1x256, .f32⟩
  | .local _ .vmem, ⟨17, _⟩ => ⟨S1x128, .f32⟩
  | .local _ .vmem, ⟨18, _⟩ => ⟨S1024x1408, .bf16⟩
  | .local _ .vmem, ⟨19, _⟩ => ⟨S384x2048, .bf16⟩
  | .local _ .vmem, ⟨20, _⟩ => ⟨S256x1536, .bf16⟩
  | .local _ .vmem, ⟨21, _⟩ => ⟨S1x512x256, .f32⟩
  | .local _ .vmem, ⟨22, _⟩ => ⟨S1x512x256, .f32⟩
  | .local _ .vmem, ⟨23, _⟩ => ⟨S1x512x32, .f32⟩
  | .local _ .vmem, ⟨24, _⟩ => ⟨S1x512x32, .f32⟩
  | .local _ .vmem, ⟨25, _⟩ => ⟨S512x512, .f32⟩
  | .local _ .vmem, ⟨26, _⟩ => ⟨S512x512, .f32⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x512, .bf16⟩
  | .local _ .vmem, ⟨32, _⟩ => ⟨S1x512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_11 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_13 : Ref sig .tc := ⟨.hbm, 72, rfl⟩
abbrev main_v42 : Ref sig .tc := ⟨.hbm, 73, rfl⟩
abbrev main_cst_14 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_17 : Ref sig .tc := ⟨.hbm, 99, rfl⟩
abbrev main_v65 : Ref sig .tc := ⟨.hbm, 100, rfl⟩
abbrev main_v66 : Ref sig .tc := ⟨.hbm, 101, rfl⟩
abbrev main_c_18 : Ref sig .tc := ⟨.hbm, 102, rfl⟩
abbrev main_v67 : Ref sig .tc := ⟨.hbm, 103, rfl⟩
abbrev main_v68 : Ref sig .tc := ⟨.hbm, 104, rfl⟩
abbrev main_c_19 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_20 : Ref sig .tc := ⟨.hbm, 109, rfl⟩
abbrev main_v72 : Ref sig .tc := ⟨.hbm, 110, rfl⟩
abbrev main_v73 : Ref sig .tc := ⟨.hbm, 111, rfl⟩
abbrev main_cst_21 : Ref sig .tc := ⟨.hbm, 112, rfl⟩
abbrev main_cst_22 : Ref sig .tc := ⟨.hbm, 113, rfl⟩
abbrev main_call3_v0 : Ref sig .tc := ⟨.hbm, 114, rfl⟩
abbrev main_call3_v1 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_23 : Ref sig .tc := ⟨.hbm, 120, rfl⟩
abbrev main_v78 : Ref sig .tc := ⟨.hbm, 121, rfl⟩
abbrev main_v79 : Ref sig .tc := ⟨.hbm, 122, rfl⟩
abbrev main_cst_24 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_25 : Ref sig .tc := ⟨.hbm, 138, rfl⟩
abbrev main_v94 : Ref sig .tc := ⟨.hbm, 139, rfl⟩
abbrev main_cst_26 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_27 : Ref sig .tc := ⟨.hbm, 148, rfl⟩
abbrev main_v102 : Ref sig .tc := ⟨.hbm, 149, rfl⟩
abbrev main_v103 : Ref sig .tc := ⟨.hbm, 150, rfl⟩
abbrev main_c_28 : Ref sig .tc := ⟨.hbm, 151, rfl⟩
abbrev main_v104 : Ref sig .tc := ⟨.hbm, 152, rfl⟩
abbrev main_v105 : Ref sig .tc := ⟨.hbm, 153, rfl⟩
abbrev main_c_29 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_30 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_31 : Ref sig .tc := ⟨.hbm, 172, rfl⟩
abbrev main_v122 : Ref sig .tc := ⟨.hbm, 173, rfl⟩
abbrev main_v123 : Ref sig .tc := ⟨.hbm, 174, rfl⟩
abbrev main_c_32 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136_0 : Ref sig .tc := ⟨.hbm, 188, rfl⟩
abbrev main_v136_1 : Ref sig .tc := ⟨.hbm, 189, rfl⟩
abbrev main_v136_2 : Ref sig .tc := ⟨.hbm, 190, rfl⟩
abbrev main_v136_3 : Ref sig .tc := ⟨.hbm, 191, rfl⟩
abbrev main_v136_4 : Ref sig .tc := ⟨.hbm, 192, rfl⟩
abbrev main_v136_5 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1408 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference8Ideal.lean ====
abbrev S8x2048x1024 : Shape := ⟨3, ![8, 2048, 1024]⟩
abbrev S8x1024 : Shape := ⟨2, ![8, 1024]⟩
abbrev S1024 : Shape := ⟨1, ![1024]⟩
abbrev S1024x1184 : Shape := ⟨2, ![1024, 1184]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x1184 : Shape := ⟨3, ![8, 2048, 1184]⟩
abbrev S8x2048x256 : Shape := ⟨3, ![8, 2048, 256]⟩
abbrev S1x1x256 : Shape := ⟨3, ![1, 1, 256]⟩
abbrev S8x2048x32 : Shape := ⟨3, ![8, 2048, 32]⟩
abbrev S1x1x32 : Shape := ⟨3, ![1, 1, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x16 : Shape := ⟨3, ![1, 2048, 16]⟩
abbrev S8x2048x16 : Shape := ⟨3, ![8, 2048, 16]⟩
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x1184, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S64, .f32⟩
  | .hbm, ⟨10, _⟩ => ⟨S32, .f32⟩
  | .hbm, ⟨11, _⟩ => ⟨S64, .f32⟩
  | .hbm, ⟨12, _⟩ => ⟨S32, .f32⟩
  | .hbm, ⟨13, _⟩ => ⟨S2048, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1184, .f32⟩
  | .hbm, ⟨40, _⟩ => ⟨S8x2048x256, .f32⟩
  | .hbm, ⟨41, _⟩ => ⟨S8x2048x256, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x256, .f32⟩
  | .hbm, ⟨53, _⟩ => ⟨S8x2048x256, .f32⟩
  | .hbm, ⟨54, _⟩ => ⟨S1x1x256, .f32⟩
  | .hbm, ⟨55, _⟩ => ⟨S8x2048x256, .f32⟩
  | .hbm, ⟨56, _⟩ => ⟨S8x2048x256, .f32⟩
  | .hbm, ⟨57, _⟩ => ⟨S8x2048x32, .f32⟩
  | .hbm, ⟨58, _⟩ => ⟨S8x2048x32, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x32, .f32⟩
  | .hbm, ⟨70, _⟩ => ⟨S8x2048x32, .f32⟩
  | .hbm, ⟨71, _⟩ => ⟨S1x1x32, .f32⟩
  | .hbm, ⟨72, _⟩ => ⟨S8x2048x32, .f32⟩
  | .hbm, ⟨73, _⟩ => ⟨S8x2048x32, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S2048x1, .f32⟩
  | .hbm, ⟨83, _⟩ => ⟨S1x16, .f32⟩
  | .hbm, ⟨84, _⟩ => ⟨S2048x16, .f32⟩
  | .hbm, ⟨85, _⟩ => ⟨S2048x16, .f32⟩
  | .hbm, ⟨86, _⟩ => ⟨S2048x16, .f32⟩
  | .hbm, ⟨87, _⟩ => ⟨S2048x16, .f32⟩
  | .hbm, ⟨88, _⟩ => ⟨S1x2048x16, .f32⟩
  | .hbm, ⟨89, _⟩ => ⟨S2048x16, .f32⟩
  | .hbm, ⟨90, _⟩ => ⟨S1x2048x16, .f32⟩
  | .hbm, ⟨91, _⟩ => ⟨S8x2048x16, .f32⟩
  | .hbm, ⟨92, _⟩ => ⟨S8x2048x16, .f32⟩
  | .hbm, ⟨93, _⟩ => ⟨S8x2048x16, .f32⟩
  | .hbm, ⟨94, _⟩ => ⟨S8x2048x16, .f32⟩
  | .hbm, ⟨95, _⟩ => ⟨S8x2048x16, .f32⟩
  | .hbm, ⟨96, _⟩ => ⟨S8x2048x16, .f32⟩
  | .hbm, ⟨97, _⟩ => ⟨S8x2048x16, .f32⟩
  | .hbm, ⟨98, _⟩ => ⟨S8x2048x16, .f32⟩
  | .hbm, ⟨99, _⟩ => ⟨S8x2048x16, .f32⟩
  | .hbm, ⟨100, _⟩ => ⟨S8x2048x16, .f32⟩
  | .hbm, ⟨101, _⟩ => ⟨S8x2048x16, .f32⟩
  | .hbm, ⟨102, _⟩ => ⟨S8x2048x16, .f32⟩
  | .hbm, ⟨103, _⟩ => ⟨S8x2048x32, .f32⟩
  | .hbm, ⟨104, _⟩ => ⟨S8x2048x512, .f32⟩
  | .hbm, ⟨105, _⟩ => ⟨S2048x8x512, .f32⟩
  | .hbm, ⟨106, _⟩ => ⟨S2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel9.lean ====
abbrev S32x8x1024 : Shape := ⟨3, ![32, 8, 1024]⟩
abbrev S32x1024 : Shape := ⟨2, ![32, 1024]⟩
abbrev S1024 : Shape := ⟨1, ![1024]⟩
abbrev S1024x1184 : Shape := ⟨2, ![1024, 1184]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S_ : Shape := ⟨0, ![]⟩
abbrev S1024x32 : Shape := ⟨2, ![1024, 32]⟩
abbrev S1024x640 : Shape := ⟨2, ![1024, 640]⟩
abbrev S1024x512 : Shape := ⟨2, ![1024, 512]⟩
abbrev S1024x64 : Shape := ⟨2, ![1024, 64]⟩
abbrev S1024x128 : Shape := ⟨2, ![1024, 128]⟩
abbrev S32x1 : Shape := ⟨2, ![32, 1]⟩
abbrev S1024x1408 : Shape := ⟨2, ![1024, 1408]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x2048 : Shape := ⟨2, ![384, 2048]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S128 : Shape := ⟨1, ![128]⟩
abbrev S1x128 : Shape := ⟨2, ![1, 128]⟩
abbrev S1x1024 : Shape := ⟨2, ![1, 1024]⟩
abbrev S1x384 : Shape := ⟨2, ![1, 384]⟩
abbrev S1x256 : Shape := ⟨2, ![1, 256]⟩
abbrev S8 : Shape := ⟨1, ![8]⟩
abbrev S1x8 : Shape := ⟨2, ![1, 8]⟩
abbrev S32x8 : Shape := ⟨2, ![32, 8]⟩
abbrev S16 : Shape := ⟨1, ![16]⟩
abbrev S256x1 : Shape := ⟨2, ![256, 1]⟩
abbrev S1x16 : Shape := ⟨2, ![1, 16]⟩
abbrev S256x16 : Shape := ⟨2, ![256, 16]⟩
abbrev S256x32 : Shape := ⟨2, ![256, 32]⟩
abbrev S256x64 : Shape := ⟨2, ![256, 64]⟩
abbrev S1x64 : Shape := ⟨2, ![1, 64]⟩
abbrev S1x32 : Shape := ⟨2, ![1, 32]⟩
abbrev S256x128 : Shape := ⟨2, ![256, 128]⟩
abbrev S1x256x1024 : Shape := ⟨3, ![1, 256, 1024]⟩
abbrev S1x256x256 : Shape := ⟨3, ![1, 256, 256]⟩
abbrev S1x256x32 : Shape := ⟨3, ![1, 256, 32]⟩
abbrev S1x256x512 : Shape := ⟨3, ![1, 256, 512]⟩
abbrev S256x1408 : Shape := ⟨2, ![256, 1408]⟩
abbrev S256x384 : Shape := ⟨2, ![256, 384]⟩
abbrev S256x256 : Shape := ⟨2, ![256, 256]⟩
abbrev S256x2048 : Shape := ⟨2, ![256, 2048]⟩
abbrev S1x256x128 : Shape := ⟨3, ![1, 256, 128]⟩

abbrev nBuf : Space → Nat
  | .hbm => 205
  | .vmem => 20
  | .smem => 0
  | _ => 0

abbrev hbmTy0_0 (i : Nat) : BufTy := match i % 128 with
  | 0 => ⟨S32x8x1024, .f32⟩
  | 1 => ⟨S32x1024, .f32⟩
  | 2 => ⟨S32x1024, .f32⟩
  | 3 => ⟨S1024, .f32⟩
  | 4 => ⟨S1024x1184, .f32⟩
  | 5 => ⟨S384, .f32⟩
  | 6 => ⟨S256, .f32⟩
  | 7 => ⟨S384x768, .f32⟩
  | 8 => ⟨S256x1024, .f32⟩
  | 9 => ⟨S64, .f32⟩
  | 10 => ⟨S32, .f32⟩
  | 11 => ⟨S64, .f32⟩
  | 12 => ⟨S32, .f32⟩
  | 13 => ⟨S32, .i32⟩
  | 14 => ⟨S_, .i32⟩
  | 15 => ⟨S32, .i32⟩
  | 16 => ⟨S32, .i1⟩
  | 17 => ⟨S_, .i32⟩
  | 18 => ⟨S32, .i32⟩
  | 19 => ⟨S32, .i32⟩
  | 20 => ⟨S_, .i32⟩
  | 21 => ⟨S32, .i32⟩
  | 22 => ⟨S32, .i32⟩
  | 23 => ⟨S32, .i32⟩
  | 24 => ⟨S_, .i32⟩
  | 25 => ⟨S32, .i32⟩
  | 26 => ⟨S32, .i1⟩
  | 27 => ⟨S_, .f32⟩
  | 28 => ⟨S_, .f32⟩
  | 29 => ⟨S32, .f32⟩
  | 30 => ⟨S32, .f32⟩
  | 31 => ⟨S32, .f32⟩
  | 32 => ⟨S32, .f32⟩
  | 33 => ⟨S1024x32, .f32⟩
  | 34 => ⟨S1024x640, .f32⟩
  | 35 => ⟨S1024x512, .f32⟩
  | 36 => ⟨S_, .f32⟩
  | 37 => ⟨S1024x64, .f32⟩
  | 38 => ⟨S_, .f32⟩
  | 39 => ⟨S1024x32, .f32⟩
  | 40 => ⟨S1024x128, .f32⟩
  | 41 => ⟨S_, .i32⟩
  | 42 => ⟨S32, .i32⟩
  | 43 => ⟨S32, .i1⟩
  | 44 => ⟨S_, .i32⟩
  | 45 => ⟨S32, .i32⟩
  | 46 => ⟨S32, .i32⟩
  | 47 => ⟨S32, .i32⟩
  | 48 => ⟨S32x1, .i32⟩
  | 49 => ⟨S1024x32, .f32⟩
  | 50 => ⟨S_, .f32⟩
  | 51 => ⟨S1024x64, .f32⟩
  | 52 => ⟨S_, .f32⟩
  | 53 => ⟨S1024x32, .f32⟩
  | 54 => ⟨S1024x128, .f32⟩
  | 55 => ⟨S1024x1408, .f32⟩
  | 56 => ⟨S1024x1408, .bf16⟩
  | 57 => ⟨S384x8x96, .f32⟩
  | 58 => ⟨S_, .f32⟩
  | 59 => ⟨S384x8x32, .f32⟩
  | 60 => ⟨S384x8x128, .f32⟩
  | 61 => ⟨S384x1024, .f32⟩
  | 62 => ⟨S384x8x32, .f32⟩
  | 63 => ⟨S_, .i32⟩
  | 64 => ⟨S32, .i32⟩
  | 65 => ⟨S32, .i1⟩
  | 66 => ⟨S_, .i32⟩
  | 67 => ⟨S32, .i32⟩
  | 68 => ⟨S32, .i32⟩
  | 69 => ⟨S32, .i32⟩
  | 70 => ⟨S32x1, .i32⟩
  | 71 => ⟨S384x8x32, .f32⟩
  | 72 => ⟨S_, .f32⟩
  | 73 => ⟨S384x8x64, .f32⟩
  | 74 => ⟨S_, .f32⟩
  | 75 => ⟨S384x8x32, .f32⟩
  | 76 => ⟨S384x8x128, .f32⟩
  | 77 => ⟨S384x1024, .f32⟩
  | 78 => ⟨S384x2048, .f32⟩
  | 79 => ⟨S384x2048, .bf16⟩
  | 80 => ⟨S256x8x128, .f32⟩
  | 81 => ⟨S256x8x64, .f32⟩
  | 82 => ⟨S_, .f32⟩
  | 83 => ⟨S256x8x64, .f32⟩
  | 84 => ⟨S256x8x128, .f32⟩
  | 85 => ⟨S256x8x64, .f32⟩
  | 86 => ⟨S256x1024, .f32⟩
  | 87 => ⟨S256x512, .f32⟩
  | 88 => ⟨S256x1536, .f32⟩
  | 89 => ⟨S256x1536, .bf16⟩
  | 90 => ⟨S_, .f32⟩
  | 91 => ⟨S64, .f32⟩
  | 92 => ⟨S128, .f32⟩
  | 93 => ⟨S1x128, .f32⟩
  | 94 => ⟨S1x1024, .f32⟩
  | 95 => ⟨S1x384, .f32⟩
  | 96 => ⟨S1x256, .f32⟩
  | 97 => ⟨S8, .i32⟩
  | 98 => ⟨S1x8, .i32⟩
  | 99 => ⟨S32x8, .i32⟩
  | 100 => ⟨S256, .i32⟩
  | 101 => ⟨S_, .i32⟩
  | 102 => ⟨S256, .i32⟩
  | 103 => ⟨S256, .i32⟩
  | 104 => ⟨S32, .i32⟩
  | 105 => ⟨S_, .i32⟩
  | 106 => ⟨S32, .i32⟩
  | 107 => ⟨S32, .i1⟩
  | 108 => ⟨S_, .i32⟩
  | 109 => ⟨S32, .i32⟩
  | 110 => ⟨S32, .i32⟩
  | 111 => ⟨S_, .i32⟩
  | 112 => ⟨S32, .i32⟩
  | 113 => ⟨S32, .i32⟩
  | 114 => ⟨S32, .i32⟩
  | 115 => ⟨S_, .i32⟩
  | 116 => ⟨S32, .i32⟩
  | 117 => ⟨S32, .i1⟩
  | 118 => ⟨S_, .f32⟩
  | 119 => ⟨S_, .f32⟩
  | 120 => ⟨S32, .f32⟩
  | 121 => ⟨S32, .f32⟩
  | 122 => ⟨S32, .f32⟩
  | 123 => ⟨S32, .f32⟩
  | 124 => ⟨S16, .f32⟩
  | 125 => ⟨S16, .f32⟩
  | 126 => ⟨S_, .f32⟩
  | 127 => ⟨S16, .f32⟩
  | _ => ⟨S32x8x1024, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S256, .f32⟩
  | 5 => ⟨S256x1, .f32⟩
  | 6 => ⟨S1x16, .f32⟩
  | 7 => ⟨S256x16, .f32⟩
  | 8 => ⟨S256x16, .f32⟩
  | 9 => ⟨S256x16, .f32⟩
  | 10 => ⟨S256x16, .f32⟩
  | 11 => ⟨S256x16, .f32⟩
  | 12 => ⟨S256x32, .f32⟩
  | 13 => ⟨S256x16, .f32⟩
  | 14 => ⟨S256x16, .f32⟩
  | 15 => ⟨S256x32, .f32⟩
  | 16 => ⟨S_, .f32⟩
  | 17 => ⟨S256x64, .f32⟩
  | 18 => ⟨S_, .f32⟩
  | 19 => ⟨S256x32, .f32⟩
  | 20 => ⟨S1x64, .f32⟩
  | 21 => ⟨S256x64, .f32⟩
  | 22 => ⟨S1x32, .f32⟩
  | 23 => ⟨S256x32, .f32⟩
  | 24 => ⟨S256x32, .f32⟩
  | 25 => ⟨S256x128, .f32⟩
  | 26 => ⟨S_, .f32⟩
  | 27 => ⟨S256x128, .f32⟩
  | 28 => ⟨S256x128, .f32⟩
  | 29 => ⟨S_, .i32⟩
  | 30 => ⟨S32, .i32⟩
  | 31 => ⟨S32, .i1⟩
  | 32 => ⟨S_, .i32⟩
  | 33 => ⟨S32, .i32⟩
  | 34 => ⟨S32, .i32⟩
  | 35 => ⟨S32, .i32⟩
  | 36 => ⟨S32x1, .i32⟩
  | 37 => ⟨S32, .f32⟩
  | 38 => ⟨S32, .f32⟩
  | 39 => ⟨S1x32, .f32⟩
  | 40 => ⟨S256x32, .f32⟩
  | 41 => ⟨S256x32, .f32⟩
  | 42 => ⟨S256x128, .f32⟩
  | 43 => ⟨S_, .f32⟩
  | 44 => ⟨S256x128, .f32⟩
  | 45 => ⟨S256x128, .f32⟩
  | 46 => ⟨S1x32, .f32⟩
  | 47 => ⟨S256x32, .f32⟩
  | 48 => ⟨S256x32, .f32⟩
  | 49 => ⟨S256x128, .f32⟩
  | 50 => ⟨S_, .i32⟩
  | 51 => ⟨S32, .i32⟩
  | 52 => ⟨S32, .i1⟩
  | 53 => ⟨S_, .i32⟩
  | 54 => ⟨S32, .i32⟩
  | 55 => ⟨S32, .i32⟩
  | 56 => ⟨S32, .i32⟩
  | 57 => ⟨S32x1, .i32⟩
  | 58 => ⟨S32, .f32⟩
  | 59 => ⟨S32, .f32⟩
  | 60 => ⟨S1x32, .f32⟩
  | 61 => ⟨S256x32, .f32⟩
  | 62 => ⟨S256x32, .f32⟩
  | 63 => ⟨S256x128, .f32⟩
  | 64 => ⟨S32x8x1024, .f32⟩
  | 65 => ⟨S256x1024, .f32⟩
  | 66 => ⟨S1x256x1024, .f32⟩
  | 67 => ⟨S32x8x1024, .f32⟩
  | 68 => ⟨S256x1024, .f32⟩
  | 69 => ⟨S1x256x1024, .f32⟩
  | 70 => ⟨S1x256x1024, .f32⟩
  | 71 => ⟨S1x256x256, .f32⟩
  | 72 => ⟨S1x256x32, .f32⟩
  | 73 => ⟨S256x512, .f32⟩
  | 74 => ⟨S1x256x1024, .bf16⟩
  | 75 => ⟨S1x256x1024, .bf16⟩
  | 76 => ⟨S1x256x512, .bf16⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x384, .f32⟩
  | .local _ .vmem, ⟨9, _⟩ => ⟨S1x256, .f32⟩
  | .local _ .vmem, ⟨10, _⟩ => ⟨S1x128, .f32⟩
  | .local _ .vmem, ⟨11, _⟩ => ⟨S1024x1408, .bf16⟩
  | .local _ .vmem, ⟨12, _⟩ => ⟨S384x2048, .bf16⟩
  | .local _ .vmem, ⟨13, _⟩ => ⟨S256x1536, .bf16⟩
  | .local _ .vmem, ⟨14, _⟩ => ⟨S1x256x256, .f32⟩
  | .local _ .vmem, ⟨15, _⟩ => ⟨S1x256x32, .f32⟩
  | .local _ .vmem, ⟨16, _⟩ => ⟨S256x512, .f32⟩
  | .local _ .vmem, ⟨17, _⟩ => ⟨S1x256x1024, .bf16⟩
  | .local _ .vmem, ⟨18, _⟩ => ⟨S1x256x1024, .bf16⟩
  | .local _ .vmem, ⟨19, _⟩ => ⟨S1x256x512, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_11 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_13 : Ref sig .tc := ⟨.hbm, 72, rfl⟩
abbrev main_v42 : Ref sig .tc := ⟨.hbm, 73, rfl⟩
abbrev main_cst_14 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_17 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_18 : Ref sig .tc := ⟨.hbm, 105, rfl⟩
abbrev main_v70 : Ref sig .tc := ⟨.hbm, 106, rfl⟩
abbrev main_v71 : Ref sig .tc := ⟨.hbm, 107, rfl⟩
abbrev main_c_19 : Ref sig .tc := ⟨.hbm, 108, rfl⟩
abbrev main_v72 : Ref sig .tc := ⟨.hbm, 109, rfl⟩
abbrev main_v73 : Ref sig .tc := ⟨.hbm, 110, rfl⟩
abbrev main_c_20 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_21 : Ref sig .tc := ⟨.hbm, 115, rfl⟩
abbrev main_v77 : Ref sig .tc := ⟨.hbm, 116, rfl⟩
abbrev main_v78 : Ref sig .tc := ⟨.hbm, 117, rfl⟩
abbrev main_cst_22 : Ref sig .tc := ⟨.hbm, 118, rfl⟩
abbrev main_cst_23 : Ref sig .tc := ⟨.hbm, 119, rfl⟩
abbrev main_call3_v0 : Ref sig .tc := ⟨.hbm, 120, rfl⟩
abbrev main_call3_v1 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_24 : Ref sig .tc := ⟨.hbm, 126, rfl⟩
abbrev main_v83 : Ref sig .tc := ⟨.hbm, 127, rfl⟩
abbrev main_v84 : Ref sig .tc := ⟨.hbm, 128, rfl⟩
abbrev main_cst_25 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_26 : Ref sig .tc := ⟨.hbm, 144, rfl⟩
abbrev main_v99 : Ref sig .tc := ⟨.hbm, 145, rfl⟩
abbrev main_cst_27 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_28 : Ref sig .tc := ⟨.hbm, 154, rfl⟩
abbrev main_v107 : Ref sig .tc := ⟨.hbm, 155, rfl⟩
abbrev main_v108 : Ref sig .tc := ⟨.hbm, 156, rfl⟩
abbrev main_c_29 : Ref sig .tc := ⟨.hbm, 157, rfl⟩
abbrev main_v109 : Ref sig .tc := ⟨.hbm, 158, rfl⟩
abbrev main_v110 : Ref sig .tc := ⟨.hbm, 159, rfl⟩
abbrev main_c_30 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_31 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_32 : Ref sig .tc := ⟨.hbm, 178, rfl⟩
abbrev main_v127 : Ref sig .tc := ⟨.hbm, 179, rfl⟩
abbrev main_v128 : Ref sig .tc := ⟨.hbm, 180, rfl⟩
abbrev main_c_33 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146_0 : Ref sig .tc := ⟨.hbm, 199, rfl⟩
abbrev main_v146_1 : Ref sig .tc := ⟨.hbm, 200, rfl⟩
abbrev main_v146_2 : Ref sig .tc := ⟨.hbm, 201, rfl⟩
abbrev main_v146_3 : Ref sig .tc := ⟨.hbm, 202, rfl⟩
abbrev main_v146_4 : Ref sig .tc := ⟨.hbm, 203, rfl⟩
abbrev main_v146_5 : Ref sig .tc := ⟨.hbm, 204, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1408 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x256x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x256x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]
-- ==== Reference9Ideal.lean ====
abbrev S32x8x1024 : Shape := ⟨3, ![32, 8, 1024]⟩
abbrev S32x1024 : Shape := ⟨2, ![32, 1024]⟩
abbrev S1024 : Shape := ⟨1, ![1024]⟩
abbrev S1024x1184 : Shape := ⟨2, ![1024, 1184]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S64 : Shape := ⟨1, ![64]⟩
abbrev S32 : Shape := ⟨1, ![32]⟩
abbrev S8 : Shape := ⟨1, ![8]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S32x8x1184 : Shape := ⟨3, ![32, 8, 1184]⟩
abbrev S32x8x256 : Shape := ⟨3, ![32, 8, 256]⟩
abbrev S1x1x256 : Shape := ⟨3, ![1, 1, 256]⟩
abbrev S32x8x32 : Shape := ⟨3, ![32, 8, 32]⟩
abbrev S1x1x32 : Shape := ⟨3, ![1, 1, 32]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x8x16 : Shape := ⟨3, ![1, 8, 16]⟩
abbrev S32x8x16 : Shape := ⟨3, ![32, 8, 16]⟩
abbrev S32x8x512 : Shape := ⟨3, ![32, 8, 512]⟩
abbrev S1x256x256 : Shape := ⟨3, ![1, 256, 256]⟩
abbrev S1x256x32 : Shape := ⟨3, ![1, 256, 32]⟩
abbrev S256x512 : Shape := ⟨2, ![256, 512]⟩

abbrev nBuf : Space → Nat
  | .hbm => 111
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x1184, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S64, .f32⟩
  | .hbm, ⟨10, _⟩ => ⟨S32, .f32⟩
  | .hbm, ⟨11, _⟩ => ⟨S64, .f32⟩
  | .hbm, ⟨12, _⟩ => ⟨S32, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S32x8x1024, .f32⟩
  | .hbm, ⟨18, _⟩ => ⟨S_, .f32⟩
  | .hbm, ⟨19, _⟩ => ⟨S32x8, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S_, .f32⟩
  | .hbm, ⟨25, _⟩ => ⟨S32x8x1, .f32⟩
  | .hbm, ⟨26, _⟩ => ⟨S32x8x1, .f32⟩
  | .hbm, ⟨27, _⟩ => ⟨S32x8x1, .f32⟩
  | .hbm, ⟨28, _⟩ => ⟨S32x8x1024, .f32⟩
  | .hbm, ⟨29, _⟩ => ⟨S32x8x1024, .f32⟩
  | .hbm, ⟨30, _⟩ => ⟨S1x1x1024, .f32⟩
  | .hbm, ⟨31, _⟩ => ⟨S32x8x1024, .f32⟩
  | .hbm, ⟨32, _⟩ => ⟨S32x8x1024, .f32⟩
  | .hbm, ⟨33, _⟩ => ⟨S32x1x1024, .f32⟩
  | .hbm, ⟨34, _⟩ => ⟨S_, .f32⟩
  | .hbm, ⟨35, _⟩ => ⟨S32x1x1024, .f32⟩
  | .hbm, ⟨36, _⟩ => ⟨S32x1x1024, .f32⟩
  | .hbm, ⟨37, _⟩ => ⟨S32x8x1024, .f32⟩
  | .hbm, ⟨38, _⟩ => ⟨S32x8x1024, .f32⟩
  | .hbm, ⟨39, _⟩ => ⟨S32x1x1024, .f32⟩
  | .hbm, ⟨40, _⟩ => ⟨S32x8x1024, .f32⟩
  | .hbm, ⟨41, _⟩ => ⟨S32x8x1024, .f32⟩
  | .hbm, ⟨42, _⟩ => ⟨S32x8x1184, .f32⟩
  | .hbm, ⟨43, _⟩ => ⟨S32x8x256, .f32⟩
  | .hbm, ⟨44, _⟩ => ⟨S32x8x256, .f32⟩
  | .hbm, ⟨45, _⟩ => ⟨S_, .f32⟩
  | .hbm, ⟨46, _⟩ => ⟨S32x8, .f32⟩
  | .hbm, ⟨47, _⟩ => ⟨S32x8x1, .f32⟩
  | .hbm, ⟨48, _⟩ => ⟨S_, .f32⟩
  | .hbm, ⟨49, _⟩ => ⟨S32x8x1, .f32⟩
  | .hbm, ⟨50, _⟩ => ⟨S32x8x1, .f32⟩
  | .hbm, ⟨51, _⟩ => ⟨S_, .f32⟩
  | .hbm, ⟨52, _⟩ => ⟨S32x8x1, .f32⟩
  | .hbm, ⟨53, _⟩ => ⟨S32x8x1, .f32⟩
  | .hbm, ⟨54, _⟩ => ⟨S32x8x1, .f32⟩
  | .hbm, ⟨55, _⟩ => ⟨S32x8x256, .f32⟩
  | .hbm, ⟨56, _⟩ => ⟨S32x8x256, .f32⟩
  | .hbm, ⟨57, _⟩ => ⟨S1x1x256, .f32⟩
  | .hbm, ⟨58, _⟩ => ⟨S32x8x256, .f32⟩
  | .hbm, ⟨59, _⟩ => ⟨S32x8x256, .f32⟩
  | .hbm, ⟨60, _⟩ => ⟨S32x8x32, .f32⟩
  | .hbm, ⟨61, _⟩ => ⟨S32x8x32, .f32⟩
  | .hbm, ⟨62, _⟩ => ⟨S_, .f32⟩
  | .hbm, ⟨63, _⟩ => ⟨S32x8, .f32⟩
  | .hbm, ⟨64, _⟩ => ⟨S32x8x1, .f32⟩
  | .hbm, ⟨65, _⟩ => ⟨S_, .f32⟩
  | .hbm, ⟨66, _⟩ => ⟨S32x8x1, .f32⟩
  | .hbm, ⟨67, _⟩ => ⟨S32x8x1, .f32⟩
  | .hbm, ⟨68, _⟩ => ⟨S_, .f32⟩
  | .hbm, ⟨69, _⟩ => ⟨S32x8x1, .f32⟩
  | .hbm, ⟨70, _⟩ => ⟨S32x8x1, .f32⟩
  | .hbm, ⟨71, _⟩ => ⟨S32x8x1, .f32⟩
  | .hbm, ⟨72, _⟩ => ⟨S32x8x32, .f32⟩
  | .hbm, ⟨73, _⟩ => ⟨S32x8x32, .f32⟩
  | .hbm, ⟨74, _⟩ => ⟨S1x1x32, .f32⟩
  | .hbm, ⟨75, _⟩ => ⟨S32x8x32, .f32⟩
  | .hbm, ⟨76, _⟩ => ⟨S32x8x32, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S8x1, .f32⟩
  | .hbm, ⟨86, _⟩ => ⟨S1x16, .f32⟩
  | .hbm, ⟨87, _⟩ => ⟨S8x16, .f32⟩
  | .hbm, ⟨88, _⟩ => ⟨S8x16, .f32⟩
  | .hbm, ⟨89, _⟩ => ⟨S8x16, .f32⟩
  | .hbm, ⟨90, _⟩ => ⟨S8x16, .f32⟩
  | .hbm, ⟨91, _⟩ => ⟨S1x8x16, .f32⟩
  | .hbm, ⟨92, _⟩ => ⟨S8x16, .f32⟩
  | .hbm, ⟨93, _⟩ => ⟨S1x8x16, .f32⟩
  | .hbm, ⟨94, _⟩ => ⟨S32x8x16, .f32⟩
  | .hbm, ⟨95, _⟩ => ⟨S32x8x16, .f32⟩
  | .hbm, ⟨96, _⟩ => ⟨S32x8x16, .f32⟩
  | .hbm, ⟨97, _⟩ => ⟨S32x8x16, .f32⟩
  | .hbm, ⟨98, _⟩ => ⟨S32x8x16, .f32⟩
  | .hbm, ⟨99, _⟩ => ⟨S32x8x16, .f32⟩
  | .hbm, ⟨100, _⟩ => ⟨S32x8x16, .f32⟩
  | .hbm, ⟨101, _⟩ => ⟨S32x8x16, .f32⟩
  | .hbm, ⟨102, _⟩ => ⟨S32x8x16, .f32⟩
  | .hbm, ⟨103, _⟩ => ⟨S32x8x16, .f32⟩
  | .hbm, ⟨104, _⟩ => ⟨S32x8x16, .f32⟩
  | .hbm, ⟨105, _⟩ => ⟨S32x8x16, .f32⟩
  | .hbm, ⟨106, _⟩ => ⟨S32x8x32, .f32⟩
  | .hbm, ⟨107, _⟩ => ⟨S32x8x512, .f32⟩
  | .hbm, ⟨108, _⟩ => ⟨S1x256x256, .f32⟩
  | .hbm, ⟨109, _⟩ => ⟨S1x256x32, .f32⟩
  | .hbm, ⟨110, _⟩ => ⟨S256x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Proof.FoxFinite.lean ====
/- The precondition: queries, keys and forget gates are real numbers. -/
module

public import proofs.«01_k».proof.Proof.Gen.Pre_finite
public import Idealize.ShloMosaic.Lib.Pointwise

@[expose] public section

noncomputable section

namespace Cert.Fox

open Idealize.ShloMosaic Cert.Pre_finite Cert.Pre_finite.Gen

/-- The pattern of the test is plus infinity. -/
theorem of_inf : Ideal.ofBits FTy.f32 2139095040#32 = (⊤ : EReal) := by simp [Ideal.ofBits, Ideal.ieee]

/-- An extended real whose absolute value is below infinity is a real number. -/
theorem real_of_abs (x : EReal) (h : max x (-x) < ⊤) : ∃ r : ℝ, x = r := by
  induction x using EReal.rec with
  | bot => simp at h
  | coe r => exact ⟨r, rfl⟩
  | top => simp at h

/-- A conjunction of three decided tests is one only if all three hold. -/
theorem and3 (a b c : Bool)
    (h : IntOp.andi (IntOp.andi (BitVec.ofBool a) (BitVec.ofBool b)) (BitVec.ofBool c) = 1#1) :
    a = true ∧ b = true ∧ c = true := by
  revert h; cases a <;> cases b <;> cases c <;> decide

variable {q k v : FVec Ideal S8x2048x8x128 .f32} {f : FVec Ideal S8x2048x8 .f32}

/-- Where the precondition holds, every query, key and gate is a real number. -/
theorem finite_at (h : fn q k v f = fun _ => 1#1) (b : Fin 8) (n : Fin 2048) (c : Fin 8) (d : Fin 128) :
    (∃ x : ℝ, q (ix4 b n c d) = x) ∧ (∃ x : ℝ, k (ix4 b n c d) = x) ∧ ∃ x : ℝ, f (ix3 b n c) = x := by
  have e := congrFun h (ix4 b n c d)
  revert e
  pointwise [fn]
  intro e
  obtain ⟨h0, h1, h2⟩ := and3 _ _ _ e
  rw [of_inf] at h0 h1 h2
  exact ⟨real_of_abs _ (of_decide_eq_true h0), real_of_abs _ (of_decide_eq_true h1),
    real_of_abs _ (of_decide_eq_true h2)⟩

end Cert.Fox
-- ==== Proof.FoxPay.lean ====
/- What the attention kernel's pure values are at an index, over the extended reals: scores, weights, one chunk of
   keys added to the numerator and to the denominator, and the running maximum. -/
module

public import proofs.«01_k».proof.Proof.Gen.KernelIdeal.Value
public import Idealize.ShloMosaic.Lib.Pointwise

@[expose] public section

noncomputable section

namespace Cert.Fox

open Idealize.ShloMosaic Cert.KernelIdeal Cert.KernelIdeal.Gen

/-- The change of base, `1 / log 2`. -/
abbrev lb : EReal := (((Real.log 2)⁻¹ : ℝ) : EReal)

/-- The score scale with the change of base, `1 / (√128 · log 2)`. -/
abbrev qs : EReal := (((Real.sqrt 128)⁻¹ * (Real.log 2)⁻¹ : ℝ) : EReal)

theorem named_lb : (Named.named κ "log2e" (0x3FB8AA3B#32 : BitVec (FTy.bits .f32)) : Ideal .f32) = lb :=
  IdealRules.named_const.ideal_named_scalar _ _ _ _ rfl
theorem named_qs : (Named.named κ "qscale" (0x3E0293EE#32 : BitVec (FTy.bits .f32)) : Ideal .f32) = qs :=
  IdealRules.named_const.ideal_named_scalar _ _ _ _ rfl
theorem named_mask : (Named.named κ "mask" (0xF149F2CA#32 : BitVec (FTy.bits .f32)) : Ideal .f32) = ⊥ :=
  IdealRules.named_const.ideal_named_scalar _ _ _ _ rfl

/-- Comparing two small indices as words is comparing them as numbers. -/
theorem sle_select (j r : ℕ) (hj : j < 1024) (hr : r < 1024) (a b : EReal) :
    Scalar.select (IntOp.cmpi CmpIPredicate.sle (BitVec.ofNat 32 j) (BitVec.ofNat 32 r)) a b = if j ≤ r then a else b := by
  have h : (IntOp.cmpi CmpIPredicate.sle (BitVec.ofNat 32 j) (BitVec.ofNat 32 r)) = if j ≤ r then 1#1 else 0#1 := by
    have hs : (BitVec.ofNat 32 j).sle (BitVec.ofNat 32 r) = decide (j ≤ r) := by
      rw [BitVec.sle_eq_decide]
      congr 1
      rw [BitVec.toInt_ofNat', BitVec.toInt_ofNat']
      simp [Int.bmod_def]
      omega
    unfold IntOp.cmpi
    simp only [hs]
    by_cases h : j ≤ r <;> simp [h]
  rw [h]
  by_cases h : j ≤ r <;> simp [h, Scalar.select]

/-! ## The scores -/

/-- Row `r` of the lower half of the queries. -/
def low (r : Fin 512) : Fin 1024 := ⟨512 + r.val, by omega⟩

/-- Key `j` of chunk `n`. -/
def kat (n : ℕ) (j : Fin 512) : Fin 2048 := Fin.ofNat 2048 (512 * n + j.val)

theorem kat_val (n : ℕ) (hn : n < 4) (j : Fin 512) : (kat n j).val = 512 * n + j.val := by
  unfold kat; simp only [Fin.ofNat]; rw [Nat.mod_eq_of_lt]; omega

/-- One head of one block of 1024 queries: queries, their bias, keys, their bias, values. -/
structure Head where
  Q : Fin 1024 → Fin 128 → EReal
  FQ : Fin 1024 → EReal
  K : Fin 2048 → Fin 128 → EReal
  FK : Fin 2048 → EReal
  V : Fin 2048 → Fin 128 → EReal

/-- The score of query `r` with key `N`: product plus the query's bias minus the key's. -/
def Head.sc (H : Head) (r : Fin 1024) (N : Fin 2048) : EReal :=
  (∑ d : Fin 128, H.Q r d * H.K N d) + H.FQ r - H.FK N

/-- The weight of key `N` for query `r` of block `b`, from a bound `m` of the row. -/
def Head.wt (H : Head) (b : ℕ) (m : Fin 1024 → EReal) (r : Fin 1024) (N : Fin 2048) : EReal :=
  if N.val ≤ 1024 * b + r.val then FloatOps.exp2 (F := Ideal) (φ := .f32) (H.sc r N - m r) else 0

/-- What chunk `n` adds to the numerator. -/
def Head.num (H : Head) (b : ℕ) (m : Fin 1024 → EReal) (n : ℕ) (r : Fin 1024) (c : Fin 128) : EReal :=
  ∑ j : Fin 512, H.wt b m r (kat n j) * H.V (kat n j) c

/-- Four lanes of 128 numbers added up. -/
def lane4 (f : Fin 512 → EReal) (l : Fin 128) : EReal :=
  f ⟨l.val, by omega⟩ + f ⟨128 + l.val, by omega⟩ + f ⟨256 + l.val, by omega⟩ + f ⟨384 + l.val, by omega⟩

/-- What chunk `n` adds to lane `l` of the denominator. -/
def Head.den (H : Head) (b : ℕ) (m : Fin 1024 → EReal) (n : ℕ) (r : Fin 1024) (l : Fin 128) : EReal :=
  lane4 (fun j => H.wt b m r (kat n j)) l

/-- The largest entry of row `r` of a plane. -/
def rm (M : Vec Ideal S1x1024x128 .f32) (r : Fin 1024) : EReal :=
  Finset.fold max (Ideal.ofBits FTy.f32 4286578688#32) (fun x => M (ix3 0 r x)) Finset.univ

theorem pay24 (v : Vec Ideal S1x1024x128 .f32) (r : Fin 1024) (d : Fin 128) :
    k0_pay24 v (ix2 r d) = v (ix3 0 r d) * qs := by
  pointwise [k0_pay24, named_qs]
theorem pay25 (v : Vec Ideal S1x1024x128 .f32) (r : Fin 1024) (d : Fin 128) :
    k0_pay25 v (ix2 r d) = v (ix3 0 r d) * qs := by
  pointwise [k0_pay25, named_qs]

/-- Comparing a lane number with the number of a head. -/
theorem eq_select (x : Fin 128) (n : Fin 4) (h : Fin 2) (a : EReal) :
    Scalar.select (IntOp.cmpi CmpIPredicate.eq (BitVec.ofNat 32 x.val)
          (Scalar.addi (Scalar.muli (BitVec.ofNat 32 n.val) 2#32) (BitVec.ofNat 32 h.val))) a 0 =
      if x = ⟨2 * n.val + h.val, by omega⟩ then a else 0 := by
  have hc : ∀ (x : Fin 128) (n : Fin 4) (h : Fin 2), IntOp.cmpi CmpIPredicate.eq (BitVec.ofNat 32 x.val)
          (Scalar.addi (Scalar.muli (BitVec.ofNat 32 n.val) 2#32) (BitVec.ofNat 32 h.val)) =
      if x = ⟨2 * n.val + h.val, by omega⟩ then 1#1 else 0#1 := by decide +kernel
  rw [hc]
  split <;> simp [Scalar.select]

theorem pay27 (i : grid0.Coords) (v : Vec Ideal S1x1024x128 .f32) (r : Fin 1024) (d : Fin 512) :
    k0_pay27 i v (ix2 r d) = v (ix3 0 r ⟨2 * (i 1).val, by have : (i 1).val < 4 := (i 1).isLt; omega⟩) * lb := by
  pointwise [k0_pay27, k0_pay26, named_lb]
  refine (Finset.sum_congr rfl fun x _ => eq_select x (i 1) 0 _).trans ?_
  rw [Finset.sum_ite_eq' Finset.univ]
  simp

theorem pay29 (i : grid0.Coords) (v : Vec Ideal S1x1024x128 .f32) (r : Fin 1024) (d : Fin 512) :
    k0_pay29 (k0_pay28 i v) (ix2 r d) = v (ix3 0 r ⟨2 * (i 1).val + 1, by have : (i 1).val < 4 := (i 1).isLt; omega⟩) * lb := by
  pointwise [k0_pay29, k0_pay28, k0_pay26, named_lb]
  refine (Finset.sum_congr rfl fun x _ => eq_select x (i 1) 1 _).trans ?_
  rw [Finset.sum_ite_eq' Finset.univ]
  simp

section Scores
variable (H : Head) (n : ℕ) (v6 : FVec Ideal S1024x128 .bf16) (v26 : FVec Ideal S1024x512 .f32)
  (k : Vec Ideal S1x512x128 .bf16) (f : Vec Ideal S1x1x1x1x512 .f32)
  (hq : ∀ r d, v6 (ix2 r d) = H.Q r d) (hfq : ∀ r j, v26 (ix2 r j) = H.FQ r)
  (hk : ∀ j d, k (ix3 0 j d) = H.K (kat n j) d) (hf : ∀ j, f (ix5 0 0 0 0 j) * lb = H.FK (kat n j))
include hq hfq hk hf

/-- Head 0, the diagonal chunk of the whole block of queries. -/
theorem score00 (r : Fin 1024) (j : Fin 512) :
    k0_pay30 v6 v26 k f (ix2 r j) = if j.val ≤ r.val then H.sc r (kat n j) else ⊥ := by
  have h : k0_pay30 v6 v26 k f (ix2 r j) = if j.val ≤ r.val then (∑ d : Fin 128, v6 (ix2 r d) * k (ix3 0 j d)) + v26 (ix2 r j) - f (ix5 0 0 0 0 j) * lb else ⊥ := by
    pointwise [k0_pay30, named_lb, named_mask]
    exact sle_select _ _ (by omega) (by omega) _ _
  rw [h]; simp only [hq, hfq, hk, hf, Head.sc]

/-- Head 1, the diagonal chunk of the whole block of queries. -/
theorem score10 (r : Fin 1024) (j : Fin 512) :
    k0_pay34 v6 v26 k f (ix2 r j) = if j.val ≤ r.val then H.sc r (kat n j) else ⊥ := by
  have h : k0_pay34 v6 v26 k f (ix2 r j) = if j.val ≤ r.val then (∑ d : Fin 128, v6 (ix2 r d) * k (ix3 0 j d)) + v26 (ix2 r j) - f (ix5 0 0 0 0 j) * lb else ⊥ := by
    pointwise [k0_pay34, named_lb, named_mask]
    exact sle_select _ _ (by omega) (by omega) _ _
  rw [h]; simp only [hq, hfq, hk, hf, Head.sc]

/-- Head 0, the diagonal chunk of the lower half of the queries. -/
theorem score01 (r : Fin 512) (j : Fin 512) :
    k0_pay33 (k0_pay31 v6 v26 k) (k0_pay32 f) (Named.named κ "log2e" (0x3FB8AA3B#32 : BitVec (FTy.bits .f32))) (ix2 r j)
      = if j.val ≤ r.val then H.sc (low r) (kat n j) else ⊥ := by
  have h : k0_pay33 (k0_pay31 v6 v26 k) (k0_pay32 f) (Named.named κ "log2e" (0x3FB8AA3B#32 : BitVec (FTy.bits .f32))) (ix2 r j)
      = if j.val ≤ r.val then (∑ d : Fin 128, v6 (ix2 ⟨512 + r.val, by omega⟩ d) * k (ix3 0 j d)) + v26 (ix2 ⟨512 + r.val, by omega⟩ j) - f (ix5 0 0 0 0 j) * lb else ⊥ := by
    pointwise [k0_pay33, k0_pay31, k0_pay32, named_lb, named_mask]
    exact sle_select _ _ (by omega) (by omega) _ _
  rw [h]; simp only [hq, hfq, hk, hf, Head.sc, low]

/-- Head 1, the diagonal chunk of the lower half of the queries. -/
theorem score11 (r : Fin 512) (j : Fin 512) :
    k0_pay36 (k0_pay35 v6 v26 k) f (ix2 r j)
      = if j.val ≤ r.val then H.sc (low r) (kat n j) else ⊥ := by
  have h : k0_pay36 (k0_pay35 v6 v26 k) f (ix2 r j)
      = if j.val ≤ r.val then (∑ d : Fin 128, v6 (ix2 ⟨512 + r.val, by omega⟩ d) * k (ix3 0 j d)) + v26 (ix2 ⟨512 + r.val, by omega⟩ j) - f (ix5 0 0 0 0 j) * lb else ⊥ := by
    pointwise [k0_pay36, k0_pay35, named_lb, named_mask]
    exact sle_select _ _ (by omega) (by omega) _ _
  rw [h]; simp only [hq, hfq, hk, hf, Head.sc, low]

end Scores

/-! ## The running maximum -/

/-- No entry is `+∞` and column 0 is not `-∞`: each row has a largest entry, a real number. -/
def Good (P : Vec Ideal S1x1024x128 .f32) : Prop := ∀ r : Fin 1024, (∀ l : Fin 128, P (ix3 0 r l) ≠ ⊤) ∧ P (ix3 0 r 0) ≠ ⊥

theorem max_ne_top {a b : EReal} (ha : a ≠ ⊤) (hb : b ≠ ⊤) : max a b ≠ ⊤ := by
  rcases max_choice a b with h | h <;> rw [h] <;> assumption
theorem max_ne_bot_left {a b : EReal} (ha : a ≠ ⊥) : max a b ≠ ⊥ := by
  intro h; exact ha (le_bot_iff.1 (h ▸ le_max_left a b))

theorem Good.real {P : Vec Ideal S1x1024x128 .f32} (h : Good P) (r : Fin 1024) : ∃ x : ℝ, rm P r = (x : EReal) := by
  have hb : Ideal.ofBits FTy.f32 4286578688#32 = (⊥ : EReal) := by
    simp [Ideal.ofBits, Ideal.ieee]
  have h1 : rm P r < ⊤ := by
    unfold rm; rw [Finset.fold_max_lt, hb]
    exact ⟨bot_lt_top, fun x _ => lt_top_iff_ne_top.2 ((h r).1 x)⟩
  have h2 : ⊥ < rm P r := by
    unfold rm; rw [Finset.lt_fold_max]
    exact Or.inr ⟨0, Finset.mem_univ _, bot_lt_iff_ne_bot.2 (h r).2⟩
  exact ⟨(rm P r).toReal, (EReal.coe_toReal h1.ne h2.ne').symm⟩

section Good
variable {S0 : FVec Ideal S1024x512 .f32} {S1 : FVec Ideal S512x512 .f32}
  (h0 : ∀ r j, S0 (ix2 r j) ≠ ⊤) (h00 : ∀ r, S0 (ix2 r 0) ≠ ⊥) (h1 : ∀ r j, S1 (ix2 r j) ≠ ⊤)
include h0 h00 h1

/-- Head 0, the maximum over the diagonal chunks. -/
theorem good_init0 : Good (k0_pay37 S0 S1) := by
  intro r
  have h : ∀ d, k0_pay37 S0 S1 (ix3 0 r d) = if h : r.val < 512 then
      max (max (max (S0 (ix2 r ⟨d.val, by omega⟩)) (S0 (ix2 r ⟨128 + d.val, by omega⟩))) (S0 (ix2 r ⟨256 + d.val, by omega⟩)))
        (S0 (ix2 r ⟨384 + d.val, by omega⟩))
    else
      max (max (max (max (S0 (ix2 r ⟨d.val, by omega⟩)) (S0 (ix2 r ⟨128 + d.val, by omega⟩))) (S0 (ix2 r ⟨256 + d.val, by omega⟩)))
        (S0 (ix2 r ⟨384 + d.val, by omega⟩)))
        (max (max (max (S1 (ix2 ⟨r.val - 512, by omega⟩ ⟨d.val, by omega⟩)) (S1 (ix2 ⟨r.val - 512, by omega⟩ ⟨128 + d.val, by omega⟩)))
            (S1 (ix2 ⟨r.val - 512, by omega⟩ ⟨256 + d.val, by omega⟩)))
          (S1 (ix2 ⟨r.val - 512, by omega⟩ ⟨384 + d.val, by omega⟩))) := by
    intro d
    pointwise [k0_pay37]
    split
    · rfl
    · rename_i hr
      have : (⟨512 + (r.val - 512), by omega⟩ : Fin 1024) = r := Fin.ext (by simp; omega)
      simp only [this]
  constructor
  · intro l; rw [h]
    split
    · exact max_ne_top (max_ne_top (max_ne_top (h0 _ _) (h0 _ _)) (h0 _ _)) (h0 _ _)
    · exact max_ne_top (max_ne_top (max_ne_top (max_ne_top (h0 _ _) (h0 _ _)) (h0 _ _)) (h0 _ _)) (max_ne_top (max_ne_top (max_ne_top (h1 _ _) (h1 _ _)) (h1 _ _)) (h1 _ _))
  · rw [h]
    split
    · exact max_ne_bot_left (max_ne_bot_left (max_ne_bot_left (h00 r)))
    · exact max_ne_bot_left (max_ne_bot_left (max_ne_bot_left (max_ne_bot_left (h00 r))))

end Good

/-- Head 1, the maximum over the diagonal chunks. -/
theorem good_init1 {S0 : FVec Ideal S1024x512 .f32} {raw : FVec Ideal S512x512 .f32} {f : Vec Ideal S1x1x1x1x512 .f32}
    (h0 : ∀ r j, S0 (ix2 r j) ≠ ⊤) (h00 : ∀ r, S0 (ix2 r 0) ≠ ⊥) (h1 : ∀ r j, k0_pay36 raw f (ix2 r j) ≠ ⊤) :
    Good (k0_pay41 (k0_pay39 S0) (k0_pay40 S0 raw f)) := by
  have e : k0_pay41 (k0_pay39 S0) (k0_pay40 S0 raw f) = k0_pay37 S0 (k0_pay36 raw f) := by
    ext j; idx_vars j
    generalize hS : k0_pay36 raw f = S1
    pointwise [k0_pay41, k0_pay39, k0_pay40, k0_pay38, k0_pay37, hS]
  rw [e]; exact good_init0 h0 h00 h1

/-- Head 0, the maximum taken on by a full chunk. -/
theorem good_trip0 {P : Vec Ideal S1x1024x128 .f32} (hP : Good P) (H : Head) (n : ℕ) (v6 : FVec Ideal S1024x128 .bf16) (v26 : FVec Ideal S1024x512 .f32)
    (k : Vec Ideal S1x512x128 .bf16) (f : Vec Ideal S1x1x1x1x512 .f32)
    (hq : ∀ r d, v6 (ix2 r d) = H.Q r d) (hfq : ∀ r j, v26 (ix2 r j) = H.FQ r)
    (hk : ∀ j d, k (ix3 0 j d) = H.K (kat n j) d) (hf : ∀ j, f (ix5 0 0 0 0 j) * lb = H.FK (kat n j))
    (hsc : ∀ r N, H.sc r N ≠ ⊤) : Good (k0_pay2 v6 v26 P k f) := by
  have h : ∀ r d, k0_pay2 v6 v26 P k f (ix3 0 r d) = max (P (ix3 0 r d)) (max (max (max (H.sc r (kat n ⟨d.val, by omega⟩))
      (H.sc r (kat n ⟨128 + d.val, by omega⟩))) (H.sc r (kat n ⟨256 + d.val, by omega⟩))) (H.sc r (kat n ⟨384 + d.val, by omega⟩))) := by
    intro r d
    simp only [Head.sc, ← hq, ← hfq _ 0, ← hk, ← hf]
    have hfq' : ∀ r j, v26 (ix2 r j) = v26 (ix2 r 0) := fun r j => (hfq r j).trans (hfq r 0).symm
    pointwise [k0_pay2, named_lb]
    simp only [hfq']
  intro r
  refine ⟨fun l => ?_, ?_⟩
  · rw [h]; exact max_ne_top ((hP r).1 l) (max_ne_top (max_ne_top (max_ne_top (hsc _ _) (hsc _ _)) (hsc _ _)) (hsc _ _))
  · rw [h]; exact max_ne_bot_left (hP r).2

/-- Head 1, the maximum taken on by a full chunk. -/
theorem good_trip1 {P : Vec Ideal S1x1024x128 .f32} (hP : Good P) (H : Head) (n : ℕ) (v6 : FVec Ideal S1024x128 .bf16) (v26 : FVec Ideal S1024x512 .f32)
    (k : Vec Ideal S1x512x128 .bf16) (f : Vec Ideal S1x1x1x1x512 .f32)
    (hq : ∀ r d, v6 (ix2 r d) = H.Q r d) (hfq : ∀ r j, v26 (ix2 r j) = H.FQ r)
    (hk : ∀ j d, k (ix3 0 j d) = H.K (kat n j) d) (hf : ∀ j, f (ix5 0 0 0 0 j) * lb = H.FK (kat n j))
    (hsc : ∀ r N, H.sc r N ≠ ⊤) : Good (k0_pay42 (k0_pay3 P) (k0_pay4 v6 v26 k) f) := by
  have e : k0_pay42 (k0_pay3 P) (k0_pay4 v6 v26 k) f = k0_pay2 v6 v26 P k f := by
    ext j; idx_vars j
    pointwise [k0_pay42, k0_pay3, k0_pay4, k0_pay2]
  rw [e]; exact good_trip0 hP H n v6 v26 k f hq hfq hk hf hsc

end Cert.Fox
-- ==== Proof.FoxSum.lean ====
/- What one chunk of keys adds to the numerator and to the denominator, and the block's quotient. -/
module

public import proofs.«01_k».proof.Proof.FoxPay

@[expose] public section

noncomputable section

namespace Cert.Fox

open Idealize.ShloMosaic Cert.KernelIdeal Cert.KernelIdeal.Gen

theorem exp2_bot_sub (x : EReal) : (FloatOps.exp2 (F := Ideal) (φ := .f32) ((⊥ : EReal) - x) : EReal) = 0 := by
  have : (⊥ : EReal) - x = ⊥ := by rw [sub_eq_add_neg, EReal.bot_add]
  rw [this]; exact Ideal.exp2_bot

section Init
variable (H : Head) (b : ℕ) (hb : b < 2) (M : Vec Ideal S1x1024x128 .f32)
  {S0 : FVec Ideal S1024x512 .f32} {S1 : FVec Ideal S512x512 .f32} {v0 v1 : Vec Ideal S1x512x128 .bf16}
  (hS0 : ∀ (r : Fin 1024) (j : Fin 512), S0 (ix2 r j) = if j.val ≤ r.val then H.sc r (kat (2 * b) j) else ⊥)
  (hS1 : ∀ (r : Fin 512) (j : Fin 512), S1 (ix2 r j) = if j.val ≤ r.val then H.sc (low r) (kat (2 * b + 1) j) else ⊥)
include hb

omit hb in
include hb hS0 in
theorem wt0 (r : Fin 1024) (j : Fin 512) :
    (FloatOps.exp2 (F := Ideal) (φ := .f32) (S0 (ix2 r j) - rm M r) : EReal) = H.wt b (rm M) r (kat (2 * b) j) := by
  rw [hS0]; unfold Head.wt; rw [kat_val _ (by omega)]
  by_cases h : j.val ≤ r.val
  · rw [if_pos h, if_pos (by omega)]
  · rw [if_neg h, if_neg (by omega), exp2_bot_sub]

omit hb in
include hb hS1 in
theorem wt1 (r : Fin 1024) (hr : 512 ≤ r.val) (j : Fin 512) :
    (FloatOps.exp2 (F := Ideal) (φ := .f32) (S1 (ix2 ⟨r.val - 512, by omega⟩ j) - rm M r) : EReal) = H.wt b (rm M) r (kat (2 * b + 1) j) := by
  rw [hS1]; unfold Head.wt; rw [kat_val _ (by omega)]
  have e : low ⟨r.val - 512, by omega⟩ = r := Fin.ext (by simp [low]; omega)
  by_cases h : j.val ≤ r.val - 512
  · rw [if_pos h, if_pos (by omega)]; simp only [e]
  · rw [if_neg h, if_neg (by omega), exp2_bot_sub]

theorem wt_upper (m : Fin 1024 → EReal) (r : Fin 1024) (hr : r.val < 512) (j : Fin 512) : H.wt b m r (kat (2 * b + 1) j) = 0 := by
  unfold Head.wt; rw [kat_val _ (by omega), if_neg (by omega)]

variable (hv0 : ∀ j c, v0 (ix3 0 j c) = H.V (kat (2 * b) j) c) (hv1 : ∀ j c, v1 (ix3 0 j c) = H.V (kat (2 * b + 1) j) c)

/-- The rows' maxima of the lower half are those of the whole plane. -/
theorem pay49_apply (r : Fin 512) (j : Fin 512) : k0_pay49 M (ix2 r j) = rm M ⟨512 + r.val, by omega⟩ := by
  unfold rm; pointwise [k0_pay49, k0_pay44]

theorem pay50_apply (r : Fin 512) (j : Fin 512) : k0_pay50 S1 (k0_pay49 M) (ix2 r j) =
    FloatOps.exp2 (F := Ideal) (φ := .f32) (S1 (ix2 r j) - rm M ⟨512 + r.val, by omega⟩) := by
  rw [← pay49_apply b hb M r j]
  generalize k0_pay49 M = w
  pointwise [k0_pay50]

theorem pay46_apply (r : Fin 1024) (j : Fin 512) : k0_pay46 S0 M (ix2 r j) =
    FloatOps.exp2 (F := Ideal) (φ := .f32) (S0 (ix2 r j) - rm M r) := by
  unfold rm; pointwise [k0_pay46, k0_pay45, k0_pay44]

include hS0 hS1 hv0 hv1 in
/-- Head 0, the numerator of the diagonal chunks. -/
theorem num_init0 (r : Fin 1024) (c : Fin 128) : k0_pay51 S1 (k0_pay47 S0 M v0) (k0_pay49 M) v1 (ix3 0 r c) =
    H.num b (rm M) (2 * b) r c + H.num b (rm M) (2 * b + 1) r c := by
  have h : k0_pay51 S1 (k0_pay47 S0 M v0) (k0_pay49 M) v1 (ix3 0 r c) = if h : r.val < 512 then
      ∑ j : Fin 512, k0_pay46 S0 M (ix2 r j) * v0 (ix3 0 j c)
    else (∑ j : Fin 512, k0_pay46 S0 M (ix2 r j) * v0 (ix3 0 j c)) +
      ∑ j : Fin 512, k0_pay50 S1 (k0_pay49 M) (ix2 ⟨r.val - 512, by omega⟩ j) * v1 (ix3 0 j c) := by
    generalize hw : k0_pay50 S1 (k0_pay49 M) = w
    generalize hx : k0_pay46 S0 M = x
    pointwise [k0_pay51, k0_pay47, hw, hx]
    split
    · rfl
    · have : (⟨512 + (r.val - 512), by omega⟩ : Fin 1024) = r := Fin.ext (by simp; omega)
      simp only [this]
  rw [h]; unfold Head.num
  split
  · rename_i hr
    simp only [pay46_apply b hb, wt0 H b hb M hS0, hv0, wt_upper H b hb _ r hr, zero_mul, Finset.sum_const_zero, add_zero]
  · rename_i hr
    have e : (⟨512 + (r.val - 512), by omega⟩ : Fin 1024) = r := Fin.ext (by simp; omega)
    simp only [pay46_apply b hb, wt0 H b hb M hS0, hv0, pay50_apply b hb, e, wt1 H b hb M hS1 r (by omega), hv1]

include hS0 hS1 in
/-- Head 0, the denominator of the diagonal chunks. -/
theorem den_init0 (r : Fin 1024) (l : Fin 128) : k0_pay52 S1 (k0_pay48 S0 M) (k0_pay49 M) (ix3 0 r l) =
    H.den b (rm M) (2 * b) r l + H.den b (rm M) (2 * b + 1) r l := by
  have h : k0_pay52 S1 (k0_pay48 S0 M) (k0_pay49 M) (ix3 0 r l) = if h : r.val < 512 then
      lane4 (fun j => k0_pay46 S0 M (ix2 r j)) l
    else lane4 (fun j => k0_pay46 S0 M (ix2 r j)) l + lane4 (fun j => k0_pay50 S1 (k0_pay49 M) (ix2 ⟨r.val - 512, by omega⟩ j)) l := by
    generalize hw : k0_pay50 S1 (k0_pay49 M) = w
    generalize hx : k0_pay46 S0 M = x
    unfold lane4
    pointwise [k0_pay52, k0_pay48, hw, hx]
    split
    · rfl
    · have : (⟨512 + (r.val - 512), by omega⟩ : Fin 1024) = r := Fin.ext (by simp; omega)
      simp only [this]
  rw [h]; unfold Head.den
  split
  · rename_i hr
    simp only [pay46_apply b hb, wt0 H b hb M hS0, wt_upper H b hb _ r hr]
    simp [lane4]
  · rename_i hr
    have e : (⟨512 + (r.val - 512), by omega⟩ : Fin 1024) = r := Fin.ext (by simp; omega)
    simp only [pay46_apply b hb, wt0 H b hb M hS0, pay50_apply b hb, e, wt1 H b hb M hS1 r (by omega)]

theorem pay57_eq : k0_pay57 S0 M = k0_pay46 S0 M := by
  ext j; idx_vars j
  pointwise [k0_pay57, k0_pay56, k0_pay55, k0_pay54, k0_pay46, k0_pay45, k0_pay44]
theorem pay56_eq : k0_pay56 S0 M = k0_pay46 S0 M := by
  ext j; idx_vars j
  pointwise [k0_pay57, k0_pay56, k0_pay55, k0_pay54, k0_pay46, k0_pay45, k0_pay44]
theorem pay58_eq : k0_pay58 S1 (k0_pay54 M) = k0_pay50 S1 (k0_pay49 M) := by
  ext j; idx_vars j
  pointwise [k0_pay58, k0_pay54, k0_pay50, k0_pay49, k0_pay44]

include hS0 hS1 hv0 hv1 in
/-- Head 1, the numerator of the diagonal chunks. -/
theorem num_init1 (r : Fin 1024) (c : Fin 128) : k0_pay61 (k0_pay59 S1 (k0_pay54 M) (k0_pay57 S0 M) v0 v1) (ix3 0 r c) =
    H.num b (rm M) (2 * b) r c + H.num b (rm M) (2 * b + 1) r c := by
  rw [← num_init0 H b hb M hS0 hS1 hv0 hv1 r c, pay57_eq b hb]
  have e := pay58_eq b hb M (S1 := S1)
  generalize hw : k0_pay50 S1 (k0_pay49 M) = w at e
  generalize hx : k0_pay46 S0 M = x
  pointwise [k0_pay61, k0_pay59, k0_pay51, k0_pay47, hw, hx, e]

include hS0 hS1 in
/-- Head 1, the denominator of the diagonal chunks. -/
theorem den_init1 (r : Fin 1024) (l : Fin 128) : k0_pay62 (k0_pay60 S1 (k0_pay54 M) (k0_pay56 S0 M)) (ix3 0 r l) =
    H.den b (rm M) (2 * b) r l + H.den b (rm M) (2 * b + 1) r l := by
  rw [← den_init0 H b hb M hS0 hS1 r l, pay56_eq b hb]
  have e := pay58_eq b hb M (S1 := S1)
  generalize hw : k0_pay50 S1 (k0_pay49 M) = w at e
  generalize hx : k0_pay46 S0 M = x
  pointwise [k0_pay62, k0_pay60, k0_pay52, k0_pay48, hw, hx, e]

end Init

section Trip
variable (H : Head) (b n : ℕ) (hn : n < 2 * b) (hb : b < 2) (m : Fin 1024 → EReal) (v6 : FVec Ideal S1024x128 .bf16) (w : FVec Ideal S1024x512 .f32)
  (k v : Vec Ideal S1x512x128 .bf16) (f : Vec Ideal S1x1x1x1x512 .f32) (P : Vec Ideal S1x1024x128 .f32)
  (hq : ∀ r d, v6 (ix2 r d) = H.Q r d) (hw : ∀ r j, w (ix2 r j) = H.FQ r - m r)
  (hk : ∀ j d, k (ix3 0 j d) = H.K (kat n j) d) (hf : ∀ j, f (ix5 0 0 0 0 j) * lb = H.FK (kat n j))
  (hv : ∀ j c, v (ix3 0 j c) = H.V (kat n j) c)
include hn hb hq hw hk hf

/-- The weights of a full chunk. -/
theorem wt_trip (r : Fin 1024) (j : Fin 512) : k0_pay8 v6 w k f (ix2 r j) = H.wt b m r (kat n j) := by
  have h : k0_pay8 v6 w k f (ix2 r j) = FloatOps.exp2 (F := Ideal) (φ := .f32)
      ((∑ d : Fin 128, v6 (ix2 r d) * k (ix3 0 j d)) + w (ix2 r j) - f (ix5 0 0 0 0 j) * lb) := by
    pointwise [k0_pay8, named_lb]
  rw [h]; unfold Head.wt Head.sc
  rw [if_pos (by rw [kat_val _ (by omega)]; omega)]
  simp only [hq, hw, hk, hf]
  congr 1
  simp only [sub_eq_add_neg, add_assoc]
  congr 2
  rw [add_comm]

omit hn hb hq hw hk hf in
theorem pay14_eq : k0_pay14 v6 w k f = k0_pay8 v6 w k f := by
  ext j; idx_vars j
  pointwise [k0_pay14, k0_pay8]

include hv in
/-- Head 0, a full chunk's numerator. -/
theorem num_trip0 (r : Fin 1024) (c : Fin 128) : k0_pay9 v6 w k f P v (ix3 0 r c) = P (ix3 0 r c) + H.num b m n r c := by
  unfold Head.num
  simp only [← wt_trip H b n hn hb m v6 w k f hq hw hk hf, ← hv]
  generalize hx : k0_pay8 v6 w k f = x
  pointwise [k0_pay9, hx]

include hv in
/-- Head 1, a full chunk's numerator. -/
theorem num_trip1 (r : Fin 1024) (c : Fin 128) : k0_pay15 v6 w k f P v (ix3 0 r c) = P (ix3 0 r c) + H.num b m n r c := by
  unfold Head.num
  simp only [← wt_trip H b n hn hb m v6 w k f hq hw hk hf, ← hv, ← pay14_eq v6 w k f]
  generalize hx : k0_pay14 v6 w k f = x
  pointwise [k0_pay15, hx]

/-- Head 0, a full chunk's denominator. -/
theorem den_trip0 (r : Fin 1024) (l : Fin 128) :
    k0_pay13 (k0_pay10 P) (k0_pay11 v6 w k f) (k0_pay12 v6 w k f) (ix3 0 r l) = P (ix3 0 r l) + H.den b m n r l := by
  unfold Head.den
  simp only [← wt_trip H b n hn hb m v6 w k f hq hw hk hf]
  generalize hx : k0_pay8 v6 w k f = x
  unfold lane4
  pointwise [k0_pay13, k0_pay10, k0_pay11, k0_pay12, hx]

/-- Head 1, a full chunk's denominator. -/
theorem den_trip1 (r : Fin 1024) (l : Fin 128) :
    k0_pay64 (k0_pay14 v6 w k f) P (ix3 0 r l) = P (ix3 0 r l) + H.den b m n r l := by
  unfold Head.den
  simp only [← wt_trip H b n hn hb m v6 w k f hq hw hk hf, ← pay14_eq v6 w k f]
  generalize hx : k0_pay14 v6 w k f = x
  unfold lane4
  pointwise [k0_pay64]

end Trip

/-- The bias of head 0 less the rows' maxima. -/
theorem pay53_apply (v26 : FVec Ideal S1024x512 .f32) (M : Vec Ideal S1x1024x128 .f32) (r : Fin 1024) (j : Fin 512) :
    k0_pay53 v26 (k0_pay45 M) (ix2 r j) = v26 (ix2 r j) - rm M r := by
  unfold rm; pointwise [k0_pay53, k0_pay45, k0_pay44]
/-- The bias of head 1 less the rows' maxima. -/
theorem pay63_apply (v38 : FVec Ideal S1024x512 .f32) (M : Vec Ideal S1x1024x128 .f32) (r : Fin 1024) (j : Fin 512) :
    k0_pay63 v38 (k0_pay55 M) (ix2 r j) = v38 (ix2 r j) - rm M r := by
  unfold rm; pointwise [k0_pay63, k0_pay55, k0_pay54]

/-- Adding up the lanes of a denominator. -/
theorem sum_lane4 (f : Fin 512 → EReal) : ∑ l : Fin 128, lane4 f l = ∑ j : Fin 512, f j := by
  unfold lane4
  simp only [Finset.sum_add_distrib]
  have e : ∀ g : Fin 512 → EReal, ∑ j : Fin (128 + 128 + 128 + 128), g j = ∑ j : Fin 512, g j := fun _ => rfl
  rw [← e f, Fin.sum_univ_add, Fin.sum_univ_add, Fin.sum_univ_add]
  rfl

/-- The block's result: the numerator over the sum of the lanes, head 0 in the first 128 columns, head 1 in the others. -/
theorem quot_apply (a b c d : Vec Ideal S1x1024x128 .f32) (r : Fin 1024) (j : Fin 256) :
    k0_pay1 (k0_pay66 a b c d) (ix3 0 r j) = if h : j.val < 128 then Ideal.div (a (ix3 0 r ⟨j.val, h⟩)) (∑ x, b (ix3 0 r x))
    else Ideal.div (c (ix3 0 r ⟨j.val - 128, by omega⟩)) (∑ x, d (ix3 0 r x)) := by
  pointwise [k0_pay1, k0_pay66]

end Cert.Fox
-- ==== Proof.FoxLoop.lean ====
/- The kernel's loops over the full chunks of keys: what each leaves in the two planes (one per head) of the running
   maximum, of the denominator and of the numerator. -/
module

public import proofs.«01_k».proof.Proof.FoxSum
public import Idealize.ShloMosaic.Lib.WritesUnit

@[expose] public section

set_option maxHeartbeats 1000000

noncomputable section

namespace Cert.Fox

open Idealize.ShloMosaic Cert.KernelIdeal Cert.KernelIdeal.Gen Idealize.ShloMosaic.TcCoe Idealize.ShloMosaic.Tactic

/-! ## Planes -/

/-- The rectangle of head 0's plane. -/
abbrev R0 : Rect S2x1024x128 := Rect.unit ![0, 0, 0] S1x1024x128.size inb_S2x1024x128_S1x1024x128_0_0_0
/-- The rectangle of head 1's plane. -/
abbrev R1 : Rect S2x1024x128 := Rect.unit ![1, 0, 0] S1x1024x128.size inb_S2x1024x128_S1x1024x128_1_0_0

section Planes
variable {sp : Space} (v : View sig .tc sp S2x1024x128 .f32) (f : v.ty.Contents (Elt Ideal)) (w : Vec Ideal S1x1024x128 .f32)
  (L : List (View.Piece (Elt Ideal) S2x1024x128 .f32))

theorem plane00 : v.readAt (Elt Ideal) R0.toLoadRect (v.writes (Elt Ideal) f (⟨R0, w⟩ :: L)) = w := by
  funext x
  exact View.read_writes_cons_unit_of_mem v f _ w L _ x rfl (fun a => by show _ + 1 * (x a).val = _; rw [Nat.one_mul]; rfl)
theorem plane11 : v.readAt (Elt Ideal) R1.toLoadRect (v.writes (Elt Ideal) f (⟨R1, w⟩ :: L)) = w := by
  funext x
  exact View.read_writes_cons_unit_of_mem v f _ w L _ x rfl (fun a => by show _ + 1 * (x a).val = _; rw [Nat.one_mul]; rfl)
theorem plane01 : v.readAt (Elt Ideal) R0.toLoadRect (v.writes (Elt Ideal) f (⟨R1, w⟩ :: L)) = v.readAt (Elt Ideal) R0.toLoadRect (v.writes (Elt Ideal) f L) := by
  funext x
  refine View.read_writes_cons_unit_of_not_mem v f _ w L _ rfl 0 (Or.inl ?_)
  have : (x 0).val < 1 := (x 0).isLt
  show 0 + 1 * (x 0).val < 1
  omega
theorem plane10 : v.readAt (Elt Ideal) R1.toLoadRect (v.writes (Elt Ideal) f (⟨R0, w⟩ :: L)) = v.readAt (Elt Ideal) R1.toLoadRect (v.writes (Elt Ideal) f L) := by
  funext x
  refine View.read_writes_cons_unit_of_not_mem v f _ w L _ rfl 0 (Or.inr ?_)
  show 0 + 1 ≤ 1 + 1 * (x 0).val
  omega

end Planes

/-! ## Loads of keys, values and biases -/

/-- A load of one chunk of one head's columns. -/
theorem load_k {sp : Space} (v : View sig .tc sp S1x2048x256 .bf16) (X : v.ty.Contents (Elt Ideal)) (off : Fin 3 → ℕ) (inb)
    (n : ℕ) (hn : n < 4) (h : Fin 2) (ho : off = ![0, 512 * n, 128 * h.val]) (j : Fin 512) (d : Fin 128) :
    v.readAt (Elt Ideal) (Rect.unit (s := S1x2048x256) off S1x512x128.size inb).toLoadRect X (ix3 0 j d)
      = v.read (Elt Ideal) X (ix3 0 (kat n j) ⟨128 * h.val + d.val, by omega⟩) := by
  subst ho
  refine congrArg (v.read (Elt Ideal) X) (funext fun a => Fin.ext ?_)
  fin_cases a
  · rfl
  · show 512 * n + 1 * j.val = (kat n j).val
    rw [kat_val n hn]; omega
  · show 128 * h.val + 1 * d.val = 128 * h.val + d.val
    omega

/-- A load of one chunk of one head's key bias. -/
theorem load_f {sp : Space} (v : View sig .tc sp S1x2x4x1x512 .f32) (X : v.ty.Contents (Elt Ideal)) (off : Fin 5 → ℕ) (inb)
    (n : ℕ) (hn : n < 4) (h : Fin 2) (ho : off = ![0, h.val, n, 0, 0]) (j : Fin 512) :
    v.readAt (Elt Ideal) (Rect.unit (s := S1x2x4x1x512) off S1x1x1x1x512.size inb).toLoadRect X (ix5 0 0 0 0 j)
      = v.read (Elt Ideal) X (ix5 0 h ⟨n, hn⟩ 0 j) := by
  subst ho
  refine congrArg (v.read (Elt Ideal) X) (funext fun a => Fin.ext ?_)
  fin_cases a <;> simp [Rect.unit, Rect.toLoadRect, LoadRect.idx]

/-- What head `h` of a block reads. -/
structure Reads (H : Head) (h : Fin 2) (X4 X5 : Vec Ideal S1x2048x256 .bf16) (X7 : Vec Ideal S1x2x4x1x512 .f32) : Prop where
  k : ∀ N d, X4 (ix3 0 N ⟨128 * h.val + d.val, by omega⟩) = H.K N d
  v : ∀ N d, X5 (ix3 0 N ⟨128 * h.val + d.val, by omega⟩) = H.V N d
  f : ∀ (n : ℕ) (hn : n < 4) j, X7 (ix5 0 h ⟨n, hn⟩ 0 j) * lb = H.FK (kat n j)

theorem trips1 : ∀ i : grid0.Coords, (k0_t1_loop i).trips = 2 * (i 2).val := by decide +kernel

theorem trips3 : ∀ i : grid0.Coords, (k0_t3_loop i).trips = 2 * (i 2).val := by decide +kernel

theorem trips2 (i : grid0.Coords) : (k0_t2_loop i).trips = 0 := Nat.le_zero.1 (k0_t2_abs i).2.1

theorem trips4 (i : grid0.Coords) : (k0_t4_loop i).trips = 0 := Nat.le_zero.1 (k0_t4_abs i).2.1

section Loops
variable {𝒱 : Variants} {c : Dev nD} {bd : Option 𝒱.V} {i : grid0.Coords} {arg3 : Memref sig .tc .vmem S1x1024x256 .f32} {harg3 : arg3.IsWhole} {arg4 : Memref sig .tc .vmem S1x2048x256 .bf16} {harg4 : arg4.IsWhole} {arg5 : Memref sig .tc .vmem S1x2048x256 .bf16} {harg5 : arg5.IsWhole} {arg6 : Memref sig .tc .vmem S1x1024x128 .f32} {harg6 : arg6.IsWhole} {arg7 : Memref sig .tc .vmem S1x2x4x1x512 .f32} {harg7 : arg7.IsWhole} {arg8 : Memref sig .tc .vmem S1x1024x256 .bf16} {harg8 : arg8.IsWhole} {arg9 : Memref sig .tc .vmem S2x1024x128 .f32} {harg9 : arg9.IsWhole} {arg10 : Memref sig .tc .vmem S2x1024x128 .f32} {harg10 : arg10.IsWhole} {arg11 : Memref sig .tc .vmem S2x1024x128 .f32} {harg11 : arg11.IsWhole}
  {arg2 : BitVec 32} {v6 : FVec Ideal S1024x128 .bf16} {v9 : FVec Ideal S1024x128 .bf16}
  {X4 : BufTy.Contents (Elt Ideal) arg4.view.ty} {X5 : BufTy.Contents (Elt Ideal) arg5.view.ty} {X7 : BufTy.Contents (Elt Ideal) arg7.view.ty}

section Max
variable {v26 : FVec Ideal S1024x512 .f32} {v38 : FVec Ideal S1024x512 .f32} {v59 : FVec Ideal S1024x512 .f32} {v162 : FVec Ideal S512x128 .f32} {v164 : FVec Ideal S512x128 .f32}

/-- The pieces of one trip of the maximum's loop. -/
theorem trip1_eq (k : Fin (k0_t1_loop i).trips) (f : BufTy.Contents (Elt Ideal) arg9.view.ty) :
    tripL_k0_t1 (F := Ideal) 𝒱 c bd i arg3 harg3 arg4 harg4 arg5 harg5 arg6 harg6 arg7 harg7 arg8 harg8 arg9 harg9 arg10 harg10 arg11 harg11 arg2 v6 v9 v26 v38 v59 v162 v164 X4 X7 k f =
    [⟨R1, k0_pay42 (k0_pay3 (arg9.view.readAt (Elt Ideal) R1.toLoadRect f))
        (k0_pay4 v9 v38 (arg4.view.readAt (Elt Ideal) (Rect.unit (s := S1x2048x256) (k0_off7 i k) S1x512x128.size (k0_off7_inb i k)).toLoadRect X4))
        (arg7.view.readAt (Elt Ideal) (Rect.unit (s := S1x2x4x1x512) (k0_off8 i k) S1x1x1x1x512.size (k0_off8_inb i k)).toLoadRect X7)⟩,
     ⟨R0, k0_pay2 v6 v26 (arg9.view.readAt (Elt Ideal) R0.toLoadRect f)
        (arg4.view.readAt (Elt Ideal) (Rect.unit (s := S1x2048x256) (k0_off5 i k) S1x512x128.size (k0_off5_inb i k)).toLoadRect X4)
        (arg7.view.readAt (Elt Ideal) (Rect.unit (s := S1x2x4x1x512) (k0_off6 i k) S1x1x1x1x512.size (k0_off6_inb i k)).toLoadRect X7)⟩] := by
  unfold tripL_k0_t1 trip_k0_t1
  rfl

variable (H0 H1 : Head) (hr0 : ∃ X5, Reads H0 0 (arg4.view.read (Elt Ideal) X4) X5 (arg7.view.read (Elt Ideal) X7))
  (hr1 : ∃ X5, Reads H1 1 (arg4.view.read (Elt Ideal) X4) X5 (arg7.view.read (Elt Ideal) X7))
  (hq0 : ∀ r d, v6 (ix2 r d) = H0.Q r d) (hq1 : ∀ r d, v9 (ix2 r d) = H1.Q r d)
  (hf0 : ∀ r j, v26 (ix2 r j) = H0.FQ r) (hf1 : ∀ r j, v38 (ix2 r j) = H1.FQ r)
  (hs0 : ∀ r N, H0.sc r N ≠ ⊤) (hs1 : ∀ r N, H1.sc r N ≠ ⊤)
include hr0 hr1 hq0 hq1 hf0 hf1 hs0 hs1

/-- The maximum's loop keeps both planes good. -/
theorem good_loop (G : BufTy.Contents (Elt Ideal) arg9.view.ty)
    (hG0 : Good (arg9.view.readAt (Elt Ideal) R0.toLoadRect G)) (hG1 : Good (arg9.view.readAt (Elt Ideal) R1.toLoadRect G)) (k : ℕ) (hk : k ≤ (k0_t1_loop i).trips) :
    Good (arg9.view.readAt (Elt Ideal) R0.toLoadRect (arg9.view.writes (Elt Ideal) G (pb_k0_t1 𝒱 c bd i arg3 harg3 arg4 harg4 arg5 harg5 arg6 harg6 arg7 harg7 arg8 harg8 arg9 harg9 arg10 harg10 arg11 harg11 arg2 v6 v9 v26 v38 v59 v162 v164 X4 X7 G k))) ∧
    Good (arg9.view.readAt (Elt Ideal) R1.toLoadRect (arg9.view.writes (Elt Ideal) G (pb_k0_t1 𝒱 c bd i arg3 harg3 arg4 harg4 arg5 harg5 arg6 harg6 arg7 harg7 arg8 harg8 arg9 harg9 arg10 harg10 arg11 harg11 arg2 v6 v9 v26 v38 v59 v162 v164 X4 X7 G k))) := by
  induction k with
  | zero => exact ⟨hG0, hG1⟩
  | succ k ih =>
    have ih := ih (by omega)
    have hb : (i 2).val < 2 := (i 2).isLt
    have ht := trips1 i
    obtain ⟨_, hr0⟩ := hr0
    obtain ⟨_, hr1⟩ := hr1
    have e := pb_k0_t1_succ (F := Ideal) 𝒱 c bd i arg3 harg3 arg4 harg4 arg5 harg5 arg6 harg6 arg7 harg7 arg8 harg8 arg9 harg9 arg10 harg10 arg11 harg11 arg2 v6 v9 v26 v38 v59 v162 v164 X4 X7 G ⟨k, hk⟩
    simp only [] at e
    rw [e, trip1_eq]
    simp only [List.cons_append, List.nil_append]
    rw [plane01, plane00, plane11]
    refine ⟨good_trip0 ih.1 H0 k _ _ _ _ hq0 hf0 ?_ ?_ hs0, good_trip1 ih.2 H1 k _ _ _ _ hq1 hf1 ?_ ?_ hs1⟩
    · intro j d; rw [load_k _ _ _ _ k (by omega) 0 (k0_off5_eq i _)]; exact hr0.k _ _
    · intro j; rw [load_f _ _ _ _ k (by omega) 0 (k0_off6_eq i _)]; exact hr0.f _ _ _
    · intro j d; rw [load_k _ _ _ _ k (by omega) 1 (k0_off7_eq i _)]; exact hr1.k _ _
    · intro j; rw [load_f _ _ _ _ k (by omega) 1 (k0_off8_eq i _)]; exact hr1.f _ _ _

/-- Both planes of the maximum after the loops (the second loop has no trip). -/
theorem good_planes {P1 P0 : Vec Ideal S1x1024x128 .f32} (hP0 : Good P0) (hP1 : Good P1) {𝒱' bd' arg2' v6' v9' v26' v38' v59' v162' v164' w' X4' X7' G'} {t t' : ℕ} (ht : t = (k0_t1_loop i).trips) (ht' : t' = (k0_t2_loop i).trips) :
    let L := pb_k0_t2 (F := Ideal) 𝒱' c bd' i arg3 harg3 arg4 harg4 arg5 harg5 arg6 harg6 arg7 harg7 arg8 harg8 arg9 harg9 arg10 harg10 arg11 harg11 arg2' v6' v9' v26' v38' v59' v162' v164' w' X4' X7' G' t' ++
      (pb_k0_t1 𝒱 c bd i arg3 harg3 arg4 harg4 arg5 harg5 arg6 harg6 arg7 harg7 arg8 harg8 arg9 harg9 arg10 harg10 arg11 harg11 arg2 v6 v9 v26 v38 v59 v162 v164 X4 X7 (arg9.view.writes (Elt Ideal) arg9.view.junk [⟨R1, P1⟩, ⟨R0, P0⟩]) t ++ [⟨R1, P1⟩, ⟨R0, P0⟩])
    Good (arg9.view.readCov L R0.toLoadRect) ∧ Good (arg9.view.readCov L R1.toLoadRect) := by
  intro L
  have e2 : pb_k0_t2 (F := Ideal) 𝒱' c bd' i arg3 harg3 arg4 harg4 arg5 harg5 arg6 harg6 arg7 harg7 arg8 harg8 arg9 harg9 arg10 harg10 arg11 harg11 arg2' v6' v9' v26' v38' v59' v162' v164' w' X4' X7' G' t' = [] := by
    rw [ht', trips2]; rfl
  have h := good_loop (𝒱 := 𝒱) (c := c) (bd := bd) (i := i) (harg3 := harg3) (harg4 := harg4) (harg5 := harg5) (harg6 := harg6) (harg7 := harg7) (harg8 := harg8) (harg9 := harg9) (harg10 := harg10) (harg11 := harg11)
    (arg2 := arg2) (v59 := v59) (v162 := v162) (v164 := v164) H0 H1 hr0 hr1 hq0 hq1 hf0 hf1 hs0 hs1 (arg9.view.writes (Elt Ideal) arg9.view.junk [⟨R1, P1⟩, ⟨R0, P0⟩])
    (by rw [plane01, plane00]; exact hP0) (by rw [plane11]; exact hP1) _ le_rfl
  rw [← ht] at h
  unfold View.readCov
  simp only [L, e2, List.nil_append, View.writes_append]
  exact h

end Max

section Sums
variable {v38 : FVec Ideal S1024x512 .f32} {v235 : FVec Ideal S1024x512 .f32} {v239 : FVec Ideal S1024x1 .f32} {v277 : FVec Ideal S1024x128 .f32} {v288 : FVec Ideal S1024x128 .f32}

/-- The pieces of one trip of the sums' loop. -/
theorem trip3_eq (k : Fin (k0_t3_loop i).trips) (f10 : BufTy.Contents (Elt Ideal) arg10.view.ty) (f11 : BufTy.Contents (Elt Ideal) arg11.view.ty) :
    tripL_k0_t3 (F := Ideal) 𝒱 c bd i arg3 harg3 arg4 harg4 arg5 harg5 arg6 harg6 arg7 harg7 arg8 harg8 arg9 harg9 arg10 harg10 arg11 harg11 arg2 v6 v9 v38 v235 v239 v277 v288 X4 X5 X7 k f10 f11 =
    ([⟨R1, k0_pay64 (k0_pay14 v9 (k0_pay63 v38 v239)
          (arg4.view.readAt (Elt Ideal) (Rect.unit (s := S1x2048x256) (k0_off15 i k) S1x512x128.size (k0_off15_inb i k)).toLoadRect X4)
          (arg7.view.readAt (Elt Ideal) (Rect.unit (s := S1x2x4x1x512) (k0_off16 i k) S1x1x1x1x512.size (k0_off16_inb i k)).toLoadRect X7))
        (arg10.view.readAt (Elt Ideal) R1.toLoadRect f10)⟩,
      ⟨R0, k0_pay13 (k0_pay10 (arg10.view.readAt (Elt Ideal) R0.toLoadRect f10))
        (k0_pay11 v6 v235
          (arg4.view.readAt (Elt Ideal) (Rect.unit (s := S1x2048x256) (k0_off13 i k) S1x512x128.size (k0_off13_inb i k)).toLoadRect X4)
          (arg7.view.readAt (Elt Ideal) (Rect.unit (s := S1x2x4x1x512) (k0_off14 i k) S1x1x1x1x512.size (k0_off14_inb i k)).toLoadRect X7))
        (k0_pay12 v6 v235
          (arg4.view.readAt (Elt Ideal) (Rect.unit (s := S1x2048x256) (k0_off13 i k) S1x512x128.size (k0_off13_inb i k)).toLoadRect X4)
          (arg7.view.readAt (Elt Ideal) (Rect.unit (s := S1x2x4x1x512) (k0_off14 i k) S1x1x1x1x512.size (k0_off14_inb i k)).toLoadRect X7))⟩],
     [⟨R1, k0_pay15 v9 (k0_pay63 v38 v239)
          (arg4.view.readAt (Elt Ideal) (Rect.unit (s := S1x2048x256) (k0_off15 i k) S1x512x128.size (k0_off15_inb i k)).toLoadRect X4)
          (arg7.view.readAt (Elt Ideal) (Rect.unit (s := S1x2x4x1x512) (k0_off16 i k) S1x1x1x1x512.size (k0_off16_inb i k)).toLoadRect X7)
          (arg11.view.readAt (Elt Ideal) R1.toLoadRect f11)
          (arg5.view.readAt (Elt Ideal) (Rect.unit (s := S1x2048x256) (k0_off15 i k) S1x512x128.size (k0_off15_inb i k)).toLoadRect X5)⟩,
      ⟨R0, k0_pay9 v6 v235
          (arg4.view.readAt (Elt Ideal) (Rect.unit (s := S1x2048x256) (k0_off13 i k) S1x512x128.size (k0_off13_inb i k)).toLoadRect X4)
          (arg7.view.readAt (Elt Ideal) (Rect.unit (s := S1x2x4x1x512) (k0_off14 i k) S1x1x1x1x512.size (k0_off14_inb i k)).toLoadRect X7)
          (arg11.view.readAt (Elt Ideal) R0.toLoadRect f11)
          (arg5.view.readAt (Elt Ideal) (Rect.unit (s := S1x2048x256) (k0_off13 i k) S1x512x128.size (k0_off13_inb i k)).toLoadRect X5)⟩]) := by
  unfold tripL_k0_t3 trip_k0_t3
  rfl

variable (H0 H1 : Head) (m0 m1 : Fin 1024 → EReal) (hr0 : Reads H0 0 (arg4.view.read (Elt Ideal) X4) (arg5.view.read (Elt Ideal) X5) (arg7.view.read (Elt Ideal) X7))
  (hr1 : Reads H1 1 (arg4.view.read (Elt Ideal) X4) (arg5.view.read (Elt Ideal) X5) (arg7.view.read (Elt Ideal) X7))
  (hq0 : ∀ r d, v6 (ix2 r d) = H0.Q r d) (hq1 : ∀ r d, v9 (ix2 r d) = H1.Q r d)
  (hf0 : ∀ r j, v235 (ix2 r j) = H0.FQ r - m0 r) (hf1 : ∀ r j, k0_pay63 v38 v239 (ix2 r j) = H1.FQ r - m1 r)
include hr0 hr1 hq0 hq1 hf0 hf1

/-- The sums' loop adds the chunks it goes through to all four planes. -/
theorem sums_loop (G10 : BufTy.Contents (Elt Ideal) arg10.view.ty) (G11 : BufTy.Contents (Elt Ideal) arg11.view.ty) (k : ℕ) (hk : k ≤ (k0_t3_loop i).trips) :
    let L := pb_k0_t3 𝒱 c bd i arg3 harg3 arg4 harg4 arg5 harg5 arg6 harg6 arg7 harg7 arg8 harg8 arg9 harg9 arg10 harg10 arg11 harg11 arg2 v6 v9 v38 v235 v239 v277 v288 X4 X5 X7 G10 G11 k
    (∀ r l, arg10.view.readAt (Elt Ideal) R0.toLoadRect (arg10.view.writes (Elt Ideal) G10 L.1) (ix3 0 r l)
      = arg10.view.readAt (Elt Ideal) R0.toLoadRect G10 (ix3 0 r l) + ∑ n ∈ Finset.range k, H0.den (i 2).val m0 n r l) ∧
    (∀ r l, arg10.view.readAt (Elt Ideal) R1.toLoadRect (arg10.view.writes (Elt Ideal) G10 L.1) (ix3 0 r l)
      = arg10.view.readAt (Elt Ideal) R1.toLoadRect G10 (ix3 0 r l) + ∑ n ∈ Finset.range k, H1.den (i 2).val m1 n r l) ∧
    (∀ r l, arg11.view.readAt (Elt Ideal) R0.toLoadRect (arg11.view.writes (Elt Ideal) G11 L.2) (ix3 0 r l)
      = arg11.view.readAt (Elt Ideal) R0.toLoadRect G11 (ix3 0 r l) + ∑ n ∈ Finset.range k, H0.num (i 2).val m0 n r l) ∧
    (∀ r l, arg11.view.readAt (Elt Ideal) R1.toLoadRect (arg11.view.writes (Elt Ideal) G11 L.2) (ix3 0 r l)
      = arg11.view.readAt (Elt Ideal) R1.toLoadRect G11 (ix3 0 r l) + ∑ n ∈ Finset.range k, H1.num (i 2).val m1 n r l) := by
  induction k with
  | zero => simp only [Finset.range_zero, Finset.sum_empty, add_zero]; exact ⟨fun _ _ => rfl, fun _ _ => rfl, fun _ _ => rfl, fun _ _ => rfl⟩
  | succ k ih =>
    have ih := ih (by omega)
    have hb : (i 2).val < 2 := (i 2).isLt
    have ht := trips3 i
    have e := pb_k0_t3_succ (F := Ideal) 𝒱 c bd i arg3 harg3 arg4 harg4 arg5 harg5 arg6 harg6 arg7 harg7 arg8 harg8 arg9 harg9 arg10 harg10 arg11 harg11 arg2 v6 v9 v38 v235 v239 v277 v288 X4 X5 X7 G10 G11 ⟨k, hk⟩
    rw [trip3_eq] at e
    obtain ⟨i1, i2, i3, i4⟩ := ih
    intro L
    have eL : L = _ := e
    rw [eL]
    simp only [List.cons_append, List.nil_append]
    rw [plane01, plane00, plane11, plane01, plane00, plane11]
    have k0 : ∀ j d, _ = H0.K (kat k j) d := fun j d => (load_k arg4.view X4 _ (k0_off13_inb i ⟨k, hk⟩) k (by omega) 0 (k0_off13_eq i _) j d).trans (hr0.k _ _)
    have k1 : ∀ j d, _ = H1.K (kat k j) d := fun j d => (load_k arg4.view X4 _ (k0_off15_inb i ⟨k, hk⟩) k (by omega) 1 (k0_off15_eq i _) j d).trans (hr1.k _ _)
    have v0 : ∀ j d, _ = H0.V (kat k j) d := fun j d => (load_k arg5.view X5 _ (k0_off13_inb i ⟨k, hk⟩) k (by omega) 0 (k0_off13_eq i _) j d).trans (hr0.v _ _)
    have v1 : ∀ j d, _ = H1.V (kat k j) d := fun j d => (load_k arg5.view X5 _ (k0_off15_inb i ⟨k, hk⟩) k (by omega) 1 (k0_off15_eq i _) j d).trans (hr1.v _ _)
    have f0 : ∀ j, _ * lb = H0.FK (kat k j) := fun j => (congrArg (· * lb) (load_f arg7.view X7 _ (k0_off14_inb i ⟨k, hk⟩) k (by omega) 0 (k0_off14_eq i _) j)).trans (hr0.f k (by omega) _)
    have f1 : ∀ j, _ * lb = H1.FK (kat k j) := fun j => (congrArg (· * lb) (load_f arg7.view X7 _ (k0_off16_inb i ⟨k, hk⟩) k (by omega) 1 (k0_off16_eq i _) j)).trans (hr1.f k (by omega) _)
    refine ⟨fun r l => ?_, fun r l => ?_, fun r l => ?_, fun r l => ?_⟩ <;> rw [Finset.sum_range_succ, ← add_assoc]
    · rw [← i1, den_trip0 H0 (i 2).val k (by omega) hb m0 v6 v235 _ _ _ hq0 hf0 k0 f0]
    · rw [← i2, den_trip1 H1 (i 2).val k (by omega) hb m1 v9 _ _ _ _ hq1 hf1 k1 f1]
    · rw [← i3, num_trip0 H0 (i 2).val k (by omega) hb m0 v6 v235 _ _ _ _ hq0 hf0 k0 f0 v0]
    · rw [← i4, num_trip1 H1 (i 2).val k (by omega) hb m1 v9 _ _ _ _ _ hq1 hf1 k1 f1 v1]

/-- All four planes after the loops (the second loop has no trip). -/
theorem sums_planes {P1 P0 Q1 Q0 : Vec Ideal S1x1024x128 .f32} {𝒱' bd' arg2' v6' v9' v38' v235' v239' v277' v288' w' X4' X5' X7' G10' G11'} {t t' : ℕ} (ht : t = (k0_t3_loop i).trips) (ht' : t' = (k0_t4_loop i).trips) :
    let T := pb_k0_t4 (F := Ideal) 𝒱' c bd' i arg3 harg3 arg4 harg4 arg5 harg5 arg6 harg6 arg7 harg7 arg8 harg8 arg9 harg9 arg10 harg10 arg11 harg11 arg2' v6' v9' v38' v235' v239' v277' v288' w' X4' X5' X7' G10' G11' t'
    let L := pb_k0_t3 𝒱 c bd i arg3 harg3 arg4 harg4 arg5 harg5 arg6 harg6 arg7 harg7 arg8 harg8 arg9 harg9 arg10 harg10 arg11 harg11 arg2 v6 v9 v38 v235 v239 v277 v288 X4 X5 X7 (arg10.view.writes (Elt Ideal) arg10.view.junk [⟨R1, P1⟩, ⟨R0, P0⟩])
      (arg11.view.writes (Elt Ideal) arg11.view.junk [⟨R1, Q1⟩, ⟨R0, Q0⟩]) t
    (∀ r l, arg10.view.readCov (T.1 ++ (L.1 ++ [⟨R1, P1⟩, ⟨R0, P0⟩])) R0.toLoadRect (ix3 0 r l)
      = P0 (ix3 0 r l) + ∑ n ∈ Finset.range (2 * (i 2).val), H0.den (i 2).val m0 n r l) ∧
    (∀ r l, arg10.view.readCov (T.1 ++ (L.1 ++ [⟨R1, P1⟩, ⟨R0, P0⟩])) R1.toLoadRect (ix3 0 r l)
      = P1 (ix3 0 r l) + ∑ n ∈ Finset.range (2 * (i 2).val), H1.den (i 2).val m1 n r l) ∧
    (∀ r l, arg11.view.readCov (T.2 ++ (L.2 ++ [⟨R1, Q1⟩, ⟨R0, Q0⟩])) R0.toLoadRect (ix3 0 r l)
      = Q0 (ix3 0 r l) + ∑ n ∈ Finset.range (2 * (i 2).val), H0.num (i 2).val m0 n r l) ∧
    (∀ r l, arg11.view.readCov (T.2 ++ (L.2 ++ [⟨R1, Q1⟩, ⟨R0, Q0⟩])) R1.toLoadRect (ix3 0 r l)
      = Q1 (ix3 0 r l) + ∑ n ∈ Finset.range (2 * (i 2).val), H1.num (i 2).val m1 n r l) := by
  intro T L
  have eT : T = ([], []) := by simp only [T, ht', trips4]; rfl
  have h := sums_loop (𝒱 := 𝒱) (c := c) (bd := bd) (i := i) (harg3 := harg3) (harg4 := harg4) (harg5 := harg5) (harg6 := harg6) (harg7 := harg7) (harg8 := harg8) (harg9 := harg9) (harg10 := harg10) (harg11 := harg11)
    (arg2 := arg2) (v277 := v277) (v288 := v288) H0 H1 m0 m1 hr0 hr1 hq0 hq1 hf0 hf1 (arg10.view.writes (Elt Ideal) arg10.view.junk [⟨R1, P1⟩, ⟨R0, P0⟩])
    (arg11.view.writes (Elt Ideal) arg11.view.junk [⟨R1, Q1⟩, ⟨R0, Q0⟩]) _ le_rfl
  rw [plane01, plane00, plane11, plane01, plane00, plane11, ← ht] at h
  unfold View.readCov
  rw [eT, ← trips3, ← ht]
  simp only [List.nil_append, View.writes_append]
  exact h

end Sums

end Loops
end Cert.Fox
-- ==== Proof.FoxBlock.lean ====
/- What the kernel leaves in one block of its result: for each head and query, the weighted sum of the values over the
   sum of the weights. -/
module

public import proofs.«01_k».proof.Proof.FoxLoop

@[expose] public section

set_option maxHeartbeats 4000000

noncomputable section

namespace Cert.Fox

open Idealize.ShloMosaic Cert.KernelIdeal Cert.KernelIdeal.Gen Idealize.ShloMosaic.TcCoe Idealize.ShloMosaic.Tactic

/-- The result at query `r` and column `c`: the quotient of the two sums over all 2048 keys. -/
def Head.out (H : Head) (b : ℕ) (m : Fin 1024 → EReal) (r : Fin 1024) (c : Fin 128) : EReal :=
  Ideal.div (∑ N : Fin 2048, H.wt b m r N * H.V N c) (∑ N : Fin 2048, H.wt b m r N)

/-- A sum over the keys is a sum over the chunks. -/
theorem sum_kat (f : Fin 2048 → EReal) : ∑ N : Fin 2048, f N = ∑ n ∈ Finset.range 4, ∑ j : Fin 512, f (kat n j) := by
  rw [Finset.sum_range (fun n => ∑ j : Fin 512, f (kat n j))]
  rw [← Fintype.sum_prod_type' (fun (n : Fin 4) (j : Fin 512) => f (kat n.val j))]
  refine (Fintype.sum_equiv (finProdFinEquiv (m := 4) (n := 512)) _ _ ?_).symm
  rintro ⟨n, j⟩
  congr 1
  apply Fin.ext
  rw [kat_val _ n.isLt]
  simp [finProdFinEquiv]
  omega

section Final
variable (H : Head) (b : ℕ) (hb : b < 2) (m : Fin 1024 → EReal)
include hb

theorem wt_late (n : ℕ) (hn : 2 * b + 2 ≤ n) (hn4 : n < 4) (r : Fin 1024) (j : Fin 512) : H.wt b m r (kat n j) = 0 := by
  unfold Head.wt; rw [kat_val _ hn4, if_neg (by omega)]

/-- Adding up in the kernel's order, the diagonal chunks first, adds up all chunks: those after the diagonal weigh nothing. -/
theorem chunks (g : ℕ → EReal) (hg : ∀ n, 2 * b + 2 ≤ n → n < 4 → g n = 0) :
    g (2 * b) + g (2 * b + 1) + ∑ n ∈ Finset.range (2 * b), g n = ∑ n ∈ Finset.range 4, g n := by
  interval_cases b
  · have h2 := hg 2 (by omega) (by omega)
    have h3 := hg 3 (by omega) (by omega)
    simp [Finset.sum_range_succ, h2, h3]
  · simp [Finset.sum_range_succ]
    rw [add_comm, add_assoc]
    simp only [add_assoc]

theorem num_all (r : Fin 1024) (c : Fin 128) :
    H.num b m (2 * b) r c + H.num b m (2 * b + 1) r c + ∑ n ∈ Finset.range (2 * b), H.num b m n r c = ∑ N : Fin 2048, H.wt b m r N * H.V N c := by
  rw [chunks b hb (fun n => H.num b m n r c), sum_kat]; rfl
  intro n h1 h2
  unfold Head.num
  simp only [wt_late H b hb m n h1 h2, zero_mul, Finset.sum_const_zero]

theorem den_all (r : Fin 1024) :
    ∑ l : Fin 128, (H.den b m (2 * b) r l + H.den b m (2 * b + 1) r l + ∑ n ∈ Finset.range (2 * b), H.den b m n r l) = ∑ N : Fin 2048, H.wt b m r N := by
  have : ∀ l, H.den b m (2 * b) r l + H.den b m (2 * b + 1) r l + ∑ n ∈ Finset.range (2 * b), H.den b m n r l = ∑ n ∈ Finset.range 4, H.den b m n r l := by
    intro l
    rw [chunks b hb (fun n => H.den b m n r l)]
    intro n h1 h2
    unfold Head.den
    simp only [wt_late H b hb m n h1 h2]
    simp [lane4]
  simp only [this]
  rw [Finset.sum_comm, sum_kat]
  refine Finset.sum_congr rfl fun n _ => ?_
  unfold Head.den
  rw [sum_lane4]
end Final

section Block
variable {𝒱 : Variants} {c : Dev nD} {bd : Option 𝒱.V} {i : grid0.Coords} {arg3 : Memref sig .tc .vmem S1x1024x256 .f32} {harg3 : arg3.IsWhole} {arg4 : Memref sig .tc .vmem S1x2048x256 .bf16} {harg4 : arg4.IsWhole} {arg5 : Memref sig .tc .vmem S1x2048x256 .bf16} {harg5 : arg5.IsWhole} {arg6 : Memref sig .tc .vmem S1x1024x128 .f32} {harg6 : arg6.IsWhole} {arg7 : Memref sig .tc .vmem S1x2x4x1x512 .f32} {harg7 : arg7.IsWhole} {arg8 : Memref sig .tc .vmem S1x1024x256 .bf16} {harg8 : arg8.IsWhole} {arg9 : Memref sig .tc .vmem S2x1024x128 .f32} {harg9 : arg9.IsWhole} {arg10 : Memref sig .tc .vmem S2x1024x128 .f32} {harg10 : arg10.IsWhole} {arg11 : Memref sig .tc .vmem S2x1024x128 .f32} {harg11 : arg11.IsWhole}
  {arg2 : BitVec 32} {v6 : FVec Ideal S1024x128 .bf16} {v9 : FVec Ideal S1024x128 .bf16}
  {X4 : BufTy.Contents (Elt Ideal) arg4.view.ty} {X5 : BufTy.Contents (Elt Ideal) arg5.view.ty} {X7 : BufTy.Contents (Elt Ideal) arg7.view.ty}
  {v26 : FVec Ideal S1024x512 .f32} {v38 : FVec Ideal S1024x512 .f32} {v277 : FVec Ideal S1024x128 .f32} {v288 : FVec Ideal S1024x128 .f32}
  {M0 M1 : Vec Ideal S1x1024x128 .f32} {S00 S10 : FVec Ideal S1024x512 .f32} {S01 S11 : FVec Ideal S512x512 .f32} {a0 a1 b0 b1 : Vec Ideal S1x512x128 .bf16}

/-- The block from its planes: each head's quotient. -/
theorem block_sums (H0 H1 : Head) (hr0 : Reads H0 0 (arg4.view.read (Elt Ideal) X4) (arg5.view.read (Elt Ideal) X5) (arg7.view.read (Elt Ideal) X7))
    (hr1 : Reads H1 1 (arg4.view.read (Elt Ideal) X4) (arg5.view.read (Elt Ideal) X5) (arg7.view.read (Elt Ideal) X7))
    (hq0 : ∀ r d, v6 (ix2 r d) = H0.Q r d) (hq1 : ∀ r d, v9 (ix2 r d) = H1.Q r d)
    (hf0 : ∀ r j, v26 (ix2 r j) = H0.FQ r) (hf1 : ∀ r j, v38 (ix2 r j) = H1.FQ r)
    (h00 : ∀ (r : Fin 1024) (j : Fin 512), S00 (ix2 r j) = if j.val ≤ r.val then H0.sc r (kat (2 * (i 2).val) j) else ⊥)
    (h01 : ∀ (r : Fin 512) (j : Fin 512), S01 (ix2 r j) = if j.val ≤ r.val then H0.sc (low r) (kat (2 * (i 2).val + 1) j) else ⊥)
    (h10 : ∀ (r : Fin 1024) (j : Fin 512), S10 (ix2 r j) = if j.val ≤ r.val then H1.sc r (kat (2 * (i 2).val) j) else ⊥)
    (h11 : ∀ (r : Fin 512) (j : Fin 512), S11 (ix2 r j) = if j.val ≤ r.val then H1.sc (low r) (kat (2 * (i 2).val + 1) j) else ⊥)
    (ha0 : ∀ j c, a0 (ix3 0 j c) = H0.V (kat (2 * (i 2).val) j) c) (hb0 : ∀ j c, b0 (ix3 0 j c) = H0.V (kat (2 * (i 2).val + 1) j) c)
    (ha1 : ∀ j c, a1 (ix3 0 j c) = H1.V (kat (2 * (i 2).val) j) c) (hb1 : ∀ j c, b1 (ix3 0 j c) = H1.V (kat (2 * (i 2).val + 1) j) c)
    {𝒱' bd' arg2' v6' v9' v38' v235' v239' v277' v288' w' X4' X5' X7' G10' G11'} {t t' : ℕ} (ht : t = (k0_t3_loop i).trips) (ht' : t' = (k0_t4_loop i).trips)
    (r : Fin 1024) (j : Fin 256) :
    let T := pb_k0_t4 (F := Ideal) 𝒱' c bd' i arg3 harg3 arg4 harg4 arg5 harg5 arg6 harg6 arg7 harg7 arg8 harg8 arg9 harg9 arg10 harg10 arg11 harg11 arg2' v6' v9' v38' v235' v239' v277' v288' w' X4' X5' X7' G10' G11' t'
    let T10 : List (View.Piece (Elt Ideal) S2x1024x128 .f32) := [⟨R1, k0_pay62 (k0_pay60 S11 (k0_pay54 M1) (k0_pay56 S10 M1))⟩, ⟨R0, k0_pay52 S01 (k0_pay48 S00 M0) (k0_pay49 M0)⟩]
    let T11 : List (View.Piece (Elt Ideal) S2x1024x128 .f32) := [⟨R1, k0_pay61 (k0_pay59 S11 (k0_pay54 M1) (k0_pay57 S10 M1) a1 b1)⟩, ⟨R0, k0_pay51 S01 (k0_pay47 S00 M0 a0) (k0_pay49 M0) b0⟩]
    let L := pb_k0_t3 𝒱 c bd i arg3 harg3 arg4 harg4 arg5 harg5 arg6 harg6 arg7 harg7 arg8 harg8 arg9 harg9 arg10 harg10 arg11 harg11 arg2 v6 v9 v38 (k0_pay53 v26 (k0_pay45 M0)) (k0_pay55 M1) v277 v288 X4 X5 X7 (arg10.view.writes (Elt Ideal) arg10.view.junk T10)
      (arg11.view.writes (Elt Ideal) arg11.view.junk T11) t
    k0_pay1 (k0_pay66 (arg11.view.readCov (T.2 ++ (L.2 ++ T11)) R0.toLoadRect) (arg10.view.readCov (T.1 ++ (L.1 ++ T10)) R0.toLoadRect)
      (arg11.view.readCov (T.2 ++ (L.2 ++ T11)) R1.toLoadRect) (arg10.view.readCov (T.1 ++ (L.1 ++ T10)) R1.toLoadRect)) (ix3 0 r j)
    = if h : j.val < 128 then H0.out (i 2).val (rm M0) r ⟨j.val, h⟩ else H1.out (i 2).val (rm M1) r ⟨j.val - 128, by omega⟩ := by
  intro T T10 T11 L
  have hb : (i 2).val < 2 := (i 2).isLt
  obtain ⟨e1, e2, e3, e4⟩ := sums_planes (𝒱 := 𝒱) (c := c) (bd := bd) (i := i) (harg3 := harg3) (harg4 := harg4) (harg5 := harg5) (harg6 := harg6) (harg7 := harg7) (harg8 := harg8) (harg9 := harg9) (harg10 := harg10) (harg11 := harg11)
    (arg2 := arg2) (v277 := v277) (v288 := v288) H0 H1 (rm M0) (rm M1) hr0 hr1 hq0 hq1
    (v38 := v38) (v235 := k0_pay53 v26 (k0_pay45 M0)) (v239 := k0_pay55 M1) (fun r j => by rw [pay53_apply, hf0]) (fun r j => by rw [pay63_apply, hf1])
    (P1 := k0_pay62 (k0_pay60 S11 (k0_pay54 M1) (k0_pay56 S10 M1))) (P0 := k0_pay52 S01 (k0_pay48 S00 M0) (k0_pay49 M0))
    (Q1 := k0_pay61 (k0_pay59 S11 (k0_pay54 M1) (k0_pay57 S10 M1) a1 b1)) (Q0 := k0_pay51 S01 (k0_pay47 S00 M0 a0) (k0_pay49 M0) b0)
    (𝒱' := 𝒱') (bd' := bd') (arg2' := arg2') (v6' := v6') (v9' := v9') (v38' := v38') (v235' := v235') (v239' := v239') (v277' := v277') (v288' := v288') (w' := w') (X4' := X4') (X5' := X5') (X7' := X7') (G10' := G10') (G11' := G11') ht ht'
  rw [quot_apply]
  unfold Head.out
  split
  · congr 1
    · refine (e3 _ _).trans ?_
      rw [num_init0 H0 _ hb M0 h00 h01 ha0 hb0, num_all H0 _ hb]
    · refine (Finset.sum_congr rfl fun l _ => e1 r l).trans ?_
      simp only [den_init0 H0 _ hb M0 h00 h01, den_all H0 _ hb]
  · congr 1
    · refine (e4 _ _).trans ?_
      rw [num_init1 H1 _ hb M1 h10 h11 ha1 hb1, num_all H1 _ hb]
    · refine (Finset.sum_congr rfl fun l _ => e2 r l).trans ?_
      simp only [den_init1 H1 _ hb M1 h10 h11, den_all H1 _ hb]

end Block

/-- Head `h` of the block at `i`, from what the block's windows hold. -/
def head (i : grid0.Coords) (h : Fin 2) (x0 : Vec Ideal S1x1024x256 .f32) (x1 x2 : Vec Ideal S1x2048x256 .bf16) (x3 : Vec Ideal S1x1024x128 .f32) (x4 : Vec Ideal S1x2x4x1x512 .f32) : Head where
  Q r d := x0 (ix3 0 r ⟨128 * h.val + d.val, by omega⟩) * qs
  FQ r := x3 (ix3 0 r ⟨2 * (i 1).val + h.val, by have : (i 1).val < 4 := (i 1).isLt; omega⟩) * lb
  K N d := x1 (ix3 0 N ⟨128 * h.val + d.val, by omega⟩)
  FK N := x4 (ix5 0 h ⟨N.val / 512, by omega⟩ 0 ⟨N.val % 512, by omega⟩) * lb
  V N c := x2 (ix3 0 N ⟨128 * h.val + c.val, by omega⟩)

theorem head_reads (i : grid0.Coords) (h : Fin 2) (x0 : Vec Ideal S1x1024x256 .f32) (x1 x2 : Vec Ideal S1x2048x256 .bf16) (x3 : Vec Ideal S1x1024x128 .f32) (x4 : Vec Ideal S1x2x4x1x512 .f32) :
    Reads (head i h x0 x1 x2 x3 x4) h x1 x2 x4 where
  k _ _ := rfl
  v _ _ := rfl
  f n hn j := by
    simp only [head]
    have e1 : (⟨(kat n j).val / 512, by omega⟩ : Fin 4) = ⟨n, hn⟩ := Fin.ext (by simp only [kat_val n hn]; omega)
    have e2 : (⟨(kat n j).val % 512, by omega⟩ : Fin 512) = j := Fin.ext (by simp only [kat_val n hn]; omega)
    rw [e1, e2]

/-- A load of one head's columns of the queries. -/
theorem load_q {sp : Space} (v : View sig .tc sp S1x1024x256 .f32) (X : v.ty.Contents (Elt Ideal)) (o : ℕ) (inb)
    (h : Fin 2) (ho : o = 128 * h.val) (r : Fin 1024) (d : Fin 128) :
    v.readAt (Elt Ideal) (Rect.unit (s := S1x1024x256) ![0, 0, o] S1x1024x128.size inb).toLoadRect X (ix3 0 r d)
      = v.read (Elt Ideal) X (ix3 0 r ⟨128 * h.val + d.val, by omega⟩) := by
  subst ho
  refine congrArg (v.read (Elt Ideal) X) (funext fun a => Fin.ext ?_)
  fin_cases a <;> simp [Rect.unit, Rect.toLoadRect, LoadRect.idx]

theorem load_fq {sp : Space} (v : View sig .tc sp S1x1024x128 .f32) (X : v.ty.Contents (Elt Ideal)) (inb) (r : Fin 1024) (d : Fin 128) :
    v.readAt (Elt Ideal) (Rect.unit (s := S1x1024x128) ![0, 0, 0] S1x1024x128.size inb).toLoadRect X (ix3 0 r d)
      = v.read (Elt Ideal) X (ix3 0 r d) := by
  refine congrArg (v.read (Elt Ideal) X) (funext fun a => Fin.ext ?_)
  fin_cases a <;> simp [Rect.unit, Rect.toLoadRect, LoadRect.idx]

set_option maxRecDepth 8192 in
/-- What the kernel leaves in one block of its result. -/
theorem block_out (c : Dev nD) (i : grid0.Coords) (arg3 : Memref sig .tc .vmem S1x1024x256 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1024x128 .f32) (harg6 : arg6.IsWhole) (arg7 : Memref sig .tc .vmem S1x2x4x1x512 .f32) (harg7 : arg7.IsWhole) (arg8 : Memref sig .tc .vmem S1x1024x256 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole)
    (x0 : Vec Ideal S1x1024x256 .f32) (x1 : Vec Ideal S1x2048x256 .bf16) (x2 : Vec Ideal S1x2048x256 .bf16) (x3 : Vec Ideal S1x1024x128 .f32) (x4 : Vec Ideal S1x2x4x1x512 .f32)
    (hs : ∀ h r N, ∃ x : ℝ, (head i h x0 x1 x2 x3 x4).sc r N = (x : EReal)) :
    ∃ M0 M1 : Vec Ideal S1x1024x128 .f32, Good M0 ∧ Good M1 ∧ ∀ (r : Fin 1024) (j : Fin 256),
    out0_A_5 c i arg3 harg3 arg4 harg4 arg5 harg5 arg6 harg6 arg7 harg7 arg8 harg8 arg9 harg9 arg10 harg10 arg11 harg11 x0 x1 x2 x3 x4 (ix3 0 r j)
      = if h : j.val < 128 then (head i 0 x0 x1 x2 x3 x4).out (i 2).val (rm M0) r ⟨j.val, h⟩
        else (head i 1 x0 x1 x2 x3 x4).out (i 2).val (rm M1) r ⟨j.val - 128, by omega⟩ := by
  have hr0 : Reads (head i 0 x0 x1 x2 x3 x4) 0 (arg4.view.read (Elt Ideal) (harg4.unread x1)) (arg5.view.read (Elt Ideal) (harg5.unread x2)) (arg7.view.read (Elt Ideal) (harg7.unread x4)) := by
    rw [harg4.read_unread, harg5.read_unread, harg7.read_unread]; exact head_reads i 0 x0 x1 x2 x3 x4
  have hr1 : Reads (head i 1 x0 x1 x2 x3 x4) 1 (arg4.view.read (Elt Ideal) (harg4.unread x1)) (arg5.view.read (Elt Ideal) (harg5.unread x2)) (arg7.view.read (Elt Ideal) (harg7.unread x4)) := by
    rw [harg4.read_unread, harg5.read_unread, harg7.read_unread]; exact head_reads i 1 x0 x1 x2 x3 x4
  have hb : (i 2).val < 2 := (i 2).isLt
  have hst : ∀ h r N, (head i h x0 x1 x2 x3 x4).sc r N ≠ ⊤ := fun h r N => by obtain ⟨x, e⟩ := hs h r N; rw [e]; exact EReal.coe_ne_top x
  have hsb : ∀ h r N, (head i h x0 x1 x2 x3 x4).sc r N ≠ ⊥ := fun h r N => by obtain ⟨x, e⟩ := hs h r N; rw [e]; exact EReal.coe_ne_bot x
  have q0 : ∀ r d, k0_pay24 (arg3.view.readAt (Elt Ideal) (Rect.unit (s := S1x1024x256) ![0, 0, 0] S1x1024x128.size inb_S1x1024x256_S1x1024x128_0_0_0).toLoadRect (harg3.unread x0)) (ix2 r d) = (head i 0 x0 x1 x2 x3 x4).Q r d := by
    intro r d; rw [pay24, load_q _ _ 0 _ 0 rfl, harg3.read_unread]; rfl
  have q1 : ∀ r d, k0_pay25 (arg3.view.readAt (Elt Ideal) (Rect.unit (s := S1x1024x256) ![0, 0, 128] S1x1024x128.size inb_S1x1024x256_S1x1024x128_0_0_128).toLoadRect (harg3.unread x0)) (ix2 r d) = (head i 1 x0 x1 x2 x3 x4).Q r d := by
    intro r d; rw [pay25, load_q _ _ 128 _ 1 rfl, harg3.read_unread]; rfl
  have f0 : ∀ r j, k0_pay27 i (arg6.view.readAt (Elt Ideal) (Rect.unit (s := S1x1024x128) ![0, 0, 0] S1x1024x128.size inb_S1x1024x128_S1x1024x128_0_0_0).toLoadRect (harg6.unread x3)) (ix2 r j) = (head i 0 x0 x1 x2 x3 x4).FQ r := by
    intro r j; rw [pay27, load_fq, harg6.read_unread]; rfl
  have f1 : ∀ r j, k0_pay29 (k0_pay28 i (arg6.view.readAt (Elt Ideal) (Rect.unit (s := S1x1024x128) ![0, 0, 0] S1x1024x128.size inb_S1x1024x128_S1x1024x128_0_0_0).toLoadRect (harg6.unread x3))) (ix2 r j) = (head i 1 x0 x1 x2 x3 x4).FQ r := by
    intro r j; rw [pay29, load_fq, harg6.read_unread]; rfl
  have o1 : ∀ r : Fin 2, k0_off1 i (BitVec.ofNat 32 r.val) = ![0, 512 * (2 * (i 2).val + r.val), 128 * (0 : Fin 2).val] := fun r => by
    rw [k0_off1_eq, show 1024 * (i 2).val + 512 * r.val = 512 * (2 * (i 2).val + r.val) by omega]; rfl
  have o3 : ∀ r : Fin 2, k0_off3 i (BitVec.ofNat 32 r.val) = ![0, 512 * (2 * (i 2).val + r.val), 128 * (1 : Fin 2).val] := fun r => by
    rw [k0_off3_eq, show 1024 * (i 2).val + 512 * r.val = 512 * (2 * (i 2).val + r.val) by omega]; rfl
  have kk : ∀ (r : Fin 2) j d, _ = _ := fun r j d => (load_k arg4.view (harg4.unread x1) _ (k0_off1_inb i r) (2 * (i 2).val + r.val) (by omega) 0 (o1 r) j d).trans (hr0.k _ _)
  have kk' : ∀ (r : Fin 2) j d, _ = _ := fun r j d => (load_k arg4.view (harg4.unread x1) _ (k0_off3_inb i r) (2 * (i 2).val + r.val) (by omega) 1 (o3 r) j d).trans (hr1.k _ _)
  have vv : ∀ (r : Fin 2) j d, _ = _ := fun r j d => (load_k arg5.view (harg5.unread x2) _ (k0_off1_inb i r) (2 * (i 2).val + r.val) (by omega) 0 (o1 r) j d).trans (hr0.v _ _)
  have vv' : ∀ (r : Fin 2) j d, _ = _ := fun r j d => (load_k arg5.view (harg5.unread x2) _ (k0_off3_inb i r) (2 * (i 2).val + r.val) (by omega) 1 (o3 r) j d).trans (hr1.v _ _)
  have ff : ∀ (r : Fin 2) j, _ * lb = _ := fun r j => (congrArg (· * lb) (load_f arg7.view (harg7.unread x4) _ (k0_off2_inb i r) (2 * (i 2).val + r.val) (by omega) 0 (k0_off2_eq i r) j)).trans (hr0.f _ (by omega) _)
  have ff' : ∀ (r : Fin 2) j, _ * lb = _ := fun r j => (congrArg (· * lb) (load_f arg7.view (harg7.unread x4) _ (k0_off4_inb i r) (2 * (i 2).val + r.val) (by omega) 1 (k0_off4_eq i r) j)).trans (hr1.f _ (by omega) _)
  have s00 := score00 (head i 0 x0 x1 x2 x3 x4) (2 * (i 2).val) _ _ _ _ q0 f0 (kk 0) (ff 0)
  have s01 := score01 (head i 0 x0 x1 x2 x3 x4) (2 * (i 2).val + 1) _ _ _ _ q0 f0 (kk 1) (ff 1)
  have s10 := score10 (head i 1 x0 x1 x2 x3 x4) (2 * (i 2).val) _ _ _ _ q1 f1 (kk' 0) (ff' 0)
  have s11 := score11 (head i 1 x0 x1 x2 x3 x4) (2 * (i 2).val + 1) _ _ _ _ q1 f1 (kk' 1) (ff' 1)
  have hnt : ∀ (p : Prop) [Decidable p] h r N, (if p then (head i h x0 x1 x2 x3 x4).sc r N else ⊥) ≠ ⊤ := by
    intro p _ h r N; split
    · exact hst h r N
    · exact bot_ne_top
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  simp only [kernelRun0_A.sl.HS0_2, kernelRun0_A.sl.HS1_2, kernelRun0_A.sl.HS2_2, kernelRun0_A.sl.cst_35, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v104, kernelRun0_A.sl.v105, kernelRun0_A.sl.v170, kernelRun0_A.sl.v172, kernelRun0_A.sl.v173, kernelRun0_A.sl.v174, kernelRun0_A.sl.v175, kernelRun0_A.sl.v236, kernelRun0_A.sl.v297, kernelRun0_A.sl.v298, kernelRun0_A.sl.v300, kernelRun0_A.sl.v301, kernelRun0_A.sl.v302, kernelRun0_A.sl.v303, kernelRun0_A.sl.v305, kernelRun0_A.sl.v311, kernelRun0_A.sl.v313]
  refine ⟨_, _, ?_, ?_, fun r j => (congrFun (View.canon_unit_zero (S := S1x1024x256) (e := .bf16) (off := ![0, 0, 0]) (by decide) inb_S1x1024x256_S1x1024x256_0_0_0 _) _).trans <| block_sums (head i 0 x0 x1 x2 x3 x4) (head i 1 x0 x1 x2 x3 x4) hr0 hr1 q0 q1 f0 f1 s00 s01 s10 s11 (vv 0) (vv 1) (vv' 0) (vv' 1) rfl rfl r j⟩
  · exact (good_planes (head i 0 x0 x1 x2 x3 x4) (head i 1 x0 x1 x2 x3 x4) ⟨_, hr0⟩ ⟨_, hr1⟩ q0 q1 f0 f1 (hst 0) (hst 1)
      (good_init0 (fun r j e => hnt _ _ _ _ ((s00 r j).symm.trans e)) (fun r e => hsb _ _ _ ((if_pos (Nat.zero_le _)).symm.trans ((s00 r 0).symm.trans e))) (fun r j e => hnt _ _ _ _ ((s01 r j).symm.trans e)))
      (good_init1 (fun r j e => hnt _ _ _ _ ((s10 r j).symm.trans e)) (fun r e => hsb _ _ _ ((if_pos (Nat.zero_le _)).symm.trans ((s10 r 0).symm.trans e))) (fun r j e => hnt _ _ _ _ ((s11 r j).symm.trans e))) rfl rfl).1
  · exact (good_planes (head i 0 x0 x1 x2 x3 x4) (head i 1 x0 x1 x2 x3 x4) ⟨_, hr0⟩ ⟨_, hr1⟩ q0 q1 f0 f1 (hst 0) (hst 1)
      (good_init0 (fun r j e => hnt _ _ _ _ ((s00 r j).symm.trans e)) (fun r e => hsb _ _ _ ((if_pos (Nat.zero_le _)).symm.trans ((s00 r 0).symm.trans e))) (fun r j e => hnt _ _ _ _ ((s01 r j).symm.trans e)))
      (good_init1 (fun r j e => hnt _ _ _ _ ((s10 r j).symm.trans e)) (fun r e => hsb _ _ _ ((if_pos (Nat.zero_le _)).symm.trans ((s10 r 0).symm.trans e))) (fun r j e => hnt _ _ _ _ ((s11 r j).symm.trans e))) rfl rfl).2

end Cert.Fox
-- ==== Proof.FoxArray.lean ====
/- The kernel's windows at an index, and its result array from its blocks. -/
module

public import proofs.«01_k».proof.Proof.FoxBlock
public import Idealize.ShloMosaic.Lib.Pipeline.ValueKit.Point

@[expose] public section

noncomputable section

namespace Cert.Fox

open Idealize.ShloMosaic Idealize.ShloMosaic.TcCoe Cert.KernelIdeal Cert.KernelIdeal.Gen

variable (m : (ℓ : Loc nD τ sig) → Buf (Elt Ideal) ℓ) (c : Dev nD)

theorem idx0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem idx1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem idx2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem idx3 : ∀ t : Fin cfg0.N, win0_3.index t = ![(grid0.coords t 0).val, (grid0.coords t 2).val, 0] :=
  (by decide +kernel : ∀ t : Fin grid0.N, win0_3.index t = ![(grid0.coords t 0).val, (grid0.coords t 2).val, 0])
theorem idx4 : ∀ t : Fin cfg0.N, win0_4.index t = ![(grid0.coords t 0).val, (grid0.coords t 1).val, 0, 0, 0] :=
  (by decide +kernel : ∀ t : Fin grid0.N, win0_4.index t = ![(grid0.coords t 0).val, (grid0.coords t 1).val, 0, 0, 0])
theorem idx5 : ∀ t : Fin cfg0.N, win0_5.index t = ![(grid0.coords t 0).val, (grid0.coords t 2).val, (grid0.coords t 1).val] :=
  (by decide +kernel : ∀ t : Fin grid0.N, win0_5.index t = ![(grid0.coords t 0).val, (grid0.coords t 2).val, (grid0.coords t 1).val])

/-- The batch, the head and the query of a block's parts. -/
def bat (i : grid0.Coords) : Fin 8 := ⟨(i 0).val, (i 0).isLt⟩
def hd (i : grid0.Coords) (h : Fin 2) : Fin 8 := ⟨2 * (i 1).val + h.val, by have : (i 1).val < 4 := (i 1).isLt; omega⟩
def row (i : grid0.Coords) (r : Fin 1024) : Fin 2048 := ⟨1024 * (i 2).val + r.val, by have : (i 2).val < 2 := (i 2).isLt; omega⟩

theorem blk_q (t : Fin cfg0.N) (h : Fin 2) (r : Fin 1024) (d : Fin 128) :
    iblk m c 0 t (ix3 0 r ⟨128 * h.val + d.val, by omega⟩) = m ((c : Thread nD τ).loc main_arg0) (ix4 (bat (grid0.coords t)) (row (grid0.coords t) r) (hd (grid0.coords t) h) d) := by
  have h1 : (grid0.coords t 1).val < 4 := (grid0.coords t 1).isLt
  blk_simp [iblk]
  entry_read
  pointwise
  unfold bat row hd
  blk_ext [idx0 t]

theorem blk_k (t : Fin cfg0.N) (h : Fin 2) (N : Fin 2048) (d : Fin 128) :
    iblk m c 1 t (ix3 0 N ⟨128 * h.val + d.val, by omega⟩) = m ((c : Thread nD τ).loc main_arg1) (ix4 (bat (grid0.coords t)) N (hd (grid0.coords t) h) d) := by
  have h1 : (grid0.coords t 1).val < 4 := (grid0.coords t 1).isLt
  blk_simp [iblk]
  entry_read
  pointwise
  unfold bat hd
  blk_ext [idx1 t]

theorem blk_v (t : Fin cfg0.N) (h : Fin 2) (N : Fin 2048) (d : Fin 128) :
    iblk m c 2 t (ix3 0 N ⟨128 * h.val + d.val, by omega⟩) = m ((c : Thread nD τ).loc main_arg2) (ix4 (bat (grid0.coords t)) N (hd (grid0.coords t) h) d) := by
  have h1 : (grid0.coords t 1).val < 4 := (grid0.coords t 1).isLt
  blk_simp [iblk]
  entry_read
  pointwise
  unfold bat hd
  blk_ext [idx2 t]

theorem blk_fq (t : Fin cfg0.N) (h : Fin 2) (r : Fin 1024) (hh : 2 * (grid0.coords t 1).val + h.val < 128) :
    iblk m c 3 t (ix3 0 r ⟨2 * (grid0.coords t 1).val + h.val, hh⟩) = m ((c : Thread nD τ).loc main_arg3) (ix3 (bat (grid0.coords t)) (row (grid0.coords t) r) (hd (grid0.coords t) h)) := by
  have h1 : (grid0.coords t 1).val < 4 := (grid0.coords t 1).isLt
  blk_simp [iblk]
  entry_read
  pointwise
  unfold bat row hd
  blk_simp [idx3 t]
  split
  · blk_ext [idx3 t]
  · next hn => exact absurd (by simp; omega) hn

theorem blk_fk (t : Fin cfg0.N) (h : Fin 2) (N : Fin 2048) :
    iblk m c 4 t (ix5 0 h ⟨N.val / 512, by omega⟩ 0 ⟨N.val % 512, by omega⟩) = m ((c : Thread nD τ).loc main_arg3) (ix3 (bat (grid0.coords t)) N (hd (grid0.coords t) h)) := by
  have h1 : (grid0.coords t 1).val < 4 := (grid0.coords t 1).isLt
  blk_simp [iblk]
  entry_read
  pointwise
  unfold bat hd
  blk_ext [idx4 t]

end Cert.Fox
-- ==== Proof.FoxEq.lean ====
/- The equation between the two softmaxes: weights from powers of two and any bound of the row, divided once at the
   end, against weights from `exp` and the row's maximum, divided one by one. -/
module

public import proofs.«01_k».proof.Proof.FoxPay

@[expose] public section

noncomputable section

namespace Cert.Fox

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

/-- A score as a real number. -/
def rs (q k : Fin 128 → ℝ) (a b : ℝ) : ℝ := (∑ d, q d * k d) / Real.sqrt 128 + a - b

/-- The kernel's score is that number in base two. -/
theorem kernel_score (q k : Fin 128 → ℝ) (a b : ℝ) :
    (∑ d : Fin 128, ((q d : EReal) * qs) * (k d : EReal)) + (a : EReal) * lb - (b : EReal) * lb
      = ((rs q k a b * (Real.log 2)⁻¹ : ℝ) : EReal) := by
  simp only [← EReal.coe_mul, ← coe_sum, ← EReal.coe_add, ← EReal.coe_sub]
  congr 1
  have h : (∑ d, q d * ((Real.sqrt 128)⁻¹ * (Real.log 2)⁻¹) * k d) = (∑ d, q d * k d) * ((Real.sqrt 128)⁻¹ * (Real.log 2)⁻¹) := by
    rw [Finset.sum_mul]; exact Finset.sum_congr rfl fun d _ => by ring
  rw [h, rs, div_eq_mul_inv]; ring

theorem of_128 : Ideal.ofBits FTy.f32 1124073472#32 = ((128 : ℝ) : EReal) := by
  simp [Ideal.ofBits, Ideal.ieee]
  rw [← EReal.coe_mul]
  norm_num

/-- The reference's score is that number. -/
theorem ref_score (q k : Fin 128 → ℝ) (a b : ℝ) :
    Ideal.div (∑ d : Fin 128, (q d : EReal) * (k d : EReal)) (Ideal.sqrt (Ideal.ofBits FTy.f32 1124073472#32)) + (a : EReal) - (b : EReal)
      = (rs q k a b : EReal) := by
  have h0 : Real.sqrt 128 ≠ 0 := (Real.sqrt_pos.2 (by norm_num)).ne'
  rw [of_128, Ideal.sqrt_coe, if_neg (by norm_num), Ideal.div_coe h0]
  simp only [← EReal.coe_mul, ← coe_sum, ← EReal.coe_add, ← EReal.coe_sub]
  congr 1
  rw [rs, div_eq_mul_inv, div_eq_mul_inv, one_mul]

/-- The two softmaxes applied to the values agree, whatever the values are. -/
theorem softmax_eq (S : Fin 2048 → ℝ) (n : ℕ) (V : Fin 2048 → EReal) (M μ : ℝ) :
    Ideal.div (∑ N : Fin 2048, (if N.val ≤ n then Ideal.exp2 (((S N * (Real.log 2)⁻¹ : ℝ) : EReal) - (M : EReal)) else 0) * V N)
        (∑ N : Fin 2048, if N.val ≤ n then Ideal.exp2 (((S N * (Real.log 2)⁻¹ : ℝ) : EReal) - (M : EReal)) else 0)
      = ∑ N : Fin 2048, V N * Ideal.div (Ideal.exp ((if N.val ≤ n then (S N : EReal) else ⊥) - (μ : EReal)))
          (∑ N' : Fin 2048, Ideal.exp ((if N'.val ≤ n then (S N' : EReal) else ⊥) - (μ : EReal))) := by
  have hl : Real.log 2 ≠ 0 := (Real.log_pos (by norm_num)).ne'
  set e : Fin 2048 → ℝ := fun N => if N.val ≤ n then Real.exp (S N - μ) else 0 with he
  set κ : ℝ := Real.exp (μ - M * Real.log 2) with hκ
  have hκ0 : 0 < κ := Real.exp_pos _
  have hk : ∀ N : Fin 2048, (if N.val ≤ n then Ideal.exp2 (((S N * (Real.log 2)⁻¹ : ℝ) : EReal) - (M : EReal)) else 0) = ((κ * e N : ℝ) : EReal) := by
    intro N
    simp only [he]
    split
    · rw [← EReal.coe_sub, Ideal.exp2_coe]
      congr 1
      rw [hκ, ← Real.exp_add]
      show (2 : ℝ) ^ (S N * (Real.log 2)⁻¹ - M : ℝ) = _
      rw [Real.rpow_def_of_pos (by norm_num)]
      congr 1
      field_simp
      ring
    · simp
  have hr : ∀ N : Fin 2048, Ideal.exp ((if N.val ≤ n then (S N : EReal) else ⊥) - (μ : EReal)) = ((e N : ℝ) : EReal) := by
    intro N
    simp only [he]
    split
    · rw [← EReal.coe_sub, Ideal.exp_coe]
    · rw [EReal.bot_sub, Ideal.exp_bot]; simp
  simp only [hk, hr, ← coe_sum]
  have hE : 0 < ∑ N, e N := by
    refine Finset.sum_pos' (fun N _ => ?_) ⟨0, Finset.mem_univ _, ?_⟩
    · simp only [he]; split
      · exact (Real.exp_pos _).le
      · exact le_rfl
    · simp only [he]; rw [if_pos (show ((0 : Fin 2048) : ℕ) ≤ n from Nat.zero_le _)]; exact Real.exp_pos _
  rw [← Finset.mul_sum, Ideal.div_coe (mul_pos hκ0 hE).ne', sum_mul_coe _ _ _ (by positivity)]
  refine Finset.sum_congr rfl fun N _ => ?_
  rw [Ideal.div_coe hE.ne', ← EReal.coe_mul, mul_right_comm, ← EReal.coe_mul, mul_comm]
  congr 2
  field_simp

end Cert.Fox
-- ==== Proof.FoxRef.lean ====
/- What the reference computes, at an index: the masked scores, their maximum, the weights and the result. -/
module

public import proofs.«01_k».proof.Proof.Gen.ReferenceIdeal.Read
public import Idealize.ShloMosaic.Lib.Pointwise

@[expose] public section

noncomputable section

namespace Cert.Fox

open Idealize.ShloMosaic Cert.ReferenceIdeal Cert.ReferenceIdeal.Gen Cert.ReferenceIdeal.Read

variable (q k v : (⟨S8x2048x8x128, .f32⟩ : BufTy).Contents (Elt Ideal)) (f : (⟨S8x2048x8, .f32⟩ : BufTy).Contents (Elt Ideal))

/-- The masked score of query `n` with key `N`. -/
def msk (b h : Fin 8) (n N : Fin 2048) : EReal :=
  if N.val ≤ n.val then
    Ideal.div (∑ d : Fin 128, q (ix4 b n h d) * k (ix4 b N h d)) (Ideal.sqrt (Ideal.ofBits FTy.f32 1124073472#32)) + f (ix3 b n h) - f (ix3 b N h)
  else ⊥

/-- The largest masked score of query `n`. -/
def mx (b h : Fin 8) (n : Fin 2048) : EReal := Finset.fold max ⊥ (msk q k f b h n) Finset.univ

theorem seed : Ideal.ofBits FTy.f32 4286578688#32 = (⊥ : EReal) := by simp [Ideal.ofBits, Ideal.ieee]

theorem sle_pos (j r : ℕ) (hj : j < 2048) (hr : r < 2048) (a b : EReal) :
    Scalar.select (IntOp.cmpi CmpIPredicate.sle (BitVec.ofNat 32 j) (BitVec.ofNat 32 r)) a b = if j ≤ r then a else b := by
  have h : (IntOp.cmpi CmpIPredicate.sle (BitVec.ofNat 32 j) (BitVec.ofNat 32 r)) = if j ≤ r then 1#1 else 0#1 := by
    have hs : (BitVec.ofNat 32 j).sle (BitVec.ofNat 32 r) = decide (j ≤ r) := by
      rw [BitVec.sle_eq_decide]
      congr 1
      rw [BitVec.toInt_ofNat', BitVec.toInt_ofNat']
      simp [Int.bmod_def]
      omega
    unfold IntOp.cmpi
    simp only [hs]
    by_cases h : j ≤ r <;> simp [h]
  rw [h]
  by_cases h : j ≤ r <;> simp [h, Scalar.select]

theorem score_at (b h : Fin 8) (n N : Fin 2048) : val_main_v17 (F := Ideal) q k f (ix4 b h n N) = msk q k f b h n N := by
  unfold val_main_v17 val_main_call0_v2
  generalize hx : val_main_v10 (F := Ideal) q k f = x
  have e1 : x (ix4 b h n N) = Ideal.div (∑ d : Fin 128, q (ix4 b n h d) * k (ix4 b N h d)) (Ideal.sqrt (Ideal.ofBits FTy.f32 1124073472#32)) + f (ix3 b n h) - f (ix3 b N h) := by
    rw [← hx]
    pointwise [val_main_v10, val_main_v9, val_main_v8, val_main_v7, val_main_v6, val_main_v5, val_main_v4, val_main_v3, val_main_v2, val_main_v1, val_main_cst, val_main_v0]
  pointwise [val_main_call0_v1, val_main_call0_v0, val_main_v16, val_main_v15, val_main_v14, val_main_v13, val_main_v12, val_main_v11, val_main_cst_0]
  unfold msk
  rw [sle_pos _ _ N.isLt n.isLt, e1]
  show (if _ then _ else Ideal.ofBits FTy.f32 4286578688#32) = _
  rw [seed]

/-- A maximum along the last of four axes, at an index. -/
theorem reduce_max {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = Finset.fold (max : EReal → EReal → EReal) (init (Shape.Idx.first hu)) (fun d : Fin n3 => x (ix4 a b c d)) Finset.univ :=
  (Host.reduce_eq_fold _ x init h hu _).trans (h.fold_fiber_r4_a3 _ _ _ _)

theorem max_at (b h : Fin 8) (n : Fin 2048) : val_main_v20 (F := Ideal) q k f (ix3 b h n) = mx q k f b h n := by
  have e : val_main_v18 (F := Ideal) q k f (ix3 b h n) = mx q k f b h n := by
    unfold val_main_v18 mx
    refine (reduce_max _ _ _ _ b h n).trans ?_
    rw [val_main_cst_1_apply]
    have e0 : (FloatOps.ofBits .f32 0xFF800000#32 : Ideal .f32) = (⊥ : EReal) := seed
    rw [e0]
    exact congrArg (fun g => Finset.fold max ⊥ g Finset.univ) (funext fun N => score_at q k f b h n N)
  rw [val_main_v20_apply, val_main_v19_apply, val_main_cst_2_apply, e]
  show max (Ideal.ofBits FTy.f32 4286578688#32) _ = _
  rw [seed]
  exact max_eq_right bot_le

theorem exp_at (b h : Fin 8) (n N : Fin 2048) : val_main_v24 (F := Ideal) q k f (ix4 b h n N) = Ideal.exp (msk q k f b h n N - mx q k f b h n) := by
  rw [← score_at, ← max_at]
  unfold val_main_v24 val_main_v23 val_main_v22 val_main_v21
  generalize val_main_v17 (F := Ideal) q k f = x
  generalize val_main_v20 (F := Ideal) q k f = y
  pointwise

theorem out_at (b : Fin 8) (n : Fin 2048) (j : Fin 1024) :
    val_main_v32 (F := Ideal) q k v f (ix3 b n j)
      = ∑ N : Fin 2048, v (ix4 b N ⟨j.val / 128, by omega⟩ ⟨j.val % 128, by omega⟩)
          * Ideal.div (Ideal.exp (msk q k f b ⟨j.val / 128, by omega⟩ n N - mx q k f b ⟨j.val / 128, by omega⟩ n))
            (∑ N' : Fin 2048, Ideal.exp (msk q k f b ⟨j.val / 128, by omega⟩ n N' - mx q k f b ⟨j.val / 128, by omega⟩ n)) := by
  simp only [← exp_at]
  unfold val_main_v32 val_main_v31 val_main_v30 val_main_v29 val_main_v28 val_main_v27 val_main_v26 val_main_v25
  generalize val_main_v24 (F := Ideal) q k f = x
  pointwise [val_main_cst_3]

end Cert.Fox
-- ==== Proof.FoxHead.lean ====
/- One head of one block against the reference: the kernel's quotient is the reference's weighted sum of values. -/
module

public import proofs.«01_k».proof.Proof.FoxBlock
public import proofs.«01_k».proof.Proof.FoxEq
public import proofs.«01_k».proof.Proof.FoxRef

@[expose] public section

noncomputable section

namespace Cert.Fox

open Idealize.ShloMosaic

variable {q k v : FVec Ideal ⟨4, ![8, 2048, 8, 128]⟩ .f32} {f : FVec Ideal ⟨3, ![8, 2048, 8]⟩ .f32}

/-- The heads of a block read from the arrays: row `r` of the block is query `n` of batch `b`, head `h`. -/
structure Head.Of (H : Head) (q k v : FVec Ideal ⟨4, ![8, 2048, 8, 128]⟩ .f32) (f : FVec Ideal ⟨3, ![8, 2048, 8]⟩ .f32)
    (b h : Fin 8) (n : Fin 2048) (r : Fin 1024) : Prop where
  Q : ∀ d, H.Q r d = q (ix4 b n h d) * qs
  FQ : H.FQ r = f (ix3 b n h) * lb
  K : ∀ N d, H.K N d = k (ix4 b N h d)
  FK : ∀ N, H.FK N = f (ix3 b N h) * lb
  V : ∀ N d, H.V N d = v (ix4 b N h d)

/-- Queries, keys and gates are real numbers. -/
structure Reals (q k : FVec Ideal ⟨4, ![8, 2048, 8, 128]⟩ .f32) (f : FVec Ideal ⟨3, ![8, 2048, 8]⟩ .f32)
    (qr kr : Fin 8 → Fin 2048 → Fin 8 → Fin 128 → ℝ) (fr : Fin 8 → Fin 2048 → Fin 8 → ℝ) : Prop where
  q : ∀ b n h d, q (ix4 b n h d) = (qr b n h d : EReal)
  k : ∀ b n h d, k (ix4 b n h d) = (kr b n h d : EReal)
  f : ∀ b n h, f (ix3 b n h) = (fr b n h : EReal)

variable {qr kr : Fin 8 → Fin 2048 → Fin 8 → Fin 128 → ℝ} {fr : Fin 8 → Fin 2048 → Fin 8 → ℝ}

/-- A score of the kernel is a real number: the reference's, to the base two. -/
theorem Head.Of.sc {H : Head} {b h : Fin 8} {n : Fin 2048} {r : Fin 1024} (o : H.Of q k v f b h n r) (R : Reals q k f qr kr fr) (N : Fin 2048) :
    H.sc r N = ((rs (qr b n h) (kr b N h) (fr b n h) (fr b N h) * (Real.log 2)⁻¹ : ℝ) : EReal) := by
  rw [← kernel_score, Head.sc, o.FQ, o.FK, R.f, R.f]
  simp only [o.Q, o.K, R.q, R.k]

/-- A masked score of the reference is that real number where the mask lets it through. -/
theorem Reals.msk (R : Reals q k f qr kr fr) (b h : Fin 8) (n N : Fin 2048) :
    Cert.Fox.msk q k f b h n N = if N.val ≤ n.val then ((rs (qr b n h) (kr b N h) (fr b n h) (fr b N h) : ℝ) : EReal) else ⊥ := by
  rw [← ref_score, Cert.Fox.msk, R.f, R.f]
  simp only [R.q, R.k]

/-- The largest masked score of a row is a real number: the first key is always let through. -/
theorem Reals.mx (R : Reals q k f qr kr fr) (b h : Fin 8) (n : Fin 2048) : ∃ μ : ℝ, Cert.Fox.mx q k f b h n = (μ : EReal) := by
  have h1 : Cert.Fox.mx q k f b h n < ⊤ := by
    unfold Cert.Fox.mx; rw [Finset.fold_max_lt]
    refine ⟨bot_lt_top, fun N _ => ?_⟩
    rw [R.msk]; split
    · exact EReal.coe_lt_top _
    · exact bot_lt_top
  have h2 : ⊥ < Cert.Fox.mx q k f b h n := by
    unfold Cert.Fox.mx; rw [Finset.lt_fold_max]
    refine Or.inr ⟨0, Finset.mem_univ _, ?_⟩
    rw [R.msk, if_pos (show (0 : Fin 2048).val ≤ n.val from Nat.zero_le _)]
    exact EReal.bot_lt_coe _
  exact ⟨_, (EReal.coe_toReal h1.ne h2.ne').symm⟩

/-- The quotient the kernel leaves is the reference's weighted sum, whatever real bound the kernel took of the row. -/
theorem Head.Of.out {H : Head} {b h : Fin 8} {n : Fin 2048} {r : Fin 1024} (o : H.Of q k v f b h n r) (R : Reals q k f qr kr fr)
    (g : ℕ) (hn : n.val = 1024 * g + r.val) (M : Fin 1024 → EReal) (hM : ∃ x : ℝ, M r = (x : EReal)) (c : Fin 128) :
    H.out g M r c = ∑ N : Fin 2048, v (ix4 b N h c) * Ideal.div (Ideal.exp (Cert.Fox.msk q k f b h n N - Cert.Fox.mx q k f b h n))
            (∑ N' : Fin 2048, Ideal.exp (Cert.Fox.msk q k f b h n N' - Cert.Fox.mx q k f b h n)) := by
  obtain ⟨x, hx⟩ := hM
  obtain ⟨μ, hμ⟩ := R.mx b h n
  simp only [R.msk, hμ]
  rw [← softmax_eq (fun N => rs (qr b n h) (kr b N h) (fr b n h) (fr b N h)) n.val (fun N => v (ix4 b N h c)) x μ]
  unfold Head.out Head.wt
  simp only [o.sc R, o.V, hx, ← hn]
  rfl

end Cert.Fox
-- ==== Proof.FoxFinal.lean ====
/- The kernel's result array is the reference's result. -/
module

public import proofs.«01_k».proof.Proof.FoxArray
public import proofs.«01_k».proof.Proof.FoxHead
public import proofs.«01_k».proof.Proof.Gen.KernelIdeal.Value

@[expose] public section

noncomputable section

namespace Cert.Fox

open Idealize.ShloMosaic Idealize.ShloMosaic.TcCoe Cert.KernelIdeal Cert.KernelIdeal.Gen

variable (m : (ℓ : Loc nD τ sig) → Buf (Elt Ideal) ℓ) (c : Dev nD)

/-- The head a grid point reads from its windows, as a head of the arrays. -/
theorem head_of (t : Fin cfg0.N) (h : Fin 2) (r : Fin 1024) :
    (head (grid0.coords t) h (iblk m c 0 t) (iblk m c 1 t) (iblk m c 2 t) (iblk m c 3 t) (iblk m c 4 t)).Of
      (m ((c : Thread nD τ).loc main_arg0)) (m ((c : Thread nD τ).loc main_arg1)) (m ((c : Thread nD τ).loc main_arg2)) (m ((c : Thread nD τ).loc main_arg3))
      (bat (grid0.coords t)) (hd (grid0.coords t) h) (row (grid0.coords t) r) r where
  Q d := congrArg (· * qs) (blk_q m c t h r d)
  FQ := congrArg (· * lb) (blk_fq m c t h r _)
  K N d := blk_k m c t h N d
  FK N := congrArg (· * lb) (blk_fk m c t h N)
  V N d := blk_v m c t h N d

variable {qr kr : Fin 8 → Fin 2048 → Fin 8 → Fin 128 → ℝ} {fr : Fin 8 → Fin 2048 → Fin 8 → ℝ}

/-- An index of the result block, as its row and column. -/
theorem blk_idx (y : S1x1024x256.Idx) : ∃ (r : Fin 1024) (j : Fin 256), y = ix3 0 r j :=
  ⟨y 1, y 2, by blk_ext⟩

/-- The array the kernel leaves is the reference's result of the same arguments. -/
theorem array_eq (R : Reals (m ((c : Thread nD τ).loc main_arg0)) (m ((c : Thread nD τ).loc main_arg1)) (m ((c : Thread nD τ).loc main_arg3)) qr kr fr) :
    (dats m 0 c).arrAt 5 cfg0.N = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h1 : (grid0.coords t 1).val < 4 := (grid0.coords t 1).isLt
  obtain ⟨r, j, rfl⟩ := blk_idx y
  have e : ((cfg0.win 5).blk t).view.emb (ix3 0 r j) = ix3 (bat (grid0.coords t)) (row (grid0.coords t) r) (⟨256 * (grid0.coords t 1).val + j.val, by omega⟩ : Fin 1024) := by
    unfold bat row
    blk_ext [idx5 t]
  blk_simp
  rw [after0_5]
  refine Eq.trans ?_ (congrArg (Cert.ReferenceIdeal.Read.val_main_v32 (F := Ideal) (m ((c : Thread nD τ).loc main_arg0)) (m ((c : Thread nD τ).loc main_arg1)) (m ((c : Thread nD τ).loc main_arg2)) (m ((c : Thread nD τ).loc main_arg3))) e.symm)
  rw [out_at]
  simp only [outsAt0]
  obtain ⟨M0, M1, g0, g1, hb⟩ := block_out c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _)
    (iblk m c 0 t) (iblk m c 1 t) (iblk m c 2 t) (iblk m c 3 t) (iblk m c 4 t) (fun h r N => ⟨_, (head_of m c t h r).sc R N⟩)
  refine (hb r j).trans ?_
  split
  · next hj =>
    rw [(head_of m c t 0 r).out R (grid0.coords t 2).val rfl (rm M0) (g0.real r)]
    have e1 : (⟨(256 * (grid0.coords t 1).val + j.val) / 128, by omega⟩ : Fin 8) = hd (grid0.coords t) 0 := by
      unfold hd; apply Fin.ext; show _ = 2 * _ + 0; simp only; omega
    have e2 : (⟨(256 * (grid0.coords t 1).val + j.val) % 128, by omega⟩ : Fin 128) = ⟨j.val, hj⟩ := by
      apply Fin.ext; show _ = j.val; simp only; omega
    rw [e1, e2]
  · next hj =>
    rw [(head_of m c t 1 r).out R (grid0.coords t 2).val rfl (rm M1) (g1.real r)]
    have e1 : (⟨(256 * (grid0.coords t 1).val + j.val) / 128, by omega⟩ : Fin 8) = hd (grid0.coords t) 1 := by
      unfold hd; apply Fin.ext; show _ = 2 * _ + 1; simp only; omega
    have e2 : (⟨(256 * (grid0.coords t 1).val + j.val) % 128, by omega⟩ : Fin 128) = ⟨j.val - 128, by omega⟩ := by
      apply Fin.ext; show _ = j.val - 128; simp only; omega
    rw [e1, e2]

end Cert.Fox
-- ==== Proof.Ffn.lean ====
/- One row of the modulated norm and of the feed-forward half step, as numbers; and its sum over chunks of the hidden width. -/
module

public import Idealize.ShloMosaic.Lib.Pipeline.ValueKit.Point
public import Idealize.ShloMosaic.Lib.Pointwise

@[expose] public section

noncomputable section

namespace Cert.Ffn

open Idealize.ShloMosaic

/-- The root mean square norm of a row with its gain, then scale and shift. -/
def hmod (x g sc sh : Fin 1024 → EReal) (d : Fin 1024) : EReal :=
  x d * Ideal.rsqrt ((∑ e : Fin 1024, x e * x e) * Ideal.ofBits FTy.f32 0x3A800000#32 + Ideal.ofBits FTy.f32 0x358637BD#32) * g d
    * (1 + sc d) + sh d

/-- The hidden number `F` of a row: the gated product. -/
def hid {n : ℕ} (h : Fin 1024 → EReal) (w1 w3 : Fin 1024 → Fin n → EReal) (f : Fin n) : EReal :=
  (∑ d : Fin 1024, h d * w1 d f) * Ideal.logistic (∑ d : Fin 1024, h d * w1 d f) * ∑ d : Fin 1024, h d * w3 d f

/-- The part of the result that `n` hidden numbers give. -/
def part {n : ℕ} (h : Fin 1024 → EReal) (w1 w3 : Fin 1024 → Fin n → EReal) (w2 : Fin n → Fin 1024 → EReal) (e : Fin 1024) : EReal :=
  ∑ f : Fin n, hid h w1 w3 f * w2 f e

/-- The half step of one row. -/
def ffn (x g sc sh gt : Fin 1024 → EReal) (w1 w3 : Fin 1024 → Fin 2816 → EReal) (w2 : Fin 2816 → Fin 1024 → EReal) (e : Fin 1024) : EReal :=
  x e + Ideal.ofBits FTy.f32 0x3F000000#32 * gt e * part (hmod x g sc sh) w1 w3 w2 e

/-- Chunk `c` of the hidden width. -/
def cat (c : Fin 11) (f : Fin 256) : Fin 2816 := ⟨256 * c.val + f.val, by omega⟩

/-- The sum over the hidden width is the sum of the eleven chunks' parts. -/
theorem part_chunks (h : Fin 1024 → EReal) (w1 w3 : Fin 1024 → Fin 2816 → EReal) (w2 : Fin 2816 → Fin 1024 → EReal) (e : Fin 1024) :
    part h w1 w3 w2 e = ∑ c : Fin 11, part h (fun d f => w1 d (cat c f)) (fun d f => w3 d (cat c f)) (fun f e => w2 (cat c f) e) e := by
  have h1 : ∀ c, part h (fun d f => w1 d (cat c f)) (fun d f => w3 d (cat c f)) (fun f e => w2 (cat c f) e) e
      = ∑ f : Fin 256, hid h w1 w3 (cat c f) * w2 (cat c f) e := fun c => rfl
  simp only [h1]
  rw [part, ← Finset.sum_product' (s := Finset.univ) (t := Finset.univ) (f := fun (c : Fin 11) (f : Fin 256) => hid h w1 w3 (cat c f) * w2 (cat c f) e)]
  rw [Finset.univ_product_univ]
  symm
  refine Fintype.sum_equiv (finProdFinEquiv (m := 11) (n := 256)) _ _ fun p => ?_
  have : cat p.1 p.2 = finProdFinEquiv p := by
    apply Fin.ext; simp [cat, finProdFinEquiv]; omega
  rw [this]

/-- A mean over 1024 numbers is the sum times 2^-10. -/
theorem mean_1024 (s : EReal) : Ideal.div s (Ideal.ofBits FTy.f32 0x44800000#32) = s * Ideal.ofBits FTy.f32 0x3A800000#32 := by
  have h : Ideal.ofBits FTy.f32 0x44800000#32 = ((1024 : ℝ) : EReal) := by
    simp [Ideal.ofBits, Ideal.ieee]; rw [← EReal.coe_mul]; norm_num
  have h' : Ideal.ofBits FTy.f32 0x3A800000#32 = ((1 / 1024 : ℝ) : EReal) := by
    simp [Ideal.ofBits, Ideal.ieee]; rw [← EReal.coe_mul]; norm_num
  rw [h, h', Ideal.div_coe (by norm_num)]

/-- A chunk's part of row `r`, from a kernel's loads. -/
def ch {n : ℕ} (H : FVec Ideal ⟨2, ![n, 1024]⟩ .bf16) (A B : Vec Ideal ⟨4, ![1, 1, 1024, 256]⟩ .bf16) (C : Vec Ideal ⟨4, ![1, 1, 256, 1024]⟩ .bf16) (r : Fin n) (e : Fin 1024) : EReal :=
  part (fun d => H (ix2 r d)) (fun d f => A (ix4 0 0 d f)) (fun d f => B (ix4 0 0 d f)) (fun f e => C (ix4 0 0 f e)) e

/-- A chunk's part, from the chunk's loads, is the part of the weights' columns of that chunk. -/
theorem ch_ld {n : ℕ} (x5 x6 : Vec Ideal ⟨4, ![1, 1, 1024, 2816]⟩ .bf16) (x7 : Vec Ideal ⟨4, ![1, 1, 2816, 1024]⟩ .bf16)
    (H : FVec Ideal ⟨2, ![n, 1024]⟩ .bf16) (c : Fin 11) (o : ℕ) (ho : o = 256 * c.val)
    (i5 : ∀ a, (![0, 0, 0, o] : Fin 4 → ℕ) a + (![1, 1, 1024, 256] : Fin 4 → ℕ) a ≤ (![1, 1, 1024, 2816] : Fin 4 → ℕ) a)
    (i7 : ∀ a, (![0, 0, o, 0] : Fin 4 → ℕ) a + (![1, 1, 256, 1024] : Fin 4 → ℕ) a ≤ (![1, 1, 2816, 1024] : Fin 4 → ℕ) a) (r : Fin n) (e : Fin 1024) :
    ch H (View.ld x5 (Rect.unit (s := ⟨4, ![1, 1, 1024, 2816]⟩) ![0, 0, 0, o] ![1, 1, 1024, 256] i5)) (View.ld x6 (Rect.unit (s := ⟨4, ![1, 1, 1024, 2816]⟩) ![0, 0, 0, o] ![1, 1, 1024, 256] i5))
        (View.ld x7 (Rect.unit (s := ⟨4, ![1, 1, 2816, 1024]⟩) ![0, 0, o, 0] ![1, 1, 256, 1024] i7)) r e
      = part (fun d => H (ix2 r d)) (fun d f => x5 (ix4 0 0 d (cat c f))) (fun d f => x6 (ix4 0 0 d (cat c f))) (fun f e => x7 (ix4 0 0 (cat c f) e)) e := by
  subst ho
  have h5 : ∀ (x : Vec Ideal ⟨4, ![1, 1, 1024, 2816]⟩ .bf16) (d : Fin 1024) (f : Fin 256),
      View.ld x (Rect.unit (s := ⟨4, ![1, 1, 1024, 2816]⟩) ![0, 0, 0, 256 * c.val] ![1, 1, 1024, 256] i5) (ix4 0 0 d f) = x (ix4 0 0 d (cat c f)) := fun x d f =>
    View.ld_unit_apply_of x _ _ i5 _ _ fun a => by fin_cases a <;> simp [cat]
  have h7 : ∀ (f : Fin 256) (e : Fin 1024),
      View.ld x7 (Rect.unit (s := ⟨4, ![1, 1, 2816, 1024]⟩) ![0, 0, 256 * c.val, 0] ![1, 1, 256, 1024] i7) (ix4 0 0 f e) = x7 (ix4 0 0 (cat c f) e) := fun f e =>
    View.ld_unit_apply_of x7 _ _ i7 _ _ fun a => by fin_cases a <;> simp [cat]
  unfold ch
  congr 1
  · exact funext fun d => funext fun f => h5 x5 d f
  · exact funext fun d => funext fun f => h5 x6 d f
  · exact funext fun f => funext fun e => h7 f e

/-- A sum of eleven terms. -/
theorem sum_eleven (f : Fin 11 → EReal) : (∑ c, f c) = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

end Cert.Ffn
-- ==== Proof.FfnMix.lean ====
/- What the kernel `ffn_mix` of the prompt leaves in one block. -/
module

public import proofs.«01_k».proof.Proof.Gen.Kernel2Ideal.Frame
public import Idealize.ShloMosaic.Lib.Pipeline.ValueKit.Point
public import proofs.«01_k».proof.Proof.Ffn

@[expose] public section

noncomputable section

namespace Cert.FfnMix

open Idealize.ShloMosaic Idealize.ShloMosaic.TcCoe Cert.Kernel2Ideal Cert.Kernel2Ideal.Gen Cert.Ffn

theorem pay2 (v0 : Vec Ideal S1x1024x1024 .f32) (v2 : Vec Ideal S1x1024x1024 .bf16) (v4 : Vec Ideal S1024x1024 .bf16) (v7 : Vec Ideal S1x1x1024 .f32) (r e : Fin 1024) :
    k0_pay2 v0 v2 v4 v7 (ix2 r e) = v0 (ix3 0 r e) + v7 (ix3 0 0 e) * ∑ d : Fin 1024, v2 (ix3 0 r d) * v4 (ix2 d e) := by
  pointwise [k0_pay2]

theorem pay4 (v0 : Vec Ideal S1x1024x1024 .f32) (v2 : Vec Ideal S1x1024x1024 .bf16) (v4 : Vec Ideal S1024x1024 .bf16) (v7 : Vec Ideal S1x1x1024 .f32) (v12 : Vec Ideal S1x1024 .f32) (v14 v16 : Vec Ideal S1x1x1024 .f32) (r e : Fin 1024) :
    k0_pay5 (k0_pay3 v16) (k0_pay4 v0 v2 v4 v7 v12 v14) (ix2 r e)
      = hmod (fun d => k0_pay2 v0 v2 v4 v7 (ix2 r d)) (fun d => v12 (ix2 0 d)) (fun d => v14 (ix3 0 0 d)) (fun d => v16 (ix3 0 0 d)) e := by
  unfold k0_pay4
  generalize k0_pay2 v0 v2 v4 v7 = X
  pointwise [k0_pay5, k0_pay3]
  rfl

theorem pay6 (v17 : FVec Ideal S1x1024 .f32) (v33 : FVec Ideal S1024x1024 .f32) (A B : Vec Ideal S1x1x1024x256 .bf16) (C : Vec Ideal S1x1x256x1024 .bf16) (A' B' : Vec Ideal S1x1x1024x256 .bf16) (C' : Vec Ideal S1x1x256x1024 .bf16) (r e : Fin 1024) :
    k0_pay6 v17 v33 A B C A' B' C' (ix2 r e) = ch (k0_pay5 v17 v33) A B C r e + ch (k0_pay5 v17 v33) A' B' C' r e := by
  unfold k0_pay6
  generalize k0_pay5 v17 v33 = H
  pointwise
  rfl

section
variable (H : FVec Ideal S1024x1024 .bf16) (acc : FVec Ideal S1024x1024 .f32) (A B : Vec Ideal S1x1x1024x256 .bf16) (C : Vec Ideal S1x1x256x1024 .bf16) (A' B' : Vec Ideal S1x1x1024x256 .bf16) (C' : Vec Ideal S1x1x256x1024 .bf16) (r e : Fin 1024)

theorem pay7 : k0_pay7 H acc A B C A' B' C' (ix2 r e) = acc (ix2 r e) + ch H A B C r e + ch H A' B' C' r e := by
  pointwise [k0_pay7]; rfl
theorem pay8 : k0_pay8 H acc A B C A' B' C' (ix2 r e) = acc (ix2 r e) + ch H A B C r e + ch H A' B' C' r e := by
  pointwise [k0_pay8]; rfl
theorem pay9 : k0_pay9 H acc A B C A' B' C' (ix2 r e) = acc (ix2 r e) + ch H A B C r e + ch H A' B' C' r e := by
  pointwise [k0_pay9]; rfl
theorem pay11 : k0_pay11 H acc (k0_pay10 A) B C A' B' C' (ix2 r e) = acc (ix2 r e) + ch H A B C r e + ch H A' B' C' r e := by
  pointwise [k0_pay11, k0_pay10]; rfl
theorem pay1 (X : FVec Ideal S1024x1024 .f32) (gt : Vec Ideal S1x1x1024 .f32) :
    k0_pay1 X H acc (k0_pay12 H A) B C gt (ix3 0 r e)
      = X (ix2 r e) + Ideal.ofBits FTy.f32 0x3F000000#32 * gt (ix3 0 0 e) * (acc (ix2 r e) + ch H A B C r e) := by
  pointwise [k0_pay1, k0_pay12]; rfl
end

section
variable (x0 : Vec Ideal S1x1024x1024 .f32) (x1 : Vec Ideal S1x1024 .f32) (x2 : Vec Ideal S1x1x1024 .f32) (x3 : Vec Ideal S1x1x1024 .f32) (x4 : Vec Ideal S1x1x1024 .f32) (x5 : Vec Ideal S1x1x1024x2816 .bf16) (x6 : Vec Ideal S1x1x1024x2816 .bf16) (x7 : Vec Ideal S1x1x2816x1024 .bf16) (x8 : Vec Ideal S1x1x1024 .f32) (x9 : Vec Ideal S1x1024x1024 .bf16) (x10 : Vec Ideal S1024x1024 .bf16)

/-- The loads of whole blocks. -/
theorem ld_r0 {e' : EltTy} (x : Vec Ideal S1x1024x1024 e') : View.ld x r0_0 = x := View.ld_unit_zero (by decide) _ x
theorem ld_r1 {e' : EltTy} (x : Vec Ideal S1024x1024 e') : View.ld x r0_1 = x := View.ld_unit_zero (by decide) _ x
theorem ld_r2 {e' : EltTy} (x : Vec Ideal S1x1x1024 e') : View.ld x r0_2 = x := View.ld_unit_zero (by decide) _ x
theorem ld_r3 {e' : EltTy} (x : Vec Ideal S1x1024 e') : View.ld x r0_3 = x := View.ld_unit_zero (by decide) _ x

/-- A row of the residual stream after the mixer's output is added. -/
def mixed (r e : Fin 1024) : EReal := x0 (ix3 0 r e) + x8 (ix3 0 0 e) * ∑ d : Fin 1024, x9 (ix3 0 r d) * x10 (ix2 d e)

/-- The block's result, row by row: the half step of the mixed row. -/
theorem block_out (r e : Fin 1024) :
    out0_11 x0 x1 x2 x3 x4 x5 x6 x7 x8 x9 x10 (ix3 0 r e)
      = ffn (mixed x0 x8 x9 x10 r) (fun d => x1 (ix2 0 d)) (fun d => x3 (ix3 0 0 d)) (fun d => x2 (ix3 0 0 d)) (fun d => x4 (ix3 0 0 d))
          (fun d F => x5 (ix4 0 0 d F)) (fun d F => x6 (ix4 0 0 d F)) (fun F e => x7 (ix4 0 0 F e)) e := by
  unfold out0_11
  rw [View.canon_unit_zero (by decide)]
  have hH : k0_pay5 (k0_pay13 x0 x1 x2 x3 x4 x5 x6 x7 x8 x9 x10) (k0_pay14 x0 x1 x2 x3 x4 x5 x6 x7 x8 x9 x10) = k0_pay15 x0 x1 x2 x3 x4 x5 x6 x7 x8 x9 x10 := rfl
  have hh : ∀ d, k0_pay15 x0 x1 x2 x3 x4 x5 x6 x7 x8 x9 x10 (ix2 r d)
      = hmod (mixed x0 x8 x9 x10 r) (fun d => x1 (ix2 0 d)) (fun d => x3 (ix3 0 0 d)) (fun d => x2 (ix3 0 0 d)) d := by
    intro d
    unfold k0_pay15 k0_pay13 k0_pay14
    rw [pay4]
    simp only [ld_r0, ld_r1, ld_r2, ld_r3, pay2]
    exact congr (congr (congrArg (hmod _) (funext fun d => congrFun (ld_r3 x1) _)) (funext fun d => congrFun (ld_r2 x3) _)) (funext fun d => congrFun (ld_r2 x2) _) |> (congrFun · d)
  rw [pay1, pay11, pay9, pay8, pay7, pay6, hH]
  generalize k0_pay15 x0 x1 x2 x3 x4 x5 x6 x7 x8 x9 x10 = H at hh
  rw [ch_ld x5 x6 x7 H 0 0 rfl, ch_ld x5 x6 x7 H 1 256 rfl, ch_ld x5 x6 x7 H 2 512 rfl, ch_ld x5 x6 x7 H 3 768 rfl, ch_ld x5 x6 x7 H 4 1024 rfl,
    ch_ld x5 x6 x7 H 5 1280 rfl, ch_ld x5 x6 x7 H 6 1536 rfl, ch_ld x5 x6 x7 H 7 1792 rfl, ch_ld x5 x6 x7 H 8 2048 rfl, ch_ld x5 x6 x7 H 9 2304 rfl,
    ch_ld x5 x6 x7 H 10 2560 rfl]
  simp only [hh]
  rw [pay2, ffn, part_chunks]
  rw [sum_eleven, ld_r0, ld_r0, ld_r1, ld_r2, ld_r2]
  rfl
end

end Cert.FfnMix
-- ==== Proof.FfnArray.lean ====
/- The windows of the mixing feed-forward step, at an index. -/
module

public import proofs.«01_k».proof.Proof.FfnMix

@[expose] public section

noncomputable section

namespace Cert.FfnMix

open Idealize.ShloMosaic Idealize.ShloMosaic.TcCoe Cert.Kernel2Ideal Cert.Kernel2Ideal.Gen

variable (m : (ℓ : Loc nD τ sig) → Buf (Elt Ideal) ℓ) (c : Dev nD)

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, 0] :=
  (by decide +kernel : ∀ t : Fin grid0.N, win0_3.index t = ![(grid0.coords t 0).val, 0, 0])
theorem idx4 : ∀ t : Fin cfg0.N, win0_4.index t = ![(grid0.coords t 0).val, 0, 0] :=
  (by decide +kernel : ∀ t : Fin grid0.N, win0_4.index t = ![(grid0.coords t 0).val, 0, 0])
theorem idx5 : ∀ t : Fin cfg0.N, win0_5.index t = ![1, 1, 0, 0] :=
  (by decide +kernel : ∀ t : Fin grid0.N, win0_5.index t = ![1, 1, 0, 0])
theorem idx6 : ∀ t : Fin cfg0.N, win0_6.index t = ![1, 1, 0, 0] :=
  (by decide +kernel : ∀ t : Fin grid0.N, win0_6.index t = ![1, 1, 0, 0])
theorem idx7 : ∀ t : Fin cfg0.N, win0_7.index t = ![1, 1, 0, 0] :=
  (by decide +kernel : ∀ t : Fin grid0.N, win0_7.index t = ![1, 1, 0, 0])
theorem idx8 : ∀ t : Fin cfg0.N, win0_8.index t = ![(grid0.coords t 0).val, 0, 0] :=
  (by decide +kernel : ∀ t : Fin grid0.N, win0_8.index t = ![(grid0.coords t 0).val, 0, 0])
theorem idx9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem idx10 : ∀ t : Fin cfg0.N, win0_10.index t = ![0, 0] :=
  (by decide +kernel : ∀ t : Fin grid0.N, win0_10.index t = ![0, 0])
theorem idx11 : ∀ t : Fin cfg0.N, win0_11.index t = ![(grid0.coords t 0).val, (grid0.coords t 1).val, 0] :=
  (by decide +kernel : ∀ t : Fin grid0.N, win0_11.index t = ![(grid0.coords t 0).val, (grid0.coords t 1).val, 0])

/-- The sequence and the row of a block's parts. -/
def bat (i : grid0.Coords) : Fin 8 := ⟨(i 0).val, (i 0).isLt⟩
def tok (i : grid0.Coords) (r : Fin 1024) : Fin 2048 := ⟨1024 * (i 1).val + r.val, by have : (i 1).val < 2 := (i 1).isLt; omega⟩

theorem blk_x (t : Fin cfg0.N) (r d : Fin 1024) :
    iblk m c 0 t (ix3 0 r d) = m ((c : Thread nD τ).loc main_arg0) (ix3 (bat (grid0.coords t)) (tok (grid0.coords t) r) d) := by
  blk_simp [iblk]
  entry_read
  unfold bat tok
  blk_ext [idx0 t]

theorem blk_g (t : Fin cfg0.N) (d : Fin 1024) : iblk m c 1 t (ix2 0 d) = m ((c : Thread nD τ).loc main_arg5) (ix1 d) := by
  blk_simp [iblk]
  entry_read
  pointwise
  blk_ext [idx1 t]

theorem blk_sh (t : Fin cfg0.N) (d : Fin 1024) : iblk m c 2 t (ix3 0 0 d) = m ((c : Thread nD τ).loc main_arg1) (ix3 (bat (grid0.coords t)) 0 d) := by
  blk_simp [iblk]
  entry_read
  pointwise
  unfold bat
  blk_ext [idx2 t]

theorem blk_sc (t : Fin cfg0.N) (d : Fin 1024) : iblk m c 3 t (ix3 0 0 d) = m ((c : Thread nD τ).loc main_arg1) (ix3 (bat (grid0.coords t)) 1 d) := by
  blk_simp [iblk]
  entry_read
  pointwise
  unfold bat
  blk_ext [idx3 t]

theorem blk_gt (t : Fin cfg0.N) (d : Fin 1024) : iblk m c 4 t (ix3 0 0 d) = m ((c : Thread nD τ).loc main_arg1) (ix3 (bat (grid0.coords t)) 2 d) := by
  blk_simp [iblk]
  entry_read
  pointwise
  unfold bat
  blk_ext [idx4 t]

theorem blk_w1 (t : Fin cfg0.N) (d : Fin 1024) (f : Fin 2816) : iblk m c 5 t (ix4 0 0 d f) = m ((c : Thread nD τ).loc main_arg6) (ix4 1 1 d f) := by
  blk_simp [iblk]
  entry_read
  pointwise
  blk_ext [idx5 t]

theorem blk_w3 (t : Fin cfg0.N) (d : Fin 1024) (f : Fin 2816) : iblk m c 6 t (ix4 0 0 d f) = m ((c : Thread nD τ).loc main_arg7) (ix4 1 1 d f) := by
  blk_simp [iblk]
  entry_read
  pointwise
  blk_ext [idx6 t]

theorem blk_w2 (t : Fin cfg0.N) (f : Fin 2816) (e : Fin 1024) : iblk m c 7 t (ix4 0 0 f e) = m ((c : Thread nD τ).loc main_arg8) (ix4 1 1 f e) := by
  blk_simp [iblk]
  entry_read
  pointwise
  blk_ext [idx7 t]

theorem blk_mg (t : Fin cfg0.N) (d : Fin 1024) : iblk m c 8 t (ix3 0 0 d) = m ((c : Thread nD τ).loc main_arg2) (ix2 (bat (grid0.coords t)) d) := by
  blk_simp [iblk]
  entry_read
  pointwise
  unfold bat
  blk_ext [idx8 t]

theorem blk_o (t : Fin cfg0.N) (r d : Fin 1024) :
    iblk m c 9 t (ix3 0 r d) = m ((c : Thread nD τ).loc main_arg3) (ix3 (bat (grid0.coords t)) (tok (grid0.coords t) r) d) := by
  blk_simp [iblk]
  entry_read
  unfold bat tok
  blk_ext [idx9 t]

theorem blk_wo (t : Fin cfg0.N) (d e : Fin 1024) : iblk m c 10 t (ix2 d e) = m ((c : Thread nD τ).loc main_arg4) (ix2 d e) := by
  blk_simp [iblk]
  entry_read
  pointwise
  blk_ext [idx10 t]

end Cert.FfnMix
-- ==== Proof.FfnRef.lean ====
/- What the reference of the mixing feed-forward step computes, at an index. -/
module

public import proofs.«01_k».proof.Proof.Gen.Reference2Ideal.Read
public import Idealize.ShloMosaic.Lib.Pointwise
public import proofs.«01_k».proof.Proof.Ffn

@[expose] public section

noncomputable section

namespace Cert.FfnRef

open Idealize.ShloMosaic Cert.Reference2Ideal Cert.Reference2Ideal.Gen Cert.Reference2Ideal.Read Cert.Ffn

variable (x : (⟨S8x2048x1024, .f32⟩ : BufTy).Contents (Elt Ideal)) (mo : (⟨S8x3x1024, .f32⟩ : BufTy).Contents (Elt Ideal))
  (mg : (⟨S8x1024, .f32⟩ : BufTy).Contents (Elt Ideal)) (o : (⟨S8x2048x1024, .bf16⟩ : BufTy).Contents (Elt Ideal))
  (wo : (⟨S1024x1024, .f32⟩ : BufTy).Contents (Elt Ideal)) (g : (⟨S1024, .f32⟩ : BufTy).Contents (Elt Ideal))
  (w1 w3 : (⟨S2x2x1024x2816, .f32⟩ : BufTy).Contents (Elt Ideal)) (w2 : (⟨S2x2x2816x1024, .f32⟩ : BufTy).Contents (Elt Ideal))

/-- Row `n` of sequence `b` after the gated output projection is added. -/
def mix (b : Fin 8) (n : Fin 2048) (d : Fin 1024) : EReal :=
  x (ix3 b n d) + mg (ix2 b d) * ∑ k : Fin 1024, o (ix3 b n k) * wo (ix2 k d)

/-- The normed and modulated row. -/
def hrow (b : Fin 8) (n : Fin 2048) : Fin 1024 → EReal :=
  hmod (mix x mg o wo b n) (fun d => g (ix1 d)) (fun d => mo (ix3 b 1 d)) (fun d => mo (ix3 b 0 d))

/-- The whole step of one row. -/
def row (b : Fin 8) (n : Fin 2048) : Fin 1024 → EReal :=
  ffn (mix x mg o wo b n) (fun d => g (ix1 d)) (fun d => mo (ix3 b 1 d)) (fun d => mo (ix3 b 0 d)) (fun d => mo (ix3 b 2 d))
    (fun d f => w1 (ix4 1 1 d f)) (fun d f => w3 (ix4 1 1 d f)) (fun f e => w2 (ix4 1 1 f e))

theorem mix_at (b : Fin 8) (n : Fin 2048) (d : Fin 1024) : val_main_v5 (F := Ideal) x mg o wo (ix3 b n d) = mix x mg o wo b n d := by
  pointwise [val_main_v5, val_main_v4, val_main_v3, val_main_v2, val_main_v1, val_main_v0]
  rfl

theorem mean_at (b : Fin 8) (n : Fin 2048) : val_main_v13 (F := Ideal) x mg o wo (ix3 b n 0)
    = Ideal.rsqrt ((∑ e : Fin 1024, mix x mg o wo b n e * mix x mg o wo b n e) * Ideal.ofBits FTy.f32 0x3A800000#32 + Ideal.ofBits FTy.f32 0x358637BD#32) := by
  simp only [← mix_at]
  unfold val_main_v13 val_main_v12 val_main_v11 val_main_v10 val_main_v9 val_main_v8 val_main_v7 val_main_v6
  generalize val_main_v5 (F := Ideal) x mg o wo = X
  pointwise [val_main_cst, val_main_cst_0, val_main_cst_1]
  rw [← mean_1024]

theorem h_at (b : Fin 8) (n : Fin 2048) (d : Fin 1024) : val_main_v30 (F := Ideal) x mo mg o wo g (ix3 b n d) = hrow x mo mg o wo g b n d := by
  unfold hrow hmod
  rw [← mean_at, ← mix_at]
  unfold val_main_v30 val_main_v25 val_main_v18 val_main_v15 val_main_v14
  generalize val_main_v5 (F := Ideal) x mg o wo = X
  generalize val_main_v13 (F := Ideal) x mg o wo = Y
  pointwise [val_main_v29, val_main_v28, val_main_v27, val_main_v26, val_main_v24, val_main_v23, val_main_v22, val_main_cst_2, val_main_v21, val_main_v20, val_main_v19, val_main_v17, val_main_v16]

theorem up_at (b : Fin 8) (n : Fin 2048) (f : Fin 2816) : val_main_v38 (F := Ideal) x mo mg o wo g w1 (ix3 b n f)
    = ∑ d : Fin 1024, hrow x mo mg o wo g b n d * w1 (ix4 1 1 d f) := by
  simp only [← h_at]
  unfold val_main_v38
  generalize val_main_v30 (F := Ideal) x mo mg o wo g = H
  pointwise [val_main_v37, val_main_v36]

theorem gate_at (b : Fin 8) (n : Fin 2048) (f : Fin 2816) : val_main_v42 (F := Ideal) x mo mg o wo g w3 (ix3 b n f)
    = ∑ d : Fin 1024, hrow x mo mg o wo g b n d * w3 (ix4 1 1 d f) := by
  simp only [← h_at]
  unfold val_main_v42
  generalize val_main_v30 (F := Ideal) x mo mg o wo g = H
  pointwise [val_main_v41, val_main_v40]

theorem hid_at (b : Fin 8) (n : Fin 2048) (f : Fin 2816) : val_main_v43 (F := Ideal) x mo mg o wo g w1 w3 (ix3 b n f)
    = hid (hrow x mo mg o wo g b n) (fun d f => w1 (ix4 1 1 d f)) (fun d f => w3 (ix4 1 1 d f)) f := by
  unfold hid
  rw [← up_at, ← gate_at]
  unfold val_main_v43 val_main_v39 val_main_call0_v5 val_main_call0_v3 val_main_call0_v1 val_main_call0_v0
  generalize val_main_v38 (F := Ideal) x mo mg o wo g w1 = A
  generalize val_main_v42 (F := Ideal) x mo mg o wo g w3 = B
  pointwise [val_main_call0_v4, val_main_call0_v2, val_main_call0_cst, val_main_call0_cst_0]
  rfl

/-- The reference's result, at an index. -/
theorem row_at (b : Fin 8) (n : Fin 2048) (e : Fin 1024) : val_main_v49 (F := Ideal) x mo mg o wo g w1 w3 w2 (ix3 b n e)
    = row x mo mg o wo g w1 w3 w2 b n e := by
  unfold row ffn part
  have hh : hmod (mix x mg o wo b n) (fun d => g (ix1 d)) (fun d => mo (ix3 b 1 d)) (fun d => mo (ix3 b 0 d)) = hrow x mo mg o wo g b n := rfl
  simp only [hh, ← hid_at]
  rw [← mix_at]
  unfold val_main_v49 val_main_v48 val_main_v46
  generalize val_main_v5 (F := Ideal) x mg o wo = X
  generalize val_main_v43 (F := Ideal) x mo mg o wo g w1 w3 = H
  pointwise [val_main_v47, val_main_v45, val_main_v44, val_main_v35, val_main_v34, val_main_v33, val_main_v32, val_main_v31, val_main_cst_3]

end Cert.FfnRef
-- ==== Proof.FfnFinal.lean ====
/- The array the mixing feed-forward step leaves is its reference's result. -/
module

public import proofs.«01_k».proof.Proof.FfnArray
public import proofs.«01_k».proof.Proof.FfnRef

@[expose] public section

noncomputable section

namespace Cert.FfnMix

open Idealize.ShloMosaic Idealize.ShloMosaic.TcCoe Cert.Kernel2Ideal Cert.Kernel2Ideal.Gen

variable (m : (ℓ : Loc nD τ sig) → Buf (Elt Ideal) ℓ) (c : Dev nD)

/-- An index of the result block, as its row and column. -/
theorem blk_idx (y : S1x1024x1024.Idx) : ∃ (r e : Fin 1024), y = ix3 0 r e :=
  ⟨y 1, y 2, by blk_ext⟩

/-- One block of the result, at an index, is the reference's row. -/
theorem block_row (t : Fin cfg0.N) (r e : Fin 1024) :
    (dats m 0 c).after 11 t (ix3 0 r e)
      = Cert.FfnRef.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (bat (grid0.coords t)) (tok (grid0.coords t) r) e := by
  rw [after0_11, block_out]
  have hx : mixed (iblk m c 0 t) (iblk m c 8 t) (iblk m c 9 t) (iblk m c 10 t) r
      = Cert.FfnRef.mix (m ((c : Thread nD τ).loc main_arg0)) (m ((c : Thread nD τ).loc main_arg2)) (m ((c : Thread nD τ).loc main_arg3)) (m ((c : Thread nD τ).loc main_arg4)) (bat (grid0.coords t)) (tok (grid0.coords t) r) := by
    funext d
    unfold mixed Cert.FfnRef.mix
    simp only [blk_x, blk_mg, blk_o, blk_wo]
  rw [hx]
  simp only [blk_g, blk_sh, blk_sc, blk_gt, blk_w1, blk_w3, blk_w2]
  rfl

/-- The array the kernel leaves is the reference's result of the same arguments. -/
theorem array_eq :
    (dats m 0 c).arrAt 11 cfg0.N = Cert.Reference2Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  obtain ⟨r, e, rfl⟩ := blk_idx y
  have e' : ((cfg0.win 11).blk t).view.emb (ix3 0 r e) = ix3 (bat (grid0.coords t)) (tok (grid0.coords t) r) e := by
    unfold bat tok
    blk_ext [idx11 t]
  blk_simp
  rw [block_row]
  refine Eq.trans ?_ (congrArg (Cert.Reference2Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) e'.symm)
  exact (Cert.FfnRef.row_at _ _ _ _ _ _ _ _ _ _ _ _).symm

end Cert.FfnMix
-- ==== Proof.FfnSample.lean ====
/- What the kernel `ffn_mix` of the sample leaves in its one block. -/
module

public import proofs.«01_k».proof.Proof.Gen.Kernel3Ideal.Frame
public import Idealize.ShloMosaic.Lib.Pipeline.ValueKit.Point
public import proofs.«01_k».proof.Proof.Ffn

@[expose] public section

noncomputable section

namespace Cert.FfnSample

open Idealize.ShloMosaic Idealize.ShloMosaic.TcCoe Cert.Kernel3Ideal Cert.Kernel3Ideal.Gen Cert.Ffn

theorem pay2 (v0 v2 : Vec Ideal S1x256x1024 .f32) (v5 : Vec Ideal S1024x1024 .bf16) (v8 : Vec Ideal S1x256x1024 .f32) (r : Fin 256) (e : Fin 1024) :
    k0_pay2 v0 v2 v5 v8 (ix2 r e) = v0 (ix3 0 r e) + v8 (ix3 0 r e) * ∑ d : Fin 1024, v2 (ix3 0 r d) * v5 (ix2 d e) := by
  pointwise [k0_pay2]

theorem pay4 (v0 v2 : Vec Ideal S1x256x1024 .f32) (v5 : Vec Ideal S1024x1024 .bf16) (v8 : Vec Ideal S1x256x1024 .f32) (v12 : Vec Ideal S1x1024 .f32) (v14 v16 : Vec Ideal S1x256x1024 .f32) (r : Fin 256) (e : Fin 1024) :
    k0_pay4 (k0_pay3 v0 v2 v5 v8 v12 v14 v16) (ix2 r e)
      = hmod (fun d => k0_pay2 v0 v2 v5 v8 (ix2 r d)) (fun d => v12 (ix2 0 d)) (fun d => v14 (ix3 0 r d)) (fun d => v16 (ix3 0 r d)) e := by
  unfold k0_pay3
  generalize k0_pay2 v0 v2 v5 v8 = X
  pointwise [k0_pay4]
  rfl

theorem pay5 (v33 : FVec Ideal S256x1024 .f32) (A B : Vec Ideal S1x1x1024x256 .bf16) (C : Vec Ideal S1x1x256x1024 .bf16) (A' B' : Vec Ideal S1x1x1024x256 .bf16) (C' : Vec Ideal S1x1x256x1024 .bf16) (r : Fin 256) (e : Fin 1024) :
    k0_pay5 v33 A B C A' B' C' (ix2 r e) = ch (k0_pay4 v33) A B C r e + ch (k0_pay4 v33) A' B' C' r e := by
  unfold k0_pay5
  generalize k0_pay4 v33 = H
  pointwise
  rfl

section
variable (H : FVec Ideal S256x1024 .bf16) (acc : FVec Ideal S256x1024 .f32) (A B : Vec Ideal S1x1x1024x256 .bf16) (C : Vec Ideal S1x1x256x1024 .bf16) (A' B' : Vec Ideal S1x1x1024x256 .bf16) (C' : Vec Ideal S1x1x256x1024 .bf16) (r : Fin 256) (e : Fin 1024)

theorem pay6 : k0_pay6 H acc A B C A' B' C' (ix2 r e) = acc (ix2 r e) + ch H A B C r e + ch H A' B' C' r e := by
  pointwise [k0_pay6]; rfl
theorem pay7 : k0_pay7 H acc A B C A' B' C' (ix2 r e) = acc (ix2 r e) + ch H A B C r e + ch H A' B' C' r e := by
  pointwise [k0_pay7]; rfl
theorem pay9 : k0_pay9 H acc (k0_pay8 A) B C A' B' C' (ix2 r e) = acc (ix2 r e) + ch H A B C r e + ch H A' B' C' r e := by
  pointwise [k0_pay9, k0_pay8]; rfl
theorem pay11 : k0_pay11 H acc (k0_pay10 H A) B C A' B' C' (ix2 r e) = acc (ix2 r e) + ch H A B C r e + ch H A' B' C' r e := by
  pointwise [k0_pay11, k0_pay10]; rfl
theorem pay1 (X : FVec Ideal S256x1024 .f32) (gt : Vec Ideal S1x256x1024 .f32) :
    k0_pay1 X H acc (k0_pay12 H A) B C gt (ix3 0 r e)
      = X (ix2 r e) + Ideal.ofBits FTy.f32 0x3F000000#32 * gt (ix3 0 r e) * (acc (ix2 r e) + ch H A B C r e) := by
  pointwise [k0_pay1, k0_pay12]; rfl
end

section
variable (x0 : Vec Ideal S1x256x1024 .f32) (x1 : Vec Ideal S1x1024 .f32) (x2 x3 x4 : Vec Ideal S1x256x1024 .f32) (x5 : Vec Ideal S1x1x1024x2816 .bf16) (x6 : Vec Ideal S1x1x1024x2816 .bf16) (x7 : Vec Ideal S1x1x2816x1024 .bf16) (x8 x9 : Vec Ideal S1x256x1024 .f32) (x10 : Vec Ideal S1024x1024 .bf16)

/-- The loads of whole blocks. -/
theorem ld_r0 {e' : EltTy} (x : Vec Ideal S1x256x1024 e') : View.ld x r0_0 = x := View.ld_unit_zero (by decide) _ x
theorem ld_r1 {e' : EltTy} (x : Vec Ideal S1024x1024 e') : View.ld x r0_1 = x := View.ld_unit_zero (by decide) _ x
theorem ld_r2 {e' : EltTy} (x : Vec Ideal S1x1024 e') : View.ld x r0_2 = x := View.ld_unit_zero (by decide) _ x

/-- A row of the residual stream after the mixer's output is added. -/
def mixed (r : Fin 256) (e : Fin 1024) : EReal := x0 (ix3 0 r e) + x8 (ix3 0 r e) * ∑ d : Fin 1024, x9 (ix3 0 r d) * x10 (ix2 d e)

/-- The block's result, row by row: the half step of the mixed row. -/
theorem block_out (r : Fin 256) (e : Fin 1024) :
    out0_11 x0 x1 x2 x3 x4 x5 x6 x7 x8 x9 x10 (ix3 0 r e)
      = ffn (mixed x0 x8 x9 x10 r) (fun d => x1 (ix2 0 d)) (fun d => x3 (ix3 0 r d)) (fun d => x2 (ix3 0 r d)) (fun d => x4 (ix3 0 r d))
          (fun d F => x5 (ix4 0 0 d F)) (fun d F => x6 (ix4 0 0 d F)) (fun F e => x7 (ix4 0 0 F e)) e := by
  unfold out0_11
  rw [View.canon_unit_zero (by decide)]
  have hH : k0_pay4 (k0_pay13 x0 x1 x2 x3 x4 x5 x6 x7 x8 x9 x10) = k0_pay14 x0 x1 x2 x3 x4 x5 x6 x7 x8 x9 x10 := rfl
  have hh : ∀ d, k0_pay14 x0 x1 x2 x3 x4 x5 x6 x7 x8 x9 x10 (ix2 r d)
      = hmod (mixed x0 x8 x9 x10 r) (fun d => x1 (ix2 0 d)) (fun d => x3 (ix3 0 r d)) (fun d => x2 (ix3 0 r d)) d := by
    intro d
    unfold k0_pay14 k0_pay13
    rw [pay4]
    simp only [ld_r0, ld_r1, pay2]
    exact congr (congr (congrArg (hmod _) (funext fun d => congrFun (ld_r2 x1) _)) (funext fun d => congrFun (ld_r0 x3) _)) (funext fun d => congrFun (ld_r0 x2) _) |> (congrFun · d)
  rw [pay1, pay11, pay9, pay7, pay6, pay5, hH]
  generalize k0_pay14 x0 x1 x2 x3 x4 x5 x6 x7 x8 x9 x10 = H at hh
  rw [ch_ld x5 x6 x7 H 0 0 rfl, ch_ld x5 x6 x7 H 1 256 rfl, ch_ld x5 x6 x7 H 2 512 rfl, ch_ld x5 x6 x7 H 3 768 rfl, ch_ld x5 x6 x7 H 4 1024 rfl,
    ch_ld x5 x6 x7 H 5 1280 rfl, ch_ld x5 x6 x7 H 6 1536 rfl, ch_ld x5 x6 x7 H 7 1792 rfl, ch_ld x5 x6 x7 H 8 2048 rfl, ch_ld x5 x6 x7 H 9 2304 rfl,
    ch_ld x5 x6 x7 H 10 2560 rfl]
  simp only [hh]
  rw [pay2, ffn, part_chunks]
  rw [sum_eleven, ld_r0, ld_r0, ld_r1, ld_r0, ld_r0]
  rfl
end

variable (m : (ℓ : Loc nD τ sig) → Buf (Elt Ideal) ℓ) (c : Dev nD)

theorem idx0 : ∀ t : Fin cfg0.N, win0_0.index t = ![0, 0, 0] :=
  (by decide +kernel : ∀ t : Fin grid0.N, win0_0.index t = ![0, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0, 0] :=
  (by decide +kernel : ∀ t : Fin grid0.N, win0_4.index t = ![0, 0, 0])
theorem idx5 : ∀ t : Fin cfg0.N, win0_5.index t = ![1, 1, 0, 0] :=
  (by decide +kernel : ∀ t : Fin grid0.N, win0_5.index t = ![1, 1, 0, 0])
theorem idx6 : ∀ t : Fin cfg0.N, win0_6.index t = ![1, 1, 0, 0] :=
  (by decide +kernel : ∀ t : Fin grid0.N, win0_6.index t = ![1, 1, 0, 0])
theorem idx7 : ∀ t : Fin cfg0.N, win0_7.index t = ![1, 1, 0, 0] :=
  (by decide +kernel : ∀ t : Fin grid0.N, win0_7.index t = ![1, 1, 0, 0])
theorem idx8 : ∀ t : Fin cfg0.N, win0_8.index t = ![0, 0, 0] :=
  (by decide +kernel : ∀ t : Fin grid0.N, win0_8.index t = ![0, 0, 0])
theorem idx9 : ∀ t : Fin cfg0.N, win0_9.index t = ![0, 0, 0] :=
  (by decide +kernel : ∀ t : Fin grid0.N, win0_9.index t = ![0, 0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0, 0] :=
  (by decide +kernel : ∀ t : Fin grid0.N, win0_11.index t = ![0, 0, 0])

/-- The sequence of a row, and its place in the sequence. -/
def bat (r : Fin 256) : Fin 32 := ⟨r.val / 8, by omega⟩
def tok (r : Fin 256) : Fin 8 := ⟨r.val % 8, by omega⟩

theorem blk_x (t : Fin cfg0.N) (r : Fin 256) (d : Fin 1024) : iblk m c 0 t (ix3 0 r d) = m ((c : Thread nD τ).loc main_arg0) (ix3 (bat r) (tok r) d) := by
  blk_simp [iblk]
  entry_read
  pointwise
  unfold bat tok
  blk_ext [idx0 t]

theorem blk_g (t : Fin cfg0.N) (d : Fin 1024) : iblk m c 1 t (ix2 0 d) = m ((c : Thread nD τ).loc main_arg5) (ix1 d) := by
  blk_simp [iblk]
  entry_read
  pointwise
  blk_ext [idx1 t]

theorem blk_sh (t : Fin cfg0.N) (r : Fin 256) (d : Fin 1024) : iblk m c 2 t (ix3 0 r d) = m ((c : Thread nD τ).loc main_arg1) (ix3 (bat r) 0 d) := by
  blk_simp [iblk]
  entry_read
  pointwise
  unfold bat
  blk_ext [idx2 t]

theorem blk_sc (t : Fin cfg0.N) (r : Fin 256) (d : Fin 1024) : iblk m c 3 t (ix3 0 r d) = m ((c : Thread nD τ).loc main_arg1) (ix3 (bat r) 1 d) := by
  blk_simp [iblk]
  entry_read
  pointwise
  unfold bat
  blk_ext [idx3 t]

theorem blk_gt (t : Fin cfg0.N) (r : Fin 256) (d : Fin 1024) : iblk m c 4 t (ix3 0 r d) = m ((c : Thread nD τ).loc main_arg1) (ix3 (bat r) 2 d) := by
  blk_simp [iblk]
  entry_read
  pointwise
  unfold bat
  blk_ext [idx4 t]

theorem blk_w1 (t : Fin cfg0.N) (d : Fin 1024) (f : Fin 2816) : iblk m c 5 t (ix4 0 0 d f) = m ((c : Thread nD τ).loc main_arg6) (ix4 1 1 d f) := by
  blk_simp [iblk]
  entry_read
  pointwise
  blk_ext [idx5 t]

theorem blk_w3 (t : Fin cfg0.N) (d : Fin 1024) (f : Fin 2816) : iblk m c 6 t (ix4 0 0 d f) = m ((c : Thread nD τ).loc main_arg7) (ix4 1 1 d f) := by
  blk_simp [iblk]
  entry_read
  pointwise
  blk_ext [idx6 t]

theorem blk_w2 (t : Fin cfg0.N) (f : Fin 2816) (e : Fin 1024) : iblk m c 7 t (ix4 0 0 f e) = m ((c : Thread nD τ).loc main_arg8) (ix4 1 1 f e) := by
  blk_simp [iblk]
  entry_read
  pointwise
  blk_ext [idx7 t]

theorem blk_mg (t : Fin cfg0.N) (r : Fin 256) (d : Fin 1024) : iblk m c 8 t (ix3 0 r d) = m ((c : Thread nD τ).loc main_arg2) (ix2 (bat r) d) := by
  blk_simp [iblk]
  entry_read
  pointwise
  unfold bat
  blk_ext [idx8 t]

theorem blk_o (t : Fin cfg0.N) (r : Fin 256) (d : Fin 1024) : iblk m c 9 t (ix3 0 r d) = m ((c : Thread nD τ).loc main_arg3) (ix3 (bat r) (tok r) d) := by
  blk_simp [iblk]
  entry_read
  pointwise
  unfold bat tok
  blk_ext [idx9 t]

theorem blk_wo (t : Fin cfg0.N) (d e : Fin 1024) : iblk m c 10 t (ix2 d e) = m ((c : Thread nD τ).loc main_arg4) (ix2 d e) := by
  blk_simp [iblk]
  entry_read
  pointwise
  blk_ext [idx10 t]

end Cert.FfnSample
-- ==== Proof.FfnSampleRef.lean ====
/- What the reference of the mixing feed-forward step of the sample computes, at an index. -/
module

public import proofs.«01_k».proof.Proof.Gen.Reference3Ideal.Read
public import Idealize.ShloMosaic.Lib.Pointwise
public import proofs.«01_k».proof.Proof.Ffn

@[expose] public section

noncomputable section

namespace Cert.FfnSampleRef

open Idealize.ShloMosaic Cert.Reference3Ideal Cert.Reference3Ideal.Gen Cert.Reference3Ideal.Read Cert.Ffn

variable (x : (⟨S32x8x1024, .f32⟩ : BufTy).Contents (Elt Ideal)) (mo : (⟨S32x3x1024, .f32⟩ : BufTy).Contents (Elt Ideal))
  (mg : (⟨S32x1024, .f32⟩ : BufTy).Contents (Elt Ideal)) (o : (⟨S32x8x1024, .f32⟩ : BufTy).Contents (Elt Ideal))
  (wo : (⟨S1024x1024, .f32⟩ : BufTy).Contents (Elt Ideal)) (g : (⟨S1024, .f32⟩ : BufTy).Contents (Elt Ideal))
  (w1 w3 : (⟨S2x2x1024x2816, .f32⟩ : BufTy).Contents (Elt Ideal)) (w2 : (⟨S2x2x2816x1024, .f32⟩ : BufTy).Contents (Elt Ideal))

/-- Row `n` of sequence `b` after the gated output projection is added. -/
def mix (b : Fin 32) (n : Fin 8) (d : Fin 1024) : EReal :=
  x (ix3 b n d) + mg (ix2 b d) * ∑ k : Fin 1024, o (ix3 b n k) * wo (ix2 k d)

/-- The normed and modulated row. -/
def hrow (b : Fin 32) (n : Fin 8) : Fin 1024 → EReal :=
  hmod (mix x mg o wo b n) (fun d => g (ix1 d)) (fun d => mo (ix3 b 1 d)) (fun d => mo (ix3 b 0 d))

/-- The whole step of one row. -/
def row (b : Fin 32) (n : Fin 8) : Fin 1024 → EReal :=
  ffn (mix x mg o wo b n) (fun d => g (ix1 d)) (fun d => mo (ix3 b 1 d)) (fun d => mo (ix3 b 0 d)) (fun d => mo (ix3 b 2 d))
    (fun d f => w1 (ix4 1 1 d f)) (fun d f => w3 (ix4 1 1 d f)) (fun f e => w2 (ix4 1 1 f e))

theorem mix_at (b : Fin 32) (n : Fin 8) (d : Fin 1024) : val_main_v4 (F := Ideal) x mg o wo (ix3 b n d) = mix x mg o wo b n d := by
  pointwise [val_main_v4, val_main_v3, val_main_v2, val_main_v1, val_main_v0]
  rfl

theorem mean_at (b : Fin 32) (n : Fin 8) : val_main_v12 (F := Ideal) x mg o wo (ix3 b n 0)
    = Ideal.rsqrt ((∑ e : Fin 1024, mix x mg o wo b n e * mix x mg o wo b n e) * Ideal.ofBits FTy.f32 0x3A800000#32 + Ideal.ofBits FTy.f32 0x358637BD#32) := by
  simp only [← mix_at]
  unfold val_main_v12 val_main_v11 val_main_v10 val_main_v9 val_main_v8 val_main_v7 val_main_v6 val_main_v5
  generalize val_main_v4 (F := Ideal) x mg o wo = X
  pointwise [val_main_cst, val_main_cst_0, val_main_cst_1]
  rw [← mean_1024]

theorem h_at (b : Fin 32) (n : Fin 8) (d : Fin 1024) : val_main_v29 (F := Ideal) x mo mg o wo g (ix3 b n d) = hrow x mo mg o wo g b n d := by
  unfold hrow hmod
  rw [← mean_at, ← mix_at]
  unfold val_main_v29 val_main_v24 val_main_v17 val_main_v14 val_main_v13
  generalize val_main_v4 (F := Ideal) x mg o wo = X
  generalize val_main_v12 (F := Ideal) x mg o wo = Y
  pointwise [val_main_v28, val_main_v27, val_main_v26, val_main_v25, val_main_v23, val_main_v22, val_main_v21, val_main_cst_2, val_main_v20, val_main_v19, val_main_v18, val_main_v16, val_main_v15]

theorem up_at (b : Fin 32) (n : Fin 8) (f : Fin 2816) : val_main_v37 (F := Ideal) x mo mg o wo g w1 (ix3 b n f)
    = ∑ d : Fin 1024, hrow x mo mg o wo g b n d * w1 (ix4 1 1 d f) := by
  simp only [← h_at]
  unfold val_main_v37
  generalize val_main_v29 (F := Ideal) x mo mg o wo g = H
  pointwise [val_main_v36, val_main_v35]

theorem gate_at (b : Fin 32) (n : Fin 8) (f : Fin 2816) : val_main_v41 (F := Ideal) x mo mg o wo g w3 (ix3 b n f)
    = ∑ d : Fin 1024, hrow x mo mg o wo g b n d * w3 (ix4 1 1 d f) := by
  simp only [← h_at]
  unfold val_main_v41
  generalize val_main_v29 (F := Ideal) x mo mg o wo g = H
  pointwise [val_main_v40, val_main_v39]

theorem hid_at (b : Fin 32) (n : Fin 8) (f : Fin 2816) : val_main_v42 (F := Ideal) x mo mg o wo g w1 w3 (ix3 b n f)
    = hid (hrow x mo mg o wo g b n) (fun d f => w1 (ix4 1 1 d f)) (fun d f => w3 (ix4 1 1 d f)) f := by
  unfold hid
  rw [← up_at, ← gate_at]
  unfold val_main_v42 val_main_v38 val_main_call0_v5 val_main_call0_v3 val_main_call0_v1 val_main_call0_v0
  generalize val_main_v37 (F := Ideal) x mo mg o wo g w1 = A
  generalize val_main_v41 (F := Ideal) x mo mg o wo g w3 = B
  pointwise [val_main_call0_v4, val_main_call0_v2, val_main_call0_cst, val_main_call0_cst_0]
  rfl

/-- The reference's result before its rows are laid out one after the other, at an index. -/
theorem row_at (b : Fin 32) (n : Fin 8) (e : Fin 1024) : val_main_v48 (F := Ideal) x mo mg o wo g w1 w3 w2 (ix3 b n e)
    = row x mo mg o wo g w1 w3 w2 b n e := by
  unfold row ffn part
  have hh : hmod (mix x mg o wo b n) (fun d => g (ix1 d)) (fun d => mo (ix3 b 1 d)) (fun d => mo (ix3 b 0 d)) = hrow x mo mg o wo g b n := rfl
  simp only [hh, ← hid_at]
  rw [← mix_at]
  unfold val_main_v48 val_main_v47 val_main_v45
  generalize val_main_v4 (F := Ideal) x mg o wo = X
  generalize val_main_v42 (F := Ideal) x mo mg o wo g w1 w3 = H
  pointwise [val_main_v46, val_main_v44, val_main_v43, val_main_v34, val_main_v33, val_main_v32, val_main_v31, val_main_v30, val_main_cst_3]

/-- The reference's result as it is left: the rows of all sequences one after the other. -/
theorem flat_at (r : Fin 256) (e : Fin 1024) : val_main_v49 (F := Ideal) x mo mg o wo g w1 w3 w2 (ix3 0 r e)
    = row x mo mg o wo g w1 w3 w2 ⟨r.val / 8, by omega⟩ ⟨r.val % 8, by omega⟩ e := by
  rw [← row_at]
  unfold val_main_v49
  generalize val_main_v48 (F := Ideal) x mo mg o wo g w1 w3 w2 = X
  pointwise

end Cert.FfnSampleRef
-- ==== Proof.FfnSampleFinal.lean ====
/- The array the mixing feed-forward step of the sample leaves is its reference's result. -/
module

public import proofs.«01_k».proof.Proof.FfnSample
public import proofs.«01_k».proof.Proof.FfnSampleRef

@[expose] public section

noncomputable section

namespace Cert.FfnSample

open Idealize.ShloMosaic Idealize.ShloMosaic.TcCoe Cert.Kernel3Ideal Cert.Kernel3Ideal.Gen

variable (m : (ℓ : Loc nD τ sig) → Buf (Elt Ideal) ℓ) (c : Dev nD)

/-- An index of the result block, as its row and column. -/
theorem blk_idx (y : S1x256x1024.Idx) : ∃ (r : Fin 256) (e : Fin 1024), y = ix3 0 r e :=
  ⟨y 1, y 2, by blk_ext⟩

/-- One block of the result, at an index, is the reference's row. -/
theorem block_row (t : Fin cfg0.N) (r : Fin 256) (e : Fin 1024) :
    (dats m 0 c).after 11 t (ix3 0 r e)
      = Cert.FfnSampleRef.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (bat r) (tok r) e := by
  rw [after0_11, block_out]
  have hx : mixed (iblk m c 0 t) (iblk m c 8 t) (iblk m c 9 t) (iblk m c 10 t) r
      = Cert.FfnSampleRef.mix (m ((c : Thread nD τ).loc main_arg0)) (m ((c : Thread nD τ).loc main_arg2)) (m ((c : Thread nD τ).loc main_arg3)) (m ((c : Thread nD τ).loc main_arg4)) (bat r) (tok r) := by
    funext d
    unfold mixed Cert.FfnSampleRef.mix
    simp only [blk_x, blk_mg, blk_o, blk_wo]
  rw [hx]
  simp only [blk_g, blk_sh, blk_sc, blk_gt, blk_w1, blk_w3, blk_w2]
  rfl

/-- The array the kernel leaves is the reference's result of the same arguments. -/
theorem array_eq :
    (dats m 0 c).arrAt 11 cfg0.N = Cert.Reference3Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  obtain ⟨r, e, rfl⟩ := blk_idx y
  have e' : ((cfg0.win 11).blk t).view.emb (ix3 0 r e) = ix3 0 r e := by
    blk_ext [idx11 t]
  blk_simp
  rw [block_row]
  refine Eq.trans ?_ (congrArg (Cert.Reference3Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) e'.symm)
  exact (Cert.FfnSampleRef.flat_at _ _ _ _ _ _ _ _ _ _ _).symm

end Cert.FfnSample
-- ==== Proof.FfnPlain.lean ====
/- What the kernel `ffn`, the half step without a mixer, leaves in each of its blocks; and its windows at an index. -/
module

public import proofs.«01_k».proof.Proof.Gen.Kernel4Ideal.Frame
public import Idealize.ShloMosaic.Lib.Pipeline.ValueKit.Point
public import proofs.«01_k».proof.Proof.Ffn

@[expose] public section

noncomputable section

namespace Cert.FfnPlain

open Idealize.ShloMosaic Idealize.ShloMosaic.TcCoe Cert.Kernel4Ideal Cert.Kernel4Ideal.Gen Cert.Ffn

theorem pay3 (v0 : Vec Ideal S1x1024x1024 .f32) (v2 : Vec Ideal S1x1024 .f32) (v4 v6 : Vec Ideal S1x1x1024 .f32) (r e : Fin 1024) :
    k0_pay3 v0 v2 v4 v6 (ix2 r e)
      = hmod (fun d => v0 (ix3 0 r d)) (fun d => v2 (ix2 0 d)) (fun d => v4 (ix3 0 0 d)) (fun d => v6 (ix3 0 0 d)) e := by
  pointwise [k0_pay3, k0_pay2]
  rfl

section
variable (H : FVec Ideal S1024x1024 .bf16) (acc : FVec Ideal S1024x1024 .f32) (A B : Vec Ideal S1x1x1024x256 .bf16) (C : Vec Ideal S1x1x256x1024 .bf16) (A' B' : Vec Ideal S1x1x1024x256 .bf16) (C' : Vec Ideal S1x1x256x1024 .bf16) (r e : Fin 1024)

theorem pay6 (v0 : Vec Ideal S1x1024x1024 .f32) (v2 : Vec Ideal S1x1024 .f32) (v4 v6 : Vec Ideal S1x1x1024 .f32) (hH : k0_pay3 v0 v2 v4 v6 = H) :
    k0_pay6 H (k0_pay4 v0 v2 v4 v6 A) (k0_pay5 B) C A' B' C' (ix2 r e) = ch H A B C r e + ch H A' B' C' r e := by
  unfold k0_pay4
  rw [hH]
  pointwise [k0_pay6, k0_pay5]; rfl
theorem pay8 : k0_pay8 H acc (k0_pay7 H A B) C A' B' C' (ix2 r e) = acc (ix2 r e) + ch H A B C r e + ch H A' B' C' r e := by
  pointwise [k0_pay8, k0_pay7]; rfl
theorem pay10 : k0_pay10 H acc (k0_pay9 H A B) C A' B' C' (ix2 r e) = acc (ix2 r e) + ch H A B C r e + ch H A' B' C' r e := by
  pointwise [k0_pay10, k0_pay9]; rfl
theorem pay12 : k0_pay12 H acc (k0_pay11 H A B) C A' B' C' (ix2 r e) = acc (ix2 r e) + ch H A B C r e + ch H A' B' C' r e := by
  pointwise [k0_pay12, k0_pay11]; rfl
theorem pay14 : k0_pay14 H acc (k0_pay13 H A B) C A' B' C' (ix2 r e) = acc (ix2 r e) + ch H A B C r e + ch H A' B' C' r e := by
  pointwise [k0_pay14, k0_pay13]; rfl
theorem pay1 (x : Vec Ideal S1x1024x1024 .f32) (gt : Vec Ideal S1x1x1024 .f32) :
    k0_pay1 (k0_pay2 x) acc (k0_pay15 H A B) (k0_pay16 C) (constant S1024x1024 .f32 0x00000000#32) gt (ix3 0 r e)
      = x (ix3 0 r e) + Ideal.ofBits FTy.f32 0x3F000000#32 * gt (ix3 0 0 e) * (acc (ix2 r e) + ch H A B C r e) := by
  pointwise [k0_pay1, k0_pay2, k0_pay15, k0_pay16]; rfl
end

section
variable (x0 : Vec Ideal S1x1024x1024 .f32) (x1 : Vec Ideal S1x1024 .f32) (x2 x3 x4 : Vec Ideal S1x1x1024 .f32) (x5 : Vec Ideal S1x1x1024x2816 .bf16) (x6 : Vec Ideal S1x1x1024x2816 .bf16) (x7 : Vec Ideal S1x1x2816x1024 .bf16)

/-- The loads of whole blocks. -/
theorem ld_r0 {e' : EltTy} (x : Vec Ideal S1x1024x1024 e') : View.ld x r0_0 = x := View.ld_unit_zero (by decide) _ x
theorem ld_r1 {e' : EltTy} (x : Vec Ideal S1x1024 e') : View.ld x r0_1 = x := View.ld_unit_zero (by decide) _ x
theorem ld_r2 {e' : EltTy} (x : Vec Ideal S1x1x1024 e') : View.ld x r0_2 = x := View.ld_unit_zero (by decide) _ x

/-- The block's result, row by row: the half step of the row. -/
theorem block_out (r e : Fin 1024) :
    out0_8 x0 x1 x2 x3 x4 x5 x6 x7 (ix3 0 r e)
      = ffn (fun d => x0 (ix3 0 r d)) (fun d => x1 (ix2 0 d)) (fun d => x3 (ix3 0 0 d)) (fun d => x2 (ix3 0 0 d)) (fun d => x4 (ix3 0 0 d))
          (fun d F => x5 (ix4 0 0 d F)) (fun d F => x6 (ix4 0 0 d F)) (fun F e => x7 (ix4 0 0 F e)) e := by
  unfold out0_8
  rw [View.canon_unit_zero (by decide)]
  have hH : k0_pay3 (View.ld x0 r0_0) (View.ld x1 r0_1) (View.ld x3 r0_2) (View.ld x2 r0_2) = k0_pay17 x0 x1 x2 x3 x4 x5 x6 x7 := rfl
  have hh : ∀ d, k0_pay17 x0 x1 x2 x3 x4 x5 x6 x7 (ix2 r d)
      = hmod (fun d => x0 (ix3 0 r d)) (fun d => x1 (ix2 0 d)) (fun d => x3 (ix3 0 0 d)) (fun d => x2 (ix3 0 0 d)) d := by
    intro d
    unfold k0_pay17
    rw [pay3]
    exact congr (congr (congr (congrArg hmod (funext fun d => congrFun (ld_r0 x0) _)) (funext fun d => congrFun (ld_r1 x1) _)) (funext fun d => congrFun (ld_r2 x3) _)) (funext fun d => congrFun (ld_r2 x2) _) |> (congrFun · d)
  rw [pay1, pay14, pay12, pay10, pay8, pay6 _ _ _ _ _ _ _ _ _ _ _ _ _ hH]
  clear hH
  generalize k0_pay17 x0 x1 x2 x3 x4 x5 x6 x7 = H at hh
  rw [ch_ld x5 x6 x7 H 0 0 rfl, ch_ld x5 x6 x7 H 1 256 rfl, ch_ld x5 x6 x7 H 2 512 rfl, ch_ld x5 x6 x7 H 3 768 rfl, ch_ld x5 x6 x7 H 4 1024 rfl,
    ch_ld x5 x6 x7 H 5 1280 rfl, ch_ld x5 x6 x7 H 6 1536 rfl, ch_ld x5 x6 x7 H 7 1792 rfl, ch_ld x5 x6 x7 H 8 2048 rfl, ch_ld x5 x6 x7 H 9 2304 rfl,
    ch_ld x5 x6 x7 H 10 2560 rfl]
  simp only [hh]
  rw [ffn, part_chunks, sum_eleven, ld_r0, ld_r2]
end

variable (m : (ℓ : Loc nD τ sig) → Buf (Elt Ideal) ℓ) (c : Dev nD)

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, 0] :=
  (by decide +kernel : ∀ t : Fin grid0.N, win0_3.index t = ![(grid0.coords t 0).val, 0, 0])
theorem idx4 : ∀ t : Fin cfg0.N, win0_4.index t = ![(grid0.coords t 0).val, 0, 0] :=
  (by decide +kernel : ∀ t : Fin grid0.N, win0_4.index t = ![(grid0.coords t 0).val, 0, 0])
theorem idx5 : ∀ t : Fin cfg0.N, win0_5.index t = ![0, 0, 0, 0] :=
  (by decide +kernel : ∀ t : Fin grid0.N, win0_5.index t = ![0, 0, 0, 0])
theorem idx6 : ∀ t : Fin cfg0.N, win0_6.index t = ![0, 0, 0, 0] :=
  (by decide +kernel : ∀ t : Fin grid0.N, win0_6.index t = ![0, 0, 0, 0])
theorem idx7 : ∀ t : Fin cfg0.N, win0_7.index t = ![0, 0, 0, 0] :=
  (by decide +kernel : ∀ t : Fin grid0.N, win0_7.index t = ![0, 0, 0, 0])
theorem idx8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])

/-- The sequence and the row of a block's parts. -/
def bat (i : grid0.Coords) : Fin 8 := ⟨(i 0).val, (i 0).isLt⟩
def tok (i : grid0.Coords) (r : Fin 1024) : Fin 2048 := ⟨1024 * (i 1).val + r.val, by have : (i 1).val < 2 := (i 1).isLt; omega⟩

theorem blk_x (t : Fin cfg0.N) (r d : Fin 1024) :
    iblk m c 0 t (ix3 0 r d) = m ((c : Thread nD τ).loc main_arg0) (ix3 (bat (grid0.coords t)) (tok (grid0.coords t) r) d) := by
  blk_simp [iblk]
  entry_read
  unfold bat tok
  blk_ext [idx0 t]

theorem blk_g (t : Fin cfg0.N) (d : Fin 1024) : iblk m c 1 t (ix2 0 d) = m ((c : Thread nD τ).loc main_arg2) (ix1 d) := by
  blk_simp [iblk]
  entry_read
  pointwise
  blk_ext [idx1 t]

theorem blk_sh (t : Fin cfg0.N) (d : Fin 1024) : iblk m c 2 t (ix3 0 0 d) = m ((c : Thread nD τ).loc main_arg1) (ix3 (bat (grid0.coords t)) 0 d) := by
  blk_simp [iblk]
  entry_read
  pointwise
  unfold bat
  blk_ext [idx2 t]

theorem blk_sc (t : Fin cfg0.N) (d : Fin 1024) : iblk m c 3 t (ix3 0 0 d) = m ((c : Thread nD τ).loc main_arg1) (ix3 (bat (grid0.coords t)) 1 d) := by
  blk_simp [iblk]
  entry_read
  pointwise
  unfold bat
  blk_ext [idx3 t]

theorem blk_gt (t : Fin cfg0.N) (d : Fin 1024) : iblk m c 4 t (ix3 0 0 d) = m ((c : Thread nD τ).loc main_arg1) (ix3 (bat (grid0.coords t)) 2 d) := by
  blk_simp [iblk]
  entry_read
  pointwise
  unfold bat
  blk_ext [idx4 t]

theorem blk_w1 (t : Fin cfg0.N) (d : Fin 1024) (f : Fin 2816) : iblk m c 5 t (ix4 0 0 d f) = m ((c : Thread nD τ).loc main_arg3) (ix4 0 0 d f) := by
  blk_simp [iblk]
  entry_read
  pointwise
  blk_ext [idx5 t]

theorem blk_w3 (t : Fin cfg0.N) (d : Fin 1024) (f : Fin 2816) : iblk m c 6 t (ix4 0 0 d f) = m ((c : Thread nD τ).loc main_arg4) (ix4 0 0 d f) := by
  blk_simp [iblk]
  entry_read
  pointwise
  blk_ext [idx6 t]

theorem blk_w2 (t : Fin cfg0.N) (f : Fin 2816) (e : Fin 1024) : iblk m c 7 t (ix4 0 0 f e) = m ((c : Thread nD τ).loc main_arg5) (ix4 0 0 f e) := by
  blk_simp [iblk]
  entry_read
  pointwise
  blk_ext [idx7 t]

end Cert.FfnPlain
-- ==== Proof.FfnPlainRef.lean ====
/- What the reference of the half step without a mixer computes, at an index. -/
module

public import proofs.«01_k».proof.Proof.Gen.Reference4Ideal.Read
public import Idealize.ShloMosaic.Lib.Pointwise
public import proofs.«01_k».proof.Proof.Ffn

@[expose] public section

noncomputable section

namespace Cert.FfnPlainRef

open Idealize.ShloMosaic Cert.Reference4Ideal Cert.Reference4Ideal.Gen Cert.Reference4Ideal.Read Cert.Ffn

variable (x : (⟨S8x2048x1024, .f32⟩ : BufTy).Contents (Elt Ideal)) (mo : (⟨S8x3x1024, .f32⟩ : BufTy).Contents (Elt Ideal))
  (g : (⟨S1024, .f32⟩ : BufTy).Contents (Elt Ideal))
  (w1 w3 : (⟨S2x2x1024x2816, .f32⟩ : BufTy).Contents (Elt Ideal)) (w2 : (⟨S2x2x2816x1024, .f32⟩ : BufTy).Contents (Elt Ideal))

/-- The normed and modulated row. -/
def hrow (b : Fin 8) (n : Fin 2048) : Fin 1024 → EReal :=
  hmod (fun d => x (ix3 b n d)) (fun d => g (ix1 d)) (fun d => mo (ix3 b 1 d)) (fun d => mo (ix3 b 0 d))

/-- The whole step of one row. -/
def row (b : Fin 8) (n : Fin 2048) : Fin 1024 → EReal :=
  ffn (fun d => x (ix3 b n d)) (fun d => g (ix1 d)) (fun d => mo (ix3 b 1 d)) (fun d => mo (ix3 b 0 d)) (fun d => mo (ix3 b 2 d))
    (fun d f => w1 (ix4 0 0 d f)) (fun d f => w3 (ix4 0 0 d f)) (fun f e => w2 (ix4 0 0 f e))

theorem mean_at (b : Fin 8) (n : Fin 2048) : val_main_v7 (F := Ideal) x (ix3 b n 0)
    = Ideal.rsqrt ((∑ e : Fin 1024, x (ix3 b n e) * x (ix3 b n e)) * Ideal.ofBits FTy.f32 0x3A800000#32 + Ideal.ofBits FTy.f32 0x358637BD#32) := by
  unfold val_main_v7 val_main_v6 val_main_v5 val_main_v4 val_main_v3 val_main_v2 val_main_v1 val_main_v0
  pointwise [val_main_cst, val_main_cst_0, val_main_cst_1]
  rw [← mean_1024]

theorem h_at (b : Fin 8) (n : Fin 2048) (d : Fin 1024) : val_main_v24 (F := Ideal) x mo g (ix3 b n d) = hrow x mo g b n d := by
  unfold hrow hmod
  rw [← mean_at]
  unfold val_main_v24 val_main_v19 val_main_v12 val_main_v9 val_main_v8
  generalize val_main_v7 (F := Ideal) x = Y
  pointwise [val_main_v23, val_main_v22, val_main_v21, val_main_v20, val_main_v18, val_main_v17, val_main_v16, val_main_cst_2, val_main_v15, val_main_v14, val_main_v13, val_main_v11, val_main_v10]

theorem up_at (b : Fin 8) (n : Fin 2048) (f : Fin 2816) : val_main_v32 (F := Ideal) x mo g w1 (ix3 b n f)
    = ∑ d : Fin 1024, hrow x mo g b n d * w1 (ix4 0 0 d f) := by
  simp only [← h_at]
  unfold val_main_v32
  generalize val_main_v24 (F := Ideal) x mo g = H
  pointwise [val_main_v31, val_main_v30]

theorem gate_at (b : Fin 8) (n : Fin 2048) (f : Fin 2816) : val_main_v36 (F := Ideal) x mo g w3 (ix3 b n f)
    = ∑ d : Fin 1024, hrow x mo g b n d * w3 (ix4 0 0 d f) := by
  simp only [← h_at]
  unfold val_main_v36
  generalize val_main_v24 (F := Ideal) x mo g = H
  pointwise [val_main_v35, val_main_v34]

theorem hid_at (b : Fin 8) (n : Fin 2048) (f : Fin 2816) : val_main_v37 (F := Ideal) x mo g w1 w3 (ix3 b n f)
    = hid (hrow x mo g b n) (fun d f => w1 (ix4 0 0 d f)) (fun d f => w3 (ix4 0 0 d f)) f := by
  unfold hid
  rw [← up_at, ← gate_at]
  unfold val_main_v37 val_main_v33 val_main_call0_v5 val_main_call0_v3 val_main_call0_v1 val_main_call0_v0
  generalize val_main_v32 (F := Ideal) x mo g w1 = A
  generalize val_main_v36 (F := Ideal) x mo g w3 = B
  pointwise [val_main_call0_v4, val_main_call0_v2, val_main_call0_cst, val_main_call0_cst_0]
  rfl

/-- The reference's result, at an index. -/
theorem row_at (b : Fin 8) (n : Fin 2048) (e : Fin 1024) : val_main_v43 (F := Ideal) x mo g w1 w3 w2 (ix3 b n e)
    = row x mo g w1 w3 w2 b n e := by
  unfold row ffn part
  have hh : hmod (fun d => x (ix3 b n d)) (fun d => g (ix1 d)) (fun d => mo (ix3 b 1 d)) (fun d => mo (ix3 b 0 d)) = hrow x mo g b n := rfl
  simp only [hh, ← hid_at]
  unfold val_main_v43 val_main_v42 val_main_v40
  generalize val_main_v37 (F := Ideal) x mo g w1 w3 = H
  pointwise [val_main_v41, val_main_v39, val_main_v38, val_main_v29, val_main_v28, val_main_v27, val_main_v26, val_main_v25, val_main_cst_3]

end Cert.FfnPlainRef
-- ==== Proof.FfnPlainFinal.lean ====
/- The array the half step without a mixer leaves is its reference's result. -/
module

public import proofs.«01_k».proof.Proof.FfnPlain
public import proofs.«01_k».proof.Proof.FfnPlainRef

@[expose] public section

noncomputable section

namespace Cert.FfnPlain

open Idealize.ShloMosaic Idealize.ShloMosaic.TcCoe Cert.Kernel4Ideal Cert.Kernel4Ideal.Gen

variable (m : (ℓ : Loc nD τ sig) → Buf (Elt Ideal) ℓ) (c : Dev nD)

/-- An index of the result block, as its row and column. -/
theorem blk_idx (y : S1x1024x1024.Idx) : ∃ (r e : Fin 1024), y = ix3 0 r e :=
  ⟨y 1, y 2, by blk_ext⟩

/-- One block of the result, at an index, is the reference's row. -/
theorem block_row (t : Fin cfg0.N) (r e : Fin 1024) :
    (dats m 0 c).after 8 t (ix3 0 r e)
      = Cert.FfnPlainRef.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (bat (grid0.coords t)) (tok (grid0.coords t) r) e := by
  rw [after0_8, block_out]
  simp only [blk_x, blk_g, blk_sh, blk_sc, blk_gt, blk_w1, blk_w3, blk_w2]
  rfl

/-- The array the kernel leaves is the reference's result of the same arguments. -/
theorem array_eq :
    (dats m 0 c).arrAt 8 cfg0.N = Cert.Reference4Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨r, e, rfl⟩ := blk_idx y
  have e' : ((cfg0.win 8).blk t).view.emb (ix3 0 r e) = ix3 (bat (grid0.coords t)) (tok (grid0.coords t) r) e := by
    unfold bat tok
    blk_ext [idx8 t]
  blk_simp
  rw [block_row]
  refine Eq.trans ?_ (congrArg (Cert.Reference4Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e'.symm)
  exact (Cert.FfnPlainRef.row_at _ _ _ _ _ _ _ _ _).symm

end Cert.FfnPlain
-- ==== Proof.FfnTwo.lean ====
/- What the kernel `ffn_mix` with two mixers leaves in each of its blocks; and its windows at an index. -/
module

public import proofs.«01_k».proof.Proof.Gen.Kernel5Ideal.Frame
public import Idealize.ShloMosaic.Lib.Pipeline.ValueKit.Point
public import proofs.«01_k».proof.Proof.Ffn

@[expose] public section

noncomputable section

namespace Cert.FfnTwo

open Idealize.ShloMosaic Idealize.ShloMosaic.TcCoe Cert.Kernel5Ideal Cert.Kernel5Ideal.Gen Cert.Ffn

section
variable (v0 : Vec Ideal S1x1024x1024 .f32) (v2 : Vec Ideal S1x1024x512 .bf16) (v4 : Vec Ideal S512x1024 .bf16) (v7 : Vec Ideal S1024x512 .f32) (v10 : Vec Ideal S512x1024 .bf16) (v14 : Vec Ideal S1x1x1024 .f32)

theorem pay2 (r e : Fin 1024) : k0_pay2 v0 v2 v4 v7 v10 v14 (ix2 r e)
    = v0 (ix3 0 r e) + v14 (ix3 0 0 e) * ((∑ d : Fin 512, v2 (ix3 0 r d) * v4 (ix2 d e)) + ∑ d : Fin 512, v7 (ix2 r d) * v10 (ix2 d e)) := by
  pointwise [k0_pay2]

theorem pay7 (v12 : Vec Ideal S1x1024 .f32) (sc sh : Vec Ideal S1x1x1024 .f32) (r e : Fin 1024) :
    k0_pay7 (k0_pay2 v0 v2 v4 v7 v10 v14) (k0_pay3 v12) (k0_pay4 sc) (k0_pay5 sh) (k0_pay6 v0 v2 v4 v7 v10 v14) (Scalar.ofBits .f32 0x358637BD#32) (ix2 r e)
      = hmod (fun d => k0_pay2 v0 v2 v4 v7 v10 v14 (ix2 r d)) (fun d => v12 (ix2 0 d)) (fun d => sc (ix3 0 0 d)) (fun d => sh (ix3 0 0 d)) e := by
  unfold k0_pay6
  generalize k0_pay2 v0 v2 v4 v7 v10 v14 = X
  pointwise [k0_pay7, k0_pay3, k0_pay4, k0_pay5]
  rfl
end

section
variable (H : FVec Ideal S1024x1024 .bf16) (acc : FVec Ideal S1024x1024 .f32) (A B : Vec Ideal S1x1x1024x256 .bf16) (C : Vec Ideal S1x1x256x1024 .bf16) (A' B' : Vec Ideal S1x1x1024x256 .bf16) (C' : Vec Ideal S1x1x256x1024 .bf16) (r e : Fin 1024)
  (X : FVec Ideal S1024x1024 .f32) (u1 u2 u3 : FVec Ideal S1x1024 .f32) (u4 : FVec Ideal S1024x1 .f32) (u5 : Ideal .f32)

theorem pay8 (hH : k0_pay7 X u1 u2 u3 u4 u5 = H) : k0_pay8 X u1 u2 u3 u4 u5 A B C (ix2 r e) = ch H A B C r e := by
  unfold k0_pay8
  rw [hH]
  pointwise; rfl
theorem pay11 (hH : k0_pay7 X u1 u2 u3 u4 u5 = H) :
    k0_pay11 H acc (k0_pay9 X u1 u2 u3 u4 u5 A) (k0_pay10 B) (constant S1024x256 .f32 0x00000000#32) C A' B' C' (ix2 r e) = acc (ix2 r e) + ch H A B C r e + ch H A' B' C' r e := by
  unfold k0_pay9
  rw [hH]
  pointwise [k0_pay11, k0_pay10]; rfl
theorem pay13 : k0_pay13 H acc (k0_pay12 H A B) C A' B' C' (ix2 r e) = acc (ix2 r e) + ch H A B C r e + ch H A' B' C' r e := by
  pointwise [k0_pay13, k0_pay12]; rfl
theorem pay15 : k0_pay15 H acc (k0_pay14 H A B) C A' B' C' (ix2 r e) = acc (ix2 r e) + ch H A B C r e + ch H A' B' C' r e := by
  pointwise [k0_pay15, k0_pay14]; rfl
theorem pay17 : k0_pay17 H acc (k0_pay16 H A B) C A' B' C' (ix2 r e) = acc (ix2 r e) + ch H A B C r e + ch H A' B' C' r e := by
  pointwise [k0_pay17, k0_pay16]; rfl
theorem pay1 (gt : Vec Ideal S1x1x1024 .f32) :
    k0_pay1 X H acc (k0_pay18 H A B) C A' B' C' gt (ix3 0 r e)
      = X (ix2 r e) + Ideal.ofBits FTy.f32 0x3F000000#32 * gt (ix3 0 0 e) * (acc (ix2 r e) + ch H A B C r e + ch H A' B' C' r e) := by
  pointwise [k0_pay1, k0_pay18]; rfl
end

section
variable (x0 : Vec Ideal S1x1024x1024 .f32) (x1 : Vec Ideal S1x1024 .f32) (x2 x3 x4 : Vec Ideal S1x1x1024 .f32) (x5 : Vec Ideal S1x1x1024x2816 .bf16) (x6 : Vec Ideal S1x1x1024x2816 .bf16) (x7 : Vec Ideal S1x1x2816x1024 .bf16) (x8 : Vec Ideal S1x1x1024 .f32) (x9 : Vec Ideal S1x1024x512 .bf16) (x10 : Vec Ideal S1024x512 .f32) (x11 x12 : Vec Ideal S512x1024 .bf16)

/-- The loads of whole blocks. -/
theorem ld_r0 {e' : EltTy} (x : Vec Ideal S1x1024x1024 e') : View.ld x r0_0 = x := View.ld_unit_zero (by decide) _ x
theorem ld_r1 {e' : EltTy} (x : Vec Ideal S1x1024x512 e') : View.ld x r0_1 = x := View.ld_unit_zero (by decide) _ x
theorem ld_r2 {e' : EltTy} (x : Vec Ideal S512x1024 e') : View.ld x r0_2 = x := View.ld_unit_zero (by decide) _ x
theorem ld_r3 {e' : EltTy} (x : Vec Ideal S1024x512 e') : View.ld x r0_3 = x := View.ld_unit_zero (by decide) _ x
theorem ld_r4 {e' : EltTy} (x : Vec Ideal S1x1x1024 e') : View.ld x r0_4 = x := View.ld_unit_zero (by decide) _ x
theorem ld_r5 {e' : EltTy} (x : Vec Ideal S1x1024 e') : View.ld x r0_5 = x := View.ld_unit_zero (by decide) _ x

/-- A row of the residual stream after the two mixers' output is added. -/
def mixed (r e : Fin 1024) : EReal :=
  x0 (ix3 0 r e) + x8 (ix3 0 0 e) * ((∑ d : Fin 512, x9 (ix3 0 r d) * x11 (ix2 d e)) + ∑ d : Fin 512, x10 (ix2 r d) * x12 (ix2 d e))

/-- The block's result, row by row: the half step of the mixed row. -/
theorem block_out (r e : Fin 1024) :
    out0_13 x0 x1 x2 x3 x4 x5 x6 x7 x8 x9 x10 x11 x12 (ix3 0 r e)
      = ffn (mixed x0 x8 x9 x10 x11 x12 r) (fun d => x1 (ix2 0 d)) (fun d => x3 (ix3 0 0 d)) (fun d => x2 (ix3 0 0 d)) (fun d => x4 (ix3 0 0 d))
          (fun d F => x5 (ix4 0 0 d F)) (fun d F => x6 (ix4 0 0 d F)) (fun F e => x7 (ix4 0 0 F e)) e := by
  unfold out0_13
  rw [View.canon_unit_zero (by decide)]
  have hX : ∀ d, k0_pay19 x0 x1 x2 x3 x4 x5 x6 x7 x8 x9 x10 x11 x12 (ix2 r d) = mixed x0 x8 x9 x10 x11 x12 r d := by
    intro d
    unfold k0_pay19
    rw [ld_r0, ld_r1, ld_r2, ld_r2, ld_r3, ld_r4, pay2]
    rfl
  have hH : k0_pay7 (k0_pay19 x0 x1 x2 x3 x4 x5 x6 x7 x8 x9 x10 x11 x12) (k0_pay20 x0 x1 x2 x3 x4 x5 x6 x7 x8 x9 x10 x11 x12) (k0_pay21 x0 x1 x2 x3 x4 x5 x6 x7 x8 x9 x10 x11 x12) (k0_pay22 x0 x1 x2 x3 x4 x5 x6 x7 x8 x9 x10 x11 x12) (k0_pay23 x0 x1 x2 x3 x4 x5 x6 x7 x8 x9 x10 x11 x12) (Scalar.ofBits .f32 0x358637BD#32)
      = k0_pay24 x0 x1 x2 x3 x4 x5 x6 x7 x8 x9 x10 x11 x12 := rfl
  have hh : ∀ d, k0_pay24 x0 x1 x2 x3 x4 x5 x6 x7 x8 x9 x10 x11 x12 (ix2 r d)
      = hmod (mixed x0 x8 x9 x10 x11 x12 r) (fun d => x1 (ix2 0 d)) (fun d => x3 (ix3 0 0 d)) (fun d => x2 (ix3 0 0 d)) d := by
    intro d
    rw [← hH]
    unfold k0_pay19 k0_pay20 k0_pay21 k0_pay22 k0_pay23
    rw [ld_r0, ld_r1, ld_r2, ld_r2, ld_r3, ld_r4, ld_r4, ld_r4, ld_r5, pay7]
    simp only [pay2]
    rfl
  rw [pay1, pay17, pay15, pay13, pay11 _ _ _ _ _ _ _ _ _ _ _ _ _ _ _ _ hH, pay8 _ _ _ _ _ _ _ _ _ _ _ _ hH, hX]
  clear hH hX
  generalize k0_pay24 x0 x1 x2 x3 x4 x5 x6 x7 x8 x9 x10 x11 x12 = H at hh
  rw [ch_ld x5 x6 x7 H 0 0 rfl, ch_ld x5 x6 x7 H 1 256 rfl, ch_ld x5 x6 x7 H 2 512 rfl, ch_ld x5 x6 x7 H 3 768 rfl, ch_ld x5 x6 x7 H 4 1024 rfl,
    ch_ld x5 x6 x7 H 5 1280 rfl, ch_ld x5 x6 x7 H 6 1536 rfl, ch_ld x5 x6 x7 H 7 1792 rfl, ch_ld x5 x6 x7 H 8 2048 rfl, ch_ld x5 x6 x7 H 9 2304 rfl,
    ch_ld x5 x6 x7 H 10 2560 rfl]
  simp only [hh]
  rw [ffn, part_chunks, sum_eleven, ld_r4]
end

variable (m : (ℓ : Loc nD τ sig) → Buf (Elt Ideal) ℓ) (c : Dev nD)

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, 0] :=
  (by decide +kernel : ∀ t : Fin grid0.N, win0_3.index t = ![(grid0.coords t 0).val, 0, 0])
theorem idx4 : ∀ t : Fin cfg0.N, win0_4.index t = ![(grid0.coords t 0).val, 0, 0] :=
  (by decide +kernel : ∀ t : Fin grid0.N, win0_4.index t = ![(grid0.coords t 0).val, 0, 0])
theorem idx5 : ∀ t : Fin cfg0.N, win0_5.index t = ![0, 1, 0, 0] :=
  (by decide +kernel : ∀ t : Fin grid0.N, win0_5.index t = ![0, 1, 0, 0])
theorem idx6 : ∀ t : Fin cfg0.N, win0_6.index t = ![0, 1, 0, 0] :=
  (by decide +kernel : ∀ t : Fin grid0.N, win0_6.index t = ![0, 1, 0, 0])
theorem idx7 : ∀ t : Fin cfg0.N, win0_7.index t = ![0, 1, 0, 0] :=
  (by decide +kernel : ∀ t : Fin grid0.N, win0_7.index t = ![0, 1, 0, 0])
theorem idx8 : ∀ t : Fin cfg0.N, win0_8.index t = ![(grid0.coords t 0).val, 0, 0] :=
  (by decide +kernel : ∀ t : Fin grid0.N, win0_8.index t = ![(grid0.coords t 0).val, 0, 0])
theorem idx9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem idx10 : ∀ t : Fin cfg0.N, win0_10.index t = ![(grid0.coords t 1).val, (grid0.coords t 0).val] :=
  (by decide +kernel : ∀ t : Fin grid0.N, win0_10.index t = ![(grid0.coords t 1).val, (grid0.coords t 0).val])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])

/-- The sequence and the row of a block's parts. -/
def bat (i : grid0.Coords) : Fin 8 := ⟨(i 0).val, (i 0).isLt⟩
def tok (i : grid0.Coords) (r : Fin 1024) : Fin 2048 := ⟨1024 * (i 1).val + r.val, by have : (i 1).val < 2 := (i 1).isLt; omega⟩

theorem blk_x (t : Fin cfg0.N) (r d : Fin 1024) :
    iblk m c 0 t (ix3 0 r d) = m ((c : Thread nD τ).loc main_arg0) (ix3 (bat (grid0.coords t)) (tok (grid0.coords t) r) d) := by
  blk_simp [iblk]
  entry_read
  unfold bat tok
  blk_ext [idx0 t]

theorem blk_g (t : Fin cfg0.N) (d : Fin 1024) : iblk m c 1 t (ix2 0 d) = m ((c : Thread nD τ).loc main_arg6) (ix1 d) := by
  blk_simp [iblk]
  entry_read
  pointwise
  blk_ext [idx1 t]

theorem blk_sh (t : Fin cfg0.N) (d : Fin 1024) : iblk m c 2 t (ix3 0 0 d) = m ((c : Thread nD τ).loc main_arg1) (ix3 (bat (grid0.coords t)) 0 d) := by
  blk_simp [iblk]
  entry_read
  pointwise
  unfold bat
  blk_ext [idx2 t]

theorem blk_sc (t : Fin cfg0.N) (d : Fin 1024) : iblk m c 3 t (ix3 0 0 d) = m ((c : Thread nD τ).loc main_arg1) (ix3 (bat (grid0.coords t)) 1 d) := by
  blk_simp [iblk]
  entry_read
  pointwise
  unfold bat
  blk_ext [idx3 t]

theorem blk_gt (t : Fin cfg0.N) (d : Fin 1024) : iblk m c 4 t (ix3 0 0 d) = m ((c : Thread nD τ).loc main_arg1) (ix3 (bat (grid0.coords t)) 2 d) := by
  blk_simp [iblk]
  entry_read
  pointwise
  unfold bat
  blk_ext [idx4 t]

theorem blk_w1 (t : Fin cfg0.N) (d : Fin 1024) (f : Fin 2816) : iblk m c 5 t (ix4 0 0 d f) = m ((c : Thread nD τ).loc main_arg7) (ix4 0 1 d f) := by
  blk_simp [iblk]
  entry_read
  pointwise
  blk_ext [idx5 t]

theorem blk_w3 (t : Fin cfg0.N) (d : Fin 1024) (f : Fin 2816) : iblk m c 6 t (ix4 0 0 d f) = m ((c : Thread nD τ).loc main_arg8) (ix4 0 1 d f) := by
  blk_simp [iblk]
  entry_read
  pointwise
  blk_ext [idx6 t]

theorem blk_w2 (t : Fin cfg0.N) (f : Fin 2816) (e : Fin 1024) : iblk m c 7 t (ix4 0 0 f e) = m ((c : Thread nD τ).loc main_arg9) (ix4 0 1 f e) := by
  blk_simp [iblk]
  entry_read
  pointwise
  blk_ext [idx7 t]

theorem blk_mg (t : Fin cfg0.N) (d : Fin 1024) : iblk m c 8 t (ix3 0 0 d) = m ((c : Thread nD τ).loc main_arg2) (ix2 (bat (grid0.coords t)) d) := by
  blk_simp [iblk]
  entry_read
  pointwise
  unfold bat
  blk_ext [idx8 t]

theorem blk_att (t : Fin cfg0.N) (r : Fin 1024) (d : Fin 512) :
    iblk m c 9 t (ix3 0 r d) = m ((c : Thread nD τ).loc main_arg3) (ix3 (bat (grid0.coords t)) (tok (grid0.coords t) r) d) := by
  blk_simp [iblk]
  entry_read
  unfold bat tok
  blk_ext [idx9 t]

theorem blk_ssm (t : Fin cfg0.N) (r : Fin 1024) (d : Fin 512) :
    iblk m c 10 t (ix2 r d) = m ((c : Thread nD τ).loc main_arg4) (ix3 (tok (grid0.coords t) r) (bat (grid0.coords t)) d) := by
  blk_simp [iblk]
  entry_read
  pointwise
  unfold bat tok
  blk_ext [idx10 t]

theorem blk_wo1 (t : Fin cfg0.N) (d : Fin 512) (e : Fin 1024) : iblk m c 11 t (ix2 d e) = m ((c : Thread nD τ).loc main_arg5) (ix2 ⟨d.val, by omega⟩ e) := by
  blk_simp [iblk]
  entry_read
  pointwise
  blk_ext [idx11 t]

theorem blk_wo2 (t : Fin cfg0.N) (d : Fin 512) (e : Fin 1024) : iblk m c 12 t (ix2 d e) = m ((c : Thread nD τ).loc main_arg5) (ix2 ⟨512 + d.val, by omega⟩ e) := by
  blk_simp [iblk]
  entry_read
  pointwise
  blk_ext [idx12 t]

end Cert.FfnTwo
-- ==== Proof.FfnTwoRef.lean ====
/- What the reference of the half step with two mixers computes, at an index. -/
module

public import proofs.«01_k».proof.Proof.Gen.Reference5Ideal.Read
public import Idealize.ShloMosaic.Lib.Pipeline.Value
public import Idealize.ShloMosaic.Lib.Pointwise
public import proofs.«01_k».proof.Proof.Ffn

@[expose] public section

noncomputable section

namespace Cert.FfnTwoRef

open Idealize.ShloMosaic Cert.Reference5Ideal Cert.Reference5Ideal.Gen Cert.Reference5Ideal.Read Cert.Ffn

variable (x : (⟨S8x2048x1024, .f32⟩ : BufTy).Contents (Elt Ideal)) (mo : (⟨S8x3x1024, .f32⟩ : BufTy).Contents (Elt Ideal))
  (mg : (⟨S8x1024, .f32⟩ : BufTy).Contents (Elt Ideal)) (o : (⟨S8x2048x512, .bf16⟩ : BufTy).Contents (Elt Ideal)) (s : (⟨S2048x8x512, .f32⟩ : BufTy).Contents (Elt Ideal))
  (wo : (⟨S1024x1024, .f32⟩ : BufTy).Contents (Elt Ideal)) (g : (⟨S1024, .f32⟩ : BufTy).Contents (Elt Ideal))
  (w1 w3 : (⟨S2x2x1024x2816, .f32⟩ : BufTy).Contents (Elt Ideal)) (w2 : (⟨S2x2x2816x1024, .f32⟩ : BufTy).Contents (Elt Ideal))

/-- Row `n` of sequence `b` after the gated output projection is added. -/
def mix (b : Fin 8) (n : Fin 2048) (d : Fin 1024) : EReal :=
  x (ix3 b n d) + mg (ix2 b d) * ((∑ k : Fin 512, o (ix3 b n k) * wo (ix2 ⟨k.val, by omega⟩ d)) + ∑ k : Fin 512, s (ix3 n b k) * wo (ix2 ⟨512 + k.val, by omega⟩ d))

/-- The normed and modulated row. -/
def hrow (b : Fin 8) (n : Fin 2048) : Fin 1024 → EReal :=
  hmod (mix x mg o s wo b n) (fun d => g (ix1 d)) (fun d => mo (ix3 b 1 d)) (fun d => mo (ix3 b 0 d))

/-- The whole step of one row. -/
def row (b : Fin 8) (n : Fin 2048) : Fin 1024 → EReal :=
  ffn (mix x mg o s wo b n) (fun d => g (ix1 d)) (fun d => mo (ix3 b 1 d)) (fun d => mo (ix3 b 0 d)) (fun d => mo (ix3 b 2 d))
    (fun d f => w1 (ix4 0 1 d f)) (fun d f => w3 (ix4 0 1 d f)) (fun f e => w2 (ix4 0 1 f e))

/-- The two mixers' outputs side by side, in the first and in the second half. -/
theorem cat_l (b : Fin 8) (n : Fin 2048) (k : Fin 512) : val_main_v2 (F := Ideal) o s (ix3 b n (Fin.castAdd 512 k)) = o (ix3 b n k) := by
  unfold val_main_v2
  rw [concatenate_pair_apply_left (s₁ := S8x2048x512) (s₂ := S8x2048x512) (t := S8x2048x1024) 2 _ _ _ _ rfl (ix3 b n k) (fun a => by fin_cases a <;> rfl)]
  pointwise [val_main_v0]

theorem cat_r (b : Fin 8) (n : Fin 2048) (k : Fin 512) : val_main_v2 (F := Ideal) o s (ix3 b n (Fin.natAdd 512 k)) = s (ix3 n b k) := by
  unfold val_main_v2
  rw [concatenate_pair_apply_right (s₁ := S8x2048x512) (s₂ := S8x2048x512) (t := S8x2048x1024) 2 _ _ _ _ rfl rfl (ix3 b n k) (fun a h => by fin_cases a <;> first | rfl | exact absurd rfl h) (by simp [ix3])]
  pointwise [val_main_v1]

theorem mix_at (b : Fin 8) (n : Fin 2048) (d : Fin 1024) : val_main_v7 (F := Ideal) x mg o s wo (ix3 b n d) = mix x mg o s wo b n d := by
  have h : val_main_v7 (F := Ideal) x mg o s wo (ix3 b n d)
      = x (ix3 b n d) + mg (ix2 b d) * ∑ k : Fin (512 + 512), val_main_v2 (F := Ideal) o s (ix3 b n k) * wo (ix2 k d) := by
    unfold val_main_v7 val_main_v6 val_main_v4
    generalize val_main_v2 (F := Ideal) o s = C
    pointwise [val_main_v5, val_main_v3]
  rw [h, Fin.sum_univ_add]
  simp only [cat_l, cat_r]
  rfl

theorem mean_at (b : Fin 8) (n : Fin 2048) : val_main_v15 (F := Ideal) x mg o s wo (ix3 b n 0)
    = Ideal.rsqrt ((∑ e : Fin 1024, mix x mg o s wo b n e * mix x mg o s wo b n e) * Ideal.ofBits FTy.f32 0x3A800000#32 + Ideal.ofBits FTy.f32 0x358637BD#32) := by
  simp only [← mix_at]
  unfold val_main_v15 val_main_v14 val_main_v13 val_main_v12 val_main_v11 val_main_v10 val_main_v9 val_main_v8
  generalize val_main_v7 (F := Ideal) x mg o s wo = X
  pointwise [val_main_cst, val_main_cst_0, val_main_cst_1]
  rw [← mean_1024]

theorem h_at (b : Fin 8) (n : Fin 2048) (d : Fin 1024) : val_main_v32 (F := Ideal) x mo mg o s wo g (ix3 b n d) = hrow x mo mg o s wo g b n d := by
  unfold hrow hmod
  rw [← mean_at, ← mix_at]
  unfold val_main_v32 val_main_v27 val_main_v20 val_main_v17 val_main_v16
  generalize val_main_v7 (F := Ideal) x mg o s wo = X
  generalize val_main_v15 (F := Ideal) x mg o s wo = Y
  pointwise [val_main_v31, val_main_v30, val_main_v29, val_main_v28, val_main_v26, val_main_v25, val_main_v24, val_main_cst_2, val_main_v23, val_main_v22, val_main_v21, val_main_v19, val_main_v18]

theorem up_at (b : Fin 8) (n : Fin 2048) (f : Fin 2816) : val_main_v40 (F := Ideal) x mo mg o s wo g w1 (ix3 b n f)
    = ∑ d : Fin 1024, hrow x mo mg o s wo g b n d * w1 (ix4 0 1 d f) := by
  simp only [← h_at]
  unfold val_main_v40
  generalize val_main_v32 (F := Ideal) x mo mg o s wo g = H
  pointwise [val_main_v39, val_main_v38]

theorem gate_at (b : Fin 8) (n : Fin 2048) (f : Fin 2816) : val_main_v44 (F := Ideal) x mo mg o s wo g w3 (ix3 b n f)
    = ∑ d : Fin 1024, hrow x mo mg o s wo g b n d * w3 (ix4 0 1 d f) := by
  simp only [← h_at]
  unfold val_main_v44
  generalize val_main_v32 (F := Ideal) x mo mg o s wo g = H
  pointwise [val_main_v43, val_main_v42]

theorem hid_at (b : Fin 8) (n : Fin 2048) (f : Fin 2816) : val_main_v45 (F := Ideal) x mo mg o s wo g w1 w3 (ix3 b n f)
    = hid (hrow x mo mg o s wo g b n) (fun d f => w1 (ix4 0 1 d f)) (fun d f => w3 (ix4 0 1 d f)) f := by
  unfold hid
  rw [← up_at, ← gate_at]
  unfold val_main_v45 val_main_v41 val_main_call0_v5 val_main_call0_v3 val_main_call0_v1 val_main_call0_v0
  generalize val_main_v40 (F := Ideal) x mo mg o s wo g w1 = A
  generalize val_main_v44 (F := Ideal) x mo mg o s wo g w3 = B
  pointwise [val_main_call0_v4, val_main_call0_v2, val_main_call0_cst, val_main_call0_cst_0]
  rfl

/-- The reference's result, at an index. -/
theorem row_at (b : Fin 8) (n : Fin 2048) (e : Fin 1024) : val_main_v51 (F := Ideal) x mo mg o s wo g w1 w3 w2 (ix3 b n e)
    = row x mo mg o s wo g w1 w3 w2 b n e := by
  unfold row ffn part
  have hh : hmod (mix x mg o s wo b n) (fun d => g (ix1 d)) (fun d => mo (ix3 b 1 d)) (fun d => mo (ix3 b 0 d)) = hrow x mo mg o s wo g b n := rfl
  simp only [hh, ← hid_at]
  rw [← mix_at]
  unfold val_main_v51 val_main_v50 val_main_v48
  generalize val_main_v7 (F := Ideal) x mg o s wo = X
  generalize val_main_v45 (F := Ideal) x mo mg o s wo g w1 w3 = H
  pointwise [val_main_v49, val_main_v47, val_main_v46, val_main_v37, val_main_v36, val_main_v35, val_main_v34, val_main_v33, val_main_cst_3]

end Cert.FfnTwoRef
-- ==== Proof.FfnTwoFinal.lean ====
/- The array the half step with two mixers leaves is its reference's result. -/
module

public import proofs.«01_k».proof.Proof.FfnTwo
public import proofs.«01_k».proof.Proof.FfnTwoRef

@[expose] public section

noncomputable section

namespace Cert.FfnTwo

open Idealize.ShloMosaic Idealize.ShloMosaic.TcCoe Cert.Kernel5Ideal Cert.Kernel5Ideal.Gen

variable (m : (ℓ : Loc nD τ sig) → Buf (Elt Ideal) ℓ) (c : Dev nD)

/-- An index of the result block, as its row and column. -/
theorem blk_idx (y : S1x1024x1024.Idx) : ∃ (r e : Fin 1024), y = ix3 0 r e :=
  ⟨y 1, y 2, by blk_ext⟩

/-- One block of the result, at an index, is the reference's row. -/
theorem block_row (t : Fin cfg0.N) (r e : Fin 1024) :
    (dats m 0 c).after 13 t (ix3 0 r e)
      = Cert.FfnTwoRef.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (bat (grid0.coords t)) (tok (grid0.coords t) r) e := by
  rw [after0_13, block_out]
  have hx : mixed (iblk m c 0 t) (iblk m c 8 t) (iblk m c 9 t) (iblk m c 10 t) (iblk m c 11 t) (iblk m c 12 t) r
      = Cert.FfnTwoRef.mix (m ((c : Thread nD τ).loc main_arg0)) (m ((c : Thread nD τ).loc main_arg2)) (m ((c : Thread nD τ).loc main_arg3)) (m ((c : Thread nD τ).loc main_arg4)) (m ((c : Thread nD τ).loc main_arg5)) (bat (grid0.coords t)) (tok (grid0.coords t) r) := by
    funext d
    unfold mixed Cert.FfnTwoRef.mix
    simp only [blk_x, blk_mg, blk_att, blk_ssm, blk_wo1, blk_wo2]
  rw [hx]
  simp only [blk_g, blk_sh, blk_sc, blk_gt, blk_w1, blk_w3, blk_w2]
  rfl

/-- The array the kernel leaves is the reference's result of the same arguments. -/
theorem array_eq :
    (dats m 0 c).arrAt 13 cfg0.N = Cert.Reference5Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  obtain ⟨r, e, rfl⟩ := blk_idx y
  have e' : ((cfg0.win 13).blk t).view.emb (ix3 0 r e) = ix3 (bat (grid0.coords t)) (tok (grid0.coords t) r) e := by
    unfold bat tok
    blk_ext [idx13 t]
  blk_simp
  rw [block_row]
  refine Eq.trans ?_ (congrArg (Cert.Reference5Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) e'.symm)
  exact (Cert.FfnTwoRef.row_at _ _ _ _ _ _ _ _ _ _ _ _ _).symm

end Cert.FfnTwo
-- ==== Proof.FoxProjRow.lean ====
/- One row of the forgetting attention's projection, as numbers: a column of the product, a key's norm and a log gate. -/
module

public import proofs.«01_k».proof.Proof.Ffn

@[expose] public section

noncomputable section

namespace Cert.FoxProj

open Idealize.ShloMosaic Cert.Ffn

/-- A column `w` of the projection of a row that is normed and modulated first. -/
def prj (x g sc sh w : Fin 1024 → EReal) : EReal := ∑ d : Fin 1024, hmod x g sc sh d * w d

/-- The root mean square norm of a head's 128 numbers, with its gain. -/
def hnorm (p g : Fin 128 → EReal) (e : Fin 128) : EReal :=
  p e * Ideal.rsqrt ((∑ k : Fin 128, p k * p k) * Ideal.ofBits FTy.f32 0x3C000000#32 + Ideal.ofBits FTy.f32 0x358637BD#32) * g e

/-- The logarithm of the logistic function, as the kernel has it. -/
def lsig (z : EReal) : EReal := min z 0 - Ideal.log1p (Ideal.exp (0 - max z (-z)))

/-- Head `a`'s column `e`, and its head and column back. -/
def kcol (a : Fin 8) (e : Fin 128) : Fin 1024 := ⟨128 * a.val + e.val, by omega⟩
def hdOf (j : Fin 1024) : Fin 8 := ⟨j.val / 128, by omega⟩
def clOf (j : Fin 1024) : Fin 128 := ⟨j.val % 128, by omega⟩

theorem hdOf_kcol (a : Fin 8) (e : Fin 128) : hdOf (kcol a e) = a := by apply Fin.ext; simp only [hdOf, kcol]; omega
theorem clOf_kcol (a : Fin 8) (e : Fin 128) : clOf (kcol a e) = e := by apply Fin.ext; simp only [clOf, kcol]; omega

/-- A mean over 128 numbers is the sum times 2^-7. -/
theorem mean_128 (s : EReal) : Ideal.div s (Ideal.ofBits FTy.f32 0x43000000#32) = s * Ideal.ofBits FTy.f32 0x3C000000#32 := by
  have h : Ideal.ofBits FTy.f32 0x43000000#32 = ((128 : ℝ) : EReal) := by
    simp [Ideal.ofBits, Ideal.ieee]; rw [← EReal.coe_mul]; norm_num
  have h' : Ideal.ofBits FTy.f32 0x3C000000#32 = ((1 / 128 : ℝ) : EReal) := by
    simp [Ideal.ofBits, Ideal.ieee]; rw [← EReal.coe_mul]; norm_num
  rw [h, h', Ideal.div_coe (by norm_num)]

/-- `log (1 + x)` of a number that is not negative is not negative. -/
theorem log1p_nonneg {x : EReal} (h : 0 ≤ x) : 0 ≤ Ideal.log1p x := by
  induction x with
  | bot => exact absurd h (by simp)
  | top =>
    unfold Ideal.log1p
    rw [show (1 : EReal) + ⊤ = ⊤ from EReal.add_top_of_ne_bot (by decide)]
    show (0 : EReal) ≤ ⊤
    exact le_top
  | coe r =>
    have hr : 0 ≤ r := by exact_mod_cast h
    have e : (1 : EReal) + (r : EReal) = ((1 + r : ℝ) : EReal) := by norm_cast
    unfold Ideal.log1p
    rw [e]
    show 0 ≤ (if 1 + r ≤ 0 then ⊥ else (Real.log (1 + r) : EReal))
    rw [if_neg (by linarith)]
    exact_mod_cast Real.log_nonneg (by linarith)

theorem exp_nonneg (x : EReal) : 0 ≤ Ideal.exp x := by
  induction x with
  | bot => show (0 : EReal) ≤ 0; exact le_refl _
  | top => show (0 : EReal) ≤ ⊤; exact le_top
  | coe r => show 0 ≤ ((Real.exp r : ℝ) : EReal); exact_mod_cast (Real.exp_pos r).le

/-- The kernel's log gate is minus the softplus of minus the logit. -/
theorem lsig_eq (z : EReal) : lsig z = -(max (-z) 0 + Ideal.log1p (Ideal.exp (-(max (-z) (-(-z)))))) := by
  have hb : Ideal.log1p (Ideal.exp (-(max (-z) (-(-z))))) ≠ ⊥ := fun h => absurd (log1p_nonneg (exp_nonneg (-(max (-z) (-(-z)))))) (by rw [h]; simp)
  have ha : max (-z) 0 ≠ ⊥ := fun h => absurd (le_max_right (-z) (0 : EReal)) (by rw [h]; simp)
  rw [EReal.neg_add (.inl ha) (.inr hb)]
  unfold lsig
  have e1 : min z 0 = -(max (-z) 0) := by
    rcases le_total z 0 with h | h
    · rw [min_eq_left h, max_eq_left (EReal.neg_nonneg.mpr h), neg_neg]
    · rw [min_eq_right h, max_eq_right (by rw [← neg_zero]; exact EReal.neg_le_neg_iff.mpr h), neg_zero]
  rw [e1, neg_neg, max_comm z, zero_sub]

end Cert.FoxProj
-- ==== Proof.FoxProj6.lean ====
/- The forgetting attention's projection of the prompt: what the kernel's blocks of keys, values and log gates hold. -/
module

public import proofs.«01_k».proof.Proof.Gen.Kernel6Ideal.Value
public import Idealize.ShloMosaic.Lib.Pipeline.ValueKit.Point
public import proofs.«01_k».proof.Proof.FoxProjRow

@[expose] public section

noncomputable section

namespace Cert.FoxProj6

open Idealize.ShloMosaic Idealize.ShloMosaic.TcCoe Cert.Kernel6Ideal Cert.Kernel6Ideal.Gen Cert.Ffn Cert.FoxProj

section

variable (v0 : Vec Ideal S1x512x1024 .f32) (v2 : Vec Ideal S1x1024 .f32) (v4 v6 : Vec Ideal S1x1x1024 .f32) (v27 : Vec Ideal S3200x1024 .bf16)

/-- Column `j` of the product of row `r`, from a kernel's loads. -/
def col (r : Fin 512) (j : Fin 3200) : EReal :=
  prj (fun d => v0 (ix3 0 r d)) (fun d => v2 (ix2 0 d)) (fun d => v4 (ix3 0 0 d)) (fun d => v6 (ix3 0 0 d)) (fun d => v27 (ix2 j d))

/-- The product the kernel computes has these columns. -/
theorem prod_at (r : Fin 512) (j : Fin 3200) : k0_pay2 v0 v2 v4 v6 v27 (ix2 r j) = col v0 v2 v4 v6 v27 r j := by
  pointwise [k0_pay2]
  rfl

/-- Head `a` of a row's keys, normed; a row's values; its log gates. -/
def keyOf (gk : Vec Ideal S1x128 .f32) (r : Fin 512) (a : Fin 8) (e : Fin 128) : EReal :=
  hnorm (fun k => col v0 v2 v4 v6 v27 r ⟨1024 + 128 * a.val + k.val, by omega⟩) (fun k => gk (ix2 0 k)) e
def valOf (r : Fin 512) (e : Fin 1024) : EReal := col v0 v2 v4 v6 v27 r ⟨2048 + e.val, by omega⟩
def gateOf (bf : Vec Ideal S1x128 .f32) (r : Fin 512) (a : Fin 8) : EReal :=
  lsig (col v0 v2 v4 v6 v27 r ⟨3072 + a.val, by omega⟩ + bf (ix2 0 ⟨a.val, by omega⟩))

end

/-- The norm's gain reaches the stores unchanged. -/
theorem gain_at (g : Vec Ideal S1x128 .f32) (e : Fin 128) : k0_pay4 g (ix2 0 e) = g (ix2 0 e) := by
  pointwise [k0_pay4]

section

variable (P : FVec Ideal S512x3200 .f32) (G : FVec Ideal S1x128 .f32) (r : Fin 512) (e : Fin 128)

/-- Each stored head is the norm of its 128 columns of the product. -/
theorem key0 : k0_pay9 P G (ix3 0 r e) = hnorm (fun k => P (ix2 r ⟨1024 + k.val, by omega⟩)) (fun k => G (ix2 0 k)) e := by
  pointwise [k0_pay9, k0_pay8]
  rfl

theorem key1 : k0_pay16 P G (ix3 0 r e) = hnorm (fun k => P (ix2 r ⟨1152 + k.val, by omega⟩)) (fun k => G (ix2 0 k)) e := by
  pointwise [k0_pay16, k0_pay15]
  rfl

theorem key2 : k0_pay22 P G (ix3 0 r e) = hnorm (fun k => P (ix2 r ⟨1280 + k.val, by omega⟩)) (fun k => G (ix2 0 k)) e := by
  pointwise [k0_pay22, k0_pay21]
  rfl

theorem key3 : k0_pay27 P G (ix3 0 r e) = hnorm (fun k => P (ix2 r ⟨1408 + k.val, by omega⟩)) (fun k => G (ix2 0 k)) e := by
  pointwise [k0_pay27, k0_pay26]
  rfl

theorem key4 : k0_pay32 P G (ix3 0 r e) = hnorm (fun k => P (ix2 r ⟨1536 + k.val, by omega⟩)) (fun k => G (ix2 0 k)) e := by
  pointwise [k0_pay32, k0_pay31]
  rfl

theorem key5 : k0_pay38 G (k0_pay35 P) (k0_pay36 P) (ix3 0 r e) = hnorm (fun k => P (ix2 r ⟨1664 + k.val, by omega⟩)) (fun k => G (ix2 0 k)) e := by
  pointwise [k0_pay38, k0_pay37, k0_pay35, k0_pay36]
  rfl

theorem key6 : k0_pay44 G (k0_pay41 P) (k0_pay42 P) (ix3 0 r e) = hnorm (fun k => P (ix2 r ⟨1792 + k.val, by omega⟩)) (fun k => G (ix2 0 k)) e := by
  pointwise [k0_pay44, k0_pay43, k0_pay41, k0_pay42]
  rfl

theorem key7 : k0_pay50 G (k0_pay47 P) (k0_pay48 P) (ix3 0 r e) = hnorm (fun k => P (ix2 r ⟨1920 + k.val, by omega⟩)) (fun k => G (ix2 0 k)) e := by
  pointwise [k0_pay50, k0_pay49, k0_pay47, k0_pay48]
  rfl

/-- The stored values are the next 1024 columns, the log gates come from the last eight. -/
theorem val_at (e : Fin 1024) : k0_pay53 P (ix3 0 r e) = P (ix2 r ⟨2048 + e.val, by omega⟩) := by
  pointwise [k0_pay53, k0_pay52]

theorem gate_at (b : Vec Ideal S1x128 .f32) (a : Fin 8) : k0_pay56 P b (ix3 0 r a) = lsig (P (ix2 r ⟨3072 + a.val, by omega⟩) + b (ix2 0 ⟨a.val, by omega⟩)) := by
  pointwise [k0_pay56, k0_pay55]
  rfl

end

/-- An index of a block or of a head's part of it, as its row and column. -/
theorem head_idx (y : S1x512x128.Idx) : ∃ (r : Fin 512) (e : Fin 128), y = ix3 0 r e := ⟨y 1, y 2, by blk_ext⟩
theorem blk_idx (y : S1x512x1024.Idx) : ∃ (r : Fin 512) (e : Fin 1024), y = ix3 0 r e := ⟨y 1, y 2, by blk_ext⟩
theorem gate_idx (y : S1x512x8.Idx) : ∃ (r : Fin 512) (a : Fin 8), y = ix3 0 r a := ⟨y 1, y 2, by blk_ext⟩

/-- The place of a head's part in the block. -/
theorem piece (a : Fin 8) (h) (r : Fin 512) (e : Fin 128) :
    (Rect.unit (s := S1x512x1024) ![0, 0, 128 * a.val] ![1, 512, 128] h).emb (ix3 0 r e) = ix3 0 r (kcol a e) := by
  unfold kcol
  blk_ext

/-- A load of a whole window reads the window. -/
theorem ld_x (x : Vec Ideal S1x512x1024 .f32) (h) : View.ld x (Rect.unit (s := S1x512x1024) ![0, 0, 0] ![1, 512, 1024] h) = x := View.ld_unit_zero (by decide) _ x
theorem ld_g (x : Vec Ideal S1x1024 .f32) (h) : View.ld x (Rect.unit (s := S1x1024) ![0, 0] ![1, 1024] h) = x := View.ld_unit_zero (by decide) _ x
theorem ld_b (x : Vec Ideal S1x128 .f32) (h) : View.ld x (Rect.unit (s := S1x128) ![0, 0] ![1, 128] h) = x := View.ld_unit_zero (by decide) _ x
theorem ld_w (x : Vec Ideal S3200x1024 .bf16) (h) : View.ld x (Rect.unit (s := S3200x1024) ![0, 0] ![3200, 1024] h) = x := View.ld_unit_zero (by decide) _ x
theorem ld_s (x : Vec Ideal S1x1x1024 .f32) (h) : View.ld x (Rect.unit (s := S1x1x1024) ![0, 0, 0] ![1, 1, 1024] h) = x := View.ld_unit_zero (by decide) _ x

section

variable (x0 : Vec Ideal S1x512x1024 .f32) (x1 : Vec Ideal S1x1024 .f32) (x2 x3 : Vec Ideal S1x1x1024 .f32) (x4 x5 x6 : Vec Ideal S1x128 .f32) (x7 : Vec Ideal S3200x1024 .bf16)

/-- A part of a block of keys is the norm of a head of its rows. -/
theorem keyBlk (a : Fin 8) (h) (w : Vec Ideal S1x512x128 .f32)
    (hw : ∀ (r : Fin 512) (e : Fin 128), w (ix3 0 r e) = hnorm (fun k => k0_pay2 x0 x1 x3 x2 x7 (ix2 r ⟨1024 + 128 * a.val + k.val, by omega⟩)) (fun k => k0_pay4 x5 (ix2 0 k)) e)
    (y : S1x512x128.Idx) :
    w y = (fun y : S1x512x1024.Idx => keyOf x0 x1 x3 x2 x7 x5 (y 1) (hdOf (y 2)) (clOf (y 2))) ((Rect.unit (s := S1x512x1024) ![0, 0, 128 * a.val] ![1, 512, 128] h).emb y) := by
  obtain ⟨r, e, rfl⟩ := head_idx y
  rw [piece, hw]
  show _ = keyOf x0 x1 x3 x2 x7 x5 r (hdOf (kcol a e)) (clOf (kcol a e))
  rw [hdOf_kcol, clOf_kcol]
  unfold keyOf
  simp only [prod_at, gain_at]

end

section

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1x1x1024 .f32) (harg4 : arg4.IsWhole)
  (arg5 : Memref sig .tc .vmem S1x1x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S3200x1024 .bf16) (harg9 : arg9.IsWhole)
  (arg10 : Memref sig .tc .vmem S1x512x1024 .f32) (harg10 : arg10.IsWhole)
  (arg11 : Memref sig .tc .vmem S1x512x1024 .f32) (harg11 : arg11.IsWhole)
  (arg12 : Memref sig .tc .vmem S1x512x8 .f32) (harg12 : arg12.IsWhole)
  (arg13 : Memref sig .tc .vmem S1x512x1024 .bf16) (harg13 : arg13.IsWhole)
  (arg14 : Memref sig .tc .vmem S1x512x1024 .bf16) (harg14 : arg14.IsWhole)
  (arg15 : Memref sig .tc .vmem S1x512x1024 .bf16) (harg15 : arg15.IsWhole)
  (arg16 : Memref sig .tc .vmem S1x512x128 .f32) (harg16 : arg16.IsWhole)
  (arg17 : Memref sig .tc .vmem S1x128 .f32) (harg17 : arg17.IsWhole) (hc0 : cond0_0 i)
  (x0 : Vec Ideal S1x512x1024 .f32) (x1 : Vec Ideal S1x1024 .f32) (x2 x3 : Vec Ideal S1x1x1024 .f32) (x4 x5 x6 : Vec Ideal S1x128 .f32) (x7 : Vec Ideal S3200x1024 .bf16)

/-- What the kernel stores as the keys' block. -/
theorem keysA (r : Fin 512) (j : Fin 1024) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r j) = keyOf x0 x1 x3 x2 x7 x5 r (hdOf j) (clOf j) := by
  have hv := cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7
  unfold out0_A_8
  rw [View.read_writes_eq_canon _ _ _ hv]
  refine View.canon_apply_of_pieces (fun y : S1x512x1024.Idx => keyOf x0 x1 x3 x2 x7 x5 (y 1) (hdOf (y 2)) (clOf (y 2))) _ ?_ (ix3 0 r j) (hv _)
  unfold kernelRun0_A
  dsimp only
  simp only [kernelRun0_A.sl.r, kernelRun0_A.sl.r_2, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, harg7.read_unread, harg8.read_unread, harg9.read_unread, ld_x, ld_g, ld_b, ld_w, ld_s]
  simp only [List.forall_mem_cons, List.not_mem_nil, false_imp_iff, implies_true, and_true]
  refine ⟨keyBlk x0 x1 x2 x3 x5 x7 7 _ _ (key7 _ _), keyBlk x0 x1 x2 x3 x5 x7 6 _ _ (key6 _ _), keyBlk x0 x1 x2 x3 x5 x7 5 _ _ (key5 _ _), keyBlk x0 x1 x2 x3 x5 x7 4 _ _ (key4 _ _), keyBlk x0 x1 x2 x3 x5 x7 3 _ _ (key3 _ _), keyBlk x0 x1 x2 x3 x5 x7 2 _ _ (key2 _ _), keyBlk x0 x1 x2 x3 x5 x7 1 _ _ (key1 _ _), keyBlk x0 x1 x2 x3 x5 x7 0 _ _ (key0 _ _)⟩

/-- What it stores as the values' block. -/
theorem valsA (r : Fin 512) (e : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r e) = valOf x0 x1 x3 x2 x7 r e := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  simp only [kernelRun0_A.sl.r, kernelRun0_A.sl.r_2, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, harg7.read_unread, harg8.read_unread, harg9.read_unread, ld_x, ld_g, ld_b, ld_w, ld_s]
  rw [View.canon_unit_zero (by decide), val_at, prod_at]
  rfl

/-- What it stores as the log gates' block. -/
theorem gatesA (r : Fin 512) (a : Fin 8) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix3 0 r a) = gateOf x0 x1 x3 x2 x7 x6 r a := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7)]
  unfold kernelRun0_A
  dsimp only
  simp only [kernelRun0_A.sl.r, kernelRun0_A.sl.r_2, kernelRun0_A.sl.r_11, kernelRun0_A.sl.r_12, kernelRun0_A.sl.r_13, kernelRun0_A.sl.r_14, kernelRun0_A.sl.r_15, kernelRun0_A.sl.r_16, View.readAt_eq_ld, harg2.read_unread, harg3.read_unread, harg4.read_unread, harg5.read_unread, harg7.read_unread, harg8.read_unread, harg9.read_unread, ld_x, ld_g, ld_b, ld_w, ld_s]
  rw [View.canon_unit_zero (by decide), gate_at, prod_at]
  rfl

end

section

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1x1x1024 .f32) (harg4 : arg4.IsWhole)
  (arg5 : Memref sig .tc .vmem S1x1x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S3200x1024 .bf16) (harg9 : arg9.IsWhole)
  (arg10 : Memref sig .tc .vmem S1x512x1024 .f32) (harg10 : arg10.IsWhole)
  (arg11 : Memref sig .tc .vmem S1x512x1024 .f32) (harg11 : arg11.IsWhole)
  (arg12 : Memref sig .tc .vmem S1x512x8 .f32) (harg12 : arg12.IsWhole)
  (arg13 : Memref sig .tc .vmem S1x512x1024 .bf16) (harg13 : arg13.IsWhole)
  (arg14 : Memref sig .tc .vmem S1x512x1024 .bf16) (harg14 : arg14.IsWhole)
  (arg15 : Memref sig .tc .vmem S1x512x1024 .bf16) (harg15 : arg15.IsWhole)
  (arg16 : Memref sig .tc .vmem S1x512x128 .f32) (harg16 : arg16.IsWhole)
  (arg17 : Memref sig .tc .vmem S1x128 .f32) (harg17 : arg17.IsWhole) (hc0 : ¬cond0_0 i)
  (x0 : Vec Ideal S1x512x1024 .f32) (x1 : Vec Ideal S1x1024 .f32) (x2 x3 : Vec Ideal S1x1x1024 .f32) (x4 x5 x6 : Vec Ideal S1x128 .f32) (x7 : Vec Ideal S3200x1024 .bf16) (xs0 : Vec Ideal S1x128 .f32)

/-- What the kernel stores as the keys' block. -/
theorem keysB (r : Fin 512) (j : Fin 1024) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix3 0 r j) = keyOf x0 x1 x3 x2 x7 x5 r (hdOf j) (clOf j) := by
  have hv := cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0
  unfold out0_B_8
  rw [View.read_writes_eq_canon _ _ _ hv]
  refine View.canon_apply_of_pieces (fun y : S1x512x1024.Idx => keyOf x0 x1 x3 x2 x7 x5 (y 1) (hdOf (y 2)) (clOf (y 2))) _ ?_ (ix3 0 r j) (hv _)
  unfold kernelRun0_B
  dsimp only
  simp only [kernelRun0_B.sl.r, kernelRun0_B.sl.r_2, kernelRun0_B.sl.r_11, kernelRun0_B.sl.r_12, kernelRun0_B.sl.r_13, kernelRun0_B.sl.r_14, kernelRun0_B.sl.r_15, kernelRun0_B.sl.r_16, View.readAt_eq_ld, harg2.read_unread, harg3.read_unread, harg4.read_unread, harg5.read_unread, harg7.read_unread, harg8.read_unread, harg9.read_unread, ld_x, ld_g, ld_b, ld_w, ld_s]
  simp only [List.forall_mem_cons, List.not_mem_nil, false_imp_iff, implies_true, and_true]
  refine ⟨keyBlk x0 x1 x2 x3 x5 x7 7 _ _ (key7 _ _), keyBlk x0 x1 x2 x3 x5 x7 6 _ _ (key6 _ _), keyBlk x0 x1 x2 x3 x5 x7 5 _ _ (key5 _ _), keyBlk x0 x1 x2 x3 x5 x7 4 _ _ (key4 _ _), keyBlk x0 x1 x2 x3 x5 x7 3 _ _ (key3 _ _), keyBlk x0 x1 x2 x3 x5 x7 2 _ _ (key2 _ _), keyBlk x0 x1 x2 x3 x5 x7 1 _ _ (key1 _ _), keyBlk x0 x1 x2 x3 x5 x7 0 _ _ (key0 _ _)⟩

/-- What it stores as the values' block. -/
theorem valsB (r : Fin 512) (e : Fin 1024) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix3 0 r e) = valOf x0 x1 x3 x2 x7 r e := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0)]
  unfold kernelRun0_B
  dsimp only
  simp only [kernelRun0_B.sl.r, kernelRun0_B.sl.r_2, kernelRun0_B.sl.r_11, kernelRun0_B.sl.r_12, kernelRun0_B.sl.r_13, kernelRun0_B.sl.r_14, kernelRun0_B.sl.r_15, kernelRun0_B.sl.r_16, View.readAt_eq_ld, harg2.read_unread, harg3.read_unread, harg4.read_unread, harg5.read_unread, harg7.read_unread, harg8.read_unread, harg9.read_unread, ld_x, ld_g, ld_b, ld_w, ld_s]
  rw [View.canon_unit_zero (by decide), val_at, prod_at]
  rfl

/-- What it stores as the log gates' block. -/
theorem gatesB (r : Fin 512) (a : Fin 8) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix3 0 r a) = gateOf x0 x1 x3 x2 x7 x6 r a := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0)]
  unfold kernelRun0_B
  dsimp only
  simp only [kernelRun0_B.sl.r, kernelRun0_B.sl.r_2, kernelRun0_B.sl.r_11, kernelRun0_B.sl.r_12, kernelRun0_B.sl.r_13, kernelRun0_B.sl.r_14, kernelRun0_B.sl.r_15, kernelRun0_B.sl.r_16, View.readAt_eq_ld, harg2.read_unread, harg3.read_unread, harg4.read_unread, harg5.read_unread, harg7.read_unread, harg8.read_unread, harg9.read_unread, ld_x, ld_g, ld_b, ld_w, ld_s]
  rw [View.canon_unit_zero (by decide), gate_at, prod_at]
  rfl

end

end Cert.FoxProj6
-- ==== Proof.FoxProj6Ref.lean ====
/- The forgetting attention's projection of the prompt: what its reference's results hold. -/
module

public import proofs.«01_k».proof.Proof.Gen.Reference6Ideal.Read
public import Idealize.ShloMosaic.Lib.Pipeline.Value
public import Idealize.ShloMosaic.Lib.Pointwise
public import proofs.«01_k».proof.Proof.FoxProjRow

@[expose] public section

noncomputable section

namespace Cert.FoxProj6Ref

open Idealize.ShloMosaic Cert.Reference6Ideal Cert.Reference6Ideal.Gen Cert.Reference6Ideal.Read Cert.Ffn Cert.FoxProj

variable (x : (⟨S8x2048x1024, .f32⟩ : BufTy).Contents (Elt Ideal)) (sh sc : (⟨S8x1024, .f32⟩ : BufTy).Contents (Elt Ideal)) (g : (⟨S1024, .f32⟩ : BufTy).Contents (Elt Ideal))
  (w : (⟨S1024x3080, .f32⟩ : BufTy).Contents (Elt Ideal)) (bf : (⟨S8, .f32⟩ : BufTy).Contents (Elt Ideal)) (gk : (⟨S128, .f32⟩ : BufTy).Contents (Elt Ideal))

/-- Column `j` of the projection of row `n` of sequence `b`. -/
def col (b : Fin 8) (n : Fin 2048) (j : Fin 3080) : EReal :=
  prj (fun d => x (ix3 b n d)) (fun d => g (ix1 d)) (fun d => sc (ix2 b d)) (fun d => sh (ix2 b d)) (fun d => w (ix2 d j))

/-- Head `a` of the row's keys, normed; its values; its log gates. -/
def keyOf (b : Fin 8) (n : Fin 2048) (a : Fin 8) (e : Fin 128) : EReal :=
  hnorm (fun k => col x sh sc g w b n ⟨1024 + 128 * a.val + k.val, by omega⟩) (fun k => gk (ix1 k)) e
def valOf (b : Fin 8) (n : Fin 2048) (e : Fin 1024) : EReal := col x sh sc g w b n ⟨2048 + e.val, by omega⟩
def gateOf (b : Fin 8) (n : Fin 2048) (a : Fin 8) : EReal := lsig (col x sh sc g w b n ⟨3072 + a.val, by omega⟩ + bf (ix1 a))

theorem mean_at (b : Fin 8) (n : Fin 2048) : val_main_v7 (F := Ideal) x (ix3 b n 0)
    = Ideal.rsqrt ((∑ d : Fin 1024, x (ix3 b n d) * x (ix3 b n d)) * Ideal.ofBits FTy.f32 0x3A800000#32 + Ideal.ofBits FTy.f32 0x358637BD#32) := by
  unfold val_main_v7 val_main_v6 val_main_v5 val_main_v4 val_main_v3 val_main_v2 val_main_v1 val_main_v0
  pointwise [val_main_cst, val_main_cst_0, val_main_cst_1]
  rw [← mean_1024]

theorem h_at (b : Fin 8) (n : Fin 2048) (d : Fin 1024) : val_main_v20 (F := Ideal) x sh sc g (ix3 b n d)
    = hmod (fun d => x (ix3 b n d)) (fun d => g (ix1 d)) (fun d => sc (ix2 b d)) (fun d => sh (ix2 b d)) d := by
  unfold hmod
  rw [← mean_at]
  unfold val_main_v20 val_main_v17 val_main_v12 val_main_v9 val_main_v8
  generalize val_main_v7 (F := Ideal) x = Y
  pointwise [val_main_v19, val_main_v18, val_main_v16, val_main_v15, val_main_v14, val_main_cst_2, val_main_v13, val_main_v11, val_main_v10]

theorem col_at (b : Fin 8) (n : Fin 2048) (j : Fin 3080) : val_main_v21 (F := Ideal) x sh sc g w (ix3 b n j) = col x sh sc g w b n j := by
  unfold col prj
  simp only [← h_at]
  unfold val_main_v21
  generalize val_main_v20 (F := Ideal) x sh sc g = H
  pointwise

/-- The keys by heads. -/
theorem head_at (b : Fin 8) (n : Fin 2048) (a : Fin 8) (k : Fin 128) : val_main_v23 (F := Ideal) x sh sc g w (ix4 b n a k)
    = col x sh sc g w b n ⟨1024 + 128 * a.val + k.val, by omega⟩ := by
  rw [← col_at]
  unfold val_main_v23 val_main_v22
  generalize val_main_v21 (F := Ideal) x sh sc g w = H
  have e := shapeCast_apply (extractStridedSlice S8x2048x1024 ![0, 0, 1024] H slices_S8x2048x3080_S8x2048x1024_0_0_1024) shapeCasts_S8x2048x1024_S8x2048x8x128 (ix4 b n a k) (ix3 b n (kcol a k))
    (by rewrite [Shape.rowMajor_val_three, Shape.rowMajor_val_four]; have := b.isLt; have := n.isLt; have := a.isLt; have := k.isLt; show (b.val * 2048 + n.val) * 1024 + (128 * a.val + k.val) = ((b.val * 2048 + n.val) * 8 + a.val) * 128 + k.val; omega)
  rw [e]
  unfold kcol
  pointwise
  congr 2
  apply Fin.ext
  show 1024 + (128 * a.val + k.val) = 1024 + 128 * a.val + k.val
  omega

theorem rms_at (b : Fin 8) (n : Fin 2048) (a : Fin 8) : val_main_v31 (F := Ideal) x sh sc g w (ix4 b n a 0)
    = Ideal.rsqrt ((∑ k : Fin 128, col x sh sc g w b n ⟨1024 + 128 * a.val + k.val, by omega⟩ * col x sh sc g w b n ⟨1024 + 128 * a.val + k.val, by omega⟩) * Ideal.ofBits FTy.f32 0x3C000000#32 + Ideal.ofBits FTy.f32 0x358637BD#32) := by
  simp only [← head_at]
  unfold val_main_v31 val_main_v30 val_main_v28 val_main_v26 val_main_v25 val_main_v24
  generalize val_main_v23 (F := Ideal) x sh sc g w = X
  pointwise [val_main_v29, val_main_v27, val_main_cst_3, val_main_cst_4, val_main_cst_5]
  rw [← mean_128]

theorem normed_at (b : Fin 8) (n : Fin 2048) (a : Fin 8) (e : Fin 128) : val_main_v36 (F := Ideal) x sh sc g w gk (ix4 b n a e) = keyOf x sh sc g w gk b n a e := by
  unfold keyOf hnorm
  rw [← rms_at]
  beta_reduce
  rw [← head_at]
  unfold val_main_v36 val_main_v33 val_main_v32
  generalize val_main_v31 (F := Ideal) x sh sc g w = Y
  generalize val_main_v23 (F := Ideal) x sh sc g w = X
  pointwise [val_main_v35, val_main_v34]

/-- The keys side by side again. -/
theorem keys_at (b : Fin 8) (n : Fin 2048) (j : Fin 1024) : val_main_v37 (F := Ideal) x sh sc g w gk (ix3 b n j) = keyOf x sh sc g w gk b n (hdOf j) (clOf j) := by
  rw [← normed_at]
  unfold val_main_v37
  generalize val_main_v36 (F := Ideal) x sh sc g w gk = H
  exact shapeCast_apply H shapeCasts_S8x2048x8x128_S8x2048x1024 (ix3 b n j) (ix4 b n (hdOf j) (clOf j))
    (by rewrite [Shape.rowMajor_val_three, Shape.rowMajor_val_four]; have := b.isLt; have := n.isLt; have := j.isLt; show ((b.val * 2048 + n.val) * 8 + j.val / 128) * 128 + j.val % 128 = (b.val * 2048 + n.val) * 1024 + j.val; omega)

theorem vals_at (b : Fin 8) (n : Fin 2048) (e : Fin 1024) : val_main_v38 (F := Ideal) x sh sc g w (ix3 b n e) = valOf x sh sc g w b n e := by
  unfold valOf
  rw [← col_at]
  unfold val_main_v38
  generalize val_main_v21 (F := Ideal) x sh sc g w = H
  pointwise

theorem logit_at (b : Fin 8) (n : Fin 2048) (a : Fin 8) : val_main_v42 (F := Ideal) x sh sc g w bf (ix3 b n a) = col x sh sc g w b n ⟨3072 + a.val, by omega⟩ + bf (ix1 a) := by
  rw [← col_at]
  unfold val_main_v42 val_main_v39
  generalize val_main_v21 (F := Ideal) x sh sc g w = H
  pointwise [val_main_v41, val_main_v40]

theorem gates_at (b : Fin 8) (n : Fin 2048) (a : Fin 8) : val_main_v43 (F := Ideal) x sh sc g w bf (ix3 b n a) = gateOf x sh sc g w bf b n a := by
  unfold gateOf
  rw [lsig_eq, ← logit_at]
  unfold val_main_v43 val_main_call0_v1 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_v0
  generalize val_main_v42 (F := Ideal) x sh sc g w bf = Z
  pointwise [val_main_call0_call0_v0, val_main_call0_call0_v2, val_main_call0_call0_v5, val_main_call0_call0_cst]
  rw [if_neg (not_not_intro rfl)]
  rfl

end Cert.FoxProj6Ref
-- ==== Proof.FoxProj6Final.lean ====
/- The forgetting attention's projection of the prompt: the arrays its kernel leaves are its reference's results. -/
module

public import proofs.«01_k».proof.Proof.FoxProj6
public import proofs.«01_k».proof.Proof.FoxProj6Ref

@[expose] public section

noncomputable section

namespace Cert.FoxProj6

open Idealize.ShloMosaic Idealize.ShloMosaic.TcCoe Cert.Kernel6Ideal Cert.Kernel6Ideal.Gen Cert.Ffn Cert.FoxProj

variable (m : (ℓ : Loc nD τ sig) → Buf (Elt Ideal) ℓ) (c : Dev nD)

/-- The block each window shows at a point. -/
theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, 0] :=
  (by decide +kernel : ∀ t : Fin grid0.N, win0_3.index t = ![(grid0.coords t 0).val, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem idx9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem idx10 : ∀ t : Fin cfg0.N, win0_10.index t = ![(grid0.coords t 0).val, (grid0.coords t 1).val, 0] :=
  (by decide +kernel : ∀ t : Fin grid0.N, win0_10.index t = ![(grid0.coords t 0).val, (grid0.coords t 1).val, 0])

/-- The sequence and the row of a block's parts. -/
def bat (i : grid0.Coords) : Fin 8 := ⟨(i 0).val, (i 0).isLt⟩
def tok (i : grid0.Coords) (r : Fin 512) : Fin 2048 := ⟨512 * (i 1).val + r.val, by have : (i 1).val < 4 := (i 1).isLt; omega⟩

theorem blk_x (t : Fin cfg0.N) (r : Fin 512) (d : Fin 1024) : iblk m c 0 t (ix3 0 r d) = m ((c : Thread nD τ).loc main_arg0) (ix3 (bat (grid0.coords t)) (tok (grid0.coords t) r) d) := by
  blk_simp [iblk]
  entry_read
  unfold bat tok
  blk_ext [idx0 t]

theorem blk_g (t : Fin cfg0.N) (d : Fin 1024) : iblk m c 1 t (ix2 0 d) = m ((c : Thread nD τ).loc main_arg3) (ix1 d) := by
  blk_simp [iblk]
  entry_read
  pointwise
  blk_ext [idx1 t]

theorem blk_sh (t : Fin cfg0.N) (d : Fin 1024) : iblk m c 2 t (ix3 0 0 d) = m ((c : Thread nD τ).loc main_arg1) (ix2 (bat (grid0.coords t)) d) := by
  blk_simp [iblk]
  entry_read
  pointwise
  unfold bat
  blk_ext [idx2 t]

theorem blk_sc (t : Fin cfg0.N) (d : Fin 1024) : iblk m c 3 t (ix3 0 0 d) = m ((c : Thread nD τ).loc main_arg2) (ix2 (bat (grid0.coords t)) d) := by
  blk_simp [iblk]
  entry_read
  pointwise
  unfold bat
  blk_ext [idx3 t]

theorem blk_gk (t : Fin cfg0.N) (e : Fin 128) : iblk m c 5 t (ix2 0 e) = m ((c : Thread nD τ).loc main_arg7) (ix1 e) := by
  blk_simp [iblk]
  entry_read
  pointwise
  blk_ext [idx5 t]

/-- Rows are put below the weights and numbers behind the biases; what was there first stays. -/
theorem bias_left (b : Vec Ideal S8 .f32) (z : Vec Ideal S120 .f32) (a : Fin 8) :
    concatenate S128 0 [⟨S8, b⟩, ⟨S120, z⟩] concatenates_S8_S120_S128_d0 (ix1 ⟨a.val, by omega⟩) = b (ix1 a) :=
  concatenate_pair_apply_left (s₁ := S8) (s₂ := S120) (t := S128) 0 _ _ _ _ rfl (ix1 a) (fun x => by fin_cases x; rfl)

theorem rows_left (w : Vec Ideal S3080x1024 .f32) (z : Vec Ideal S120x1024 .f32) (j : Fin 3080) (d : Fin 1024) :
    concatenate S3200x1024 0 [⟨S3080x1024, w⟩, ⟨S120x1024, z⟩] concatenates_S3080x1024_S120x1024_S3200x1024_d0 (ix2 ⟨j.val, by omega⟩ d) = w (ix2 j d) :=
  concatenate_pair_apply_left (s₁ := S3080x1024) (s₂ := S120x1024) (t := S3200x1024) 0 _ _ _ _ rfl (ix2 j d) (fun x => by fin_cases x <;> rfl)

/-- The padded weights and biases, where they are not padding. -/
theorem blk_bf (t : Fin cfg0.N) (a : Fin 8) : iblk m c 6 t (ix2 0 ⟨a.val, by omega⟩) = m ((c : Thread nD τ).loc main_arg5) (ix1 a) := by
  blk_simp [iblk]
  entry_read
  have e : ((View.whole main_v5).slice (win0_6.rect t)).emb (ix2 0 ⟨a.val, by omega⟩) = ix2 0 ⟨a.val, by omega⟩ := by blk_ext [idx6 t]
  refine (congrArg _ e).trans ?_
  refine Eq.trans ?_ (bias_left _ (broadcastInDim S120 ![] bcast_S_S120 (constant (F := Ideal) S_ FTy.f32 0#32)) a)
  generalize concatenate S128 0 _ _ = C
  pointwise

theorem blk_w (t : Fin cfg0.N) (j : Fin 3080) (d : Fin 1024) : iblk m c 7 t (ix2 ⟨j.val, by omega⟩ d) = m ((c : Thread nD τ).loc main_arg4) (ix2 d j) := by
  blk_simp [iblk]
  entry_read
  have e : ((View.whole main_v9).slice (win0_7.rect t)).emb (ix2 ⟨j.val, by omega⟩ d) = ix2 ⟨j.val, by omega⟩ d := by blk_ext [idx7 t]
  refine (congrArg _ e).trans ?_
  refine Eq.trans ?_ ((rows_left _ (broadcastInDim S120x1024 ![] bcast_S_S120x1024 (constant (F := Ideal) S_ FTy.f32 0#32)) j d).trans (?_ : transpose S3080x1024 [1, 0] (m ((c : Thread nD τ).loc main_arg4)) transposes_S1024x3080_S3080x1024_1_0 (ix2 j d) = _))
  · rfl
  · pointwise

/-- A column of a block's product is the reference's column. -/
theorem col_eq (t : Fin cfg0.N) (r : Fin 512) (j : Fin 3080) :
    col (iblk m c 0 t) (iblk m c 1 t) (iblk m c 3 t) (iblk m c 2 t) (iblk m c 7 t) r ⟨j.val, by omega⟩
      = Cert.FoxProj6Ref.col (m ((c : Thread nD τ).loc main_arg0)) (m ((c : Thread nD τ).loc main_arg1)) (m ((c : Thread nD τ).loc main_arg2)) (m ((c : Thread nD τ).loc main_arg3)) (m ((c : Thread nD τ).loc main_arg4)) (bat (grid0.coords t)) (tok (grid0.coords t) r) j := by
  unfold col Cert.FoxProj6Ref.col
  simp only [blk_x, blk_g, blk_sh, blk_sc, blk_w]

/-- The keys: a block's entry, and the array. -/
theorem keysBlock (t : Fin cfg0.N) (r : Fin 512) (j : Fin 1024) : (dats m 0 c).after 8 t (ix3 0 r j) = keyOf (iblk m c 0 t) (iblk m c 1 t) (iblk m c 3 t) (iblk m c 2 t) (iblk m c 7 t) (iblk m c 5 t) r (hdOf j) (clOf j) := by
  rw [after0_8]
  by_cases h0 : t.val % 4 = 0
  · rw [outsAt0_A m c t h0]
    dsimp only
    apply keysA
  · rw [outsAt0_B m c t h0]
    dsimp only
    apply keysB

theorem keysRow (t : Fin cfg0.N) (r : Fin 512) (j : Fin 1024) : (dats m 0 c).after 8 t (ix3 0 r j)
    = Cert.FoxProj6Ref.keyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (bat (grid0.coords t)) (tok (grid0.coords t) r) (hdOf j) (clOf j) := by
  rw [keysBlock]
  unfold keyOf Cert.FoxProj6Ref.keyOf
  refine congrArg₂ (fun p g => hnorm p g (clOf j)) (funext fun k => col_eq m c t r ⟨1024 + 128 * (hdOf j).val + k.val, by omega⟩) (funext fun k => blk_gk m c t k)

theorem keysArray : (dats m 0 c).arrAt 8 cfg0.N = Cert.Reference6Ideal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 8 _ (by decide +kernel) fun t hf y => ?_
  obtain ⟨r, j, rfl⟩ := blk_idx y
  have e' : ((cfg0.win 8).blk t).view.emb (ix3 0 r j) = ix3 (bat (grid0.coords t)) (tok (grid0.coords t) r) j := by
    unfold bat tok
    blk_ext [idx8 t]
  blk_simp
  rw [keysRow]
  refine Eq.trans ?_ (congrArg (Cert.Reference6Ideal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) e'.symm)
  exact (Cert.FoxProj6Ref.keys_at _ _ _ _ _ _ _ _ _).symm

/-- The values: a block's entry, and the array. -/
theorem valsBlock (t : Fin cfg0.N) (r : Fin 512) (j : Fin 1024) : (dats m 0 c).after 9 t (ix3 0 r j) = valOf (iblk m c 0 t) (iblk m c 1 t) (iblk m c 3 t) (iblk m c 2 t) (iblk m c 7 t) r j := by
  rw [after0_9]
  by_cases h0 : t.val % 4 = 0
  · rw [outsAt0_A m c t h0]
    dsimp only
    apply valsA
  · rw [outsAt0_B m c t h0]
    dsimp only
    apply valsB

theorem valsRow (t : Fin cfg0.N) (r : Fin 512) (j : Fin 1024) : (dats m 0 c).after 9 t (ix3 0 r j)
    = Cert.FoxProj6Ref.valOf (m ((c : Thread nD τ).loc main_arg0)) (m ((c : Thread nD τ).loc main_arg1)) (m ((c : Thread nD τ).loc main_arg2)) (m ((c : Thread nD τ).loc main_arg3)) (m ((c : Thread nD τ).loc main_arg4)) (bat (grid0.coords t)) (tok (grid0.coords t) r) j := by
  rw [valsBlock]
  unfold valOf Cert.FoxProj6Ref.valOf
  exact col_eq m c t r ⟨2048 + j.val, by omega⟩

theorem valsArray : (dats m 0 c).arrAt 9 cfg0.N = Cert.Reference6Ideal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  obtain ⟨r, j, rfl⟩ := blk_idx y
  have e' : ((cfg0.win 9).blk t).view.emb (ix3 0 r j) = ix3 (bat (grid0.coords t)) (tok (grid0.coords t) r) j := by
    unfold bat tok
    blk_ext [idx9 t]
  blk_simp
  rw [valsRow]
  refine Eq.trans ?_ (congrArg (Cert.Reference6Ideal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e'.symm)
  exact (Cert.FoxProj6Ref.vals_at _ _ _ _ _ _ _ _).symm

/-- The log gates: a block's entry, and the array. -/
theorem gatesBlock (t : Fin cfg0.N) (r : Fin 512) (j : Fin 8) : (dats m 0 c).after 10 t (ix3 0 r j) = gateOf (iblk m c 0 t) (iblk m c 1 t) (iblk m c 3 t) (iblk m c 2 t) (iblk m c 7 t) (iblk m c 6 t) r j := by
  rw [after0_10]
  by_cases h0 : t.val % 4 = 0
  · rw [outsAt0_A m c t h0]
    dsimp only
    apply gatesA
  · rw [outsAt0_B m c t h0]
    dsimp only
    apply gatesB

theorem gatesRow (t : Fin cfg0.N) (r : Fin 512) (j : Fin 8) : (dats m 0 c).after 10 t (ix3 0 r j)
    = Cert.FoxProj6Ref.gateOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bat (grid0.coords t)) (tok (grid0.coords t) r) j := by
  rw [gatesBlock]
  unfold gateOf Cert.FoxProj6Ref.gateOf
  exact congrArg₂ (fun p g => lsig (p + g)) (col_eq m c t r ⟨3072 + j.val, by omega⟩) (blk_bf m c t j)

theorem gatesArray : (dats m 0 c).arrAt 10 cfg0.N = Cert.Reference6Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨r, j, rfl⟩ := gate_idx y
  have e' : ((cfg0.win 10).blk t).view.emb (ix3 0 r j) = ix3 (bat (grid0.coords t)) (tok (grid0.coords t) r) j := by
    unfold bat tok
    blk_ext [idx10 t]
  blk_simp
  rw [gatesRow]
  refine Eq.trans ?_ (congrArg (Cert.Reference6Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e'.symm)
  exact (Cert.FoxProj6Ref.gates_at _ _ _ _ _ _ _ _ _).symm

end Cert.FoxProj6
-- ==== Proof.FoxProj7.lean ====
/- The forgetting attention's projection of the sample: what the kernel's blocks of keys, values and log gates hold. -/
module

public import proofs.«01_k».proof.Proof.Gen.Kernel7Ideal.Value
public import Idealize.ShloMosaic.Lib.Pipeline.ValueKit.Point
public import proofs.«01_k».proof.Proof.FoxProjRow

@[expose] public section

noncomputable section

namespace Cert.FoxProj7

open Idealize.ShloMosaic Idealize.ShloMosaic.TcCoe Cert.Kernel7Ideal Cert.Kernel7Ideal.Gen Cert.Ffn Cert.FoxProj

section

variable (v0 : Vec Ideal S1x256x1024 .f32) (v2 : Vec Ideal S1x1024 .f32) (v4 v6 : Vec Ideal S1x256x1024 .f32) (v27 : Vec Ideal S3200x1024 .bf16)

/-- Column `j` of the product of row `r`, from a kernel's loads. -/
def col (r : Fin 256) (j : Fin 3200) : EReal :=
  prj (fun d => v0 (ix3 0 r d)) (fun d => v2 (ix2 0 d)) (fun d => v4 (ix3 0 r d)) (fun d => v6 (ix3 0 r d)) (fun d => v27 (ix2 j d))

/-- The product the kernel computes has these columns. -/
theorem prod_at (r : Fin 256) (j : Fin 3200) : k0_pay2 v0 v2 v4 v6 v27 (ix2 r j) = col v0 v2 v4 v6 v27 r j := by
  pointwise [k0_pay2]
  rfl

/-- Head `a` of a row's keys, normed; a row's values; its log gates. -/
def keyOf (gk : Vec Ideal S1x128 .f32) (r : Fin 256) (a : Fin 8) (e : Fin 128) : EReal :=
  hnorm (fun k => col v0 v2 v4 v6 v27 r ⟨1024 + 128 * a.val + k.val, by omega⟩) (fun k => gk (ix2 0 k)) e
def valOf (r : Fin 256) (e : Fin 1024) : EReal := col v0 v2 v4 v6 v27 r ⟨2048 + e.val, by omega⟩
def gateOf (bf : Vec Ideal S1x128 .f32) (r : Fin 256) (a : Fin 8) : EReal :=
  lsig (col v0 v2 v4 v6 v27 r ⟨3072 + a.val, by omega⟩ + bf (ix2 0 ⟨a.val, by omega⟩))

end

/-- The norm's gain reaches the stores unchanged. -/
theorem gain_at (g : Vec Ideal S1x128 .f32) (e : Fin 128) : k0_pay4 g (ix2 0 e) = g (ix2 0 e) := by
  pointwise [k0_pay4]

section

variable (P : FVec Ideal S256x3200 .f32) (G : FVec Ideal S1x128 .f32) (r : Fin 256) (e : Fin 128)

/-- Each stored head is the norm of its 128 columns of the product. -/
theorem key0 : k0_pay9 P G (ix3 0 r e) = hnorm (fun k => P (ix2 r ⟨1024 + k.val, by omega⟩)) (fun k => G (ix2 0 k)) e := by
  pointwise [k0_pay9, k0_pay8]
  rfl

theorem key1 : k0_pay15 P G (ix3 0 r e) = hnorm (fun k => P (ix2 r ⟨1152 + k.val, by omega⟩)) (fun k => G (ix2 0 k)) e := by
  pointwise [k0_pay15, k0_pay14]
  rfl

theorem key2 : k0_pay20 P G (ix3 0 r e) = hnorm (fun k => P (ix2 r ⟨1280 + k.val, by omega⟩)) (fun k => G (ix2 0 k)) e := by
  pointwise [k0_pay20, k0_pay19]
  rfl

theorem key3 : k0_pay25 P G (ix3 0 r e) = hnorm (fun k => P (ix2 r ⟨1408 + k.val, by omega⟩)) (fun k => G (ix2 0 k)) e := by
  pointwise [k0_pay25, k0_pay24]
  rfl

theorem key4 : k0_pay29 P G (ix3 0 r e) = hnorm (fun k => P (ix2 r ⟨1536 + k.val, by omega⟩)) (fun k => G (ix2 0 k)) e := by
  pointwise [k0_pay29, k0_pay28]
  rfl

theorem key5 : k0_pay35 G (k0_pay32 P) (k0_pay33 P) (ix3 0 r e) = hnorm (fun k => P (ix2 r ⟨1664 + k.val, by omega⟩)) (fun k => G (ix2 0 k)) e := by
  pointwise [k0_pay35, k0_pay34, k0_pay32, k0_pay33]
  rfl

theorem key6 : k0_pay42 G (k0_pay38 P) (k0_pay39 P) k0_pay40 (ix3 0 r e) = hnorm (fun k => P (ix2 r ⟨1792 + k.val, by omega⟩)) (fun k => G (ix2 0 k)) e := by
  pointwise [k0_pay42, k0_pay41, k0_pay38, k0_pay39, k0_pay40]
  rfl

theorem key7 : k0_pay48 (k0_pay45 P) (k0_pay46 G) (ix3 0 r e) = hnorm (fun k => P (ix2 r ⟨1920 + k.val, by omega⟩)) (fun k => G (ix2 0 k)) e := by
  pointwise [k0_pay48, k0_pay47, k0_pay45, k0_pay46]
  rfl

/-- The stored values are the next 1024 columns, the log gates come from the last eight. -/
theorem val_at (e : Fin 1024) : k0_pay51 P (ix3 0 r e) = P (ix2 r ⟨2048 + e.val, by omega⟩) := by
  pointwise [k0_pay51, k0_pay50]

theorem gate_at (b : Vec Ideal S1x128 .f32) (a : Fin 8) : k0_pay54 P b (ix3 0 r a) = lsig (P (ix2 r ⟨3072 + a.val, by omega⟩) + b (ix2 0 ⟨a.val, by omega⟩)) := by
  pointwise [k0_pay54, k0_pay53]
  rfl

end

/-- An index of a block or of a head's part of it, as its row and column. -/
theorem head_idx (y : S1x256x128.Idx) : ∃ (r : Fin 256) (e : Fin 128), y = ix3 0 r e := ⟨y 1, y 2, by blk_ext⟩
theorem blk_idx (y : S1x256x1024.Idx) : ∃ (r : Fin 256) (e : Fin 1024), y = ix3 0 r e := ⟨y 1, y 2, by blk_ext⟩
theorem gate_idx (y : S1x256x8.Idx) : ∃ (r : Fin 256) (a : Fin 8), y = ix3 0 r a := ⟨y 1, y 2, by blk_ext⟩

/-- The place of a head's part in the block. -/
theorem piece (a : Fin 8) (h) (r : Fin 256) (e : Fin 128) :
    (Rect.unit (s := S1x256x1024) ![0, 0, 128 * a.val] ![1, 256, 128] h).emb (ix3 0 r e) = ix3 0 r (kcol a e) := by
  unfold kcol
  blk_ext

/-- A load of a whole window reads the window. -/
theorem ld_x (x : Vec Ideal S1x256x1024 .f32) (h) : View.ld x (Rect.unit (s := S1x256x1024) ![0, 0, 0] ![1, 256, 1024] h) = x := View.ld_unit_zero (by decide) _ x
theorem ld_g (x : Vec Ideal S1x1024 .f32) (h) : View.ld x (Rect.unit (s := S1x1024) ![0, 0] ![1, 1024] h) = x := View.ld_unit_zero (by decide) _ x
theorem ld_b (x : Vec Ideal S1x128 .f32) (h) : View.ld x (Rect.unit (s := S1x128) ![0, 0] ![1, 128] h) = x := View.ld_unit_zero (by decide) _ x
theorem ld_w (x : Vec Ideal S3200x1024 .bf16) (h) : View.ld x (Rect.unit (s := S3200x1024) ![0, 0] ![3200, 1024] h) = x := View.ld_unit_zero (by decide) _ x

section

variable (x0 : Vec Ideal S1x256x1024 .f32) (x1 : Vec Ideal S1x1024 .f32) (x2 x3 : Vec Ideal S1x256x1024 .f32) (x4 x5 x6 : Vec Ideal S1x128 .f32) (x7 : Vec Ideal S3200x1024 .bf16)

/-- A part of a block of keys is the norm of a head of its rows. -/
theorem keyBlk (a : Fin 8) (h) (w : Vec Ideal S1x256x128 .f32)
    (hw : ∀ (r : Fin 256) (e : Fin 128), w (ix3 0 r e) = hnorm (fun k => k0_pay2 x0 x1 x3 x2 x7 (ix2 r ⟨1024 + 128 * a.val + k.val, by omega⟩)) (fun k => k0_pay4 x5 (ix2 0 k)) e)
    (y : S1x256x128.Idx) :
    w y = (fun y : S1x256x1024.Idx => keyOf x0 x1 x3 x2 x7 x5 (y 1) (hdOf (y 2)) (clOf (y 2))) ((Rect.unit (s := S1x256x1024) ![0, 0, 128 * a.val] ![1, 256, 128] h).emb y) := by
  obtain ⟨r, e, rfl⟩ := head_idx y
  rw [piece, hw]
  show _ = keyOf x0 x1 x3 x2 x7 x5 r (hdOf (kcol a e)) (clOf (kcol a e))
  rw [hdOf_kcol, clOf_kcol]
  unfold keyOf
  simp only [prod_at, gain_at]

end

section

variable (c : Dev nD) (i : grid0.Coords)
  (arg2 : Memref sig .tc .vmem S1x256x1024 .f32) (harg2 : arg2.IsWhole)
  (arg3 : Memref sig .tc .vmem S1x1024 .f32) (harg3 : arg3.IsWhole)
  (arg4 : Memref sig .tc .vmem S1x256x1024 .f32) (harg4 : arg4.IsWhole)
  (arg5 : Memref sig .tc .vmem S1x256x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S3200x1024 .bf16) (harg9 : arg9.IsWhole)
  (arg10 : Memref sig .tc .vmem S1x256x1024 .f32) (harg10 : arg10.IsWhole)
  (arg11 : Memref sig .tc .vmem S1x256x1024 .f32) (harg11 : arg11.IsWhole)
  (arg12 : Memref sig .tc .vmem S1x256x8 .f32) (harg12 : arg12.IsWhole)
  (arg13 : Memref sig .tc .vmem S1x256x1024 .bf16) (harg13 : arg13.IsWhole)
  (arg14 : Memref sig .tc .vmem S1x256x1024 .bf16) (harg14 : arg14.IsWhole)
  (arg15 : Memref sig .tc .vmem S1x256x1024 .bf16) (harg15 : arg15.IsWhole)
  (arg16 : Memref sig .tc .vmem S1x256x128 .f32) (harg16 : arg16.IsWhole)
  (arg17 : Memref sig .tc .vmem S1x128 .f32) (harg17 : arg17.IsWhole)
  (x0 : Vec Ideal S1x256x1024 .f32) (x1 : Vec Ideal S1x1024 .f32) (x2 x3 : Vec Ideal S1x256x1024 .f32) (x4 x5 x6 : Vec Ideal S1x128 .f32) (x7 : Vec Ideal S3200x1024 .bf16)

/-- What the kernel stores as the keys' block. -/
theorem keysA (r : Fin 256) (j : Fin 1024) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix3 0 r j) = keyOf x0 x1 x3 x2 x7 x5 r (hdOf j) (clOf j) := by
  have hv := cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7
  unfold out0_A_8
  rw [View.read_writes_eq_canon _ _ _ hv]
  refine View.canon_apply_of_pieces (fun y : S1x256x1024.Idx => keyOf x0 x1 x3 x2 x7 x5 (y 1) (hdOf (y 2)) (clOf (y 2))) _ ?_ (ix3 0 r j) (hv _)
  unfold kernelRun0_A
  dsimp only
  simp only [kernelRun0_A.sl.r, kernelRun0_A.sl.r_2, kernelRun0_A.sl.r_9, kernelRun0_A.sl.r_10, kernelRun0_A.sl.r_11, kernelRun0_A.sl.r_12, kernelRun0_A.sl.r_13, kernelRun0_A.sl.r_14, View.readAt_eq_ld, harg2.read_unread, harg3.read_unread, harg4.read_unread, harg5.read_unread, harg7.read_unread, harg8.read_unread, harg9.read_unread, ld_x, ld_g, ld_b, ld_w]
  simp only [List.forall_mem_cons, List.not_mem_nil, false_imp_iff, implies_true, and_true]
  refine ⟨keyBlk x0 x1 x2 x3 x5 x7 7 _ _ (key7 _ _), keyBlk x0 x1 x2 x3 x5 x7 6 _ _ (key6 _ _), keyBlk x0 x1 x2 x3 x5 x7 5 _ _ (key5 _ _), keyBlk x0 x1 x2 x3 x5 x7 4 _ _ (key4 _ _), keyBlk x0 x1 x2 x3 x5 x7 3 _ _ (key3 _ _), keyBlk x0 x1 x2 x3 x5 x7 2 _ _ (key2 _ _), keyBlk x0 x1 x2 x3 x5 x7 1 _ _ (key1 _ _), keyBlk x0 x1 x2 x3 x5 x7 0 _ _ (key0 _ _)⟩

/-- What it stores as the values' block. -/
theorem valsA (r : Fin 256) (e : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix3 0 r e) = valOf x0 x1 x3 x2 x7 r e := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)]
  unfold kernelRun0_A
  dsimp only
  simp only [kernelRun0_A.sl.r, kernelRun0_A.sl.r_2, kernelRun0_A.sl.r_9, kernelRun0_A.sl.r_10, kernelRun0_A.sl.r_11, kernelRun0_A.sl.r_12, kernelRun0_A.sl.r_13, kernelRun0_A.sl.r_14, View.readAt_eq_ld, harg2.read_unread, harg3.read_unread, harg4.read_unread, harg5.read_unread, harg7.read_unread, harg8.read_unread, harg9.read_unread, ld_x, ld_g, ld_b, ld_w]
  rw [View.canon_unit_zero (by decide), val_at, prod_at]
  rfl

/-- What it stores as the log gates' block. -/
theorem gatesA (r : Fin 256) (a : Fin 8) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix3 0 r a) = gateOf x0 x1 x3 x2 x7 x6 r a := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)]
  unfold kernelRun0_A
  dsimp only
  simp only [kernelRun0_A.sl.r, kernelRun0_A.sl.r_2, kernelRun0_A.sl.r_9, kernelRun0_A.sl.r_10, kernelRun0_A.sl.r_11, kernelRun0_A.sl.r_12, kernelRun0_A.sl.r_13, kernelRun0_A.sl.r_14, View.readAt_eq_ld, harg2.read_unread, harg3.read_unread, harg4.read_unread, harg5.read_unread, harg7.read_unread, harg8.read_unread, harg9.read_unread, ld_x, ld_g, ld_b, ld_w]
  rw [View.canon_unit_zero (by decide), gate_at, prod_at]
  rfl

end

end Cert.FoxProj7
-- ==== Proof.FoxProj7Ref.lean ====
/- The forgetting attention's projection of the sample: what its reference's results hold. -/
module

public import proofs.«01_k».proof.Proof.Gen.Reference7Ideal.Read
public import Idealize.ShloMosaic.Lib.Pipeline.Value
public import Idealize.ShloMosaic.Lib.Pointwise
public import proofs.«01_k».proof.Proof.FoxProjRow

@[expose] public section

noncomputable section

namespace Cert.FoxProj7Ref

open Idealize.ShloMosaic Cert.Reference7Ideal Cert.Reference7Ideal.Gen Cert.Reference7Ideal.Read Cert.Ffn Cert.FoxProj

variable (x : (⟨S32x8x1024, .f32⟩ : BufTy).Contents (Elt Ideal)) (sh sc : (⟨S32x1024, .f32⟩ : BufTy).Contents (Elt Ideal)) (g : (⟨S1024, .f32⟩ : BufTy).Contents (Elt Ideal))
  (w : (⟨S1024x3080, .f32⟩ : BufTy).Contents (Elt Ideal)) (bf : (⟨S8, .f32⟩ : BufTy).Contents (Elt Ideal)) (gk : (⟨S128, .f32⟩ : BufTy).Contents (Elt Ideal))

/-- Column `j` of the projection of row `n` of sequence `b`. -/
def col (b : Fin 32) (n : Fin 8) (j : Fin 3080) : EReal :=
  prj (fun d => x (ix3 b n d)) (fun d => g (ix1 d)) (fun d => sc (ix2 b d)) (fun d => sh (ix2 b d)) (fun d => w (ix2 d j))

/-- Head `a` of the row's keys, normed; its values; its log gates. -/
def keyOf (b : Fin 32) (n : Fin 8) (a : Fin 8) (e : Fin 128) : EReal :=
  hnorm (fun k => col x sh sc g w b n ⟨1024 + 128 * a.val + k.val, by omega⟩) (fun k => gk (ix1 k)) e
def valOf (b : Fin 32) (n : Fin 8) (e : Fin 1024) : EReal := col x sh sc g w b n ⟨2048 + e.val, by omega⟩
def gateOf (b : Fin 32) (n : Fin 8) (a : Fin 8) : EReal := lsig (col x sh sc g w b n ⟨3072 + a.val, by omega⟩ + bf (ix1 a))

theorem mean_at (b : Fin 32) (n : Fin 8) : val_main_v7 (F := Ideal) x (ix3 b n 0)
    = Ideal.rsqrt ((∑ d : Fin 1024, x (ix3 b n d) * x (ix3 b n d)) * Ideal.ofBits FTy.f32 0x3A800000#32 + Ideal.ofBits FTy.f32 0x358637BD#32) := by
  unfold val_main_v7 val_main_v6 val_main_v5 val_main_v4 val_main_v3 val_main_v2 val_main_v1 val_main_v0
  pointwise [val_main_cst, val_main_cst_0, val_main_cst_1]
  rw [← mean_1024]

theorem h_at (b : Fin 32) (n : Fin 8) (d : Fin 1024) : val_main_v20 (F := Ideal) x sh sc g (ix3 b n d)
    = hmod (fun d => x (ix3 b n d)) (fun d => g (ix1 d)) (fun d => sc (ix2 b d)) (fun d => sh (ix2 b d)) d := by
  unfold hmod
  rw [← mean_at]
  unfold val_main_v20 val_main_v17 val_main_v12 val_main_v9 val_main_v8
  generalize val_main_v7 (F := Ideal) x = Y
  pointwise [val_main_v19, val_main_v18, val_main_v16, val_main_v15, val_main_v14, val_main_cst_2, val_main_v13, val_main_v11, val_main_v10]

theorem col_at (b : Fin 32) (n : Fin 8) (j : Fin 3080) : val_main_v21 (F := Ideal) x sh sc g w (ix3 b n j) = col x sh sc g w b n j := by
  unfold col prj
  simp only [← h_at]
  unfold val_main_v21
  generalize val_main_v20 (F := Ideal) x sh sc g = H
  pointwise

/-- The keys by heads. -/
theorem head_at (b : Fin 32) (n : Fin 8) (a : Fin 8) (k : Fin 128) : val_main_v23 (F := Ideal) x sh sc g w (ix4 b n a k)
    = col x sh sc g w b n ⟨1024 + 128 * a.val + k.val, by omega⟩ := by
  rw [← col_at]
  unfold val_main_v23 val_main_v22
  generalize val_main_v21 (F := Ideal) x sh sc g w = H
  have e := shapeCast_apply (extractStridedSlice S32x8x1024 ![0, 0, 1024] H slices_S32x8x3080_S32x8x1024_0_0_1024) shapeCasts_S32x8x1024_S32x8x8x128 (ix4 b n a k) (ix3 b n (kcol a k))
    (by rewrite [Shape.rowMajor_val_three, Shape.rowMajor_val_four]; have := b.isLt; have := n.isLt; have := a.isLt; have := k.isLt; show (b.val * 8 + n.val) * 1024 + (128 * a.val + k.val) = ((b.val * 8 + n.val) * 8 + a.val) * 128 + k.val; omega)
  rw [e]
  unfold kcol
  pointwise
  congr 2
  apply Fin.ext
  show 1024 + (128 * a.val + k.val) = 1024 + 128 * a.val + k.val
  omega

theorem rms_at (b : Fin 32) (n : Fin 8) (a : Fin 8) : val_main_v31 (F := Ideal) x sh sc g w (ix4 b n a 0)
    = Ideal.rsqrt ((∑ k : Fin 128, col x sh sc g w b n ⟨1024 + 128 * a.val + k.val, by omega⟩ * col x sh sc g w b n ⟨1024 + 128 * a.val + k.val, by omega⟩) * Ideal.ofBits FTy.f32 0x3C000000#32 + Ideal.ofBits FTy.f32 0x358637BD#32) := by
  simp only [← head_at]
  unfold val_main_v31 val_main_v30 val_main_v28 val_main_v26 val_main_v25 val_main_v24
  generalize val_main_v23 (F := Ideal) x sh sc g w = X
  pointwise [val_main_v29, val_main_v27, val_main_cst_3, val_main_cst_4, val_main_cst_5]
  rw [← mean_128]

theorem normed_at (b : Fin 32) (n : Fin 8) (a : Fin 8) (e : Fin 128) : val_main_v36 (F := Ideal) x sh sc g w gk (ix4 b n a e) = keyOf x sh sc g w gk b n a e := by
  unfold keyOf hnorm
  rw [← rms_at]
  beta_reduce
  rw [← head_at]
  unfold val_main_v36 val_main_v33 val_main_v32
  generalize val_main_v31 (F := Ideal) x sh sc g w = Y
  generalize val_main_v23 (F := Ideal) x sh sc g w = X
  pointwise [val_main_v35, val_main_v34]

/-- The keys side by side again. -/
theorem keys_at (b : Fin 32) (n : Fin 8) (j : Fin 1024) : val_main_v37 (F := Ideal) x sh sc g w gk (ix3 b n j) = keyOf x sh sc g w gk b n (hdOf j) (clOf j) := by
  rw [← normed_at]
  unfold val_main_v37
  generalize val_main_v36 (F := Ideal) x sh sc g w gk = H
  exact shapeCast_apply H shapeCasts_S32x8x8x128_S32x8x1024 (ix3 b n j) (ix4 b n (hdOf j) (clOf j))
    (by rewrite [Shape.rowMajor_val_three, Shape.rowMajor_val_four]; have := b.isLt; have := n.isLt; have := j.isLt; show ((b.val * 8 + n.val) * 8 + j.val / 128) * 128 + j.val % 128 = (b.val * 8 + n.val) * 1024 + j.val; omega)

theorem vals_at (b : Fin 32) (n : Fin 8) (e : Fin 1024) : val_main_v38 (F := Ideal) x sh sc g w (ix3 b n e) = valOf x sh sc g w b n e := by
  unfold valOf
  rw [← col_at]
  unfold val_main_v38
  generalize val_main_v21 (F := Ideal) x sh sc g w = H
  pointwise

theorem logit_at (b : Fin 32) (n : Fin 8) (a : Fin 8) : val_main_v42 (F := Ideal) x sh sc g w bf (ix3 b n a) = col x sh sc g w b n ⟨3072 + a.val, by omega⟩ + bf (ix1 a) := by
  rw [← col_at]
  unfold val_main_v42 val_main_v39
  generalize val_main_v21 (F := Ideal) x sh sc g w = H
  pointwise [val_main_v41, val_main_v40]

theorem gates_at (b : Fin 32) (n : Fin 8) (a : Fin 8) : val_main_v43 (F := Ideal) x sh sc g w bf (ix3 b n a) = gateOf x sh sc g w bf b n a := by
  unfold gateOf
  rw [lsig_eq, ← logit_at]
  unfold val_main_v43 val_main_call0_v1 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_v0
  generalize val_main_v42 (F := Ideal) x sh sc g w bf = Z
  pointwise [val_main_call0_call0_v0, val_main_call0_call0_v2, val_main_call0_call0_v5, val_main_call0_call0_cst]
  rw [if_neg (not_not_intro rfl)]
  rfl

/-- A row of the flattened sample: its sequence and its place there. -/
def seqOf (r : Fin 256) : Fin 32 := ⟨r.val / 8, by omega⟩
def rw8 (r : Fin 256) : Fin 8 := ⟨r.val % 8, by omega⟩

/-- The results, all sequences in one. -/
theorem keys_flat (r : Fin 256) (e : Fin 1024) : val_main_v44 (F := Ideal) x sh sc g w gk (ix3 0 r e) = keyOf x sh sc g w gk (seqOf r) (rw8 r) (hdOf e) (clOf e) := by
  rw [← keys_at]
  unfold val_main_v44
  generalize val_main_v37 (F := Ideal) x sh sc g w gk = H
  exact shapeCast_apply H shapeCasts_S32x8x1024_S1x256x1024 (ix3 0 r e) (ix3 (seqOf r) (rw8 r) e)
    (by rewrite [Shape.rowMajor_val_three, Shape.rowMajor_val_three]; have := r.isLt; have := e.isLt; show (r.val / 8 * 8 + r.val % 8) * 1024 + e.val = (0 * 256 + r.val) * 1024 + e.val; omega)

theorem vals_flat (r : Fin 256) (e : Fin 1024) : val_main_v45 (F := Ideal) x sh sc g w (ix3 0 r e) = valOf x sh sc g w (seqOf r) (rw8 r) e := by
  rw [← vals_at]
  unfold val_main_v45
  generalize val_main_v38 (F := Ideal) x sh sc g w = H
  exact shapeCast_apply H shapeCasts_S32x8x1024_S1x256x1024 (ix3 0 r e) (ix3 (seqOf r) (rw8 r) e)
    (by rewrite [Shape.rowMajor_val_three, Shape.rowMajor_val_three]; have := r.isLt; have := e.isLt; show (r.val / 8 * 8 + r.val % 8) * 1024 + e.val = (0 * 256 + r.val) * 1024 + e.val; omega)

theorem gates_flat (r : Fin 256) (e : Fin 8) : val_main_v46 (F := Ideal) x sh sc g w bf (ix3 0 r e) = gateOf x sh sc g w bf (seqOf r) (rw8 r) e := by
  rw [← gates_at]
  unfold val_main_v46
  generalize val_main_v43 (F := Ideal) x sh sc g w bf = H
  exact shapeCast_apply H shapeCasts_S32x8x8_S1x256x8 (ix3 0 r e) (ix3 (seqOf r) (rw8 r) e)
    (by rewrite [Shape.rowMajor_val_three, Shape.rowMajor_val_three]; have := r.isLt; have := e.isLt; show (r.val / 8 * 8 + r.val % 8) * 8 + e.val = (0 * 256 + r.val) * 8 + e.val; omega)

end Cert.FoxProj7Ref
-- ==== Proof.FoxProj7Final.lean ====
/- The forgetting attention's projection of the sample: the arrays its kernel leaves are its reference's results. -/
module

public import proofs.«01_k».proof.Proof.FoxProj7
public import proofs.«01_k».proof.Proof.FoxProj7Ref

@[expose] public section

noncomputable section

namespace Cert.FoxProj7

open Idealize.ShloMosaic Idealize.ShloMosaic.TcCoe Cert.Kernel7Ideal Cert.Kernel7Ideal.Gen Cert.Ffn Cert.FoxProj

variable (m : (ℓ : Loc nD τ sig) → Buf (Elt Ideal) ℓ) (c : Dev nD)

/-- The block each window shows at a point. -/
theorem idx0 : ∀ t : Fin cfg0.N, win0_0.index t = ![0, 0, 0] :=
  (by decide +kernel : ∀ t : Fin grid0.N, win0_0.index t = ![0, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![0, 0, 0] :=
  (by decide +kernel : ∀ t : Fin grid0.N, win0_3.index t = ![0, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0, 0] :=
  (by decide +kernel : ∀ t : Fin grid0.N, win0_8.index t = ![0, 0, 0])
theorem idx9 : ∀ t : Fin cfg0.N, win0_9.index t = ![0, 0, 0] :=
  (by decide +kernel : ∀ t : Fin grid0.N, win0_9.index t = ![0, 0, 0])
theorem idx10 : ∀ t : Fin cfg0.N, win0_10.index t = ![0, 0, 0] :=
  (by decide +kernel : ∀ t : Fin grid0.N, win0_10.index t = ![0, 0, 0])

open Cert.FoxProj7Ref (seqOf rw8)

theorem blk_x (t : Fin cfg0.N) (r : Fin 256) (d : Fin 1024) : iblk m c 0 t (ix3 0 r d) = m ((c : Thread nD τ).loc main_arg0) (ix3 (seqOf r) (rw8 r) d) := by
  blk_simp [iblk]
  entry_read
  pointwise
  unfold seqOf rw8
  blk_ext [idx0 t]

theorem blk_g (t : Fin cfg0.N) (d : Fin 1024) : iblk m c 1 t (ix2 0 d) = m ((c : Thread nD τ).loc main_arg3) (ix1 d) := by
  blk_simp [iblk]
  entry_read
  pointwise
  blk_ext [idx1 t]

theorem blk_sh (t : Fin cfg0.N) (r : Fin 256) (d : Fin 1024) : iblk m c 2 t (ix3 0 r d) = m ((c : Thread nD τ).loc main_arg1) (ix2 (seqOf r) d) := by
  blk_simp [iblk]
  entry_read
  pointwise
  unfold seqOf
  blk_ext [idx2 t]

theorem blk_sc (t : Fin cfg0.N) (r : Fin 256) (d : Fin 1024) : iblk m c 3 t (ix3 0 r d) = m ((c : Thread nD τ).loc main_arg2) (ix2 (seqOf r) d) := by
  blk_simp [iblk]
  entry_read
  pointwise
  unfold seqOf
  blk_ext [idx3 t]

theorem blk_gk (t : Fin cfg0.N) (e : Fin 128) : iblk m c 5 t (ix2 0 e) = m ((c : Thread nD τ).loc main_arg7) (ix1 e) := by
  blk_simp [iblk]
  entry_read
  pointwise
  blk_ext [idx5 t]

/-- Rows are put below the weights and numbers behind the biases; what was there first stays. -/
theorem bias_left (b : Vec Ideal S8 .f32) (z : Vec Ideal S120 .f32) (a : Fin 8) :
    concatenate S128 0 [⟨S8, b⟩, ⟨S120, z⟩] concatenates_S8_S120_S128_d0 (ix1 ⟨a.val, by omega⟩) = b (ix1 a) :=
  concatenate_pair_apply_left (s₁ := S8) (s₂ := S120) (t := S128) 0 _ _ _ _ rfl (ix1 a) (fun x => by fin_cases x; rfl)

theorem rows_left (w : Vec Ideal S3080x1024 .f32) (z : Vec Ideal S120x1024 .f32) (j : Fin 3080) (d : Fin 1024) :
    concatenate S3200x1024 0 [⟨S3080x1024, w⟩, ⟨S120x1024, z⟩] concatenates_S3080x1024_S120x1024_S3200x1024_d0 (ix2 ⟨j.val, by omega⟩ d) = w (ix2 j d) :=
  concatenate_pair_apply_left (s₁ := S3080x1024) (s₂ := S120x1024) (t := S3200x1024) 0 _ _ _ _ rfl (ix2 j d) (fun x => by fin_cases x <;> rfl)

/-- The padded weights and biases, where they are not padding. -/
theorem blk_bf (t : Fin cfg0.N) (a : Fin 8) : iblk m c 6 t (ix2 0 ⟨a.val, by omega⟩) = m ((c : Thread nD τ).loc main_arg5) (ix1 a) := by
  blk_simp [iblk]
  entry_read
  have e : ((View.whole main_v5).slice (win0_6.rect t)).emb (ix2 0 ⟨a.val, by omega⟩) = ix2 0 ⟨a.val, by omega⟩ := by blk_ext [idx6 t]
  refine (congrArg _ e).trans ?_
  refine Eq.trans ?_ (bias_left _ (broadcastInDim S120 ![] bcast_S_S120 (constant (F := Ideal) S_ FTy.f32 0#32)) a)
  generalize concatenate S128 0 _ _ = C
  pointwise

theorem blk_w (t : Fin cfg0.N) (j : Fin 3080) (d : Fin 1024) : iblk m c 7 t (ix2 ⟨j.val, by omega⟩ d) = m ((c : Thread nD τ).loc main_arg4) (ix2 d j) := by
  blk_simp [iblk]
  entry_read
  have e : ((View.whole main_v9).slice (win0_7.rect t)).emb (ix2 ⟨j.val, by omega⟩ d) = ix2 ⟨j.val, by omega⟩ d := by blk_ext [idx7 t]
  refine (congrArg _ e).trans ?_
  refine Eq.trans ?_ ((rows_left _ (broadcastInDim S120x1024 ![] bcast_S_S120x1024 (constant (F := Ideal) S_ FTy.f32 0#32)) j d).trans (?_ : transpose S3080x1024 [1, 0] (m ((c : Thread nD τ).loc main_arg4)) transposes_S1024x3080_S3080x1024_1_0 (ix2 j d) = _))
  · rfl
  · pointwise

/-- A column of a block's product is the reference's column. -/
theorem col_eq (t : Fin cfg0.N) (r : Fin 256) (j : Fin 3080) :
    col (iblk m c 0 t) (iblk m c 1 t) (iblk m c 3 t) (iblk m c 2 t) (iblk m c 7 t) r ⟨j.val, by omega⟩
      = Cert.FoxProj7Ref.col (m ((c : Thread nD τ).loc main_arg0)) (m ((c : Thread nD τ).loc main_arg1)) (m ((c : Thread nD τ).loc main_arg2)) (m ((c : Thread nD τ).loc main_arg3)) (m ((c : Thread nD τ).loc main_arg4)) (seqOf r) (rw8 r) j := by
  unfold col Cert.FoxProj7Ref.col
  simp only [blk_x, blk_g, blk_sh, blk_sc, blk_w]

/-- The keys: a block's entry, and the array. -/
theorem keysBlock (t : Fin cfg0.N) (r : Fin 256) (j : Fin 1024) : (dats m 0 c).after 8 t (ix3 0 r j) = keyOf (iblk m c 0 t) (iblk m c 1 t) (iblk m c 3 t) (iblk m c 2 t) (iblk m c 7 t) (iblk m c 5 t) r (hdOf j) (clOf j) := by
  rw [after0_8]
  simp only [outsAt0]
  apply keysA

theorem keysRow (t : Fin cfg0.N) (r : Fin 256) (j : Fin 1024) : (dats m 0 c).after 8 t (ix3 0 r j)
    = Cert.FoxProj7Ref.keyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (seqOf r) (rw8 r) (hdOf j) (clOf j) := by
  rw [keysBlock]
  unfold keyOf Cert.FoxProj7Ref.keyOf
  refine congrArg₂ (fun p g => hnorm p g (clOf j)) (funext fun k => col_eq m c t r ⟨1024 + 128 * (hdOf j).val + k.val, by omega⟩) (funext fun k => blk_gk m c t k)

theorem keysArray : (dats m 0 c).arrAt 8 cfg0.N = Cert.Reference7Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 8 _ (by decide +kernel) fun t hf y => ?_
  obtain ⟨r, j, rfl⟩ := blk_idx y
  have e' : ((cfg0.win 8).blk t).view.emb (ix3 0 r j) = ix3 0 r j := by
    blk_ext [idx8 t]
  blk_simp
  rw [keysRow]
  refine Eq.trans ?_ (congrArg (Cert.Reference7Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) e'.symm)
  exact (Cert.FoxProj7Ref.keys_flat _ _ _ _ _ _ _ _).symm

/-- The values: a block's entry, and the array. -/
theorem valsBlock (t : Fin cfg0.N) (r : Fin 256) (j : Fin 1024) : (dats m 0 c).after 9 t (ix3 0 r j) = valOf (iblk m c 0 t) (iblk m c 1 t) (iblk m c 3 t) (iblk m c 2 t) (iblk m c 7 t) r j := by
  rw [after0_9]
  simp only [outsAt0]
  apply valsA

theorem valsRow (t : Fin cfg0.N) (r : Fin 256) (j : Fin 1024) : (dats m 0 c).after 9 t (ix3 0 r j)
    = Cert.FoxProj7Ref.valOf (m ((c : Thread nD τ).loc main_arg0)) (m ((c : Thread nD τ).loc main_arg1)) (m ((c : Thread nD τ).loc main_arg2)) (m ((c : Thread nD τ).loc main_arg3)) (m ((c : Thread nD τ).loc main_arg4)) (seqOf r) (rw8 r) j := by
  rw [valsBlock]
  unfold valOf Cert.FoxProj7Ref.valOf
  exact col_eq m c t r ⟨2048 + j.val, by omega⟩

theorem valsArray : (dats m 0 c).arrAt 9 cfg0.N = Cert.Reference7Ideal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  obtain ⟨r, j, rfl⟩ := blk_idx y
  have e' : ((cfg0.win 9).blk t).view.emb (ix3 0 r j) = ix3 0 r j := by
    blk_ext [idx9 t]
  blk_simp
  rw [valsRow]
  refine Eq.trans ?_ (congrArg (Cert.Reference7Ideal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e'.symm)
  exact (Cert.FoxProj7Ref.vals_flat _ _ _ _ _ _ _).symm

/-- The log gates: a block's entry, and the array. -/
theorem gatesBlock (t : Fin cfg0.N) (r : Fin 256) (j : Fin 8) : (dats m 0 c).after 10 t (ix3 0 r j) = gateOf (iblk m c 0 t) (iblk m c 1 t) (iblk m c 3 t) (iblk m c 2 t) (iblk m c 7 t) (iblk m c 6 t) r j := by
  rw [after0_10]
  simp only [outsAt0]
  apply gatesA

theorem gatesRow (t : Fin cfg0.N) (r : Fin 256) (j : Fin 8) : (dats m 0 c).after 10 t (ix3 0 r j)
    = Cert.FoxProj7Ref.gateOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf r) (rw8 r) j := by
  rw [gatesBlock]
  unfold gateOf Cert.FoxProj7Ref.gateOf
  exact congrArg₂ (fun p g => lsig (p + g)) (col_eq m c t r ⟨3072 + j.val, by omega⟩) (blk_bf m c t j)

theorem gatesArray : (dats m 0 c).arrAt 10 cfg0.N = Cert.Reference7Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨r, j, rfl⟩ := gate_idx y
  have e' : ((cfg0.win 10).blk t).view.emb (ix3 0 r j) = ix3 0 r j := by
    blk_ext [idx10 t]
  blk_simp
  rw [gatesRow]
  refine Eq.trans ?_ (congrArg (Cert.Reference7Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) e'.symm)
  exact (Cert.FoxProj7Ref.gates_flat _ _ _ _ _ _ _ _).symm

end Cert.FoxProj7
-- ==== Proof.MlaProjRow.lean ====
/- One row of the latent attention's projection, as numbers: a latent's norm and a key turned by its position. -/
module

public import proofs.«01_k».proof.Proof.FoxProjRow

@[expose] public section

noncomputable section

namespace Cert.MlaProj

open Idealize.ShloMosaic Cert.Ffn Cert.FoxProj

/-- The root mean square norm of a latent's 256 numbers, with its gain. -/
def lat (p g : Fin 256 → EReal) (e : Fin 256) : EReal :=
  p e * Ideal.rsqrt ((∑ k : Fin 256, p k * p k) * Ideal.ofBits FTy.f32 0x3B800000#32 + Ideal.ofBits FTy.f32 0x358637BD#32) * g e

/-- One over the root mean square of 32 numbers whose squares sum to `s`. -/
def rinv (s : EReal) : EReal := Ideal.rsqrt (s * Ideal.ofBits FTy.f32 0x3D000000#32 + Ideal.ofBits FTy.f32 0x358637BD#32)

/-- The other lane of a turned pair, its sign, and the pair's number. -/
def other (e : Fin 32) : Fin 32 := ⟨(e.val + 16) % 32, by omega⟩
def sgn (e : Fin 32) : EReal := if e.val < 16 then -1 else 1
def pair (e : Fin 32) : Fin 16 := ⟨e.val % 16, by omega⟩

/-- The norm of a key's 32 numbers, turned: lane `e` by the cosine, the other lane of its pair by the signed sine. -/
def turn (p g : Fin 32 → EReal) (cs sn : Fin 16 → EReal) (e : Fin 32) : EReal :=
  p e * rinv (∑ k : Fin 32, p k * p k) * g e * cs (pair e)
    + sgn e * (p (other e) * rinv (∑ k : Fin 32, p k * p k) * g (other e) * sn (pair e))

/-- A mean over 256 numbers is the sum times 2^-8, over 32 the sum times 2^-5. -/
theorem mean_256 (s : EReal) : Ideal.div s (Ideal.ofBits FTy.f32 0x43800000#32) = s * Ideal.ofBits FTy.f32 0x3B800000#32 := by
  have h : Ideal.ofBits FTy.f32 0x43800000#32 = ((256 : ℝ) : EReal) := by
    simp [Ideal.ofBits, Ideal.ieee]; rw [← EReal.coe_mul]; norm_num
  have h' : Ideal.ofBits FTy.f32 0x3B800000#32 = ((1 / 256 : ℝ) : EReal) := by
    simp [Ideal.ofBits, Ideal.ieee]; rw [← EReal.coe_mul]; norm_num
  rw [h, h', Ideal.div_coe (by norm_num)]

theorem thirty_second : Ideal.ofBits FTy.f32 0x3D000000#32 = ((1 / 32 : ℝ) : EReal) := by
  simp [Ideal.ofBits, Ideal.ieee]; rw [← EReal.coe_mul]; norm_num

theorem mean_32 (s : EReal) : Ideal.div s (Ideal.ofBits FTy.f32 0x42000000#32) = s * Ideal.ofBits FTy.f32 0x3D000000#32 := by
  have h : Ideal.ofBits FTy.f32 0x42000000#32 = ((32 : ℝ) : EReal) := by
    simp [Ideal.ofBits, Ideal.ieee]; rw [← EReal.coe_mul]; norm_num
  rw [h, thirty_second, Ideal.div_coe (by norm_num)]

theorem eps_pos : ∃ r : ℝ, 0 < r ∧ Ideal.ofBits FTy.f32 0x358637BD#32 = (r : EReal) := by
  refine ⟨_, ?_, by simp [Ideal.ofBits, Ideal.ieee]; rw [← EReal.coe_mul]⟩
  norm_num

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- One over the root mean square is a finite number, not negative. -/
theorem rinv_spec {s : EReal} (h : 0 ≤ s) : 0 ≤ rinv s ∧ rinv s ≠ ⊤ := by
  obtain ⟨ε, hε, he⟩ := eps_pos
  unfold rinv
  rw [he, thirty_second]
  induction s with
  | bot => exact absurd h (by simp)
  | top =>
    rw [EReal.top_mul_coe_of_pos (by norm_num), EReal.top_add_coe]
    exact ⟨le_refl (0 : EReal), EReal.zero_ne_top⟩
  | coe r =>
    have hr : 0 ≤ r := by exact_mod_cast h
    rw [← EReal.coe_mul, ← EReal.coe_add]
    have hp : 0 < r * (1 / 32) + ε := by positivity
    show 0 ≤ (if r * (1 / 32) + ε < 0 then ⊥ else if r * (1 / 32) + ε = 0 then ⊤ else (((Real.sqrt (r * (1 / 32) + ε))⁻¹ : ℝ) : EReal)) ∧
      (if r * (1 / 32) + ε < 0 then ⊥ else if r * (1 / 32) + ε = 0 then ⊤ else (((Real.sqrt (r * (1 / 32) + ε))⁻¹ : ℝ) : EReal)) ≠ ⊤
    rw [if_neg (not_lt.mpr hp.le), if_neg hp.ne']
    exact ⟨by exact_mod_cast inv_nonneg.mpr (Real.sqrt_nonneg _), EReal.coe_ne_top _⟩

/-- The kernel's form of the turned key: the root mean square multiplies the sum, and the gains come with the cosine and the signed sine. -/
theorem turn_eq (p g : Fin 32 → EReal) (cs sn : Fin 16 → EReal) (e : Fin 32) :
    rinv (∑ k : Fin 32, p k * p k) * (p e * (g e * cs (pair e)) + p (other e) * (sgn e * g (other e) * sn (pair e))) = turn p g cs sn e := by
  obtain ⟨h0, h1⟩ := rinv_spec (Finset.sum_nonneg fun k (_ : k ∈ (Finset.univ : Finset (Fin 32))) => square_nonneg (p k))
  unfold turn
  rw [EReal.left_distrib_of_nonneg_of_ne_top h0 h1]
  congr 1 <;> ac_rfl

/-- The reference's form: the first half takes the cosine less the sine, the second half the cosine and the sine. -/
theorem turn_low (p g : Fin 32 → EReal) (cs sn : Fin 16 → EReal) (q : Fin 16) :
    turn p g cs sn ⟨q.val, by omega⟩
      = p ⟨q.val, by omega⟩ * rinv (∑ k : Fin 32, p k * p k) * g ⟨q.val, by omega⟩ * cs q - p ⟨16 + q.val, by omega⟩ * rinv (∑ k : Fin 32, p k * p k) * g ⟨16 + q.val, by omega⟩ * sn q := by
  have h1 : pair ⟨q.val, by omega⟩ = q := Fin.ext (Nat.mod_eq_of_lt q.isLt)
  have h2 : other ⟨q.val, by omega⟩ = ⟨16 + q.val, by omega⟩ := Fin.ext (by simp only [other]; omega)
  have h3 : sgn ⟨q.val, by omega⟩ = -1 := if_pos q.isLt
  rw [turn, h1, h2, h3, EReal.neg_mul, one_mul, ← sub_eq_add_neg]

theorem turn_high (p g : Fin 32 → EReal) (cs sn : Fin 16 → EReal) (q : Fin 16) :
    turn p g cs sn ⟨16 + q.val, by omega⟩
      = p ⟨16 + q.val, by omega⟩ * rinv (∑ k : Fin 32, p k * p k) * g ⟨16 + q.val, by omega⟩ * cs q + p ⟨q.val, by omega⟩ * rinv (∑ k : Fin 32, p k * p k) * g ⟨q.val, by omega⟩ * sn q := by
  have h1 : pair ⟨16 + q.val, by omega⟩ = q := Fin.ext (by simp only [pair]; omega)
  have h2 : other ⟨16 + q.val, by omega⟩ = ⟨q.val, by omega⟩ := Fin.ext (by simp only [other]; omega)
  have h3 : sgn ⟨16 + q.val, by omega⟩ = 1 := if_neg (by simp)
  rw [turn, h1, h2, h3, one_mul]

/-- A column whose weights are zero is zero. -/
theorem prj_zero (x g sc sh : Fin 1024 → EReal) : prj x g sc sh (fun _ => 0) = 0 := by
  unfold prj
  simp only [mul_zero, Finset.sum_const_zero]

/-- The squares of 128 numbers that are zero outside lanes 64 to 95 sum to those of the 32 in between. -/
theorem sum_middle (a : Fin 128 → EReal) (h : ∀ k : Fin 128, k.val < 64 ∨ 96 ≤ k.val → a k = 0) :
    ∑ k : Fin 128, a k * a k = ∑ k : Fin 32, a ⟨64 + k.val, by omega⟩ * a ⟨64 + k.val, by omega⟩ := by
  have e1 : ∑ k : Fin 128, a k * a k = ∑ k : Fin 64, a ⟨k.val, by omega⟩ * a ⟨k.val, by omega⟩ + ∑ k : Fin 64, a ⟨64 + k.val, by omega⟩ * a ⟨64 + k.val, by omega⟩ :=
    Fin.sum_univ_add (a := 64) (b := 64) fun k => a k * a k
  have e2 : ∑ k : Fin 64, a ⟨64 + k.val, by omega⟩ * a ⟨64 + k.val, by omega⟩ = ∑ k : Fin 32, a ⟨64 + k.val, by omega⟩ * a ⟨64 + k.val, by omega⟩ + ∑ k : Fin 32, a ⟨64 + (32 + k.val), by omega⟩ * a ⟨64 + (32 + k.val), by omega⟩ :=
    Fin.sum_univ_add (a := 32) (b := 32) fun k : Fin 64 => a ⟨64 + k.val, by omega⟩ * a ⟨64 + k.val, by omega⟩
  rw [e1, e2, Finset.sum_eq_zero (fun k _ => by rw [h _ (.inl k.isLt), mul_zero]),
    Finset.sum_eq_zero (s := Finset.univ) (f := fun k : Fin 32 => a ⟨64 + (32 + k.val), by omega⟩ * a ⟨64 + (32 + k.val), by omega⟩) (fun k _ => by rw [h ⟨64 + (32 + k.val), by omega⟩ (.inr (by show 96 ≤ 64 + (32 + k.val); omega)), mul_zero]), zero_add, add_zero]

end Cert.MlaProj
-- ==== Proof.MlaProj8.lean ====
/- The latent attention's projection of the prompt: what the kernel's blocks of latents, turned keys and state inputs hold. -/
module

public import proofs.«01_k».proof.Proof.Gen.Kernel8Ideal.Value
public import Idealize.ShloMosaic.Lib.Pipeline.ValueKit.Point
public import proofs.«01_k».proof.Proof.MlaProjRow

@[expose] public section

noncomputable section

namespace Cert.MlaProj8

open Idealize.ShloMosaic Idealize.ShloMosaic.TcCoe Cert.Kernel8Ideal Cert.Kernel8Ideal.Gen Cert.Ffn Cert.FoxProj Cert.MlaProj

section

variable (v0 : Vec Ideal S1x512x1024 .f32) (v2 : Vec Ideal S1x1024 .f32) (v4 v6 : Vec Ideal S1x1x1024 .f32) (v27 : Vec Ideal S1024x1408 .bf16)

/-- Column `j` of the product of row `r`, from a kernel's loads. -/
def col (r : Fin 512) (j : Fin 1408) : EReal :=
  prj (fun d => v0 (ix3 0 r d)) (fun d => v2 (ix2 0 d)) (fun d => v4 (ix3 0 0 d)) (fun d => v6 (ix3 0 0 d)) (fun d => v27 (ix2 d j))

/-- The product the kernel computes has these columns. -/
theorem prod_at (r : Fin 512) (j : Fin 1408) : k0_pay3 v0 v2 v4 v6 v27 (ix2 r j) = col v0 v2 v4 v6 v27 r j := by
  pointwise [k0_pay3]
  rfl

end

section

variable (P : FVec Ideal S512x1408 .f32) (r : Fin 512)

/-- The stored latent is the norm of its columns, with its gain. -/
theorem lat_at (g : Vec Ideal S1x256 .f32) (e : Fin 256) :
    k0_pay9 P g (ix3 0 r e) = lat (fun k => P (ix2 r ⟨384 + k.val, by omega⟩)) (fun k => g (ix2 0 k)) e := by
  unfold lat
  pointwise [k0_pay9, k0_pay8]

/-- The stored state inputs are columns of the product. -/
theorem u_at (e : Fin 512) : k0_pay10 P (ix2 r e) = P (ix2 r ⟨640 + e.val, by omega⟩) := by
  pointwise [k0_pay10]

theorem root_at : k0_pay13 P (ix2 r 0) = rinv (∑ k : Fin 128, P (ix2 r ⟨1152 + k.val, by omega⟩) * P (ix2 r ⟨1152 + k.val, by omega⟩)) := by
  unfold rinv
  pointwise [k0_pay13, k0_pay11]

/-- The stored key: one over its root mean square times the key by the gains and cosines and the exchanged key by the gains and sines. -/
theorem key_at (ga gb : Vec Ideal S512x128 .f32) (e : Fin 32) :
    k0_pay16 (k0_pay11 P) (k0_pay12 P) (k0_pay13 P) (k0_pay14 ga) gb (ix3 0 r e)
      = rinv (∑ k : Fin 128, P (ix2 r ⟨1152 + k.val, by omega⟩) * P (ix2 r ⟨1152 + k.val, by omega⟩))
        * (P (ix2 r ⟨1152 + (64 + e.val), by omega⟩) * ga (ix2 r ⟨64 + e.val, by omega⟩) + P (ix2 r ⟨1280 + (64 + e.val), by omega⟩) * gb (ix2 r ⟨64 + e.val, by omega⟩)) := by
  rw [← root_at]
  generalize k0_pay13 P = R
  pointwise [k0_pay16, k0_pay15, k0_pay11, k0_pay12, k0_pay14]

end

section

variable (x0 : Vec Ideal S1x512x1024 .f32) (x1 : Vec Ideal S1x1024 .f32) (x2 x3 : Vec Ideal S1x1x1024 .f32) (x4 x5 x6 x7 : Vec Ideal S512x128 .f32) (x8 : Vec Ideal S1x384 .f32) (x9 : Vec Ideal S1x256 .f32) (x10 : Vec Ideal S1x128 .f32)
  (x11 : Vec Ideal S1024x1408 .bf16) (x12 : Vec Ideal S384x2048 .bf16) (x13 : Vec Ideal S256x1536 .bf16)

/-- The loads of whole blocks. -/
theorem ld_r0 {e' : EltTy} (x : Vec Ideal S1x512x1024 e') : View.ld x r0_0 = x := View.ld_unit_zero (by decide) _ x
theorem ld_r1 {e' : EltTy} (x : Vec Ideal S1x1024 e') : View.ld x r0_1 = x := View.ld_unit_zero (by decide) _ x
theorem ld_r2 {e' : EltTy} (x : Vec Ideal S1x1x1024 e') : View.ld x r0_2 = x := View.ld_unit_zero (by decide) _ x
theorem ld_r3 {e' : EltTy} (x : Vec Ideal S1024x1408 e') : View.ld x r0_3 = x := View.ld_unit_zero (by decide) _ x
theorem ld_r5 {e' : EltTy} (x : Vec Ideal S1x256 e') : View.ld x r0_5 = x := View.ld_unit_zero (by decide) _ x
theorem ld_r8 {e' : EltTy} (x : Vec Ideal S512x128 e') : View.ld x r0_8 = x := View.ld_unit_zero (by decide) _ x

theorem cols_at (r : Fin 512) (j : Fin 1408) : k0_pay74 x0 x1 x2 x3 x4 x5 x6 x7 x8 x9 x10 x11 x12 x13 (ix2 r j) = col x0 x1 x3 x2 x11 r j := by
  unfold k0_pay74
  rw [prod_at, ld_r0, ld_r1, ld_r2, ld_r2, ld_r3]

/-- A row's latent, state inputs and turned key, from the block's inputs. -/
def latOf (r : Fin 512) (e : Fin 256) : EReal := lat (fun k => col x0 x1 x3 x2 x11 r ⟨384 + k.val, by omega⟩) (fun k => x9 (ix2 0 k)) e
def uOf (r : Fin 512) (e : Fin 512) : EReal := col x0 x1 x3 x2 x11 r ⟨640 + e.val, by omega⟩
def keyOf (r : Fin 512) (e : Fin 32) : EReal :=
  rinv (∑ k : Fin 128, col x0 x1 x3 x2 x11 r ⟨1152 + k.val, by omega⟩ * col x0 x1 x3 x2 x11 r ⟨1152 + k.val, by omega⟩)
    * (col x0 x1 x3 x2 x11 r ⟨1152 + (64 + e.val), by omega⟩ * x6 (ix2 r ⟨64 + e.val, by omega⟩) + col x0 x1 x3 x2 x11 r ⟨1280 + (64 + e.val), by omega⟩ * x7 (ix2 r ⟨64 + e.val, by omega⟩))

theorem lat_out (r : Fin 512) (e : Fin 256) : out0_14 x0 x1 x2 x3 x4 x5 x6 x7 x8 x9 x10 x11 x12 x13 (ix3 0 r e) = latOf x0 x1 x2 x3 x9 x11 r e := by
  unfold out0_14
  rw [View.canon_unit_zero (by decide), lat_at, ld_r5]
  simp only [cols_at]
  rfl

theorem u_out (r : Fin 512) (e : Fin 512) : out0_16 x0 x1 x2 x3 x4 x5 x6 x7 x8 x9 x10 x11 x12 x13 (ix2 r e) = uOf x0 x1 x2 x3 x11 r e := by
  unfold out0_16
  rw [View.canon_unit_zero (by decide), u_at, cols_at]
  rfl

theorem key_out (r : Fin 512) (e : Fin 32) : out0_15 x0 x1 x2 x3 x4 x5 x6 x7 x8 x9 x10 x11 x12 x13 (ix3 0 r e) = keyOf x0 x1 x2 x3 x6 x7 x11 r e := by
  unfold out0_15
  rw [View.canon_unit_zero (by decide)]
  unfold k0_pay76 k0_pay77 k0_pay78 k0_pay79
  rw [key_at, ld_r8, ld_r8]
  simp only [cols_at]
  rfl

end

end Cert.MlaProj8
-- ==== Proof.MlaProj8Ref.lean ====
/- The latent attention's projection of the prompt: what its reference's results hold. -/
module

public import proofs.«01_k».proof.Proof.Gen.Reference8Ideal.Read
public import Idealize.ShloMosaic.Lib.Pipeline.Value
public import Idealize.ShloMosaic.Lib.Pointwise
public import proofs.«01_k».proof.Proof.MlaProjRow

@[expose] public section

noncomputable section

namespace Cert.MlaProj8Ref

open Idealize.ShloMosaic Cert.Reference8Ideal Cert.Reference8Ideal.Gen Cert.Reference8Ideal.Read Cert.Ffn Cert.FoxProj Cert.MlaProj

variable (x : (⟨S8x2048x1024, .f32⟩ : BufTy).Contents (Elt Ideal)) (sh sc : (⟨S8x1024, .f32⟩ : BufTy).Contents (Elt Ideal)) (g : (⟨S1024, .f32⟩ : BufTy).Contents (Elt Ideal))
  (w : (⟨S1024x1184, .f32⟩ : BufTy).Contents (Elt Ideal)) (gl : (⟨S256, .f32⟩ : BufTy).Contents (Elt Ideal)) (gk : (⟨S32, .f32⟩ : BufTy).Contents (Elt Ideal))

/-- Column `j` of the projection of row `n` of sequence `b`. -/
def col (b : Fin 8) (n : Fin 2048) (j : Fin 1184) : EReal :=
  prj (fun d => x (ix3 b n d)) (fun d => g (ix1 d)) (fun d => sc (ix2 b d)) (fun d => sh (ix2 b d)) (fun d => w (ix2 d j))

/-- The angle of pair `q` at position `n`, its cosine and its sine. -/
def angle (n : Fin 2048) (q : Fin 16) : EReal := val_main_v61 (F := Ideal) (ix2 n q)
def cosOf (n : Fin 2048) (q : Fin 16) : EReal := Ideal.cos (angle n q)
def sinOf (n : Fin 2048) (q : Fin 16) : EReal := Ideal.sin (angle n q)

/-- The row's latent, normed; its key, normed and turned; its state inputs. -/
def latOf (b : Fin 8) (n : Fin 2048) (e : Fin 256) : EReal := lat (fun k => col x sh sc g w b n ⟨384 + k.val, by omega⟩) (fun k => gl (ix1 k)) e
def keyOf (b : Fin 8) (n : Fin 2048) (e : Fin 32) : EReal :=
  turn (fun k => col x sh sc g w b n ⟨640 + k.val, by omega⟩) (fun k => gk (ix1 k)) (cosOf n) (sinOf n) e
def uOf (b : Fin 8) (n : Fin 2048) (e : Fin 512) : EReal := col x sh sc g w b n ⟨672 + e.val, by omega⟩

theorem mean_at (b : Fin 8) (n : Fin 2048) : val_main_v8 (F := Ideal) x (ix3 b n 0)
    = Ideal.rsqrt ((∑ d : Fin 1024, x (ix3 b n d) * x (ix3 b n d)) * Ideal.ofBits FTy.f32 0x3A800000#32 + Ideal.ofBits FTy.f32 0x358637BD#32) := by
  unfold val_main_v8 val_main_v7 val_main_v6 val_main_v5 val_main_v4 val_main_v3 val_main_v2 val_main_v1
  pointwise [val_main_cst, val_main_cst_0, val_main_cst_1]
  rw [← mean_1024]

theorem h_at (b : Fin 8) (n : Fin 2048) (d : Fin 1024) : val_main_v21 (F := Ideal) x sh sc g (ix3 b n d)
    = hmod (fun d => x (ix3 b n d)) (fun d => g (ix1 d)) (fun d => sc (ix2 b d)) (fun d => sh (ix2 b d)) d := by
  unfold hmod
  rw [← mean_at]
  unfold val_main_v21 val_main_v18 val_main_v13 val_main_v10 val_main_v9
  generalize val_main_v8 (F := Ideal) x = Y
  pointwise [val_main_v20, val_main_v19, val_main_v17, val_main_v16, val_main_v15, val_main_cst_2, val_main_v14, val_main_v12, val_main_v11]

theorem col_at (b : Fin 8) (n : Fin 2048) (j : Fin 1184) : val_main_v22 (F := Ideal) x sh sc g w (ix3 b n j) = col x sh sc g w b n j := by
  unfold col prj
  simp only [← h_at]
  unfold val_main_v22
  generalize val_main_v21 (F := Ideal) x sh sc g = H
  pointwise

/-- The latents. -/
theorem latroot_at (b : Fin 8) (n : Fin 2048) : val_main_v31 (F := Ideal) x sh sc g w (ix3 b n 0)
    = Ideal.rsqrt ((∑ k : Fin 256, col x sh sc g w b n ⟨384 + k.val, by omega⟩ * col x sh sc g w b n ⟨384 + k.val, by omega⟩) * Ideal.ofBits FTy.f32 0x3B800000#32 + Ideal.ofBits FTy.f32 0x358637BD#32) := by
  simp only [← col_at]
  unfold val_main_v31 val_main_v30 val_main_v28 val_main_v26 val_main_v25 val_main_v24 val_main_v23
  generalize val_main_v22 (F := Ideal) x sh sc g w = X
  pointwise [val_main_v29, val_main_v27, val_main_cst_3, val_main_cst_4, val_main_cst_5]
  rw [← mean_256]

theorem lats_at (b : Fin 8) (n : Fin 2048) (e : Fin 256) : val_main_v36 (F := Ideal) x sh sc g w gl (ix3 b n e) = latOf x sh sc g w gl b n e := by
  unfold latOf lat
  rw [← latroot_at]
  beta_reduce
  rw [← col_at]
  unfold val_main_v36 val_main_v33 val_main_v32 val_main_v23
  generalize val_main_v31 (F := Ideal) x sh sc g w = Y
  generalize val_main_v22 (F := Ideal) x sh sc g w = X
  pointwise [val_main_v35, val_main_v34]

/-- The keys, normed. -/
theorem keyroot_at (b : Fin 8) (n : Fin 2048) : val_main_v45 (F := Ideal) x sh sc g w (ix3 b n 0)
    = rinv (∑ k : Fin 32, col x sh sc g w b n ⟨640 + k.val, by omega⟩ * col x sh sc g w b n ⟨640 + k.val, by omega⟩) := by
  unfold rinv
  simp only [← col_at]
  unfold val_main_v45 val_main_v44 val_main_v42 val_main_v40 val_main_v39 val_main_v38 val_main_v37
  generalize val_main_v22 (F := Ideal) x sh sc g w = X
  pointwise [val_main_v43, val_main_v41, val_main_cst_6, val_main_cst_7, val_main_cst_8]
  rw [← mean_32]

theorem normed_at (b : Fin 8) (n : Fin 2048) (e : Fin 32) : val_main_v50 (F := Ideal) x sh sc g w gk (ix3 b n e)
    = col x sh sc g w b n ⟨640 + e.val, by omega⟩ * rinv (∑ k : Fin 32, col x sh sc g w b n ⟨640 + k.val, by omega⟩ * col x sh sc g w b n ⟨640 + k.val, by omega⟩) * gk (ix1 e) := by
  rw [← keyroot_at, ← col_at]
  unfold val_main_v50 val_main_v47 val_main_v46 val_main_v37
  generalize val_main_v45 (F := Ideal) x sh sc g w = Y
  generalize val_main_v22 (F := Ideal) x sh sc g w = X
  pointwise [val_main_v49, val_main_v48]

/-- The cosines and sines. -/
theorem cos_at (n : Fin 2048) (q : Fin 16) : val_main_v63 (F := Ideal) (ix3 0 n q) = cosOf n q := by
  unfold cosOf angle val_main_v63 val_main_v62
  generalize val_main_v61 (F := Ideal) = A
  pointwise

theorem sin_at (n : Fin 2048) (q : Fin 16) : val_main_v65 (F := Ideal) (ix3 0 n q) = sinOf n q := by
  unfold sinOf angle val_main_v65 val_main_v64
  generalize val_main_v61 (F := Ideal) = A
  pointwise

/-- The two halves of the turned key. -/
theorem low_at (b : Fin 8) (n : Fin 2048) (q : Fin 16) : val_main_v72 (F := Ideal) x sh sc g w gk (ix3 b n q) = keyOf x sh sc g w gk b n ⟨q.val, by omega⟩ := by
  unfold keyOf
  rw [turn_low, ← normed_at x sh sc g w gk b n ⟨q.val, by omega⟩, ← normed_at x sh sc g w gk b n ⟨16 + q.val, by omega⟩, ← cos_at, ← sin_at]
  unfold val_main_v72 val_main_v71 val_main_v70 val_main_v69 val_main_v68 val_main_v67 val_main_v66
  generalize val_main_v50 (F := Ideal) x sh sc g w gk = Y
  generalize val_main_v63 (F := Ideal) = C
  generalize val_main_v65 (F := Ideal) = S
  pointwise

theorem high_at (b : Fin 8) (n : Fin 2048) (q : Fin 16) : val_main_v77 (F := Ideal) x sh sc g w gk (ix3 b n q) = keyOf x sh sc g w gk b n ⟨16 + q.val, by omega⟩ := by
  unfold keyOf
  rw [turn_high, ← normed_at x sh sc g w gk b n ⟨q.val, by omega⟩, ← normed_at x sh sc g w gk b n ⟨16 + q.val, by omega⟩, ← cos_at, ← sin_at]
  unfold val_main_v77 val_main_v76 val_main_v75 val_main_v74 val_main_v73 val_main_v67 val_main_v66
  generalize val_main_v50 (F := Ideal) x sh sc g w gk = Y
  generalize val_main_v63 (F := Ideal) = C
  generalize val_main_v65 (F := Ideal) = S
  pointwise

/-- The turned keys. -/
theorem keys_at (b : Fin 8) (n : Fin 2048) (e : Fin 32) : val_main_v78 (F := Ideal) x sh sc g w gk (ix3 b n e) = keyOf x sh sc g w gk b n e := by
  unfold val_main_v78
  by_cases h : e.val < 16
  · have e1 := low_at x sh sc g w gk b n ⟨e.val, h⟩
    rw [show (⟨(⟨e.val, h⟩ : Fin 16).val, by omega⟩ : Fin 32) = e from rfl] at e1
    rw [← e1]
    exact concatenate_pair_apply_left (s₁ := S8x2048x16) (s₂ := S8x2048x16) (t := S8x2048x32) 2 _ _ _ _ rfl (ix3 b n ⟨e.val, h⟩) (fun a => by fin_cases a <;> rfl)
  · have e1 := high_at x sh sc g w gk b n ⟨e.val - 16, by omega⟩
    rw [show (⟨16 + (⟨e.val - 16, by omega⟩ : Fin 16).val, by omega⟩ : Fin 32) = e from Fin.ext (by show 16 + (e.val - 16) = e.val; omega)] at e1
    rw [← e1]
    exact concatenate_pair_apply_right (s₁ := S8x2048x16) (s₂ := S8x2048x16) (t := S8x2048x32) 2 _ _ _ _ rfl rfl (ix3 b n ⟨e.val - 16, by omega⟩)
      (fun a ha => by fin_cases a <;> first | rfl | exact absurd rfl ha) (by show e.val - 16 + 16 = e.val; omega)

/-- The state inputs, by rows of the prompt. -/
theorem us_at (b : Fin 8) (n : Fin 2048) (e : Fin 512) : val_main_v81 (F := Ideal) x sh sc g w (ix2 n ⟨512 * b.val + e.val, by omega⟩) = uOf x sh sc g w b n e := by
  unfold uOf
  rw [← col_at]
  unfold val_main_v81 val_main_v80 val_main_v79
  generalize val_main_v22 (F := Ideal) x sh sc g w = X
  refine (shapeCast_apply (transpose S2048x8x512 [1, 0, 2] (extractStridedSlice S8x2048x512 ![0, 0, 672] X slices_S8x2048x1184_S8x2048x512_0_0_672) transposes_S8x2048x512_S2048x8x512_1_0_2) shapeCasts_S2048x8x512_S2048x4096 (ix2 n ⟨512 * b.val + e.val, by omega⟩) (ix3 n b e)
    (by rewrite [Shape.rowMajor_val_two, Shape.rowMajor_val_three]; have := b.isLt; have := n.isLt; have := e.isLt; show (n.val * 8 + b.val) * 512 + e.val = n.val * 4096 + (512 * b.val + e.val); omega)).trans ?_
  pointwise

end Cert.MlaProj8Ref
-- ==== Proof.MlaProj8Host.lean ====
/- The latent attention's projection of the prompt: what the arrays that its host prepares hold. -/
module

public import proofs.«01_k».proof.Proof.MlaProj8
public import proofs.«01_k».proof.Proof.MlaProj8Ref
public import Idealize.ShloMosaic.Lib.StableHlo.RunRead

@[expose] public section

noncomputable section

namespace Cert.MlaProj8

open Idealize.ShloMosaic Idealize.ShloMosaic.TcCoe Cert.Kernel8Ideal Cert.Kernel8Ideal.Gen Cert.Ffn Cert.FoxProj Cert.MlaProj

variable (m : (ℓ : Loc nD τ sig) → Buf (Elt Ideal) ℓ) (c : Dev nD)

/-- Taking columns, or numbers, in the order a list of indices gives. -/
theorem gather_cols (x : Vec Ideal S1024x32 .f32) (idx : IVec S32x1 32) (d : Fin 1024) (j : Fin 32) :
    Host.gather gather_S1024x32_S32x1_S1024x32_0_1_n_n_1_1_10241 x idx (ix2 d j) = x (ix2 d ⟨min (idx (ix2 j 0)).toInt.toNat 31, by omega⟩) := by
  unfold Host.gather
  congr 1
  funext a
  apply Fin.ext
  have hsi : gather_S1024x32_S32x1_S1024x32_0_1_n_n_1_1_10241.siIdx (ix2 d j) ⟨0, by decide⟩ = ix2 j 0 := by
    funext b; fin_cases b <;> rfl
  fin_cases a
  · show 0 + 0 + d.val = d.val
    omega
  · show min (idx (gather_S1024x32_S32x1_S1024x32_0_1_n_n_1_1_10241.siIdx (ix2 d j) ⟨0, by decide⟩)).toInt.toNat 31 + 0 + 0 = _
    rw [hsi]
    rfl

theorem gather_gains (x : Vec Ideal S32 .f32) (idx : IVec S32x1 32) (j : Fin 32) :
    Host.gather gather_S32_S32x1_S32_n_0_n_n_0_1_1 x idx (ix1 j) = x (ix1 ⟨min (idx (ix2 j 0)).toInt.toNat 31, by omega⟩) := by
  unfold Host.gather
  congr 1
  funext a
  apply Fin.ext
  have hsi : gather_S32_S32x1_S32_n_0_n_n_0_1_1.siIdx (ix1 j) ⟨0, by decide⟩ = ix2 j 0 := by
    funext b; fin_cases b <;> rfl
  fin_cases a
  show min (idx (gather_S32_S32x1_S32_n_0_n_n_0_1_1.siIdx (ix1 j) ⟨0, by decide⟩)).toInt.toNat 31 + 0 + 0 = _
  rw [hsi]
  rfl
/-- Taken in the order of the pairs' partners, the column or number at `j` is the partner's. -/
theorem gather_cols_other (x : Vec Ideal S1024x32 .f32) (idx : IVec S32x1 32) (h : ∀ j : Fin 32, (idx (ix2 j 0)).toInt.toNat = (other j).val) (d : Fin 1024) (j : Fin 32) :
    Host.gather gather_S1024x32_S32x1_S1024x32_0_1_n_n_1_1_10241 x idx (ix2 d j) = x (ix2 d (other j)) := by
  refine (gather_cols x idx d j).trans (congrArg (fun i => x (ix2 d i)) (Fin.ext ?_))
  show min (idx (ix2 j 0)).toInt.toNat 31 = (other j).val
  rw [h j]
  have := (other j).isLt
  omega

theorem gather_gains_other (x : Vec Ideal S32 .f32) (idx : IVec S32x1 32) (h : ∀ j : Fin 32, (idx (ix2 j 0)).toInt.toNat = (other j).val) (j : Fin 32) :
    Host.gather gather_S32_S32x1_S32_n_0_n_n_0_1_1 x idx (ix1 j) = x (ix1 (other j)) := by
  refine (gather_gains x idx j).trans (congrArg (fun i => x (ix1 i)) (Fin.ext ?_))
  show min (idx (ix2 j 0)).toInt.toNat 31 = (other j).val
  rw [h j]
  have := (other j).isLt
  omega

section
variable (a : Vec Ideal S1024x64 .f32) (b : Vec Ideal S1024x32 .f32) (z : Vec Ideal S1024x32 .f32) (d : Fin 1024)
theorem pad_low (k : Fin 128) (hk : k.val < 64) :
    concatenate S1024x128 1 [⟨S1024x64, a⟩, ⟨S1024x32, b⟩, ⟨S1024x32, z⟩] concatenates_S1024x64_S1024x32_S1024x32_S1024x128_d1 (ix2 d k) = a (ix2 d ⟨k.val, hk⟩) :=
  concatenate_apply_piece (t := S1024x128) 1 [⟨S1024x64, a⟩, ⟨S1024x32, b⟩, ⟨S1024x32, z⟩] concatenates_S1024x64_S1024x32_S1024x32_S1024x128_d1 (ix2 d k) 0 (by decide : 0 < 3) S1024x64 a rfl rfl 0 rfl (ix2 d ⟨k.val, hk⟩)
    (fun b hb => by fin_cases b <;> first | rfl | exact absurd rfl hb) (Nat.zero_add _)
theorem pad_mid (k : Fin 32) :
    concatenate S1024x128 1 [⟨S1024x64, a⟩, ⟨S1024x32, b⟩, ⟨S1024x32, z⟩] concatenates_S1024x64_S1024x32_S1024x32_S1024x128_d1 (ix2 d ⟨64 + k.val, by omega⟩) = b (ix2 d k) :=
  concatenate_apply_piece (t := S1024x128) 1 [⟨S1024x64, a⟩, ⟨S1024x32, b⟩, ⟨S1024x32, z⟩] concatenates_S1024x64_S1024x32_S1024x32_S1024x128_d1 (ix2 d ⟨64 + k.val, by omega⟩) 1 (by decide : 1 < 3) S1024x32 b rfl rfl 64 rfl (ix2 d k)
    (fun b hb => by fin_cases b <;> first | rfl | exact absurd rfl hb) rfl
theorem pad_high (k : Fin 128) (hk : 96 ≤ k.val) :
    concatenate S1024x128 1 [⟨S1024x64, a⟩, ⟨S1024x32, b⟩, ⟨S1024x32, z⟩] concatenates_S1024x64_S1024x32_S1024x32_S1024x128_d1 (ix2 d k) = z (ix2 d ⟨k.val - 96, by omega⟩) :=
  concatenate_apply_piece (t := S1024x128) 1 [⟨S1024x64, a⟩, ⟨S1024x32, b⟩, ⟨S1024x32, z⟩] concatenates_S1024x64_S1024x32_S1024x32_S1024x128_d1 (ix2 d k) 2 (by decide : 2 < 3) S1024x32 z rfl rfl 96 rfl (ix2 d ⟨k.val - 96, by omega⟩)
    (fun b hb => by fin_cases b <;> first | rfl | exact absurd rfl hb) (by show 96 + (k.val - 96) = k.val; omega)
end

section
variable (a : Vec Ideal S1024x640 .f32) (b : Vec Ideal S1024x512 .f32) (p q : Vec Ideal S1024x128 .f32) (d : Fin 1024)
theorem cols_lat (k : Fin 640) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨k.val, by omega⟩) = a (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨k.val, by omega⟩) 0 (by decide : 0 < 4) S1024x640 a rfl rfl 0 rfl (ix2 d k)
    (fun b hb => by fin_cases b <;> first | rfl | exact absurd rfl hb) (Nat.zero_add _)
theorem cols_u (k : Fin 512) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨640 + k.val, by omega⟩) = b (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨640 + k.val, by omega⟩) 1 (by decide : 1 < 4) S1024x512 b rfl rfl 640 rfl (ix2 d k)
    (fun b hb => by fin_cases b <;> first | rfl | exact absurd rfl hb) rfl
theorem cols_key (k : Fin 128) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨1152 + k.val, by omega⟩) = p (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨1152 + k.val, by omega⟩) 2 (by decide : 2 < 4) S1024x128 p rfl rfl 1152 rfl (ix2 d k)
    (fun b hb => by fin_cases b <;> first | rfl | exact absurd rfl hb) rfl
theorem cols_other (k : Fin 128) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨1280 + k.val, by omega⟩) = q (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨1280 + k.val, by omega⟩) 3 (by decide : 3 < 4) S1024x128 q rfl rfl 1280 rfl (ix2 d k)
    (fun b hb => by fin_cases b <;> first | rfl | exact absurd rfl hb) rfl
end

theorem tab_mid (a : Vec Ideal S2048x64 .f32) (b z : Vec Ideal S2048x32 .f32) (n : Fin 2048) (k : Fin 32) :
    concatenate S2048x128 1 [⟨S2048x64, a⟩, ⟨S2048x32, b⟩, ⟨S2048x32, z⟩] concatenates_S2048x64_S2048x32_S2048x32_S2048x128_d1 (ix2 n ⟨64 + k.val, by omega⟩) = b (ix2 n k) :=
  concatenate_apply_piece (t := S2048x128) 1 [⟨S2048x64, a⟩, ⟨S2048x32, b⟩, ⟨S2048x32, z⟩] concatenates_S2048x64_S2048x32_S2048x32_S2048x128_d1 (ix2 n ⟨64 + k.val, by omega⟩) 1 (by decide : 1 < 3) S2048x32 b rfl rfl 64 rfl (ix2 n k)
    (fun b hb => by fin_cases b <;> first | rfl | exact absurd rfl hb) rfl

theorem tab_two (a b : Vec Ideal S2048x16 .f32) (n : Fin 2048) (k : Fin 32) (y : EReal) (ha : a (ix2 n (pair k)) = y) (hb : b (ix2 n (pair k)) = y) :
    concatenate S2048x32 1 [⟨S2048x16, a⟩, ⟨S2048x16, b⟩] concatenates_S2048x16_S2048x16_S2048x32_d1 (ix2 n k) = y := by
  by_cases h : k.val < 16
  · exact (concatenate_apply_piece (t := S2048x32) 1 [⟨S2048x16, a⟩, ⟨S2048x16, b⟩] concatenates_S2048x16_S2048x16_S2048x32_d1 (ix2 n k) 0 (by decide : 0 < 2) S2048x16 a rfl rfl 0 rfl (ix2 n (pair k))
      (fun b hb => by fin_cases b <;> first | rfl | exact absurd rfl hb) (by show 0 + k.val % 16 = k.val; omega)).trans ha
  · exact (concatenate_apply_piece (t := S2048x32) 1 [⟨S2048x16, a⟩, ⟨S2048x16, b⟩] concatenates_S2048x16_S2048x16_S2048x32_d1 (ix2 n k) 1 (by decide : 1 < 2) S2048x16 b rfl rfl 16 rfl (ix2 n (pair k))
      (fun b hb => by fin_cases b <;> first | rfl | exact absurd rfl hb) (by show 16 + k.val % 16 = k.val; omega)).trans hb

/-- The columns of the weights in the order the kernel takes them: those of the queries' and the latents', the state inputs', the key's with zeros around them, the key's in the partners' order. -/
theorem w_other (d : Fin 1024) (e : Fin 32) : V m c main_v29 (ix2 d ⟨1280 + (64 + e.val), by omega⟩) = m ((c : Thread nD τ).loc main_arg4) (ix2 d ⟨640 + (other e).val, by omega⟩) := by
  after_reads_simp
  refine (cols_other _ _ _ _ d ⟨64 + e.val, by omega⟩).trans ?_
  simp only [Matrix.cons_val]
  after_reads_simp
  refine (pad_mid _ _ _ d e).trans ?_
  simp only [Matrix.cons_val]
  after_reads_simp
  refine (gather_cols_other _ _ ?_ d e).trans ?_
  · decide +kernel
  · pointwise

theorem w_key (d : Fin 1024) (e : Fin 32) : V m c main_v29 (ix2 d ⟨1152 + (64 + e.val), by omega⟩) = m ((c : Thread nD τ).loc main_arg4) (ix2 d ⟨640 + e.val, by omega⟩) := by
  after_reads_simp
  refine (cols_key _ _ _ _ d ⟨64 + e.val, by omega⟩).trans ?_
  simp only [Matrix.cons_val]
  after_reads_simp
  refine (pad_mid _ _ _ d e).trans ?_
  simp only [Matrix.cons_val]
  after_reads_simp
  pointwise

theorem w_lat (d : Fin 1024) (k : Fin 640) : V m c main_v29 (ix2 d ⟨k.val, by omega⟩) = m ((c : Thread nD τ).loc main_arg4) (ix2 d ⟨k.val, by omega⟩) := by
  after_reads_simp
  refine (cols_lat _ _ _ _ d k).trans ?_
  simp only [Matrix.cons_val]
  after_reads_simp
  pointwise

theorem w_u (d : Fin 1024) (k : Fin 512) : V m c main_v29 (ix2 d ⟨640 + k.val, by omega⟩) = m ((c : Thread nD τ).loc main_arg4) (ix2 d ⟨672 + k.val, by omega⟩) := by
  after_reads_simp
  refine (cols_u _ _ _ _ d k).trans ?_
  simp only [Matrix.cons_val]
  after_reads_simp
  pointwise

theorem w_low (d : Fin 1024) (k : Fin 128) (hk : k.val < 64) : V m c main_v29 (ix2 d ⟨1152 + k.val, by omega⟩) = (0 : EReal) := by
  after_reads_simp
  refine (cols_key _ _ _ _ d k).trans ?_
  simp only [Matrix.cons_val]
  after_reads_simp
  refine (pad_low _ _ _ d k hk).trans ?_
  simp only [Matrix.cons_val]
  after_reads_simp
  pointwise

theorem w_high (d : Fin 1024) (k : Fin 128) (hk : 96 ≤ k.val) : V m c main_v29 (ix2 d ⟨1152 + k.val, by omega⟩) = (0 : EReal) := by
  after_reads_simp
  refine (cols_key _ _ _ _ d k).trans ?_
  simp only [Matrix.cons_val]
  after_reads_simp
  refine (pad_high _ _ _ d k hk).trans ?_
  simp only [Matrix.cons_val]
  after_reads_simp
  pointwise

/-- The key's gains. -/
def gains (e : Fin 32) : EReal := m ((c : Thread nD τ).loc main_arg12) (ix1 e)

/-- The signs: minus one for the first half, one for the second. -/
theorem sign_at (e : Fin 32) : select (cmpi CmpIPredicate.slt (iotaInDim S32 32 0) (broadcastInDim S32 ![] bcast_S_S32 (constantI S_ 32 16#32)))
    (broadcastInDim S32 ![] bcast_S_S32 (constant (F := Ideal) S_ FTy.f32 0xBF800000#32)) (broadcastInDim S32 ![] bcast_S_S32 (constant (F := Ideal) S_ FTy.f32 0x3F800000#32)) (ix1 e) = sgn e := by
  unfold sgn
  pointwise
  have h : IntOp.cmpi CmpIPredicate.slt (BitVec.ofNat 32 e.val) 16#32 = if e.val < 16 then 1 else 0 := by revert e; decide +kernel
  have h1 : Ideal.ofBits FTy.f32 3212836864#32 = -1 := by simp [Ideal.ofBits, Ideal.ieee]; rw [← EReal.coe_mul]; norm_num
  rw [h, h1]
  by_cases h2 : e.val < 16
  · rw [if_pos h2, if_pos h2]; rfl
  · rw [if_neg h2, if_neg h2]; rfl

/-- The tables of cosines and of signed sines, with the gains. -/
theorem ga_v (n : Fin 2048) (e : Fin 32) : V m c main_v121 (ix2 n ⟨64 + e.val, by omega⟩) = gains m c e * Cert.MlaProj8Ref.cosOf n (pair e) := by
  after_reads_simp
  refine (tab_mid _ _ _ n e).trans ?_
  simp only [Matrix.cons_val]
  after_reads_simp
  refine congrArg₂ (fun a b : EReal => a * b) ?_ (tab_two _ _ n e _ ?_ ?_)
  · unfold gains
    pointwise
  · rfl
  · rfl

theorem gb_v (n : Fin 2048) (e : Fin 32) : V m c main_v133 (ix2 n ⟨64 + e.val, by omega⟩) = sgn e * gains m c (other e) * Cert.MlaProj8Ref.sinOf n (pair e) := by
  after_reads_simp
  refine (tab_mid _ _ _ n e).trans ?_
  simp only [Matrix.cons_val]
  after_reads_simp
  refine congrArg₂ (fun a b : EReal => a * b) ?_ (tab_two _ _ n e _ ?_ ?_)
  · pointwise
    refine congrArg₂ (fun a b : EReal => a * b) ?_ (gather_gains_other _ _ ?_ e)
    · exact sign_at e
    · decide +kernel
  · rfl
  · rfl

end Cert.MlaProj8
-- ==== Proof.MlaProj8Final.lean ====
/- The latent attention's projection of the prompt: the arrays its kernel leaves are its reference's results. -/
module

public import proofs.«01_k».proof.Proof.MlaProj8Host

@[expose] public section

noncomputable section

namespace Cert.MlaProj8

open Idealize.ShloMosaic Idealize.ShloMosaic.TcCoe Cert.Kernel8Ideal Cert.Kernel8Ideal.Gen Cert.Ffn Cert.FoxProj Cert.MlaProj

variable (m : (ℓ : Loc nD τ sig) → Buf (Elt Ideal) ℓ) (c : Dev nD)

/-- The block each window shows at a point. -/
theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![(grid0.coords t 0).val, 0, 0] :=
  (by decide +kernel : ∀ t : Fin grid0.N, win0_2.index t = ![(grid0.coords t 0).val, 0, 0])
theorem idx3 : ∀ t : Fin cfg0.N, win0_3.index t = ![(grid0.coords t 0).val, 0, 0] :=
  (by decide +kernel : ∀ t : Fin grid0.N, win0_3.index t = ![(grid0.coords t 0).val, 0, 0])
theorem idx6 : ∀ t : Fin cfg0.N, win0_6.index t = ![(grid0.coords t 1).val, 0] :=
  (by decide +kernel : ∀ t : Fin grid0.N, win0_6.index t = ![(grid0.coords t 1).val, 0])
theorem idx7 : ∀ t : Fin cfg0.N, win0_7.index t = ![(grid0.coords t 1).val, 0] :=
  (by decide +kernel : ∀ t : Fin grid0.N, win0_7.index t = ![(grid0.coords t 1).val, 0])
theorem idx9 : ∀ t : Fin cfg0.N, win0_9.index t = ![0, 0] :=
  (by decide +kernel : ∀ t : Fin grid0.N, win0_9.index t = ![0, 0])
theorem idx11 : ∀ t : Fin cfg0.N, win0_11.index t = ![0, 0] :=
  (by decide +kernel : ∀ t : Fin grid0.N, win0_11.index t = ![0, 0])
theorem idx14 : ∀ t : Fin cfg0.N, win0_14.index t = ![(grid0.coords t 0).val, (grid0.coords t 1).val, 0] :=
  (by decide +kernel : ∀ t : Fin grid0.N, win0_14.index t = ![(grid0.coords t 0).val, (grid0.coords t 1).val, 0])
theorem idx15 : ∀ t : Fin cfg0.N, win0_15.index t = ![(grid0.coords t 0).val, (grid0.coords t 1).val, 0] :=
  (by decide +kernel : ∀ t : Fin grid0.N, win0_15.index t = ![(grid0.coords t 0).val, (grid0.coords t 1).val, 0])
theorem idx16 : ∀ t : Fin cfg0.N, win0_16.index t = ![(grid0.coords t 1).val, (grid0.coords t 0).val] :=
  (by decide +kernel : ∀ t : Fin grid0.N, win0_16.index t = ![(grid0.coords t 1).val, (grid0.coords t 0).val])

/-- The sequence and the row of a block's parts. -/
def bat (i : grid0.Coords) : Fin 8 := ⟨(i 0).val, (i 0).isLt⟩
def tok (i : grid0.Coords) (r : Fin 512) : Fin 2048 := ⟨512 * (i 1).val + r.val, by have : (i 1).val < 4 := (i 1).isLt; omega⟩

/-- The indices of the results' blocks. -/
theorem lat_idx (y : S1x512x256.Idx) : ∃ (r : Fin 512) (e : Fin 256), y = ix3 0 r e := ⟨y 1, y 2, by blk_ext⟩
theorem key_idx (y : S1x512x32.Idx) : ∃ (r : Fin 512) (e : Fin 32), y = ix3 0 r e := ⟨y 1, y 2, by blk_ext⟩
theorem u_idx (y : S512x512.Idx) : ∃ (r : Fin 512) (e : Fin 512), y = ix2 r e := ⟨y 0, y 1, by blk_ext⟩

/-- What the windows show. -/
theorem blk_x (t : Fin cfg0.N) (r : Fin 512) (d : Fin 1024) : iblk m c 0 t (ix3 0 r d) = m ((c : Thread nD τ).loc main_arg0) (ix3 (bat (grid0.coords t)) (tok (grid0.coords t) r) d) := by
  blk_simp [iblk]
  after_reads_simp
  unfold bat tok
  blk_ext [idx0 t]

theorem blk_g (t : Fin cfg0.N) (d : Fin 1024) : iblk m c 1 t (ix2 0 d) = m ((c : Thread nD τ).loc main_arg3) (ix1 d) := by
  blk_simp [iblk]
  after_reads_simp
  pointwise
  blk_ext [idx1 t]

theorem blk_sh (t : Fin cfg0.N) (d : Fin 1024) : iblk m c 2 t (ix3 0 0 d) = m ((c : Thread nD τ).loc main_arg1) (ix2 (bat (grid0.coords t)) d) := by
  blk_simp [iblk]
  after_reads_simp
  pointwise
  unfold bat
  blk_ext [idx2 t]

theorem blk_sc (t : Fin cfg0.N) (d : Fin 1024) : iblk m c 3 t (ix3 0 0 d) = m ((c : Thread nD τ).loc main_arg2) (ix2 (bat (grid0.coords t)) d) := by
  blk_simp [iblk]
  after_reads_simp
  pointwise
  unfold bat
  blk_ext [idx3 t]

theorem blk_gl (t : Fin cfg0.N) (k : Fin 256) : iblk m c 9 t (ix2 0 k) = m ((c : Thread nD τ).loc main_arg6) (ix1 k) := by
  blk_simp [iblk]
  after_reads_simp
  pointwise
  blk_ext [idx9 t]

theorem blk_ga (t : Fin cfg0.N) (r : Fin 512) (e : Fin 32) : iblk m c 6 t (ix2 r ⟨64 + e.val, by omega⟩) = gains m c e * Cert.MlaProj8Ref.cosOf (tok (grid0.coords t) r) (pair e) := by
  refine Eq.trans ?_ (ga_v m c (tok (grid0.coords t) r) e)
  blk_simp [iblk]
  unfold tok
  refine congrArg (V m c main_v121) ?_
  blk_ext [idx6 t]

theorem blk_gb (t : Fin cfg0.N) (r : Fin 512) (e : Fin 32) : iblk m c 7 t (ix2 r ⟨64 + e.val, by omega⟩) = sgn e * gains m c (other e) * Cert.MlaProj8Ref.sinOf (tok (grid0.coords t) r) (pair e) := by
  refine Eq.trans ?_ (gb_v m c (tok (grid0.coords t) r) e)
  blk_simp [iblk]
  unfold tok
  refine congrArg (V m c main_v133) ?_
  blk_ext [idx7 t]

theorem blk_w (t : Fin cfg0.N) (d : Fin 1024) (j : Fin 1408) : iblk m c 11 t (ix2 d j) = V m c main_v29 (ix2 d j) := by
  blk_simp [iblk]
  refine congrArg (V m c main_v29) ?_
  blk_ext [idx11 t]

/-- A column of a block's product is the reference's column that has its weights. -/
theorem col_of (t : Fin cfg0.N) (r : Fin 512) (j : Fin 1408) (j' : Fin 1184) (h : ∀ d : Fin 1024, V m c main_v29 (ix2 d j) = m ((c : Thread nD τ).loc main_arg4) (ix2 d j')) :
    col (iblk m c 0 t) (iblk m c 1 t) (iblk m c 3 t) (iblk m c 2 t) (iblk m c 11 t) r j
      = Cert.MlaProj8Ref.col (m ((c : Thread nD τ).loc main_arg0)) (m ((c : Thread nD τ).loc main_arg1)) (m ((c : Thread nD τ).loc main_arg2)) (m ((c : Thread nD τ).loc main_arg3)) (m ((c : Thread nD τ).loc main_arg4)) (bat (grid0.coords t)) (tok (grid0.coords t) r) j' := by
  unfold col Cert.MlaProj8Ref.col
  simp only [blk_x, blk_g, blk_sh, blk_sc, blk_w, h]

/-- A column of a block's product without weights is zero. -/
theorem col_zero (t : Fin cfg0.N) (r : Fin 512) (j : Fin 1408) (h : ∀ d : Fin 1024, V m c main_v29 (ix2 d j) = (0 : EReal)) :
    col (iblk m c 0 t) (iblk m c 1 t) (iblk m c 3 t) (iblk m c 2 t) (iblk m c 11 t) r j = 0 := by
  unfold col
  simp only [blk_w, h]
  exact prj_zero _ _ _ _

/-- The latents: a block's entry, and the array. -/
theorem ckvRow (t : Fin cfg0.N) (r : Fin 512) (e : Fin 256) : (dats m 0 c).after 14 t (ix3 0 r e)
    = Cert.MlaProj8Ref.latOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (bat (grid0.coords t)) (tok (grid0.coords t) r) e := by
  rw [after0_14, lat_out]
  unfold latOf Cert.MlaProj8Ref.latOf
  refine congrArg₂ (fun p g => lat p g e) (funext fun k => col_of m c t r ⟨384 + k.val, by omega⟩ ⟨384 + k.val, by omega⟩ fun d => w_lat m c d ⟨384 + k.val, by omega⟩) (funext fun k => blk_gl m c t k)

theorem ckvArray : (dats m 0 c).arrAt 14 cfg0.N = Cert.Reference8Ideal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 14 _ (by decide +kernel) fun t hf y => ?_
  obtain ⟨r, e, rfl⟩ := lat_idx y
  have e' : ((cfg0.win 14).blk t).view.emb (ix3 0 r e) = ix3 (bat (grid0.coords t)) (tok (grid0.coords t) r) e := by
    unfold bat tok
    blk_ext [idx14 t]
  blk_simp
  rw [ckvRow]
  refine Eq.trans ?_ (congrArg (Cert.Reference8Ideal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) e'.symm)
  exact (Cert.MlaProj8Ref.lats_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _ _).symm

/-- The turned keys: a block's entry, and the array. -/
theorem kpeRow (t : Fin cfg0.N) (r : Fin 512) (e : Fin 32) : (dats m 0 c).after 15 t (ix3 0 r e)
    = Cert.MlaProj8Ref.keyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (bat (grid0.coords t)) (tok (grid0.coords t) r) e := by
  rw [after0_15, key_out]
  unfold keyOf Cert.MlaProj8Ref.keyOf
  rw [← turn_eq, sum_middle _ fun k hk => col_zero m c t r ⟨1152 + k.val, by omega⟩ fun d => hk.elim (w_low m c d k) (w_high m c d k)]
  have hk : ∀ k : Fin 32, _ = _ := fun k => col_of m c t r ⟨1152 + (64 + k.val), by omega⟩ ⟨640 + k.val, by omega⟩ fun d => w_key m c d k
  have ho := col_of m c t r ⟨1280 + (64 + e.val), by omega⟩ ⟨640 + (other e).val, by omega⟩ fun d => w_other m c d e
  simp only [hk, ho, blk_ga, blk_gb]
  rfl

theorem kpeArray : (dats m 0 c).arrAt 15 cfg0.N = Cert.Reference8Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) := by
  refine (dats m 0 c).arrAt_eq_of_covers 15 _ (by decide +kernel) fun t hf y => ?_
  obtain ⟨r, e, rfl⟩ := key_idx y
  have e' : ((cfg0.win 15).blk t).view.emb (ix3 0 r e) = ix3 (bat (grid0.coords t)) (tok (grid0.coords t) r) e := by
    unfold bat tok
    blk_ext [idx15 t]
  blk_simp
  rw [kpeRow]
  refine Eq.trans ?_ (congrArg (Cert.Reference8Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12))) e'.symm)
  exact (Cert.MlaProj8Ref.keys_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) _ _ _).symm

/-- The state inputs: a block's entry, and the array. -/
theorem uRow (t : Fin cfg0.N) (r : Fin 512) (e : Fin 512) : (dats m 0 c).after 16 t (ix2 r e)
    = Cert.MlaProj8Ref.uOf (m ((c : Thread nD τ).loc main_arg0)) (m ((c : Thread nD τ).loc main_arg1)) (m ((c : Thread nD τ).loc main_arg2)) (m ((c : Thread nD τ).loc main_arg3)) (m ((c : Thread nD τ).loc main_arg4)) (bat (grid0.coords t)) (tok (grid0.coords t) r) e := by
  rw [after0_16, u_out]
  unfold uOf Cert.MlaProj8Ref.uOf
  exact col_of m c t r ⟨640 + e.val, by omega⟩ ⟨672 + e.val, by omega⟩ fun d => w_u m c d e

theorem uArray : (dats m 0 c).arrAt 16 cfg0.N = Cert.Reference8Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  obtain ⟨r, e, rfl⟩ := u_idx y
  have e' : ((cfg0.win 16).blk t).view.emb (ix2 r e) = ix2 (tok (grid0.coords t) r) ⟨512 * (bat (grid0.coords t)).val + e.val, by omega⟩ := by
    unfold bat tok
    blk_ext [idx16 t]
  blk_simp
  rw [uRow]
  refine Eq.trans ?_ (congrArg (Cert.Reference8Ideal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e'.symm)
  exact (Cert.MlaProj8Ref.us_at (m ((c : Thread nD τ).loc main_arg0)) (m ((c : Thread nD τ).loc main_arg1)) (m ((c : Thread nD τ).loc main_arg2)) (m ((c : Thread nD τ).loc main_arg3)) (m ((c : Thread nD τ).loc main_arg4)) _ _ _).symm

end Cert.MlaProj8
-- ==== Proof.MlaProj9.lean ====
/- The latent attention's projection of the sample: what the kernel's blocks of latents, turned keys and state inputs hold. -/
module

public import proofs.«01_k».proof.Proof.Gen.Kernel9Ideal.Value
public import Idealize.ShloMosaic.Lib.Pipeline.ValueKit.Point
public import proofs.«01_k».proof.Proof.MlaProjRow

@[expose] public section

noncomputable section

namespace Cert.MlaProj9

open Idealize.ShloMosaic Idealize.ShloMosaic.TcCoe Cert.Kernel9Ideal Cert.Kernel9Ideal.Gen Cert.Ffn Cert.FoxProj Cert.MlaProj

section

variable (v0 : Vec Ideal S1x256x1024 .f32) (v2 : Vec Ideal S1x1024 .f32) (v4 v6 : Vec Ideal S1x256x1024 .f32) (v27 : Vec Ideal S1024x1408 .bf16)

/-- Column `j` of the product of row `r`, from a kernel's loads. -/
def col (r : Fin 256) (j : Fin 1408) : EReal :=
  prj (fun d => v0 (ix3 0 r d)) (fun d => v2 (ix2 0 d)) (fun d => v4 (ix3 0 r d)) (fun d => v6 (ix3 0 r d)) (fun d => v27 (ix2 d j))

/-- The product the kernel computes has these columns. -/
theorem prod_at (r : Fin 256) (j : Fin 1408) : k0_pay3 v0 v2 v4 v6 v27 (ix2 r j) = col v0 v2 v4 v6 v27 r j := by
  pointwise [k0_pay3]
  rfl

end

section

variable (P : FVec Ideal S256x1408 .f32) (r : Fin 256)

/-- The stored latent is the norm of its columns, with its gain. -/
theorem lat_at (g : Vec Ideal S1x256 .f32) (e : Fin 256) :
    k0_pay8 P g (ix3 0 r e) = lat (fun k => P (ix2 r ⟨384 + k.val, by omega⟩)) (fun k => g (ix2 0 k)) e := by
  unfold lat
  pointwise [k0_pay8, k0_pay7]

/-- The stored state inputs are columns of the product. -/
theorem u_at (e : Fin 512) : k0_pay9 P (ix2 r e) = P (ix2 r ⟨640 + e.val, by omega⟩) := by
  pointwise [k0_pay9]

theorem root_at : k0_pay12 P (ix2 r 0) = rinv (∑ k : Fin 128, P (ix2 r ⟨1152 + k.val, by omega⟩) * P (ix2 r ⟨1152 + k.val, by omega⟩)) := by
  unfold rinv
  pointwise [k0_pay12, k0_pay10]

/-- The stored key: one over its root mean square times the key by the gains and cosines and the exchanged key by the gains and sines. -/
theorem key_at (ga gb : Vec Ideal S256x128 .f32) (e : Fin 32) :
    k0_pay15 (k0_pay11 P) (k0_pay12 P) (k0_pay13 P ga) gb (ix3 0 r e)
      = rinv (∑ k : Fin 128, P (ix2 r ⟨1152 + k.val, by omega⟩) * P (ix2 r ⟨1152 + k.val, by omega⟩))
        * (P (ix2 r ⟨1152 + (64 + e.val), by omega⟩) * ga (ix2 r ⟨64 + e.val, by omega⟩) + P (ix2 r ⟨1280 + (64 + e.val), by omega⟩) * gb (ix2 r ⟨64 + e.val, by omega⟩)) := by
  rw [← root_at]
  generalize k0_pay12 P = R
  pointwise [k0_pay15, k0_pay14, k0_pay10, k0_pay11, k0_pay13]

end

section

variable (x0 : Vec Ideal S1x256x1024 .f32) (x1 : Vec Ideal S1x1024 .f32) (x2 x3 : Vec Ideal S1x256x1024 .f32) (x4 x5 x6 x7 : Vec Ideal S256x128 .f32) (x8 : Vec Ideal S1x384 .f32) (x9 : Vec Ideal S1x256 .f32) (x10 : Vec Ideal S1x128 .f32)
  (x11 : Vec Ideal S1024x1408 .bf16) (x12 : Vec Ideal S384x2048 .bf16) (x13 : Vec Ideal S256x1536 .bf16)

/-- The loads of whole blocks. -/
theorem ld_r0 {e' : EltTy} (x : Vec Ideal S1x256x1024 e') : View.ld x r0_0 = x := View.ld_unit_zero (by decide) _ x
theorem ld_r1 {e' : EltTy} (x : Vec Ideal S1x1024 e') : View.ld x r0_1 = x := View.ld_unit_zero (by decide) _ x
theorem ld_r2 {e' : EltTy} (x : Vec Ideal S1024x1408 e') : View.ld x r0_2 = x := View.ld_unit_zero (by decide) _ x
theorem ld_r4 {e' : EltTy} (x : Vec Ideal S1x256 e') : View.ld x r0_4 = x := View.ld_unit_zero (by decide) _ x
theorem ld_r7 {e' : EltTy} (x : Vec Ideal S256x128 e') : View.ld x r0_7 = x := View.ld_unit_zero (by decide) _ x

theorem cols_at (r : Fin 256) (j : Fin 1408) : k0_pay70 x0 x1 x2 x3 x4 x5 x6 x7 x8 x9 x10 x11 x12 x13 (ix2 r j) = col x0 x1 x3 x2 x11 r j := by
  unfold k0_pay70
  rw [prod_at, ld_r0, ld_r1, ld_r0, ld_r0, ld_r2]

/-- A row's latent, state inputs and turned key, from the block's inputs. -/
def latOf (r : Fin 256) (e : Fin 256) : EReal := lat (fun k => col x0 x1 x3 x2 x11 r ⟨384 + k.val, by omega⟩) (fun k => x9 (ix2 0 k)) e
def uOf (r : Fin 256) (e : Fin 512) : EReal := col x0 x1 x3 x2 x11 r ⟨640 + e.val, by omega⟩
def keyOf (r : Fin 256) (e : Fin 32) : EReal :=
  rinv (∑ k : Fin 128, col x0 x1 x3 x2 x11 r ⟨1152 + k.val, by omega⟩ * col x0 x1 x3 x2 x11 r ⟨1152 + k.val, by omega⟩)
    * (col x0 x1 x3 x2 x11 r ⟨1152 + (64 + e.val), by omega⟩ * x6 (ix2 r ⟨64 + e.val, by omega⟩) + col x0 x1 x3 x2 x11 r ⟨1280 + (64 + e.val), by omega⟩ * x7 (ix2 r ⟨64 + e.val, by omega⟩))

theorem lat_out (r : Fin 256) (e : Fin 256) : out0_14 x0 x1 x2 x3 x4 x5 x6 x7 x8 x9 x10 x11 x12 x13 (ix3 0 r e) = latOf x0 x1 x2 x3 x9 x11 r e := by
  unfold out0_14
  rw [View.canon_unit_zero (by decide), lat_at, ld_r4]
  simp only [cols_at]
  rfl

theorem u_out (r : Fin 256) (e : Fin 512) : out0_16 x0 x1 x2 x3 x4 x5 x6 x7 x8 x9 x10 x11 x12 x13 (ix2 r e) = uOf x0 x1 x2 x3 x11 r e := by
  unfold out0_16
  rw [View.canon_unit_zero (by decide), u_at, cols_at]
  rfl

theorem key_out (r : Fin 256) (e : Fin 32) : out0_15 x0 x1 x2 x3 x4 x5 x6 x7 x8 x9 x10 x11 x12 x13 (ix3 0 r e) = keyOf x0 x1 x2 x3 x6 x7 x11 r e := by
  unfold out0_15
  rw [View.canon_unit_zero (by decide)]
  unfold k0_pay72 k0_pay73 k0_pay74
  rw [key_at, ld_r7, ld_r7]
  simp only [cols_at]
  rfl

end

end Cert.MlaProj9
-- ==== Proof.MlaProj9Ref.lean ====
/- The latent attention's projection of the sample: what its reference's results hold. -/
module

public import proofs.«01_k».proof.Proof.Gen.Reference9Ideal.Read
public import Idealize.ShloMosaic.Lib.Pipeline.Value
public import Idealize.ShloMosaic.Lib.Pointwise
public import proofs.«01_k».proof.Proof.MlaProjRow

@[expose] public section

noncomputable section

namespace Cert.MlaProj9Ref

open Idealize.ShloMosaic Cert.Reference9Ideal Cert.Reference9Ideal.Gen Cert.Reference9Ideal.Read Cert.Ffn Cert.FoxProj Cert.MlaProj

variable (x : (⟨S32x8x1024, .f32⟩ : BufTy).Contents (Elt Ideal)) (sh sc : (⟨S32x1024, .f32⟩ : BufTy).Contents (Elt Ideal)) (g : (⟨S1024, .f32⟩ : BufTy).Contents (Elt Ideal))
  (w : (⟨S1024x1184, .f32⟩ : BufTy).Contents (Elt Ideal)) (gl : (⟨S256, .f32⟩ : BufTy).Contents (Elt Ideal)) (gk : (⟨S32, .f32⟩ : BufTy).Contents (Elt Ideal))

/-- Column `j` of the projection of row `n` of sequence `b`. -/
def col (b : Fin 32) (n : Fin 8) (j : Fin 1184) : EReal :=
  prj (fun d => x (ix3 b n d)) (fun d => g (ix1 d)) (fun d => sc (ix2 b d)) (fun d => sh (ix2 b d)) (fun d => w (ix2 d j))

/-- The angle of pair `q` at position `n`, its cosine and its sine. -/
def angle (n : Fin 8) (q : Fin 16) : EReal := val_main_v63 (F := Ideal) (ix2 n q)
def cosOf (n : Fin 8) (q : Fin 16) : EReal := Ideal.cos (angle n q)
def sinOf (n : Fin 8) (q : Fin 16) : EReal := Ideal.sin (angle n q)

/-- The row's latent, normed; its key, normed and turned; its state inputs. -/
def latOf (b : Fin 32) (n : Fin 8) (e : Fin 256) : EReal := lat (fun k => col x sh sc g w b n ⟨384 + k.val, by omega⟩) (fun k => gl (ix1 k)) e
def keyOf (b : Fin 32) (n : Fin 8) (e : Fin 32) : EReal :=
  turn (fun k => col x sh sc g w b n ⟨640 + k.val, by omega⟩) (fun k => gk (ix1 k)) (cosOf n) (sinOf n) e
def uOf (b : Fin 32) (n : Fin 8) (e : Fin 512) : EReal := col x sh sc g w b n ⟨672 + e.val, by omega⟩

theorem mean_at (b : Fin 32) (n : Fin 8) : val_main_v10 (F := Ideal) x (ix3 b n 0)
    = Ideal.rsqrt ((∑ d : Fin 1024, x (ix3 b n d) * x (ix3 b n d)) * Ideal.ofBits FTy.f32 0x3A800000#32 + Ideal.ofBits FTy.f32 0x358637BD#32) := by
  unfold val_main_v10 val_main_v9 val_main_v8 val_main_v7 val_main_v6 val_main_v5 val_main_v4 val_main_v3
  pointwise [val_main_cst_0, val_main_cst_1, val_main_cst_2]
  rw [← mean_1024]

theorem h_at (b : Fin 32) (n : Fin 8) (d : Fin 1024) : val_main_v23 (F := Ideal) x sh sc g (ix3 b n d)
    = hmod (fun d => x (ix3 b n d)) (fun d => g (ix1 d)) (fun d => sc (ix2 b d)) (fun d => sh (ix2 b d)) d := by
  unfold hmod
  rw [← mean_at]
  unfold val_main_v23 val_main_v20 val_main_v15 val_main_v12 val_main_v11
  generalize val_main_v10 (F := Ideal) x = Y
  pointwise [val_main_v22, val_main_v21, val_main_v19, val_main_v18, val_main_v17, val_main_cst_3, val_main_v16, val_main_v14, val_main_v13]

theorem col_at (b : Fin 32) (n : Fin 8) (j : Fin 1184) : val_main_v24 (F := Ideal) x sh sc g w (ix3 b n j) = col x sh sc g w b n j := by
  unfold col prj
  simp only [← h_at]
  unfold val_main_v24
  generalize val_main_v23 (F := Ideal) x sh sc g = H
  pointwise

/-- The latents. -/
theorem latroot_at (b : Fin 32) (n : Fin 8) : val_main_v33 (F := Ideal) x sh sc g w (ix3 b n 0)
    = Ideal.rsqrt ((∑ k : Fin 256, col x sh sc g w b n ⟨384 + k.val, by omega⟩ * col x sh sc g w b n ⟨384 + k.val, by omega⟩) * Ideal.ofBits FTy.f32 0x3B800000#32 + Ideal.ofBits FTy.f32 0x358637BD#32) := by
  simp only [← col_at]
  unfold val_main_v33 val_main_v32 val_main_v30 val_main_v28 val_main_v27 val_main_v26 val_main_v25
  generalize val_main_v24 (F := Ideal) x sh sc g w = X
  pointwise [val_main_v31, val_main_v29, val_main_cst_4, val_main_cst_5, val_main_cst_6]
  rw [← mean_256]

theorem lats_at (b : Fin 32) (n : Fin 8) (e : Fin 256) : val_main_v38 (F := Ideal) x sh sc g w gl (ix3 b n e) = latOf x sh sc g w gl b n e := by
  unfold latOf lat
  rw [← latroot_at]
  beta_reduce
  rw [← col_at]
  unfold val_main_v38 val_main_v35 val_main_v34 val_main_v25
  generalize val_main_v33 (F := Ideal) x sh sc g w = Y
  generalize val_main_v24 (F := Ideal) x sh sc g w = X
  pointwise [val_main_v37, val_main_v36]

/-- The keys, normed. -/
theorem keyroot_at (b : Fin 32) (n : Fin 8) : val_main_v47 (F := Ideal) x sh sc g w (ix3 b n 0)
    = rinv (∑ k : Fin 32, col x sh sc g w b n ⟨640 + k.val, by omega⟩ * col x sh sc g w b n ⟨640 + k.val, by omega⟩) := by
  unfold rinv
  simp only [← col_at]
  unfold val_main_v47 val_main_v46 val_main_v44 val_main_v42 val_main_v41 val_main_v40 val_main_v39
  generalize val_main_v24 (F := Ideal) x sh sc g w = X
  pointwise [val_main_v45, val_main_v43, val_main_cst_7, val_main_cst_8, val_main_cst_9]
  rw [← mean_32]

theorem normed_at (b : Fin 32) (n : Fin 8) (e : Fin 32) : val_main_v52 (F := Ideal) x sh sc g w gk (ix3 b n e)
    = col x sh sc g w b n ⟨640 + e.val, by omega⟩ * rinv (∑ k : Fin 32, col x sh sc g w b n ⟨640 + k.val, by omega⟩ * col x sh sc g w b n ⟨640 + k.val, by omega⟩) * gk (ix1 e) := by
  rw [← keyroot_at, ← col_at]
  unfold val_main_v52 val_main_v49 val_main_v48 val_main_v39
  generalize val_main_v47 (F := Ideal) x sh sc g w = Y
  generalize val_main_v24 (F := Ideal) x sh sc g w = X
  pointwise [val_main_v51, val_main_v50]

/-- The cosines and sines. -/
theorem cos_at (n : Fin 8) (q : Fin 16) : val_main_v65 (F := Ideal) (ix3 0 n q) = cosOf n q := by
  unfold cosOf angle val_main_v65 val_main_v64
  generalize val_main_v63 (F := Ideal) = A
  pointwise

theorem sin_at (n : Fin 8) (q : Fin 16) : val_main_v67 (F := Ideal) (ix3 0 n q) = sinOf n q := by
  unfold sinOf angle val_main_v67 val_main_v66
  generalize val_main_v63 (F := Ideal) = A
  pointwise

/-- The two halves of the turned key. -/
theorem low_at (b : Fin 32) (n : Fin 8) (q : Fin 16) : val_main_v74 (F := Ideal) x sh sc g w gk (ix3 b n q) = keyOf x sh sc g w gk b n ⟨q.val, by omega⟩ := by
  unfold keyOf
  rw [turn_low, ← normed_at x sh sc g w gk b n ⟨q.val, by omega⟩, ← normed_at x sh sc g w gk b n ⟨16 + q.val, by omega⟩, ← cos_at, ← sin_at]
  unfold val_main_v74 val_main_v73 val_main_v72 val_main_v71 val_main_v70 val_main_v69 val_main_v68
  generalize val_main_v52 (F := Ideal) x sh sc g w gk = Y
  generalize val_main_v65 (F := Ideal) = C
  generalize val_main_v67 (F := Ideal) = S
  pointwise

theorem high_at (b : Fin 32) (n : Fin 8) (q : Fin 16) : val_main_v79 (F := Ideal) x sh sc g w gk (ix3 b n q) = keyOf x sh sc g w gk b n ⟨16 + q.val, by omega⟩ := by
  unfold keyOf
  rw [turn_high, ← normed_at x sh sc g w gk b n ⟨q.val, by omega⟩, ← normed_at x sh sc g w gk b n ⟨16 + q.val, by omega⟩, ← cos_at, ← sin_at]
  unfold val_main_v79 val_main_v78 val_main_v77 val_main_v76 val_main_v75 val_main_v69 val_main_v68
  generalize val_main_v52 (F := Ideal) x sh sc g w gk = Y
  generalize val_main_v65 (F := Ideal) = C
  generalize val_main_v67 (F := Ideal) = S
  pointwise

/-- The turned keys. -/
theorem keys_at (b : Fin 32) (n : Fin 8) (e : Fin 32) : val_main_v80 (F := Ideal) x sh sc g w gk (ix3 b n e) = keyOf x sh sc g w gk b n e := by
  unfold val_main_v80
  by_cases h : e.val < 16
  · have e1 := low_at x sh sc g w gk b n ⟨e.val, h⟩
    rw [show (⟨(⟨e.val, h⟩ : Fin 16).val, by omega⟩ : Fin 32) = e from rfl] at e1
    rw [← e1]
    exact concatenate_pair_apply_left (s₁ := S32x8x16) (s₂ := S32x8x16) (t := S32x8x32) 2 _ _ _ _ rfl (ix3 b n ⟨e.val, h⟩) (fun a => by fin_cases a <;> rfl)
  · have e1 := high_at x sh sc g w gk b n ⟨e.val - 16, by omega⟩
    rw [show (⟨16 + (⟨e.val - 16, by omega⟩ : Fin 16).val, by omega⟩ : Fin 32) = e from Fin.ext (by show 16 + (e.val - 16) = e.val; omega)] at e1
    rw [← e1]
    exact concatenate_pair_apply_right (s₁ := S32x8x16) (s₂ := S32x8x16) (t := S32x8x32) 2 _ _ _ _ rfl rfl (ix3 b n ⟨e.val - 16, by omega⟩)
      (fun a ha => by fin_cases a <;> first | rfl | exact absurd rfl ha) (by show e.val - 16 + 16 = e.val; omega)

/-- The sequence and the row in it of a row of all. -/
def seqOf (r : Fin 256) : Fin 32 := ⟨r.val / 8, by omega⟩
def rw8 (r : Fin 256) : Fin 8 := ⟨r.val % 8, by omega⟩

/-- The results, all sequences in one. -/
theorem lats_flat (r : Fin 256) (e : Fin 256) : val_main_v82 (F := Ideal) x sh sc g w gl (ix3 0 r e) = latOf x sh sc g w gl (seqOf r) (rw8 r) e := by
  rw [← lats_at]
  unfold val_main_v82
  generalize val_main_v38 (F := Ideal) x sh sc g w gl = H
  exact shapeCast_apply H shapeCasts_S32x8x256_S1x256x256 (ix3 0 r e) (ix3 (seqOf r) (rw8 r) e)
    (by rewrite [Shape.rowMajor_val_three, Shape.rowMajor_val_three]; have := r.isLt; have := e.isLt; show (r.val / 8 * 8 + r.val % 8) * 256 + e.val = (0 * 256 + r.val) * 256 + e.val; omega)

theorem keys_flat (r : Fin 256) (e : Fin 32) : val_main_v83 (F := Ideal) x sh sc g w gk (ix3 0 r e) = keyOf x sh sc g w gk (seqOf r) (rw8 r) e := by
  rw [← keys_at]
  unfold val_main_v83
  generalize val_main_v80 (F := Ideal) x sh sc g w gk = H
  exact shapeCast_apply H shapeCasts_S32x8x32_S1x256x32 (ix3 0 r e) (ix3 (seqOf r) (rw8 r) e)
    (by rewrite [Shape.rowMajor_val_three, Shape.rowMajor_val_three]; have := r.isLt; have := e.isLt; show (r.val / 8 * 8 + r.val % 8) * 32 + e.val = (0 * 256 + r.val) * 32 + e.val; omega)

theorem us_flat (r : Fin 256) (e : Fin 512) : val_main_v84 (F := Ideal) x sh sc g w (ix2 r e) = uOf x sh sc g w (seqOf r) (rw8 r) e := by
  unfold uOf
  rw [← col_at]
  unfold val_main_v84 val_main_v81
  generalize val_main_v24 (F := Ideal) x sh sc g w = X
  refine (shapeCast_apply (extractStridedSlice S32x8x512 ![0, 0, 672] X slices_S32x8x1184_S32x8x512_0_0_672) shapeCasts_S32x8x512_S256x512 (ix2 r e) (ix3 (seqOf r) (rw8 r) e)
    (by rewrite [Shape.rowMajor_val_two, Shape.rowMajor_val_three]; have := r.isLt; have := e.isLt; show (r.val / 8 * 8 + r.val % 8) * 512 + e.val = r.val * 512 + e.val; omega)).trans ?_
  pointwise

end Cert.MlaProj9Ref
-- ==== Proof.MlaProj9Host.lean ====
/- The latent attention's projection of the sample: what the arrays that its host prepares hold. -/
module

public import proofs.«01_k».proof.Proof.MlaProj9
public import proofs.«01_k».proof.Proof.MlaProj9Ref
public import Idealize.ShloMosaic.Lib.StableHlo.RunRead

@[expose] public section

noncomputable section

namespace Cert.MlaProj9

open Idealize.ShloMosaic Idealize.ShloMosaic.TcCoe Cert.Kernel9Ideal Cert.Kernel9Ideal.Gen Cert.Ffn Cert.FoxProj Cert.MlaProj

variable (m : (ℓ : Loc nD τ sig) → Buf (Elt Ideal) ℓ) (c : Dev nD)

/-- Taking columns, or numbers, in the order a list of indices gives. -/
theorem gather_cols (x : Vec Ideal S1024x32 .f32) (idx : IVec S32x1 32) (d : Fin 1024) (j : Fin 32) :
    Host.gather gather_S1024x32_S32x1_S1024x32_0_1_n_n_1_1_10241 x idx (ix2 d j) = x (ix2 d ⟨min (idx (ix2 j 0)).toInt.toNat 31, by omega⟩) := by
  unfold Host.gather
  congr 1
  funext a
  apply Fin.ext
  have hsi : gather_S1024x32_S32x1_S1024x32_0_1_n_n_1_1_10241.siIdx (ix2 d j) ⟨0, by decide⟩ = ix2 j 0 := by
    funext b; fin_cases b <;> rfl
  fin_cases a
  · show 0 + 0 + d.val = d.val
    omega
  · show min (idx (gather_S1024x32_S32x1_S1024x32_0_1_n_n_1_1_10241.siIdx (ix2 d j) ⟨0, by decide⟩)).toInt.toNat 31 + 0 + 0 = _
    rw [hsi]
    rfl

theorem gather_gains (x : Vec Ideal S32 .f32) (idx : IVec S32x1 32) (j : Fin 32) :
    Host.gather gather_S32_S32x1_S32_n_0_n_n_0_1_1 x idx (ix1 j) = x (ix1 ⟨min (idx (ix2 j 0)).toInt.toNat 31, by omega⟩) := by
  unfold Host.gather
  congr 1
  funext a
  apply Fin.ext
  have hsi : gather_S32_S32x1_S32_n_0_n_n_0_1_1.siIdx (ix1 j) ⟨0, by decide⟩ = ix2 j 0 := by
    funext b; fin_cases b <;> rfl
  fin_cases a
  show min (idx (gather_S32_S32x1_S32_n_0_n_n_0_1_1.siIdx (ix1 j) ⟨0, by decide⟩)).toInt.toNat 31 + 0 + 0 = _
  rw [hsi]
  rfl
/-- Taken in the order of the pairs' partners, the column or number at `j` is the partner's. -/
theorem gather_cols_other (x : Vec Ideal S1024x32 .f32) (idx : IVec S32x1 32) (h : ∀ j : Fin 32, (idx (ix2 j 0)).toInt.toNat = (other j).val) (d : Fin 1024) (j : Fin 32) :
    Host.gather gather_S1024x32_S32x1_S1024x32_0_1_n_n_1_1_10241 x idx (ix2 d j) = x (ix2 d (other j)) := by
  refine (gather_cols x idx d j).trans (congrArg (fun i => x (ix2 d i)) (Fin.ext ?_))
  show min (idx (ix2 j 0)).toInt.toNat 31 = (other j).val
  rw [h j]
  have := (other j).isLt
  omega

theorem gather_gains_other (x : Vec Ideal S32 .f32) (idx : IVec S32x1 32) (h : ∀ j : Fin 32, (idx (ix2 j 0)).toInt.toNat = (other j).val) (j : Fin 32) :
    Host.gather gather_S32_S32x1_S32_n_0_n_n_0_1_1 x idx (ix1 j) = x (ix1 (other j)) := by
  refine (gather_gains x idx j).trans (congrArg (fun i => x (ix1 i)) (Fin.ext ?_))
  show min (idx (ix2 j 0)).toInt.toNat 31 = (other j).val
  rw [h j]
  have := (other j).isLt
  omega

section
variable (a : Vec Ideal S1024x64 .f32) (b : Vec Ideal S1024x32 .f32) (z : Vec Ideal S1024x32 .f32) (d : Fin 1024)
theorem pad_low (k : Fin 128) (hk : k.val < 64) :
    concatenate S1024x128 1 [⟨S1024x64, a⟩, ⟨S1024x32, b⟩, ⟨S1024x32, z⟩] concatenates_S1024x64_S1024x32_S1024x32_S1024x128_d1 (ix2 d k) = a (ix2 d ⟨k.val, hk⟩) :=
  concatenate_apply_piece (t := S1024x128) 1 [⟨S1024x64, a⟩, ⟨S1024x32, b⟩, ⟨S1024x32, z⟩] concatenates_S1024x64_S1024x32_S1024x32_S1024x128_d1 (ix2 d k) 0 (by decide : 0 < 3) S1024x64 a rfl rfl 0 rfl (ix2 d ⟨k.val, hk⟩)
    (fun b hb => by fin_cases b <;> first | rfl | exact absurd rfl hb) (Nat.zero_add _)
theorem pad_mid (k : Fin 32) :
    concatenate S1024x128 1 [⟨S1024x64, a⟩, ⟨S1024x32, b⟩, ⟨S1024x32, z⟩] concatenates_S1024x64_S1024x32_S1024x32_S1024x128_d1 (ix2 d ⟨64 + k.val, by omega⟩) = b (ix2 d k) :=
  concatenate_apply_piece (t := S1024x128) 1 [⟨S1024x64, a⟩, ⟨S1024x32, b⟩, ⟨S1024x32, z⟩] concatenates_S1024x64_S1024x32_S1024x32_S1024x128_d1 (ix2 d ⟨64 + k.val, by omega⟩) 1 (by decide : 1 < 3) S1024x32 b rfl rfl 64 rfl (ix2 d k)
    (fun b hb => by fin_cases b <;> first | rfl | exact absurd rfl hb) rfl
theorem pad_high (k : Fin 128) (hk : 96 ≤ k.val) :
    concatenate S1024x128 1 [⟨S1024x64, a⟩, ⟨S1024x32, b⟩, ⟨S1024x32, z⟩] concatenates_S1024x64_S1024x32_S1024x32_S1024x128_d1 (ix2 d k) = z (ix2 d ⟨k.val - 96, by omega⟩) :=
  concatenate_apply_piece (t := S1024x128) 1 [⟨S1024x64, a⟩, ⟨S1024x32, b⟩, ⟨S1024x32, z⟩] concatenates_S1024x64_S1024x32_S1024x32_S1024x128_d1 (ix2 d k) 2 (by decide : 2 < 3) S1024x32 z rfl rfl 96 rfl (ix2 d ⟨k.val - 96, by omega⟩)
    (fun b hb => by fin_cases b <;> first | rfl | exact absurd rfl hb) (by show 96 + (k.val - 96) = k.val; omega)
end

section
variable (a : Vec Ideal S1024x640 .f32) (b : Vec Ideal S1024x512 .f32) (p q : Vec Ideal S1024x128 .f32) (d : Fin 1024)
theorem cols_lat (k : Fin 640) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨k.val, by omega⟩) = a (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨k.val, by omega⟩) 0 (by decide : 0 < 4) S1024x640 a rfl rfl 0 rfl (ix2 d k)
    (fun b hb => by fin_cases b <;> first | rfl | exact absurd rfl hb) (Nat.zero_add _)
theorem cols_u (k : Fin 512) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨640 + k.val, by omega⟩) = b (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨640 + k.val, by omega⟩) 1 (by decide : 1 < 4) S1024x512 b rfl rfl 640 rfl (ix2 d k)
    (fun b hb => by fin_cases b <;> first | rfl | exact absurd rfl hb) rfl
theorem cols_key (k : Fin 128) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨1152 + k.val, by omega⟩) = p (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨1152 + k.val, by omega⟩) 2 (by decide : 2 < 4) S1024x128 p rfl rfl 1152 rfl (ix2 d k)
    (fun b hb => by fin_cases b <;> first | rfl | exact absurd rfl hb) rfl
theorem cols_other (k : Fin 128) :
    concatenate S1024x1408 1 [⟨S1024x640, a⟩, ⟨S1024x512, b⟩, ⟨S1024x128, p⟩, ⟨S1024x128, q⟩] concatenates_S1024x640_S1024x512_S1024x128_S1024x128_S1024x1408_d1 (ix2 d ⟨1280 + k.val, by omega⟩) = q (ix2 d k) :=
  concatenate_apply_piece (t := S1024x1408) 1 [⟨S1024x640, a⟩, ⟨S1024x512, b⟩, ⟨S1024x128, p⟩, ⟨S1024x128, q⟩] concatenates_S1024x640_S1024x512_S1024x128_S1024x128_S1024x1408_d1 (ix2 d ⟨1280 + k.val, by omega⟩) 3 (by decide : 3 < 4) S1024x128 q rfl rfl 1280 rfl (ix2 d k)
    (fun b hb => by fin_cases b <;> first | rfl | exact absurd rfl hb) rfl
end

theorem tab_mid (a : Vec Ideal S256x64 .f32) (b z : Vec Ideal S256x32 .f32) (n : Fin 256) (k : Fin 32) :
    concatenate S256x128 1 [⟨S256x64, a⟩, ⟨S256x32, b⟩, ⟨S256x32, z⟩] concatenates_S256x64_S256x32_S256x32_S256x128_d1 (ix2 n ⟨64 + k.val, by omega⟩) = b (ix2 n k) :=
  concatenate_apply_piece (t := S256x128) 1 [⟨S256x64, a⟩, ⟨S256x32, b⟩, ⟨S256x32, z⟩] concatenates_S256x64_S256x32_S256x32_S256x128_d1 (ix2 n ⟨64 + k.val, by omega⟩) 1 (by decide : 1 < 3) S256x32 b rfl rfl 64 rfl (ix2 n k)
    (fun b hb => by fin_cases b <;> first | rfl | exact absurd rfl hb) rfl

theorem tab_two (a b : Vec Ideal S256x16 .f32) (n : Fin 256) (k : Fin 32) (y : EReal) (ha : a (ix2 n (pair k)) = y) (hb : b (ix2 n (pair k)) = y) :
    concatenate S256x32 1 [⟨S256x16, a⟩, ⟨S256x16, b⟩] concatenates_S256x16_S256x16_S256x32_d1 (ix2 n k) = y := by
  by_cases h : k.val < 16
  · exact (concatenate_apply_piece (t := S256x32) 1 [⟨S256x16, a⟩, ⟨S256x16, b⟩] concatenates_S256x16_S256x16_S256x32_d1 (ix2 n k) 0 (by decide : 0 < 2) S256x16 a rfl rfl 0 rfl (ix2 n (pair k))
      (fun b hb => by fin_cases b <;> first | rfl | exact absurd rfl hb) (by show 0 + k.val % 16 = k.val; omega)).trans ha
  · exact (concatenate_apply_piece (t := S256x32) 1 [⟨S256x16, a⟩, ⟨S256x16, b⟩] concatenates_S256x16_S256x16_S256x32_d1 (ix2 n k) 1 (by decide : 1 < 2) S256x16 b rfl rfl 16 rfl (ix2 n (pair k))
      (fun b hb => by fin_cases b <;> first | rfl | exact absurd rfl hb) (by show 16 + k.val % 16 = k.val; omega)).trans hb

/-- The columns of the weights in the order the kernel takes them: those of the queries' and the latents', the state inputs', the key's with zeros around them, the key's in the partners' order. -/
theorem w_other (d : Fin 1024) (e : Fin 32) : V m c main_v29 (ix2 d ⟨1280 + (64 + e.val), by omega⟩) = m ((c : Thread nD τ).loc main_arg4) (ix2 d ⟨640 + (other e).val, by omega⟩) := by
  after_reads_simp
  refine (cols_other _ _ _ _ d ⟨64 + e.val, by omega⟩).trans ?_
  simp only [Matrix.cons_val]
  after_reads_simp
  refine (pad_mid _ _ _ d e).trans ?_
  simp only [Matrix.cons_val]
  after_reads_simp
  refine (gather_cols_other _ _ ?_ d e).trans ?_
  · decide +kernel
  · pointwise

theorem w_key (d : Fin 1024) (e : Fin 32) : V m c main_v29 (ix2 d ⟨1152 + (64 + e.val), by omega⟩) = m ((c : Thread nD τ).loc main_arg4) (ix2 d ⟨640 + e.val, by omega⟩) := by
  after_reads_simp
  refine (cols_key _ _ _ _ d ⟨64 + e.val, by omega⟩).trans ?_
  simp only [Matrix.cons_val]
  after_reads_simp
  refine (pad_mid _ _ _ d e).trans ?_
  simp only [Matrix.cons_val]
  after_reads_simp
  pointwise

theorem w_lat (d : Fin 1024) (k : Fin 640) : V m c main_v29 (ix2 d ⟨k.val, by omega⟩) = m ((c : Thread nD τ).loc main_arg4) (ix2 d ⟨k.val, by omega⟩) := by
  after_reads_simp
  refine (cols_lat _ _ _ _ d k).trans ?_
  simp only [Matrix.cons_val]
  after_reads_simp
  pointwise

theorem w_u (d : Fin 1024) (k : Fin 512) : V m c main_v29 (ix2 d ⟨640 + k.val, by omega⟩) = m ((c : Thread nD τ).loc main_arg4) (ix2 d ⟨672 + k.val, by omega⟩) := by
  after_reads_simp
  refine (cols_u _ _ _ _ d k).trans ?_
  simp only [Matrix.cons_val]
  after_reads_simp
  pointwise

theorem w_low (d : Fin 1024) (k : Fin 128) (hk : k.val < 64) : V m c main_v29 (ix2 d ⟨1152 + k.val, by omega⟩) = (0 : EReal) := by
  after_reads_simp
  refine (cols_key _ _ _ _ d k).trans ?_
  simp only [Matrix.cons_val]
  after_reads_simp
  refine (pad_low _ _ _ d k hk).trans ?_
  simp only [Matrix.cons_val]
  after_reads_simp
  pointwise

theorem w_high (d : Fin 1024) (k : Fin 128) (hk : 96 ≤ k.val) : V m c main_v29 (ix2 d ⟨1152 + k.val, by omega⟩) = (0 : EReal) := by
  after_reads_simp
  refine (cols_key _ _ _ _ d k).trans ?_
  simp only [Matrix.cons_val]
  after_reads_simp
  refine (pad_high _ _ _ d k hk).trans ?_
  simp only [Matrix.cons_val]
  after_reads_simp
  pointwise

/-- The key's gains. -/
def gains (e : Fin 32) : EReal := m ((c : Thread nD τ).loc main_arg12) (ix1 e)

/-- The signs: minus one for the first half, one for the second. -/
theorem sign_at (e : Fin 32) : select (cmpi CmpIPredicate.slt (iotaInDim S32 32 0) (broadcastInDim S32 ![] bcast_S_S32 (constantI S_ 32 16#32)))
    (broadcastInDim S32 ![] bcast_S_S32 (constant (F := Ideal) S_ FTy.f32 0xBF800000#32)) (broadcastInDim S32 ![] bcast_S_S32 (constant (F := Ideal) S_ FTy.f32 0x3F800000#32)) (ix1 e) = sgn e := by
  unfold sgn
  pointwise
  have h : IntOp.cmpi CmpIPredicate.slt (BitVec.ofNat 32 e.val) 16#32 = if e.val < 16 then 1 else 0 := by revert e; decide +kernel
  have h1 : Ideal.ofBits FTy.f32 3212836864#32 = -1 := by simp [Ideal.ofBits, Ideal.ieee]; rw [← EReal.coe_mul]; norm_num
  rw [h, h1]
  by_cases h2 : e.val < 16
  · rw [if_pos h2, if_pos h2]; rfl
  · rw [if_neg h2, if_neg h2]; rfl

/-- A row's position as a number. -/
theorem pos_at (n : Fin 8) : Ideal.ofBits FTy.f32 0x46800000#32 + ((((BitVec.ofNat 32 n.val).toInt : ℝ)) : EReal) = (((16384#32 + BitVec.ofNat 32 n.val).toInt : ℝ) : EReal) := by
  have h : Ideal.ofBits FTy.f32 0x46800000#32 = ((16384 : ℝ) : EReal) := by
    simp [Ideal.ofBits, Ideal.ieee]; rw [← EReal.coe_mul]; norm_num
  have h1 : (16384#32 + BitVec.ofNat 32 n.val).toInt = 16384 + (BitVec.ofNat 32 n.val).toInt := by revert n; decide +kernel
  rw [h, h1, ← EReal.coe_add]
  push_cast
  rfl

/-- The tables of cosines and of signed sines, with the gains. -/
theorem ga_v (n : Fin 256) (e : Fin 32) : V m c main_v126 (ix2 n ⟨64 + e.val, by omega⟩) = gains m c e * Cert.MlaProj9Ref.cosOf (Cert.MlaProj9Ref.rw8 n) (pair e) := by
  after_reads_simp
  refine (tab_mid _ _ _ n e).trans ?_
  simp only [Matrix.cons_val]
  after_reads_simp
  refine congrArg₂ (fun a b : EReal => a * b) ?_ (tab_two _ _ n e _ ?_ ?_)
  · unfold gains
    pointwise
  · after_reads_simp
    unfold Cert.MlaProj9Ref.cosOf Cert.MlaProj9Ref.angle Cert.Reference9Ideal.Read.val_main_v63
    refine congrArg Ideal.cos (congrArg₂ (fun a b : EReal => a * b) ?_ rfl)
    pointwise
    exact (pos_at (Cert.MlaProj9Ref.rw8 n)).symm
  · after_reads_simp
    unfold Cert.MlaProj9Ref.cosOf Cert.MlaProj9Ref.angle Cert.Reference9Ideal.Read.val_main_v63
    refine congrArg Ideal.cos (congrArg₂ (fun a b : EReal => a * b) ?_ rfl)
    pointwise
    exact (pos_at (Cert.MlaProj9Ref.rw8 n)).symm

theorem gb_v (n : Fin 256) (e : Fin 32) : V m c main_v138 (ix2 n ⟨64 + e.val, by omega⟩) = sgn e * gains m c (other e) * Cert.MlaProj9Ref.sinOf (Cert.MlaProj9Ref.rw8 n) (pair e) := by
  after_reads_simp
  refine (tab_mid _ _ _ n e).trans ?_
  simp only [Matrix.cons_val]
  after_reads_simp
  refine congrArg₂ (fun a b : EReal => a * b) ?_ (tab_two _ _ n e _ ?_ ?_)
  · pointwise
    refine congrArg₂ (fun a b : EReal => a * b) ?_ (gather_gains_other _ _ ?_ e)
    · exact sign_at e
    · decide +kernel
  · after_reads_simp
    unfold Cert.MlaProj9Ref.sinOf Cert.MlaProj9Ref.angle Cert.Reference9Ideal.Read.val_main_v63
    refine congrArg Ideal.sin (congrArg₂ (fun a b : EReal => a * b) ?_ rfl)
    pointwise
    exact (pos_at (Cert.MlaProj9Ref.rw8 n)).symm
  · after_reads_simp
    unfold Cert.MlaProj9Ref.sinOf Cert.MlaProj9Ref.angle Cert.Reference9Ideal.Read.val_main_v63
    refine congrArg Ideal.sin (congrArg₂ (fun a b : EReal => a * b) ?_ rfl)
    pointwise
    exact (pos_at (Cert.MlaProj9Ref.rw8 n)).symm

end Cert.MlaProj9
-- ==== Proof.MlaProj9Final.lean ====
/- The latent attention's projection of the sample: the arrays its kernel leaves are its reference's results. -/
module

public import proofs.«01_k».proof.Proof.MlaProj9Host

@[expose] public section

noncomputable section

namespace Cert.MlaProj9

open Idealize.ShloMosaic Idealize.ShloMosaic.TcCoe Cert.Kernel9Ideal Cert.Kernel9Ideal.Gen Cert.Ffn Cert.FoxProj Cert.MlaProj

variable (m : (ℓ : Loc nD τ sig) → Buf (Elt Ideal) ℓ) (c : Dev nD)

/-- The block each window shows at a point. -/
theorem idx0 : ∀ t : Fin cfg0.N, win0_0.index t = ![0, 0, 0] :=
  (by decide +kernel : ∀ t : Fin grid0.N, win0_0.index t = ![0, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![0, 0, 0] :=
  (by decide +kernel : ∀ t : Fin grid0.N, win0_3.index t = ![0, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx9 : ∀ t : Fin cfg0.N, win0_9.index t = ![0, 0] :=
  (by decide +kernel : ∀ t : Fin grid0.N, win0_9.index t = ![0, 0])
theorem idx11 : ∀ t : Fin cfg0.N, win0_11.index t = ![0, 0] :=
  (by decide +kernel : ∀ t : Fin grid0.N, win0_11.index t = ![0, 0])
theorem idx14 : ∀ t : Fin cfg0.N, win0_14.index t = ![0, 0, 0] :=
  (by decide +kernel : ∀ t : Fin grid0.N, win0_14.index t = ![0, 0, 0])
theorem idx15 : ∀ t : Fin cfg0.N, win0_15.index t = ![0, 0, 0] :=
  (by decide +kernel : ∀ t : Fin grid0.N, win0_15.index t = ![0, 0, 0])
theorem idx16 : ∀ t : Fin cfg0.N, win0_16.index t = ![0, 0] :=
  (by decide +kernel : ∀ t : Fin grid0.N, win0_16.index t = ![0, 0])

open Cert.MlaProj9Ref (seqOf rw8)

/-- The indices of the results' blocks. -/
theorem lat_idx (y : S1x256x256.Idx) : ∃ (r : Fin 256) (e : Fin 256), y = ix3 0 r e := ⟨y 1, y 2, by blk_ext⟩
theorem key_idx (y : S1x256x32.Idx) : ∃ (r : Fin 256) (e : Fin 32), y = ix3 0 r e := ⟨y 1, y 2, by blk_ext⟩
theorem u_idx (y : S256x512.Idx) : ∃ (r : Fin 256) (e : Fin 512), y = ix2 r e := ⟨y 0, y 1, by blk_ext⟩

/-- What the windows show. -/
theorem blk_x (t : Fin cfg0.N) (r : Fin 256) (d : Fin 1024) : iblk m c 0 t (ix3 0 r d) = m ((c : Thread nD τ).loc main_arg0) (ix3 (seqOf r) (rw8 r) d) := by
  blk_simp [iblk]
  after_reads_simp
  pointwise
  unfold seqOf rw8
  blk_ext [idx0 t]

theorem blk_g (t : Fin cfg0.N) (d : Fin 1024) : iblk m c 1 t (ix2 0 d) = m ((c : Thread nD τ).loc main_arg3) (ix1 d) := by
  blk_simp [iblk]
  after_reads_simp
  pointwise
  blk_ext [idx1 t]

theorem blk_sh (t : Fin cfg0.N) (r : Fin 256) (d : Fin 1024) : iblk m c 2 t (ix3 0 r d) = m ((c : Thread nD τ).loc main_arg1) (ix2 (seqOf r) d) := by
  blk_simp [iblk]
  after_reads_simp
  pointwise
  unfold seqOf
  blk_ext [idx2 t]

theorem blk_sc (t : Fin cfg0.N) (r : Fin 256) (d : Fin 1024) : iblk m c 3 t (ix3 0 r d) = m ((c : Thread nD τ).loc main_arg2) (ix2 (seqOf r) d) := by
  blk_simp [iblk]
  after_reads_simp
  pointwise
  unfold seqOf
  blk_ext [idx3 t]

theorem blk_gl (t : Fin cfg0.N) (k : Fin 256) : iblk m c 9 t (ix2 0 k) = m ((c : Thread nD τ).loc main_arg6) (ix1 k) := by
  blk_simp [iblk]
  after_reads_simp
  pointwise
  blk_ext [idx9 t]

theorem blk_ga (t : Fin cfg0.N) (r : Fin 256) (e : Fin 32) : iblk m c 6 t (ix2 r ⟨64 + e.val, by omega⟩) = gains m c e * Cert.MlaProj9Ref.cosOf (rw8 r) (pair e) := by
  refine Eq.trans ?_ (ga_v m c r e)
  blk_simp [iblk]
  refine congrArg (V m c main_v126) ?_
  blk_ext [idx6 t]

theorem blk_gb (t : Fin cfg0.N) (r : Fin 256) (e : Fin 32) : iblk m c 7 t (ix2 r ⟨64 + e.val, by omega⟩) = sgn e * gains m c (other e) * Cert.MlaProj9Ref.sinOf (rw8 r) (pair e) := by
  refine Eq.trans ?_ (gb_v m c r e)
  blk_simp [iblk]
  refine congrArg (V m c main_v138) ?_
  blk_ext [idx7 t]

theorem blk_w (t : Fin cfg0.N) (d : Fin 1024) (j : Fin 1408) : iblk m c 11 t (ix2 d j) = V m c main_v29 (ix2 d j) := by
  blk_simp [iblk]
  refine congrArg (V m c main_v29) ?_
  blk_ext [idx11 t]

/-- A column of a block's product is the reference's column that has its weights. -/
theorem col_of (t : Fin cfg0.N) (r : Fin 256) (j : Fin 1408) (j' : Fin 1184) (h : ∀ d : Fin 1024, V m c main_v29 (ix2 d j) = m ((c : Thread nD τ).loc main_arg4) (ix2 d j')) :
    col (iblk m c 0 t) (iblk m c 1 t) (iblk m c 3 t) (iblk m c 2 t) (iblk m c 11 t) r j
      = Cert.MlaProj9Ref.col (m ((c : Thread nD τ).loc main_arg0)) (m ((c : Thread nD τ).loc main_arg1)) (m ((c : Thread nD τ).loc main_arg2)) (m ((c : Thread nD τ).loc main_arg3)) (m ((c : Thread nD τ).loc main_arg4)) (seqOf r) (rw8 r) j' := by
  unfold col Cert.MlaProj9Ref.col
  simp only [blk_x, blk_g, blk_sh, blk_sc, blk_w, h]

/-- A column of a block's product without weights is zero. -/
theorem col_zero (t : Fin cfg0.N) (r : Fin 256) (j : Fin 1408) (h : ∀ d : Fin 1024, V m c main_v29 (ix2 d j) = (0 : EReal)) :
    col (iblk m c 0 t) (iblk m c 1 t) (iblk m c 3 t) (iblk m c 2 t) (iblk m c 11 t) r j = 0 := by
  unfold col
  simp only [blk_w, h]
  exact prj_zero _ _ _ _

/-- The latents: a block's entry, and the array. -/
theorem ckvRow (t : Fin cfg0.N) (r : Fin 256) (e : Fin 256) : (dats m 0 c).after 14 t (ix3 0 r e)
    = Cert.MlaProj9Ref.latOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (seqOf r) (rw8 r) e := by
  rw [after0_14, lat_out]
  unfold latOf Cert.MlaProj9Ref.latOf
  refine congrArg₂ (fun p g => lat p g e) (funext fun k => col_of m c t r ⟨384 + k.val, by omega⟩ ⟨384 + k.val, by omega⟩ fun d => w_lat m c d ⟨384 + k.val, by omega⟩) (funext fun k => blk_gl m c t k)

theorem ckvArray : (dats m 0 c).arrAt 14 cfg0.N = Cert.Reference9Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 14 _ (by decide +kernel) fun t hf y => ?_
  obtain ⟨r, e, rfl⟩ := lat_idx y
  have e' : ((cfg0.win 14).blk t).view.emb (ix3 0 r e) = ix3 0 r e := by
    blk_ext [idx14 t]
  blk_simp
  rw [ckvRow]
  refine Eq.trans ?_ (congrArg (Cert.Reference9Ideal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) e'.symm)
  exact (Cert.MlaProj9Ref.lats_flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) _ _).symm

/-- The turned keys: a block's entry, and the array. -/
theorem kpeRow (t : Fin cfg0.N) (r : Fin 256) (e : Fin 32) : (dats m 0 c).after 15 t (ix3 0 r e)
    = Cert.MlaProj9Ref.keyOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) (seqOf r) (rw8 r) e := by
  rw [after0_15, key_out]
  unfold keyOf Cert.MlaProj9Ref.keyOf
  rw [← turn_eq, sum_middle _ fun k hk => col_zero m c t r ⟨1152 + k.val, by omega⟩ fun d => hk.elim (w_low m c d k) (w_high m c d k)]
  have hk : ∀ k : Fin 32, _ = _ := fun k => col_of m c t r ⟨1152 + (64 + k.val), by omega⟩ ⟨640 + k.val, by omega⟩ fun d => w_key m c d k
  have ho := col_of m c t r ⟨1280 + (64 + e.val), by omega⟩ ⟨640 + (other e).val, by omega⟩ fun d => w_other m c d e
  simp only [hk, ho, blk_ga, blk_gb]
  rfl

theorem kpeArray : (dats m 0 c).arrAt 15 cfg0.N = Cert.Reference9Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) := by
  refine (dats m 0 c).arrAt_eq_of_covers 15 _ (by decide +kernel) fun t hf y => ?_
  obtain ⟨r, e, rfl⟩ := key_idx y
  have e' : ((cfg0.win 15).blk t).view.emb (ix3 0 r e) = ix3 0 r e := by
    blk_ext [idx15 t]
  blk_simp
  rw [kpeRow]
  refine Eq.trans ?_ (congrArg (Cert.Reference9Ideal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12))) e'.symm)
  exact (Cert.MlaProj9Ref.keys_flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12)) _ _).symm

/-- The state inputs: a block's entry, and the array. -/
theorem uRow (t : Fin cfg0.N) (r : Fin 256) (e : Fin 512) : (dats m 0 c).after 16 t (ix2 r e)
    = Cert.MlaProj9Ref.uOf (m ((c : Thread nD τ).loc main_arg0)) (m ((c : Thread nD τ).loc main_arg1)) (m ((c : Thread nD τ).loc main_arg2)) (m ((c : Thread nD τ).loc main_arg3)) (m ((c : Thread nD τ).loc main_arg4)) (seqOf r) (rw8 r) e := by
  rw [after0_16, u_out]
  unfold uOf Cert.MlaProj9Ref.uOf
  exact col_of m c t r ⟨640 + e.val, by omega⟩ ⟨672 + e.val, by omega⟩ fun d => w_u m c d e

theorem uArray : (dats m 0 c).arrAt 16 cfg0.N = Cert.Reference9Ideal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  obtain ⟨r, e, rfl⟩ := u_idx y
  have e' : ((cfg0.win 16).blk t).view.emb (ix2 r e) = ix2 r e := by
    blk_ext [idx16 t]
  blk_simp
  rw [uRow]
  refine Eq.trans ?_ (congrArg (Cert.Reference9Ideal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e'.symm)
  exact (Cert.MlaProj9Ref.us_flat (m ((c : Thread nD τ).loc main_arg0)) (m ((c : Thread nD τ).loc main_arg1)) (m ((c : Thread nD τ).loc main_arg2)) (m ((c : Thread nD τ).loc main_arg3)) (m ((c : Thread nD τ).loc main_arg4)) _ _).symm

end Cert.MlaProj9
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel8
public import proofs.«01_k».proof.Proof.Gen.Kernel9
public import proofs.«01_k».proof.Proof.Gen.Kernel7.Skeleton
public import proofs.«01_k».proof.Proof.Gen.Kernel8.Skeleton
public import proofs.«01_k».proof.Proof.Gen.Kernel9.Skeleton
public import proofs.«01_k».proof.Proof.Gen.Kernel7.Launch
public import proofs.«01_k».proof.Proof.Gen.Kernel8.Launch
public import proofs.«01_k».proof.Proof.Gen.Kernel9.Launch
public import proofs.«01_k».proof.Proof.Gen.Kernel7.Points
public import proofs.«01_k».proof.Proof.Gen.Kernel8.Points
public import proofs.«01_k».proof.Proof.Gen.Kernel9.Points
public import proofs.«01_k».proof.Proof.Gen.Kernel7.Frame
public import proofs.«01_k».proof.Proof.Gen.Kernel8.Frame
public import proofs.«01_k».proof.Proof.Gen.Kernel9.Frame
public import proofs.«01_k».proof.Proof.Gen.Kernel7Ideal
public import proofs.«01_k».proof.Proof.Gen.Kernel8Ideal
public import proofs.«01_k».proof.Proof.Gen.Kernel9Ideal
public import proofs.«01_k».proof.Proof.Gen.Kernel7Ideal.Skeleton
public import proofs.«01_k».proof.Proof.Gen.Kernel8Ideal.Skeleton
public import proofs.«01_k».proof.Proof.Gen.Kernel9Ideal.Skeleton
public import proofs.«01_k».proof.Proof.Gen.Kernel7Ideal.Launch
public import proofs.«01_k».proof.Proof.Gen.Kernel8Ideal.Launch
public import proofs.«01_k».proof.Proof.Gen.Kernel9Ideal.Launch
public import proofs.«01_k».proof.Proof.Gen.Kernel7Ideal.Points
public import proofs.«01_k».proof.Proof.Gen.Kernel8Ideal.Points
public import proofs.«01_k».proof.Proof.Gen.Kernel9Ideal.Points
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Reference7Ideal
public import proofs.«01_k».proof.Proof.Gen.Reference8Ideal
public import proofs.«01_k».proof.Proof.Gen.Reference9Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.FoxFinite
public import proofs.«01_k».proof.Proof.FoxFinal
public import proofs.«01_k».proof.Proof.FfnFinal
public import proofs.«01_k».proof.Proof.FfnSampleFinal
public import proofs.«01_k».proof.Proof.FfnPlainFinal
public import proofs.«01_k».proof.Proof.FfnTwoFinal
public import proofs.«01_k».proof.Proof.FoxProj6Final
public import proofs.«01_k».proof.Proof.FoxProj7Final
public import proofs.«01_k».proof.Proof.MlaProj8Final
public import proofs.«01_k».proof.Proof.MlaProj9Final
public import Idealize.ShloMosaic.Adequacy
public import Idealize.ShloMosaic.Init

@[expose] public section

noncomputable section

namespace Cert.Proof

open Idealize.ShloMosaic Idealize.ShloMosaic.TcCoe Idealize.SL.Sem

/-- The kernel runs without fault, leaves its arguments as they were and every semaphore counter at zero. -/
theorem frameKernel : Cert.quiescent_Kernel := fun m ρ _ => Cert.Kernel.Gen.frame m ρ

/-- The same of the kernel over the extended reals. -/
theorem frameKernelIdeal : Cert.quiescent_KernelIdeal := fun m ρ _ => Cert.KernelIdeal.Gen.frame m ρ

/-- The same of the reference, which declares no semaphore. -/
theorem frameReferenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three constants named in the kernel: the score scale, the change of base and the mask. -/
theorem preserves : Cert.preserves_Kernel_KernelIdeal :=
  ⟨IdealRules.named_const.statement Cert.KernelIdeal.κ "qscale" .f32 0x3E0293EE#32 _ rfl,
   IdealRules.named_const.statement Cert.KernelIdeal.κ "log2e" .f32 0x3FB8AA3B#32 _ rfl,
   IdealRules.named_const.statement Cert.KernelIdeal.κ "mask" .f32 0xF149F2CA#32 _ rfl⟩

/-- Under the precondition the arguments are real numbers. -/
theorem reals {q k v : FVec Ideal Cert.Pre_finite.S8x2048x8x128 .f32} {f : FVec Ideal Cert.Pre_finite.S8x2048x8 .f32}
    (h : Cert.Pre_finite.fn q k v f = fun _ => 1#1) : ∃ qr kr fr, Cert.Fox.Reals q k f qr kr fr :=
  ⟨fun b n c d => (q (ix4 b n c d)).toReal, fun b n c d => (k (ix4 b n c d)).toReal, fun b n c => (f (ix3 b n c)).toReal,
    fun b n c d => by obtain ⟨x, e⟩ := (Cert.Fox.finite_at h b n c d).1; rw [e]; rfl,
    fun b n c d => by obtain ⟨x, e⟩ := (Cert.Fox.finite_at h b n c d).2.1; rw [e]; rfl,
    fun b n c => by obtain ⟨x, e⟩ := (Cert.Fox.finite_at h b n c 0).2.2; rw [e]; rfl⟩

/-- On the same arguments the kernel and the reference leave the same array. -/
theorem attention : Cert.algebraic_KernelIdeal_ReferenceIdeal_pre_finite := fun m ρ m' ρ' hp ha =>
  ⟨fun c => Cert.ReferenceIdeal.Read.val_main_v32 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    (θ_run Cert.KernelIdeal.defs _ _).mono (fun r h c => ⟨(h c).1.trans (by
        obtain ⟨qr, kr, fr, R⟩ := reals (hp c)
        exact Cert.Fox.array_eq m c R), (h c).2⟩) (Cert.KernelIdeal.Value.run_blocks (F := Ideal) m ρ),
    (θ_run Cert.ReferenceIdeal.defs _ _).mono (fun r h c => ⟨(h c).1.trans (by
        rw [Cert.ReferenceIdeal.Read.val_main_v32_eq, (ha c).1, (ha c).2.1, (ha c).2.2.1, (ha c).2.2.2]), (h c).2⟩)
      (Cert.ReferenceIdeal.Value.run (F := Ideal) m' ρ')⟩

/-- The mixing feed-forward step of the prompt runs without fault, leaves its arguments as they were and every semaphore counter at zero. -/
theorem frameKernel2 : Cert.quiescent_Kernel2 := fun m ρ _ => Cert.Kernel2.Gen.frame m ρ

/-- The same of it over the extended reals. -/
theorem frameKernel2Ideal : Cert.quiescent_Kernel2Ideal := fun m ρ _ => Cert.Kernel2Ideal.Gen.frame m ρ

/-- The same of its reference, which declares no semaphore. -/
theorem frameReference2Ideal : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- On the same arguments the mixing feed-forward step of the prompt and its reference leave the same array. -/
theorem feedForward : Cert.algebraic_Kernel2Ideal_Reference2Ideal := fun m ρ m' ρ' _ ha =>
  ⟨fun c => Cert.Reference2Ideal.Read.val_main_v49 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) (m ((c : Thread Cert.Kernel2Ideal.nD Cert.Kernel2Ideal.τ).loc Cert.Kernel2Ideal.main_arg7)) (m ((c : Thread Cert.Kernel2Ideal.nD Cert.Kernel2Ideal.τ).loc Cert.Kernel2Ideal.main_arg8)),
    (θ_run Cert.Kernel2Ideal.defs _ _).mono (fun r h c => ⟨(h c).1.trans (Cert.FfnMix.array_eq m c), (h c).2⟩)
      (Cert.Kernel2Ideal.Value.run_blocks (F := Ideal) m ρ),
    (θ_run Cert.Reference2Ideal.defs _ _).mono (fun r h c => ⟨(h c).1.trans (by rw [Cert.Reference2Ideal.Read.val_main_v49_eq, (ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]), (h c).2⟩)
      (Cert.Reference2Ideal.Value.run (F := Ideal) m' ρ')⟩

/-- The mixing feed-forward step of the sample runs without fault, leaves its arguments as they were and every semaphore counter at zero. -/
theorem frameKernel3 : Cert.quiescent_Kernel3 := fun m ρ _ => Cert.Kernel3.Gen.frame m ρ

/-- The same of it over the extended reals. -/
theorem frameKernel3Ideal : Cert.quiescent_Kernel3Ideal := fun m ρ _ => Cert.Kernel3Ideal.Gen.frame m ρ

/-- The same of its reference, which declares no semaphore. -/
theorem frameReference3Ideal : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- On the same arguments the mixing feed-forward step of the sample and its reference leave the same array. -/
theorem feedForwardSample : Cert.algebraic_Kernel3Ideal_Reference3Ideal := fun m ρ m' ρ' _ ha =>
  ⟨fun c => Cert.Reference3Ideal.Read.val_main_v49 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) (m ((c : Thread Cert.Kernel3Ideal.nD Cert.Kernel3Ideal.τ).loc Cert.Kernel3Ideal.main_arg6)) (m ((c : Thread Cert.Kernel3Ideal.nD Cert.Kernel3Ideal.τ).loc Cert.Kernel3Ideal.main_arg7)) (m ((c : Thread Cert.Kernel3Ideal.nD Cert.Kernel3Ideal.τ).loc Cert.Kernel3Ideal.main_arg8)),
    (θ_run Cert.Kernel3Ideal.defs _ _).mono (fun r h c => ⟨(h c).1.trans (Cert.FfnSample.array_eq m c), (h c).2⟩)
      (Cert.Kernel3Ideal.Value.run_blocks (F := Ideal) m ρ),
    (θ_run Cert.Reference3Ideal.defs _ _).mono (fun r h c => ⟨(h c).1.trans (by rw [Cert.Reference3Ideal.Read.val_main_v49_eq, (ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2]), (h c).2⟩)
      (Cert.Reference3Ideal.Value.run (F := Ideal) m' ρ')⟩

/-- The feed-forward step without a mixer runs without fault, leaves its arguments as they were and every semaphore counter at zero. -/
theorem frameKernel4 : Cert.quiescent_Kernel4 := fun m ρ _ => Cert.Kernel4.Gen.frame m ρ

/-- The same of it over the extended reals. -/
theorem frameKernel4Ideal : Cert.quiescent_Kernel4Ideal := fun m ρ _ => Cert.Kernel4Ideal.Gen.frame m ρ

/-- The same of its reference, which declares no semaphore. -/
theorem frameReference4Ideal : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- On the same arguments the feed-forward step without a mixer and its reference leave the same array. -/
theorem feedForwardPlain : Cert.algebraic_Kernel4Ideal_Reference4Ideal := fun m ρ m' ρ' _ ha =>
  ⟨fun c => Cert.Reference4Ideal.Read.val_main_v43 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)),
    (θ_run Cert.Kernel4Ideal.defs _ _).mono (fun r h c => ⟨(h c).1.trans (Cert.FfnPlain.array_eq m c), (h c).2⟩)
      (Cert.Kernel4Ideal.Value.run_blocks (F := Ideal) m ρ),
    (θ_run Cert.Reference4Ideal.defs _ _).mono (fun r h c => ⟨(h c).1.trans (by rw [Cert.Reference4Ideal.Read.val_main_v43_eq, (ha c).1, (ha c).2.1, (ha c).2.2.1, (ha c).2.2.2.1, (ha c).2.2.2.2.1, (ha c).2.2.2.2.2]), (h c).2⟩)
      (Cert.Reference4Ideal.Value.run (F := Ideal) m' ρ')⟩

/-- The feed-forward step with two mixers runs without fault, leaves its arguments as they were and every semaphore counter at zero. -/
theorem frameKernel5 : Cert.quiescent_Kernel5 := fun m ρ _ => Cert.Kernel5.Gen.frame m ρ

/-- The same of it over the extended reals. -/
theorem frameKernel5Ideal : Cert.quiescent_Kernel5Ideal := fun m ρ _ => Cert.Kernel5Ideal.Gen.frame m ρ

/-- The same of its reference, which declares no semaphore. -/
theorem frameReference5Ideal : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- On the same arguments the feed-forward step with two mixers and its reference leave the same array. -/
theorem feedForwardTwo : Cert.algebraic_Kernel5Ideal_Reference5Ideal := fun m ρ m' ρ' _ ha =>
  ⟨fun c => Cert.Reference5Ideal.Read.val_main_v51 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg4)) (m ((c : Thread Cert.Kernel5Ideal.nD Cert.Kernel5Ideal.τ).loc Cert.Kernel5Ideal.main_arg5)) (m ((c : Thread Cert.Kernel5Ideal.nD Cert.Kernel5Ideal.τ).loc Cert.Kernel5Ideal.main_arg6)) (m ((c : Thread Cert.Kernel5Ideal.nD Cert.Kernel5Ideal.τ).loc Cert.Kernel5Ideal.main_arg7)) (m ((c : Thread Cert.Kernel5Ideal.nD Cert.Kernel5Ideal.τ).loc Cert.Kernel5Ideal.main_arg8)) (m ((c : Thread Cert.Kernel5Ideal.nD Cert.Kernel5Ideal.τ).loc Cert.Kernel5Ideal.main_arg9)),
    (θ_run Cert.Kernel5Ideal.defs _ _).mono (fun r h c => ⟨(h c).1.trans (Cert.FfnTwo.array_eq m c), (h c).2⟩)
      (Cert.Kernel5Ideal.Value.run_blocks (F := Ideal) m ρ),
    (θ_run Cert.Reference5Ideal.defs _ _).mono (fun r h c => ⟨(h c).1.trans (by rw [Cert.Reference5Ideal.Read.val_main_v51_eq, (ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2]), (h c).2⟩)
      (Cert.Reference5Ideal.Value.run (F := Ideal) m' ρ')⟩

/-- The projection of the forgetting attention of the prompt runs without fault, leaves its arguments as they were and every semaphore counter at zero. -/
theorem frameKernel6 : Cert.quiescent_Kernel6 := fun m ρ _ => Cert.Kernel6.Gen.frame m ρ

/-- The same of it over the extended reals. -/
theorem frameKernel6Ideal : Cert.quiescent_Kernel6Ideal := fun m ρ _ => Cert.Kernel6Ideal.Gen.frame m ρ

/-- The same of its reference, which declares no semaphore. -/
theorem frameReference6Ideal : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- On the same arguments the projection of the forgetting attention of the prompt and its reference leave the same arrays. -/
theorem project : Cert.algebraic_Kernel6Ideal_Reference6Ideal := fun m ρ m' ρ' _ ha =>
  ⟨fun c => Cert.Reference6Ideal.Read.val_main_v37 (F := Ideal) (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg7)),
    fun c => Cert.Reference6Ideal.Read.val_main_v38 (F := Ideal) (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg4)),
    fun c => Cert.Reference6Ideal.Read.val_main_v43 (F := Ideal) (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg5)),
    (θ_run Cert.Kernel6Ideal.defs _ _).mono (fun r h c => ⟨(h c).1.trans (Cert.FoxProj6.keysArray m c), (h c).2.1.trans (Cert.FoxProj6.valsArray m c), (h c).2.2.1.trans (Cert.FoxProj6.gatesArray m c), (h c).2.2.2.2.2.2.2⟩)
      (Cert.Kernel6Ideal.Value.run_blocks (F := Ideal) m ρ),
    (θ_run Cert.Reference6Ideal.defs _ _).mono (fun r h c => ⟨(h c).1.trans (by rw [Cert.Reference6Ideal.Read.val_main_v37_eq, (ha c).1, (ha c).2.1, (ha c).2.2.1, (ha c).2.2.2.1, (ha c).2.2.2.2.1, (ha c).2.2.2.2.2.2.2]), (h c).2.1.trans (by rw [Cert.Reference6Ideal.Read.val_main_v38_eq, (ha c).1, (ha c).2.1, (ha c).2.2.1, (ha c).2.2.2.1, (ha c).2.2.2.2.1]), (h c).2.2.1.trans (by rw [Cert.Reference6Ideal.Read.val_main_v43_eq, (ha c).1, (ha c).2.1, (ha c).2.2.1, (ha c).2.2.2.1, (ha c).2.2.2.2.1, (ha c).2.2.2.2.2.1]), (h c).2.2.2⟩)
      (Cert.Reference6Ideal.Value.run (F := Ideal) m' ρ')⟩

/-- The projection of the forgetting attention of the sample runs without fault, leaves its arguments as they were and every semaphore counter at zero. -/
theorem frameKernel7 : Cert.quiescent_Kernel7 := fun m ρ _ => Cert.Kernel7.Gen.frame m ρ

/-- The same of it over the extended reals. -/
theorem frameKernel7Ideal : Cert.quiescent_Kernel7Ideal := fun m ρ _ => Cert.Kernel7Ideal.Gen.frame m ρ

/-- The same of its reference, which declares no semaphore. -/
theorem frameReference7Ideal : Cert.quiescent_Reference7Ideal := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run (F := Ideal) m ρ)

/-- On the same arguments the projection of the forgetting attention of the sample and its reference leave the same arrays. -/
theorem projectSample : Cert.algebraic_Kernel7Ideal_Reference7Ideal := fun m ρ m' ρ' _ ha =>
  ⟨fun c => Cert.Reference7Ideal.Read.val_main_v44 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)) (m ((c : Thread Cert.Kernel7Ideal.nD Cert.Kernel7Ideal.τ).loc Cert.Kernel7Ideal.main_arg4)) (m ((c : Thread Cert.Kernel7Ideal.nD Cert.Kernel7Ideal.τ).loc Cert.Kernel7Ideal.main_arg7)),
    fun c => Cert.Reference7Ideal.Read.val_main_v45 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)) (m ((c : Thread Cert.Kernel7Ideal.nD Cert.Kernel7Ideal.τ).loc Cert.Kernel7Ideal.main_arg4)),
    fun c => Cert.Reference7Ideal.Read.val_main_v46 (F := Ideal) (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)) (m ((c : Thread Cert.Kernel7Ideal.nD Cert.Kernel7Ideal.τ).loc Cert.Kernel7Ideal.main_arg4)) (m ((c : Thread Cert.Kernel7Ideal.nD Cert.Kernel7Ideal.τ).loc Cert.Kernel7Ideal.main_arg5)),
    (θ_run Cert.Kernel7Ideal.defs _ _).mono (fun r h c => ⟨(h c).1.trans (Cert.FoxProj7.keysArray m c), (h c).2.1.trans (Cert.FoxProj7.valsArray m c), (h c).2.2.1.trans (Cert.FoxProj7.gatesArray m c), (h c).2.2.2.2.2.2.2⟩)
      (Cert.Kernel7Ideal.Value.run_blocks (F := Ideal) m ρ),
    (θ_run Cert.Reference7Ideal.defs _ _).mono (fun r h c => ⟨(h c).1.trans (by rw [Cert.Reference7Ideal.Read.val_main_v44_eq, (ha c).1, (ha c).2.1, (ha c).2.2.1, (ha c).2.2.2.1, (ha c).2.2.2.2.1, (ha c).2.2.2.2.2.2.2]), (h c).2.1.trans (by rw [Cert.Reference7Ideal.Read.val_main_v45_eq, (ha c).1, (ha c).2.1, (ha c).2.2.1, (ha c).2.2.2.1, (ha c).2.2.2.2.1]), (h c).2.2.1.trans (by rw [Cert.Reference7Ideal.Read.val_main_v46_eq, (ha c).1, (ha c).2.1, (ha c).2.2.1, (ha c).2.2.2.1, (ha c).2.2.2.2.1, (ha c).2.2.2.2.2.1]), (h c).2.2.2⟩)
      (Cert.Reference7Ideal.Value.run (F := Ideal) m' ρ')⟩

/-- The projection of the latent attention and the state space of the prompt runs without fault, leaves its arguments as they were and every semaphore counter at zero. -/
theorem frameKernel8 : Cert.quiescent_Kernel8 := fun m ρ _ => Cert.Kernel8.Gen.frame m ρ

/-- The same of it over the extended reals. -/
theorem frameKernel8Ideal : Cert.quiescent_Kernel8Ideal := fun m ρ _ => Cert.Kernel8Ideal.Gen.frame m ρ

/-- The same of its reference, which declares no semaphore. -/
theorem frameReference8Ideal : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)

/-- On the same arguments the projection of the latent attention and the state space of the prompt and its reference leave the same arrays. -/
theorem latents : Cert.algebraic_Kernel8Ideal_Reference8Ideal := fun m ρ m' ρ' _ ha =>
  ⟨fun c => Cert.Reference8Ideal.Read.val_main_v36 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)) (m ((c : Thread Cert.Kernel8Ideal.nD Cert.Kernel8Ideal.τ).loc Cert.Kernel8Ideal.main_arg6)),
    fun c => Cert.Reference8Ideal.Read.val_main_v78 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)) (m ((c : Thread Cert.Kernel8Ideal.nD Cert.Kernel8Ideal.τ).loc Cert.Kernel8Ideal.main_arg12)),
    fun c => Cert.Reference8Ideal.Read.val_main_v81 (F := Ideal) (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4)),
    (θ_run Cert.Kernel8Ideal.defs _ _).mono (fun r h c => ⟨(h c).1.trans (Cert.MlaProj8.ckvArray m c), (h c).2.1.trans (Cert.MlaProj8.kpeArray m c), (h c).2.2.1.trans (Cert.MlaProj8.uArray m c), (h c).2.2.2.2.2.2⟩)
      (Cert.Kernel8Ideal.Value.run_blocks (F := Ideal) m ρ),
    (θ_run Cert.Reference8Ideal.defs _ _).mono (fun r h c => ⟨(h c).1.trans (by rw [Cert.Reference8Ideal.Read.val_main_v36_eq, (ha c).1, (ha c).2.1, (ha c).2.2.1, (ha c).2.2.2.1, (ha c).2.2.2.2.1, (ha c).2.2.2.2.2.2.1]), (h c).2.1.trans (by rw [Cert.Reference8Ideal.Read.val_main_v78_eq, (ha c).1, (ha c).2.1, (ha c).2.2.1, (ha c).2.2.2.1, (ha c).2.2.2.2.1, (ha c).2.2.2.2.2.2.2.2.2.2.2.2]), (h c).2.2.1.trans (by rw [Cert.Reference8Ideal.Read.val_main_v81_eq, (ha c).1, (ha c).2.1, (ha c).2.2.1, (ha c).2.2.2.1, (ha c).2.2.2.2.1]), (h c).2.2.2⟩)
      (Cert.Reference8Ideal.Value.run (F := Ideal) m' ρ')⟩

/-- The projection of the latent attention and the state space of the sample runs without fault, leaves its arguments as they were and every semaphore counter at zero. -/
theorem frameKernel9 : Cert.quiescent_Kernel9 := fun m ρ _ => Cert.Kernel9.Gen.frame m ρ

/-- The same of it over the extended reals. -/
theorem frameKernel9Ideal : Cert.quiescent_Kernel9Ideal := fun m ρ _ => Cert.Kernel9Ideal.Gen.frame m ρ

/-- The same of its reference, which declares no semaphore. -/
theorem frameReference9Ideal : Cert.quiescent_Reference9Ideal := fun m ρ _ =>
  (θ_run Cert.Reference9Ideal.defs _ _).mono (fun r h => ⟨fun c => (h c).2.2.2,
      Idealize.ShloMosaic.sem_eq_zero_of_no_sems (by decide) r.2⟩)
    (Cert.Reference9Ideal.Value.run (F := Ideal) m ρ)

/-- On the same arguments the projection of the latent attention and the state space of the sample and its reference leave the same arrays. -/
theorem latentsSample : Cert.algebraic_Kernel9Ideal_Reference9Ideal := fun m ρ m' ρ' _ ha =>
  ⟨fun c => Cert.Reference9Ideal.Read.val_main_v82 (F := Ideal) (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3)) (m ((c : Thread Cert.Kernel9Ideal.nD Cert.Kernel9Ideal.τ).loc Cert.Kernel9Ideal.main_arg4)) (m ((c : Thread Cert.Kernel9Ideal.nD Cert.Kernel9Ideal.τ).loc Cert.Kernel9Ideal.main_arg6)),
    fun c => Cert.Reference9Ideal.Read.val_main_v83 (F := Ideal) (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3)) (m ((c : Thread Cert.Kernel9Ideal.nD Cert.Kernel9Ideal.τ).loc Cert.Kernel9Ideal.main_arg4)) (m ((c : Thread Cert.Kernel9Ideal.nD Cert.Kernel9Ideal.τ).loc Cert.Kernel9Ideal.main_arg12)),
    fun c => Cert.Reference9Ideal.Read.val_main_v84 (F := Ideal) (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3)) (m ((c : Thread Cert.Kernel9Ideal.nD Cert.Kernel9Ideal.τ).loc Cert.Kernel9Ideal.main_arg4)),
    (θ_run Cert.Kernel9Ideal.defs _ _).mono (fun r h c => ⟨(h c).1.trans (Cert.MlaProj9.ckvArray m c), (h c).2.1.trans (Cert.MlaProj9.kpeArray m c), (h c).2.2.1.trans (Cert.MlaProj9.uArray m c), (h c).2.2.2.2.2.2⟩)
      (Cert.Kernel9Ideal.Value.run_blocks (F := Ideal) m ρ),
    (θ_run Cert.Reference9Ideal.defs _ _).mono (fun r h c => ⟨(h c).1.trans (by rw [Cert.Reference9Ideal.Read.val_main_v82_eq, (ha c).1, (ha c).2.1, (ha c).2.2.1, (ha c).2.2.2.1, (ha c).2.2.2.2.1, (ha c).2.2.2.2.2.2.1]), (h c).2.1.trans (by rw [Cert.Reference9Ideal.Read.val_main_v83_eq, (ha c).1, (ha c).2.1, (ha c).2.2.1, (ha c).2.2.2.1, (ha c).2.2.2.2.1, (ha c).2.2.2.2.2.2.2.2.2.2.2.2]), (h c).2.2.1.trans (by rw [Cert.Reference9Ideal.Read.val_main_v84_eq, (ha c).1, (ha c).2.1, (ha c).2.2.1, (ha c).2.2.2.1, (ha c).2.2.2.2.1]), (h c).2.2.2⟩)
      (Cert.Reference9Ideal.Value.run (F := Ideal) m' ρ')⟩

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts,
  frameKernel, frameKernelIdeal, fun m g _ => frameKernelIdeal m g trivial, frameReferenceIdeal, fun m g _ => frameReferenceIdeal m g trivial,
  frameKernel2, frameKernel2Ideal, frameReference2Ideal, frameKernel3, frameKernel3Ideal, frameReference3Ideal, frameKernel4, frameKernel4Ideal, frameReference4Ideal, frameKernel5, frameKernel5Ideal, frameReference5Ideal, frameKernel6, frameKernel6Ideal, frameReference6Ideal, frameKernel7, frameKernel7Ideal, frameReference7Ideal, frameKernel8, frameKernel8Ideal, frameReference8Ideal, frameKernel9, frameKernel9Ideal, frameReference9Ideal,
  preserves, attention, trivial, feedForward, trivial, feedForwardSample, trivial, feedForwardPlain, trivial, feedForwardTwo, trivial, project, trivial, projectSample, trivial, latents, trivial, latentsSample⟩

end Cert.Proof

end
